-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_rows [hPre_bounded_rows : Cert.Pre_bounded_rows.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_rows [hPre_bounded_rows : Cert.Pre_bounded_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixingReferenceIdeal (m : (ℓ : Loc Cert.MixingReferenceIdeal.nD Cert.MixingReferenceIdeal.τ Cert.MixingReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite [hPre_finite : Cert.Pre_finite.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))) = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_finite [hPre_finite : Cert.Pre_finite.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_finite.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2)) (m ((c.tc : Thread Cert.ModulationReferenceIdeal.nD Cert.ModulationReferenceIdeal.τ).loc Cert.ModulationReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded_rows [hKernelIdeal : Cert.KernelIdeal.Facts] [hPre_bounded_rows : Cert.Pre_bounded_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded_rows [hReferenceIdeal : Cert.ReferenceIdeal.Facts] [hPre_bounded_rows : Cert.Pre_bounded_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4)
      ∧ r.2.mem ((c.tc : Thread Cert.Mixing.nD Cert.Mixing.τ).loc Cert.Mixing.main_arg5) = m ((c.tc : Thread Cert.Mixing.nD Cert.Mixing.τ).loc Cert.Mixing.main_arg5)
      ∧ r.2.mem ((c.tc : Thread Cert.Mixing.nD Cert.Mixing.τ).loc Cert.Mixing.main_arg6) = m ((c.tc : Thread Cert.Mixing.nD Cert.Mixing.τ).loc Cert.Mixing.main_arg6)
      ∧ r.2.mem ((c.tc : Thread Cert.Mixing.nD Cert.Mixing.τ).loc Cert.Mixing.main_arg7) = m ((c.tc : Thread Cert.Mixing.nD Cert.Mixing.τ).loc Cert.Mixing.main_arg7)
      ∧ r.2.mem ((c.tc : Thread Cert.Mixing.nD Cert.Mixing.τ).loc Cert.Mixing.main_arg8) = m ((c.tc : Thread Cert.Mixing.nD Cert.Mixing.τ).loc Cert.Mixing.main_arg8)
      ∧ r.2.mem ((c.tc : Thread Cert.Mixing.nD Cert.Mixing.τ).loc Cert.Mixing.main_arg9) = m ((c.tc : Thread Cert.Mixing.nD Cert.Mixing.τ).loc Cert.Mixing.main_arg9)
      ∧ r.2.mem ((c.tc : Thread Cert.Mixing.nD Cert.Mixing.τ).loc Cert.Mixing.main_arg10) = m ((c.tc : Thread Cert.Mixing.nD Cert.Mixing.τ).loc Cert.Mixing.main_arg10)
      ∧ r.2.mem ((c.tc : Thread Cert.Mixing.nD Cert.Mixing.τ).loc Cert.Mixing.main_arg11) = m ((c.tc : Thread Cert.Mixing.nD Cert.Mixing.τ).loc Cert.Mixing.main_arg11))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
      ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
      ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
      ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
      ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
      ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
      ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
      ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11))
      ∧ r.2.sem = fun _ => 0)

def quiescent_MixingReferenceIdeal [hMixingReferenceIdeal : Cert.MixingReferenceIdeal.Facts] : Prop :=
  ∀ (m : (ℓ : Loc Cert.MixingReferenceIdeal.nD Cert.MixingReferenceIdeal.τ Cert.MixingReferenceIdeal.sig) → Buf (Elt Ideal) ℓ) (g : Dev Cert.MixingReferenceIdeal.nD → PrngReg), Pre_MixingReferenceIdeal m →
    θ_run (Cert.MixingReferenceIdeal.defs (F := Ideal)) (onTc (τ := Cert.MixingReferenceIdeal.τ) (Cert.MixingReferenceIdeal.main (F := Ideal))) ⟨m, fun _ => 0, g⟩ (fun r => (∀ c : Dev Cert.MixingReferenceIdeal.nD,
      r.2.mem ((c.tc : Thread Cert.MixingReferenceIdeal.nD Cert.MixingReferenceIdeal.τ).loc Cert.MixingReferenceIdeal.main_arg0) = m ((c.tc : Thread Cert.MixingReferenceIdeal.nD Cert.MixingReferenceIdeal.τ).loc Cert.MixingReferenceIdeal.main_arg0)
      ∧ r.2.mem ((c.tc : Thread Cert.MixingReferenceIdeal.nD Cert.MixingReferenceIdeal.τ).loc Cert.MixingReferenceIdeal.main_arg1) = m ((c.tc : Thread Cert.MixingReferenceIdeal.nD Cert.MixingReferenceIdeal.τ).loc Cert.MixingReferenceIdeal.main_arg1)
      ∧ r.2.mem ((c.tc : Thread Cert.MixingReferenceIdeal.nD Cert.MixingReferenceIdeal.τ).loc Cert.MixingReferenceIdeal.main_arg2) = m ((c.tc : Thread Cert.MixingReferenceIdeal.nD Cert.MixingReferenceIdeal.τ).loc Cert.MixingReferenceIdeal.main_arg2)
      ∧ r.2.mem ((c.tc : Thread Cert.MixingReferenceIdeal.nD Cert.MixingReferenceIdeal.τ).loc Cert.MixingReferenceIdeal.main_arg3) = m ((c.tc : Thread Cert.MixingReferenceIdeal.nD Cert.MixingReferenceIdeal.τ).loc Cert.MixingReferenceIdeal.main_arg3)
      ∧ r.2.mem ((c.tc : Thread Cert.MixingReferenceIdeal.nD Cert.MixingReferenceIdeal.τ).loc Cert.MixingReferenceIdeal.main_arg4) = m ((c.tc : Thread Cert.MixingReferenceIdeal.nD Cert.MixingReferenceIdeal.τ).loc Cert.MixingReferenceIdeal.main_arg4)
      ∧ r.2.mem ((c.tc : Thread Cert.MixingReferenceIdeal.nD Cert.MixingReferenceIdeal.τ).loc Cert.MixingReferenceIdeal.main_arg5) = m ((c.tc : Thread Cert.MixingReferenceIdeal.nD Cert.MixingReferenceIdeal.τ).loc Cert.MixingReferenceIdeal.main_arg5)
      ∧ r.2.mem ((c.tc : Thread Cert.MixingReferenceIdeal.nD Cert.MixingReferenceIdeal.τ).loc Cert.MixingReferenceIdeal.main_arg6) = m ((c.tc : Thread Cert.MixingReferenceIdeal.nD Cert.MixingReferenceIdeal.τ).loc Cert.MixingReferenceIdeal.main_arg6)
      ∧ r.2.mem ((c.tc : Thread Cert.MixingReferenceIdeal.nD Cert.MixingReferenceIdeal.τ).loc Cert.MixingReferenceIdeal.main_arg7) = m ((c.tc : Thread Cert.MixingReferenceIdeal.nD Cert.MixingReferenceIdeal.τ).loc Cert.MixingReferenceIdeal.main_arg7)
      ∧ r.2.mem ((c.tc : Thread Cert.MixingReferenceIdeal.nD Cert.MixingReferenceIdeal.τ).loc Cert.MixingReferenceIdeal.main_arg8) = m ((c.tc : Thread Cert.MixingReferenceIdeal.nD Cert.MixingReferenceIdeal.τ).loc Cert.MixingReferenceIdeal.main_arg8)
      ∧ r.2.mem ((c.tc : Thread Cert.MixingReferenceIdeal.nD Cert.MixingReferenceIdeal.τ).loc Cert.MixingReferenceIdeal.main_arg9) = m ((c.tc : Thread Cert.MixingReferenceIdeal.nD Cert.MixingReferenceIdeal.τ).loc Cert.MixingReferenceIdeal.main_arg9)
      ∧ r.2.mem ((c.tc : Thread Cert.MixingReferenceIdeal.nD Cert.MixingReferenceIdeal.τ).loc Cert.MixingReferenceIdeal.main_arg10) = m ((c.tc : Thread Cert.MixingReferenceIdeal.nD Cert.MixingReferenceIdeal.τ).loc Cert.MixingReferenceIdeal.main_arg10)
      ∧ r.2.mem ((c.tc : Thread Cert.MixingReferenceIdeal.nD Cert.MixingReferenceIdeal.τ).loc Cert.MixingReferenceIdeal.main_arg11) = m ((c.tc : Thread Cert.MixingReferenceIdeal.nD Cert.MixingReferenceIdeal.τ).loc Cert.MixingReferenceIdeal.main_arg11))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationIdeal_pre_finite [hModulationIdeal : Cert.ModulationIdeal.Facts] [hPre_finite : Cert.Pre_finite.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_ModulationReferenceIdeal_pre_finite [hModulationReferenceIdeal : Cert.ModulationReferenceIdeal.Facts] [hPre_finite : Cert.Pre_finite.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_finite m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_bounded_rows [hKernelIdeal : Cert.KernelIdeal.Facts] [hReferenceIdeal : Cert.ReferenceIdeal.Facts] [hPre_bounded_rows : Cert.Pre_bounded_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Projection_ProjectionIdeal : Prop :=
  IdealRules.named_const.Statement Cert.ProjectionIdeal.κ "qscale" .f32 0x3E38AA3B#32 (((1 / 8) * (Real.log 2)⁻¹ : ℝ) : EReal)

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v2_0)) (v1 : (c : Dev Cert.ProjectionIdeal.nD) → Buf (Elt Ideal) ((c.tc : Thread Cert.ProjectionIdeal.nD Cert.ProjectionIdeal.τ).loc Cert.ProjectionIdeal.main_v2_1)) (v2 : (c : Dev Cert.ProjectionIdeal.nD) → Buf (Elt Ideal) ((c.tc : Thread Cert.ProjectionIdeal.nD Cert.ProjectionIdeal.τ).loc Cert.ProjectionIdeal.main_v2_2)) (v3 : (c : Dev Cert.ProjectionIdeal.nD) → Buf (Elt Ideal) ((c.tc : Thread Cert.ProjectionIdeal.nD Cert.ProjectionIdeal.τ).loc Cert.ProjectionIdeal.main_v2_3)) (v4 : (c : Dev Cert.ProjectionIdeal.nD) → Buf (Elt Ideal) ((c.tc : Thread Cert.ProjectionIdeal.nD Cert.ProjectionIdeal.τ).loc Cert.ProjectionIdeal.main_v2_4)) (v5 : (c : Dev Cert.ProjectionIdeal.nD) → Buf (Elt Ideal) ((c.tc : Thread Cert.ProjectionIdeal.nD Cert.ProjectionIdeal.τ).loc Cert.ProjectionIdeal.main_v2_5)) (v6 : (c : Dev Cert.ProjectionIdeal.nD) → Buf (Elt Ideal) ((c.tc : Thread Cert.ProjectionIdeal.nD Cert.ProjectionIdeal.τ).loc Cert.ProjectionIdeal.main_v2_6)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v2_0) = v0 c
          ∧ r.2.mem ((c.tc : Thread Cert.ProjectionIdeal.nD Cert.ProjectionIdeal.τ).loc Cert.ProjectionIdeal.main_v2_1) = v1 c
          ∧ r.2.mem ((c.tc : Thread Cert.ProjectionIdeal.nD Cert.ProjectionIdeal.τ).loc Cert.ProjectionIdeal.main_v2_2) = v2 c
          ∧ r.2.mem ((c.tc : Thread Cert.ProjectionIdeal.nD Cert.ProjectionIdeal.τ).loc Cert.ProjectionIdeal.main_v2_3) = v3 c
          ∧ r.2.mem ((c.tc : Thread Cert.ProjectionIdeal.nD Cert.ProjectionIdeal.τ).loc Cert.ProjectionIdeal.main_v2_4) = v4 c
          ∧ r.2.mem ((c.tc : Thread Cert.ProjectionIdeal.nD Cert.ProjectionIdeal.τ).loc Cert.ProjectionIdeal.main_v2_5) = v5 c
          ∧ r.2.mem ((c.tc : Thread Cert.ProjectionIdeal.nD Cert.ProjectionIdeal.τ).loc Cert.ProjectionIdeal.main_v2_6) = v6 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v33) = v0 c
          ∧ r.2.mem ((c.tc : Thread Cert.ProjectionReferenceIdeal.nD Cert.ProjectionReferenceIdeal.τ).loc Cert.ProjectionReferenceIdeal.main_v21) = v1 c
          ∧ r.2.mem ((c.tc : Thread Cert.ProjectionReferenceIdeal.nD Cert.ProjectionReferenceIdeal.τ).loc Cert.ProjectionReferenceIdeal.main_v34) = v2 c
          ∧ r.2.mem ((c.tc : Thread Cert.ProjectionReferenceIdeal.nD Cert.ProjectionReferenceIdeal.τ).loc Cert.ProjectionReferenceIdeal.main_v22) = v3 c
          ∧ r.2.mem ((c.tc : Thread Cert.ProjectionReferenceIdeal.nD Cert.ProjectionReferenceIdeal.τ).loc Cert.ProjectionReferenceIdeal.main_v35) = v4 c
          ∧ r.2.mem ((c.tc : Thread Cert.ProjectionReferenceIdeal.nD Cert.ProjectionReferenceIdeal.τ).loc Cert.ProjectionReferenceIdeal.main_v23) = v5 c
          ∧ r.2.mem ((c.tc : Thread Cert.ProjectionReferenceIdeal.nD Cert.ProjectionReferenceIdeal.τ).loc Cert.ProjectionReferenceIdeal.main_v36) = v6 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4))

def preserves_Mixing_MixingIdeal : Prop :=
  True

def algebraic_MixingIdeal_MixingReferenceIdeal [hMixingIdeal : Cert.MixingIdeal.Facts] [hMixingReferenceIdeal : Cert.MixingReferenceIdeal.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixingReferenceIdeal.nD Cert.MixingReferenceIdeal.τ Cert.MixingReferenceIdeal.sig) → Buf (Elt Ideal) ℓ) (g' : Dev Cert.MixingReferenceIdeal.nD → PrngReg), Pre_MixingIdeal m →
    (∀ c : Dev Cert.MixingIdeal.nD,
      m' ((c.tc : Thread Cert.MixingReferenceIdeal.nD Cert.MixingReferenceIdeal.τ).loc Cert.MixingReferenceIdeal.main_arg0) = m ((c.tc : Thread Cert.MixingIdeal.nD Cert.MixingIdeal.τ).loc Cert.MixingIdeal.main_arg0)
      ∧ m' ((c.tc : Thread Cert.MixingReferenceIdeal.nD Cert.MixingReferenceIdeal.τ).loc Cert.MixingReferenceIdeal.main_arg1) = m ((c.tc : Thread Cert.MixingIdeal.nD Cert.MixingIdeal.τ).loc Cert.MixingIdeal.main_arg1)
      ∧ m' ((c.tc : Thread Cert.MixingReferenceIdeal.nD Cert.MixingReferenceIdeal.τ).loc Cert.MixingReferenceIdeal.main_arg2) = m ((c.tc : Thread Cert.MixingIdeal.nD Cert.MixingIdeal.τ).loc Cert.MixingIdeal.main_arg2)
      ∧ m' ((c.tc : Thread Cert.MixingReferenceIdeal.nD Cert.MixingReferenceIdeal.τ).loc Cert.MixingReferenceIdeal.main_arg3) = m ((c.tc : Thread Cert.MixingIdeal.nD Cert.MixingIdeal.τ).loc Cert.MixingIdeal.main_arg3)
      ∧ m' ((c.tc : Thread Cert.MixingReferenceIdeal.nD Cert.MixingReferenceIdeal.τ).loc Cert.MixingReferenceIdeal.main_arg4) = m ((c.tc : Thread Cert.MixingIdeal.nD Cert.MixingIdeal.τ).loc Cert.MixingIdeal.main_arg4)
      ∧ m' ((c.tc : Thread Cert.MixingReferenceIdeal.nD Cert.MixingReferenceIdeal.τ).loc Cert.MixingReferenceIdeal.main_arg5) = m ((c.tc : Thread Cert.MixingIdeal.nD Cert.MixingIdeal.τ).loc Cert.MixingIdeal.main_arg5)
      ∧ m' ((c.tc : Thread Cert.MixingReferenceIdeal.nD Cert.MixingReferenceIdeal.τ).loc Cert.MixingReferenceIdeal.main_arg6) = m ((c.tc : Thread Cert.MixingIdeal.nD Cert.MixingIdeal.τ).loc Cert.MixingIdeal.main_arg6)
      ∧ m' ((c.tc : Thread Cert.MixingReferenceIdeal.nD Cert.MixingReferenceIdeal.τ).loc Cert.MixingReferenceIdeal.main_arg7) = m ((c.tc : Thread Cert.MixingIdeal.nD Cert.MixingIdeal.τ).loc Cert.MixingIdeal.main_arg7)
      ∧ m' ((c.tc : Thread Cert.MixingReferenceIdeal.nD Cert.MixingReferenceIdeal.τ).loc Cert.MixingReferenceIdeal.main_arg8) = m ((c.tc : Thread Cert.MixingIdeal.nD Cert.MixingIdeal.τ).loc Cert.MixingIdeal.main_arg8)
      ∧ m' ((c.tc : Thread Cert.MixingReferenceIdeal.nD Cert.MixingReferenceIdeal.τ).loc Cert.MixingReferenceIdeal.main_arg9) = m ((c.tc : Thread Cert.MixingIdeal.nD Cert.MixingIdeal.τ).loc Cert.MixingIdeal.main_arg9)
      ∧ m' ((c.tc : Thread Cert.MixingReferenceIdeal.nD Cert.MixingReferenceIdeal.τ).loc Cert.MixingReferenceIdeal.main_arg10) = m ((c.tc : Thread Cert.MixingIdeal.nD Cert.MixingIdeal.τ).loc Cert.MixingIdeal.main_arg10)
      ∧ m' ((c.tc : Thread Cert.MixingReferenceIdeal.nD Cert.MixingReferenceIdeal.τ).loc Cert.MixingReferenceIdeal.main_arg11) = m ((c.tc : Thread Cert.MixingIdeal.nD Cert.MixingIdeal.τ).loc Cert.MixingIdeal.main_arg11)) →
    ∃ (v0 : (c : Dev Cert.MixingIdeal.nD) → Buf (Elt Ideal) ((c.tc : Thread Cert.MixingIdeal.nD Cert.MixingIdeal.τ).loc Cert.MixingIdeal.main_v15_0)) (v1 : (c : Dev Cert.MixingIdeal.nD) → Buf (Elt Ideal) ((c.tc : Thread Cert.MixingIdeal.nD Cert.MixingIdeal.τ).loc Cert.MixingIdeal.main_v15_1)) (v2 : (c : Dev Cert.MixingIdeal.nD) → Buf (Elt Ideal) ((c.tc : Thread Cert.MixingIdeal.nD Cert.MixingIdeal.τ).loc Cert.MixingIdeal.main_v15_2)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v15_0) = v0 c
          ∧ r.2.mem ((c.tc : Thread Cert.MixingIdeal.nD Cert.MixingIdeal.τ).loc Cert.MixingIdeal.main_v15_1) = v1 c
          ∧ r.2.mem ((c.tc : Thread Cert.MixingIdeal.nD Cert.MixingIdeal.τ).loc Cert.MixingIdeal.main_v15_2) = v2 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4)
          ∧ r.2.mem ((c.tc : Thread Cert.MixingIdeal.nD Cert.MixingIdeal.τ).loc Cert.MixingIdeal.main_arg5) = m ((c.tc : Thread Cert.MixingIdeal.nD Cert.MixingIdeal.τ).loc Cert.MixingIdeal.main_arg5)
          ∧ r.2.mem ((c.tc : Thread Cert.MixingIdeal.nD Cert.MixingIdeal.τ).loc Cert.MixingIdeal.main_arg6) = m ((c.tc : Thread Cert.MixingIdeal.nD Cert.MixingIdeal.τ).loc Cert.MixingIdeal.main_arg6)
          ∧ r.2.mem ((c.tc : Thread Cert.MixingIdeal.nD Cert.MixingIdeal.τ).loc Cert.MixingIdeal.main_arg7) = m ((c.tc : Thread Cert.MixingIdeal.nD Cert.MixingIdeal.τ).loc Cert.MixingIdeal.main_arg7)
          ∧ r.2.mem ((c.tc : Thread Cert.MixingIdeal.nD Cert.MixingIdeal.τ).loc Cert.MixingIdeal.main_arg8) = m ((c.tc : Thread Cert.MixingIdeal.nD Cert.MixingIdeal.τ).loc Cert.MixingIdeal.main_arg8)
          ∧ r.2.mem ((c.tc : Thread Cert.MixingIdeal.nD Cert.MixingIdeal.τ).loc Cert.MixingIdeal.main_arg9) = m ((c.tc : Thread Cert.MixingIdeal.nD Cert.MixingIdeal.τ).loc Cert.MixingIdeal.main_arg9)
          ∧ r.2.mem ((c.tc : Thread Cert.MixingIdeal.nD Cert.MixingIdeal.τ).loc Cert.MixingIdeal.main_arg10) = m ((c.tc : Thread Cert.MixingIdeal.nD Cert.MixingIdeal.τ).loc Cert.MixingIdeal.main_arg10)
          ∧ r.2.mem ((c.tc : Thread Cert.MixingIdeal.nD Cert.MixingIdeal.τ).loc Cert.MixingIdeal.main_arg11) = m ((c.tc : Thread Cert.MixingIdeal.nD Cert.MixingIdeal.τ).loc Cert.MixingIdeal.main_arg11))
      ∧ θ_run (Cert.MixingReferenceIdeal.defs (F := Ideal)) (onTc (τ := Cert.MixingReferenceIdeal.τ) (Cert.MixingReferenceIdeal.main (F := Ideal))) ⟨m', fun _ => 0, g'⟩ (fun r => ∀ c : Dev Cert.MixingReferenceIdeal.nD,
          r.2.mem ((c.tc : Thread Cert.MixingReferenceIdeal.nD Cert.MixingReferenceIdeal.τ).loc Cert.MixingReferenceIdeal.main_v59) = v0 c
          ∧ r.2.mem ((c.tc : Thread Cert.MixingReferenceIdeal.nD Cert.MixingReferenceIdeal.τ).loc Cert.MixingReferenceIdeal.main_v79) = v1 c
          ∧ r.2.mem ((c.tc : Thread Cert.MixingReferenceIdeal.nD Cert.MixingReferenceIdeal.τ).loc Cert.MixingReferenceIdeal.main_v83) = v2 c
          ∧ r.2.mem ((c.tc : Thread Cert.MixingReferenceIdeal.nD Cert.MixingReferenceIdeal.τ).loc Cert.MixingReferenceIdeal.main_arg0) = m' ((c.tc : Thread Cert.MixingReferenceIdeal.nD Cert.MixingReferenceIdeal.τ).loc Cert.MixingReferenceIdeal.main_arg0)
          ∧ r.2.mem ((c.tc : Thread Cert.MixingReferenceIdeal.nD Cert.MixingReferenceIdeal.τ).loc Cert.MixingReferenceIdeal.main_arg1) = m' ((c.tc : Thread Cert.MixingReferenceIdeal.nD Cert.MixingReferenceIdeal.τ).loc Cert.MixingReferenceIdeal.main_arg1)
          ∧ r.2.mem ((c.tc : Thread Cert.MixingReferenceIdeal.nD Cert.MixingReferenceIdeal.τ).loc Cert.MixingReferenceIdeal.main_arg2) = m' ((c.tc : Thread Cert.MixingReferenceIdeal.nD Cert.MixingReferenceIdeal.τ).loc Cert.MixingReferenceIdeal.main_arg2)
          ∧ r.2.mem ((c.tc : Thread Cert.MixingReferenceIdeal.nD Cert.MixingReferenceIdeal.τ).loc Cert.MixingReferenceIdeal.main_arg3) = m' ((c.tc : Thread Cert.MixingReferenceIdeal.nD Cert.MixingReferenceIdeal.τ).loc Cert.MixingReferenceIdeal.main_arg3)
          ∧ r.2.mem ((c.tc : Thread Cert.MixingReferenceIdeal.nD Cert.MixingReferenceIdeal.τ).loc Cert.MixingReferenceIdeal.main_arg4) = m' ((c.tc : Thread Cert.MixingReferenceIdeal.nD Cert.MixingReferenceIdeal.τ).loc Cert.MixingReferenceIdeal.main_arg4)
          ∧ r.2.mem ((c.tc : Thread Cert.MixingReferenceIdeal.nD Cert.MixingReferenceIdeal.τ).loc Cert.MixingReferenceIdeal.main_arg5) = m' ((c.tc : Thread Cert.MixingReferenceIdeal.nD Cert.MixingReferenceIdeal.τ).loc Cert.MixingReferenceIdeal.main_arg5)
          ∧ r.2.mem ((c.tc : Thread Cert.MixingReferenceIdeal.nD Cert.MixingReferenceIdeal.τ).loc Cert.MixingReferenceIdeal.main_arg6) = m' ((c.tc : Thread Cert.MixingReferenceIdeal.nD Cert.MixingReferenceIdeal.τ).loc Cert.MixingReferenceIdeal.main_arg6)
          ∧ r.2.mem ((c.tc : Thread Cert.MixingReferenceIdeal.nD Cert.MixingReferenceIdeal.τ).loc Cert.MixingReferenceIdeal.main_arg7) = m' ((c.tc : Thread Cert.MixingReferenceIdeal.nD Cert.MixingReferenceIdeal.τ).loc Cert.MixingReferenceIdeal.main_arg7)
          ∧ r.2.mem ((c.tc : Thread Cert.MixingReferenceIdeal.nD Cert.MixingReferenceIdeal.τ).loc Cert.MixingReferenceIdeal.main_arg8) = m' ((c.tc : Thread Cert.MixingReferenceIdeal.nD Cert.MixingReferenceIdeal.τ).loc Cert.MixingReferenceIdeal.main_arg8)
          ∧ r.2.mem ((c.tc : Thread Cert.MixingReferenceIdeal.nD Cert.MixingReferenceIdeal.τ).loc Cert.MixingReferenceIdeal.main_arg9) = m' ((c.tc : Thread Cert.MixingReferenceIdeal.nD Cert.MixingReferenceIdeal.τ).loc Cert.MixingReferenceIdeal.main_arg9)
          ∧ r.2.mem ((c.tc : Thread Cert.MixingReferenceIdeal.nD Cert.MixingReferenceIdeal.τ).loc Cert.MixingReferenceIdeal.main_arg10) = m' ((c.tc : Thread Cert.MixingReferenceIdeal.nD Cert.MixingReferenceIdeal.τ).loc Cert.MixingReferenceIdeal.main_arg10)
          ∧ r.2.mem ((c.tc : Thread Cert.MixingReferenceIdeal.nD Cert.MixingReferenceIdeal.τ).loc Cert.MixingReferenceIdeal.main_arg11) = m' ((c.tc : Thread Cert.MixingReferenceIdeal.nD Cert.MixingReferenceIdeal.τ).loc Cert.MixingReferenceIdeal.main_arg11))

def preserves_Sample_SampleIdeal : Prop :=
  IdealRules.named_const.Statement Cert.SampleIdeal.κ "qscale" .f32 0x3E38AA3B#32 (((1 / 8) * (Real.log 2)⁻¹ : ℝ) : EReal)

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v7_0)) (v1 : (c : Dev Cert.SampleIdeal.nD) → Buf (Elt Ideal) ((c.tc : Thread Cert.SampleIdeal.nD Cert.SampleIdeal.τ).loc Cert.SampleIdeal.main_v7_1)) (v2 : (c : Dev Cert.SampleIdeal.nD) → Buf (Elt Ideal) ((c.tc : Thread Cert.SampleIdeal.nD Cert.SampleIdeal.τ).loc Cert.SampleIdeal.main_v7_2)) (v3 : (c : Dev Cert.SampleIdeal.nD) → Buf (Elt Ideal) ((c.tc : Thread Cert.SampleIdeal.nD Cert.SampleIdeal.τ).loc Cert.SampleIdeal.main_v7_3)) (v4 : (c : Dev Cert.SampleIdeal.nD) → Buf (Elt Ideal) ((c.tc : Thread Cert.SampleIdeal.nD Cert.SampleIdeal.τ).loc Cert.SampleIdeal.main_v7_4)) (v5 : (c : Dev Cert.SampleIdeal.nD) → Buf (Elt Ideal) ((c.tc : Thread Cert.SampleIdeal.nD Cert.SampleIdeal.τ).loc Cert.SampleIdeal.main_v7_5)) (v6 : (c : Dev Cert.SampleIdeal.nD) → Buf (Elt Ideal) ((c.tc : Thread Cert.SampleIdeal.nD Cert.SampleIdeal.τ).loc Cert.SampleIdeal.main_v7_6)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v7_0) = v0 c
          ∧ r.2.mem ((c.tc : Thread Cert.SampleIdeal.nD Cert.SampleIdeal.τ).loc Cert.SampleIdeal.main_v7_1) = v1 c
          ∧ r.2.mem ((c.tc : Thread Cert.SampleIdeal.nD Cert.SampleIdeal.τ).loc Cert.SampleIdeal.main_v7_2) = v2 c
          ∧ r.2.mem ((c.tc : Thread Cert.SampleIdeal.nD Cert.SampleIdeal.τ).loc Cert.SampleIdeal.main_v7_3) = v3 c
          ∧ r.2.mem ((c.tc : Thread Cert.SampleIdeal.nD Cert.SampleIdeal.τ).loc Cert.SampleIdeal.main_v7_4) = v4 c
          ∧ r.2.mem ((c.tc : Thread Cert.SampleIdeal.nD Cert.SampleIdeal.τ).loc Cert.SampleIdeal.main_v7_5) = v5 c
          ∧ r.2.mem ((c.tc : Thread Cert.SampleIdeal.nD Cert.SampleIdeal.τ).loc Cert.SampleIdeal.main_v7_6) = v6 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v39) = v0 c
          ∧ r.2.mem ((c.tc : Thread Cert.SampleReferenceIdeal.nD Cert.SampleReferenceIdeal.τ).loc Cert.SampleReferenceIdeal.main_v29) = v1 c
          ∧ r.2.mem ((c.tc : Thread Cert.SampleReferenceIdeal.nD Cert.SampleReferenceIdeal.τ).loc Cert.SampleReferenceIdeal.main_v40) = v2 c
          ∧ r.2.mem ((c.tc : Thread Cert.SampleReferenceIdeal.nD Cert.SampleReferenceIdeal.τ).loc Cert.SampleReferenceIdeal.main_v30) = v3 c
          ∧ r.2.mem ((c.tc : Thread Cert.SampleReferenceIdeal.nD Cert.SampleReferenceIdeal.τ).loc Cert.SampleReferenceIdeal.main_v43) = v4 c
          ∧ r.2.mem ((c.tc : Thread Cert.SampleReferenceIdeal.nD Cert.SampleReferenceIdeal.τ).loc Cert.SampleReferenceIdeal.main_v31) = v5 c
          ∧ r.2.mem ((c.tc : Thread Cert.SampleReferenceIdeal.nD Cert.SampleReferenceIdeal.τ).loc Cert.SampleReferenceIdeal.main_v44) = v6 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_Modulation_ModulationIdeal : Prop :=
  True

def algebraic_ModulationIdeal_ModulationReferenceIdeal_pre_finite [hModulationIdeal : Cert.ModulationIdeal.Facts] [hModulationReferenceIdeal : Cert.ModulationReferenceIdeal.Facts] [hPre_finite : Cert.Pre_finite.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_finite m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v3)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v3) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v6) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hMixing : Cert.Mixing.Facts) (hMixingIdeal : Cert.MixingIdeal.Facts) (hMixingReferenceIdeal : Cert.MixingReferenceIdeal.Facts) (hSample : Cert.Sample.Facts) (hSampleIdeal : Cert.SampleIdeal.Facts) (hSampleReferenceIdeal : Cert.SampleReferenceIdeal.Facts) (hModulation : Cert.Modulation.Facts) (hModulationIdeal : Cert.ModulationIdeal.Facts) (hModulationReferenceIdeal : Cert.ModulationReferenceIdeal.Facts) (hPre_bounded_rows : Cert.Pre_bounded_rows.Facts) (hPre_finite : Cert.Pre_finite.Facts),
    quiescent_Kernel (hKernel := hKernel)
    ∧ quiescent_KernelIdeal (hKernelIdeal := hKernelIdeal)
    ∧ quiescent_KernelIdeal_pre_bounded_rows (hKernelIdeal := hKernelIdeal) (hPre_bounded_rows := hPre_bounded_rows)
    ∧ quiescent_ReferenceIdeal (hReferenceIdeal := hReferenceIdeal)
    ∧ quiescent_ReferenceIdeal_pre_bounded_rows (hReferenceIdeal := hReferenceIdeal) (hPre_bounded_rows := hPre_bounded_rows)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Mixing (hMixing := hMixing)
    ∧ quiescent_MixingIdeal (hMixingIdeal := hMixingIdeal)
    ∧ quiescent_MixingReferenceIdeal (hMixingReferenceIdeal := hMixingReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Modulation (hModulation := hModulation)
    ∧ quiescent_ModulationIdeal (hModulationIdeal := hModulationIdeal)
    ∧ quiescent_ModulationIdeal_pre_finite (hModulationIdeal := hModulationIdeal) (hPre_finite := hPre_finite)
    ∧ quiescent_ModulationReferenceIdeal (hModulationReferenceIdeal := hModulationReferenceIdeal)
    ∧ quiescent_ModulationReferenceIdeal_pre_finite (hModulationReferenceIdeal := hModulationReferenceIdeal) (hPre_finite := hPre_finite)
    ∧ preserves_Kernel_KernelIdeal
    ∧ algebraic_KernelIdeal_ReferenceIdeal_pre_bounded_rows (hKernelIdeal := hKernelIdeal) (hReferenceIdeal := hReferenceIdeal) (hPre_bounded_rows := hPre_bounded_rows)
    ∧ preserves_Projection_ProjectionIdeal
    ∧ algebraic_ProjectionIdeal_ProjectionReferenceIdeal (hProjectionIdeal := hProjectionIdeal) (hProjectionReferenceIdeal := hProjectionReferenceIdeal)
    ∧ preserves_Mixing_MixingIdeal
    ∧ algebraic_MixingIdeal_MixingReferenceIdeal (hMixingIdeal := hMixingIdeal) (hMixingReferenceIdeal := hMixingReferenceIdeal)
    ∧ preserves_Sample_SampleIdeal
    ∧ algebraic_SampleIdeal_SampleReferenceIdeal (hSampleIdeal := hSampleIdeal) (hSampleReferenceIdeal := hSampleReferenceIdeal)
    ∧ preserves_Modulation_ModulationIdeal
    ∧ algebraic_ModulationIdeal_ModulationReferenceIdeal_pre_finite (hModulationIdeal := hModulationIdeal) (hModulationReferenceIdeal := hModulationReferenceIdeal) (hPre_finite := hPre_finite)
-- ==== Pre_bounded_rows.lean ====
abbrev S16384x1024 : Shape := ⟨2, ![16384, 1024]⟩
abbrev S16 : Shape := ⟨1, ![16]⟩
abbrev S16384x16x64 : Shape := ⟨3, ![16384, 16, 64]⟩
abbrev S_ : Shape := ⟨0, ![]⟩
abbrev S16384x16 : Shape := ⟨2, ![16384, 16]⟩
abbrev S1x16 : Shape := ⟨2, ![1, 16]⟩

class Facts : Prop where
  shapeCasts_S16384x1024_S16384x16x64 : S16384x1024.ShapeCasts S16384x16x64
  bcast_S_S16 : S_.BroadcastsInDim S16 (![] : Fin 0 → Fin S16.rank)
  reducesTo_S16384x16x64_S16384x16_d2 : S16384x16x64.ReducesTo [2] S16384x16
  h_S_ : 0 < S_.numel
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)

variable [Facts]

def fn_part1 {F : FTy → Type} [FloatOps F] (main_v16 : IVec S16384x16 1) (main_v18 : IVec S16 1) : IVec S16384x16 1 :=
  let main_v19 : IVec S1x16 1 := broadcastInDim S1x16 ![1] bcast_S16_S1x16_1 main_v18
  let main_v20 : IVec S16384x16 1 := broadcastInDim S16384x16 ![0, 1] bcast_S1x16_S16384x16_0_1 main_v19
  let main_v21 : IVec S16384x16 1 := andi main_v16 main_v20
  main_v21

def fn {F : FTy → Type} [FloatOps F] (main_arg0 : FVec F S16384x1024 .f32) (main_arg1 : FVec F S16384x1024 .f32) (main_arg2 : FVec F S16384x1024 .f32) (main_arg3 : FVec F S16 .f32) : IVec S16384x16 1 :=
  let main_v0 : FVec F S16384x16x64 .f32 := shapeCast S16384x16x64 main_arg0 shapeCasts_S16384x1024_S16384x16x64
  let main_v1 : FVec F S16384x16x64 .f32 := shapeCast S16384x16x64 main_arg1 shapeCasts_S16384x1024_S16384x16x64
  let main_cst : FVec F S_ .f32 := constant S_ .f32 0x41E80000#32
  let main_v2 : FVec F S16 .f32 := broadcastInDim S16 ![] bcast_S_S16 main_cst
  let main_v3 : FVec F S16 .f32 := subf main_v2 main_arg3
  let main_cst_0 : FVec F S_ .f32 := constant S_ .f32 0x41000000#32
  let main_v4 : FVec F S16 .f32 := broadcastInDim S16 ![] bcast_S_S16 main_cst_0
  let main_v5 : FVec F S16 .f32 := mulf main_v3 main_v4
  let main_v6 : FVec F S16384x16x64 .f32 := mulf main_v0 main_v0
  let main_cst_1 : FVec F S_ .f32 := constant S_ .f32 0x00000000#32
  let main_v7 : FVec F S16384x16 .f32 := (fun x v => Host.reduceAdd x v reducesTo_S16384x16x64_S16384x16_d2 h_S_) main_v6 main_cst_1
  let main_v8 : FVec F S1x16 .f32 := broadcastInDim S1x16 ![1] bcast_S16_S1x16_1 main_v5
  let main_v9 : FVec F S16384x16 .f32 := broadcastInDim S16384x16 ![0, 1] bcast_S1x16_S16384x16_0_1 main_v8
  let main_v10 : IVec S16384x16 1 := cmpf .ole main_v7 main_v9
  let main_v11 : FVec F S16384x16x64 .f32 := mulf main_v1 main_v1
  let main_cst_2 : FVec F S_ .f32 := constant S_ .f32 0x00000000#32
  let main_v12 : FVec F S16384x16 .f32 := (fun x v => Host.reduceAdd x v reducesTo_S16384x16x64_S16384x16_d2 h_S_) main_v11 main_cst_2
  let main_v13 : FVec F S1x16 .f32 := broadcastInDim S1x16 ![1] bcast_S16_S1x16_1 main_v5
  let main_v14 : FVec F S16384x16 .f32 := broadcastInDim S16384x16 ![0, 1] bcast_S1x16_S16384x16_0_1 main_v13
  let main_v15 : IVec S16384x16 1 := cmpf .ole main_v12 main_v14
  let main_v16 : IVec S16384x16 1 := andi main_v10 main_v15
  let main_cst_3 : FVec F S_ .f32 := constant S_ .f32 0xFF800000#32
  let main_v17 : FVec F S16 .f32 := broadcastInDim S16 ![] bcast_S_S16 main_cst_3
  let main_v18 : IVec S16 1 := cmpf .ogt main_arg3 main_v17
  fn_part1 (F := F) main_v16 main_v18
-- ==== Pre_finite.lean ====
abbrev S1x2048 : Shape := ⟨2, ![1, 2048]⟩
abbrev S32x2048 : Shape := ⟨2, ![32, 2048]⟩
abbrev S2048x12288 : Shape := ⟨2, ![2048, 12288]⟩
abbrev S12288 : Shape := ⟨1, ![12288]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S2048x12288 : S_.BroadcastsInDim S2048x12288 (![] : Fin 0 → Fin S2048x12288.rank)
  reducesTo_S2048x12288_S_d0_1 : S2048x12288.ReducesTo [0, 1] S_

variable [Facts]

def fn {F : FTy → Type} [FloatOps F] (main_arg0 : FVec F S1x2048 .f32) (main_arg1 : FVec F S32x2048 .f32) (main_arg2 : FVec F S2048x12288 .f32) (main_arg3 : FVec F S12288 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S2048x12288 .f32 := Host.absf main_arg2
  let main_cst_2 : FVec F S_ .f32 := constant S_ .f32 0x7F800000#32
  let main_v10 : FVec F S2048x12288 .f32 := broadcastInDim S2048x12288 ![] bcast_S_S2048x12288 main_cst_2
  let main_v11 : IVec S2048x12288 1 := cmpf .olt main_v9 main_v10
  let main_c_3 : IVec S_ 1 := constantI S_ 1 1#1
  let main_v12 : IVec S_ 1 := (fun x v => Host.reduce IntOp.andi x v reducesTo_S2048x12288_S_d0_1 h_S_) main_v11 main_c_3
  let main_v13 : IVec S_ 1 := andi main_v8 main_v12
  main_v13
-- ==== Kernel.lean ====
abbrev S16384x1024 : Shape := ⟨2, ![16384, 1024]⟩
abbrev S16 : Shape := ⟨1, ![16]⟩
abbrev S64x256x1024 : Shape := ⟨3, ![64, 256, 1024]⟩
abbrev S64x1024x256 : Shape := ⟨3, ![64, 1024, 256]⟩
abbrev S256x512 : Shape := ⟨2, ![256, 512]⟩
abbrev S16384x512 : Shape := ⟨2, ![16384, 512]⟩
abbrev S64x512x256 : Shape := ⟨3, ![64, 512, 256]⟩
abbrev S512x256 : Shape := ⟨2, ![512, 256]⟩
abbrev S8x256 : Shape := ⟨2, ![8, 256]⟩
abbrev S256x128 : Shape := ⟨2, ![256, 128]⟩
abbrev S1 : Shape := ⟨1, ![1]⟩
abbrev S256x256 : Shape := ⟨2, ![256, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 9
  | .vmem => 8
  | .smem => 1
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16, .f32⟩
  | .hbm, ⟨4, _⟩ => ⟨S16384x1024, .bf16⟩
  | .hbm, ⟨5, _⟩ => ⟨S64x256x1024, .f32⟩
  | .hbm, ⟨6, _⟩ => ⟨S64x1024x256, .f32⟩
  | .hbm, ⟨7, _⟩ => ⟨S64x1024x256, .bf16⟩
  | .hbm, ⟨8, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S16384x512, .bf16⟩
  | .local _ .vmem, ⟨3, _⟩ => ⟨S64x512x256, .bf16⟩
  | .local _ .vmem, ⟨4, _⟩ => ⟨S256x512, .f32⟩
  | .local _ .vmem, ⟨5, _⟩ => ⟨S256x512, .f32⟩
  | .local _ .vmem, ⟨6, _⟩ => ⟨S512x256, .f32⟩
  | .local _ .vmem, ⟨7, _⟩ => ⟨S8x256, .f32⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 64], ![false, false]⟩

def k0_off1 (i : grid0.Coords) (c0_i32 : BitVec 32) : Fin 1 → Nat :=
  let c8_i32 : BitVec 32 := 8#32
  let arg0 : BitVec 32 := BitVec.ofNat 32 (i 0).val
  let v65 : BitVec 32 := Scalar.muli c8_i32 arg0
  let v66 : BitVec 32 := Scalar.addi v65 c0_i32
  let v67 : Index := Scalar.indexCast v66
  ![v67.toNat]
def k0_cond1 (i : grid0.Coords) : BitVec 1 :=
  let arg1 : BitVec 32 := BitVec.ofNat 32 (i 1).val
  let c4_i32_62 : BitVec 32 := 4#32
  let c0_i32_63 : BitVec 32 := 0#32
  let v135 : BitVec 1 := Scalar.cmpi .eq c4_i32_62 c0_i32_63
  let c1_i32_64 : BitVec 32 := 1#32
  let v136 : BitVec 32 := Scalar.select v135 c1_i32_64 c4_i32_62
  let v137 : BitVec 32 := Scalar.remsi arg1 v136
  let c0_i32_66 : BitVec 32 := 0#32
  let v139 : BitVec 1 := Scalar.cmpi .slt v137 c0_i32_66
  let c0_i32_67 : BitVec 32 := 0#32
  let v140 : BitVec 1 := Scalar.cmpi .slt v136 c0_i32_67
  let v141 : BitVec 1 := Scalar.xori v139 v140
  let c0_i32_65 : BitVec 32 := 0#32
  let v138 : BitVec 1 := Scalar.cmpi .ne v137 c0_i32_65
  let v142 : BitVec 1 := Scalar.andi v141 v138
  let v143 : BitVec 32 := Scalar.addi v137 v136
  let v144 : BitVec 32 := Scalar.select v142 v143 v137
  let c0_i32_68 : BitVec 32 := 0#32
  let v145 : BitVec 1 := Scalar.cmpi .eq v144 c0_i32_68
  let v146 : BitVec 32 := Scalar.extui v145
  let c0_i32_69 : BitVec 32 := 0#32
  let v147 : BitVec 1 := Scalar.cmpi .ne v146 c0_i32_69
  v147

def k0_mult1 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let c0_i32_112 : BitVec 32 := 0#32
  let v206 : BitVec 32 := Scalar.addi v205 c0_i32_112
  let c256_i32 : BitVec 32 := 256#32
  let v207 : BitVec 32 := Scalar.muli v206 c256_i32
  v207
def k0_off2 (i : grid0.Coords) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let c0_i32_112 : BitVec 32 := 0#32
  let v206 : BitVec 32 := Scalar.addi v205 c0_i32_112
  let c256_i32 : BitVec 32 := 256#32
  let v207 : BitVec 32 := Scalar.muli v206 c256_i32
  let v208 : BitVec 32 := v207
  let v209 : Index := Scalar.indexCast v208
  let c0_113 : Index := 0#32
  ![v209.toNat, 0]
def k0_mult2 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_116 : BitVec 32 := 4#32
  let v219 : BitVec 32 := Scalar.muli v134 c4_i32_116
  let c0_i32_117 : BitVec 32 := 0#32
  let v220 : BitVec 32 := Scalar.addi v219 c0_i32_117
  let c256_i32_118 : BitVec 32 := 256#32
  let v221 : BitVec 32 := Scalar.muli v220 c256_i32_118
  v221
def k0_mult3 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let c0_i32_123 : BitVec 32 := 0#32
  let v234 : BitVec 32 := Scalar.addi v233 c0_i32_123
  let c256_i32_124 : BitVec 32 := 256#32
  let v235 : BitVec 32 := Scalar.muli v234 c256_i32_124
  v235
def k0_off3 (i : grid0.Coords) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let c0_i32_123 : BitVec 32 := 0#32
  let v234 : BitVec 32 := Scalar.addi v233 c0_i32_123
  let c256_i32_124 : BitVec 32 := 256#32
  let v235 : BitVec 32 := Scalar.muli v234 c256_i32_124
  let v236 : BitVec 32 := v235
  let v237 : Index := Scalar.indexCast v236
  let c128_125 : Index := 128#32
  ![v237.toNat, 128]
def k0_mult4 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_133 : BitVec 32 := 4#32
  let v262 : BitVec 32 := Scalar.muli v134 c4_i32_133
  let c0_i32_134 : BitVec 32 := 0#32
  let v263 : BitVec 32 := Scalar.addi v262 c0_i32_134
  let c256_i32_135 : BitVec 32 := 256#32
  let v264 : BitVec 32 := Scalar.muli v263 c256_i32_135
  v264
def k0_mult5 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let c0_i32_145 : BitVec 32 := 0#32
  let v292 : BitVec 32 := Scalar.addi v291 c0_i32_145
  let c256_i32_146 : BitVec 32 := 256#32
  let v293 : BitVec 32 := Scalar.muli v292 c256_i32_146
  v293
def k0_off4 (i : grid0.Coords) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let c0_i32_145 : BitVec 32 := 0#32
  let v292 : BitVec 32 := Scalar.addi v291 c0_i32_145
  let c256_i32_146 : BitVec 32 := 256#32
  let v293 : BitVec 32 := Scalar.muli v292 c256_i32_146
  let v294 : BitVec 32 := v293
  let v295 : Index := Scalar.indexCast v294
  let c256_147 : Index := 256#32
  ![v295.toNat, 256]
def k0_off5 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_156 : BitVec 32 := 4#32
  let v324 : BitVec 32 := Scalar.muli v134 c4_i32_156
  let c0_i32_157 : BitVec 32 := 0#32
  let v325 : BitVec 32 := Scalar.addi v324 c0_i32_157
  let v326 : Index := Scalar.indexCast v325
  let c0_158 : Index := 0#32
  let c0_159 : Index := 0#32
  ![v326.toNat, 0, 0]
def k0_mult6 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_161 : BitVec 32 := 4#32
  let v333 : BitVec 32 := Scalar.muli v134 c4_i32_161
  let c0_i32_162 : BitVec 32 := 0#32
  let v334 : BitVec 32 := Scalar.addi v333 c0_i32_162
  let c256_i32_163 : BitVec 32 := 256#32
  let v335 : BitVec 32 := Scalar.muli v334 c256_i32_163
  v335
def k0_off6 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_173 : BitVec 32 := 4#32
  let v366 : BitVec 32 := Scalar.muli v134 c4_i32_173
  let c0_i32_174 : BitVec 32 := 0#32
  let v367 : BitVec 32 := Scalar.addi v366 c0_i32_174
  let v368 : Index := Scalar.indexCast v367
  let c64 : Index := 64#32
  let c0_175 : Index := 0#32
  ![v368.toNat, 64, 0]
def k0_mult7 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let c0_i32_183 : BitVec 32 := 0#32
  let v387 : BitVec 32 := Scalar.addi v386 c0_i32_183
  let c256_i32_184 : BitVec 32 := 256#32
  let v388 : BitVec 32 := Scalar.muli v387 c256_i32_184
  v388
def k0_off7 (i : grid0.Coords) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let c0_i32_183 : BitVec 32 := 0#32
  let v387 : BitVec 32 := Scalar.addi v386 c0_i32_183
  let c256_i32_184 : BitVec 32 := 256#32
  let v388 : BitVec 32 := Scalar.muli v387 c256_i32_184
  let v389 : BitVec 32 := v388
  let v390 : Index := Scalar.indexCast v389
  let c384_185 : Index := 384#32
  ![v390.toNat, 384]
def k0_off8 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_194 : BitVec 32 := 4#32
  let v419 : BitVec 32 := Scalar.muli v134 c4_i32_194
  let c0_i32_195 : BitVec 32 := 0#32
  let v420 : BitVec 32 := Scalar.addi v419 c0_i32_195
  let v421 : Index := Scalar.indexCast v420
  let c128_196 : Index := 128#32
  let c0_197 : Index := 0#32
  ![v421.toNat, 128, 0]
def k0_mult8 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_204 : BitVec 32 := 4#32
  let v439 : BitVec 32 := Scalar.muli v134 c4_i32_204
  let c0_i32_205 : BitVec 32 := 0#32
  let v440 : BitVec 32 := Scalar.addi v439 c0_i32_205
  let c256_i32_206 : BitVec 32 := 256#32
  let v441 : BitVec 32 := Scalar.muli v440 c256_i32_206
  v441
def k0_off9 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_216 : BitVec 32 := 4#32
  let v472 : BitVec 32 := Scalar.muli v134 c4_i32_216
  let c0_i32_217 : BitVec 32 := 0#32
  let v473 : BitVec 32 := Scalar.addi v472 c0_i32_217
  let v474 : Index := Scalar.indexCast v473
  let c192 : Index := 192#32
  let c0_218 : Index := 0#32
  ![v474.toNat, 192, 0]
def k0_off10 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_231 : BitVec 32 := 4#32
  let v511 : BitVec 32 := Scalar.muli v134 c4_i32_231
  let c0_i32_232 : BitVec 32 := 0#32
  let v512 : BitVec 32 := Scalar.addi v511 c0_i32_232
  let v513 : Index := Scalar.indexCast v512
  let c256_233 : Index := 256#32
  let c0_234 : Index := 0#32
  ![v513.toNat, 256, 0]
def k0_off11 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_247 : BitVec 32 := 4#32
  let v550 : BitVec 32 := Scalar.muli v134 c4_i32_247
  let c0_i32_248 : BitVec 32 := 0#32
  let v551 : BitVec 32 := Scalar.addi v550 c0_i32_248
  let v552 : Index := Scalar.indexCast v551
  let c320 : Index := 320#32
  let c0_249 : Index := 0#32
  ![v552.toNat, 320, 0]
def k0_off12 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_257 : BitVec 32 := 4#32
  let v574 : BitVec 32 := Scalar.muli v134 c4_i32_257
  let c0_i32_258 : BitVec 32 := 0#32
  let v575 : BitVec 32 := Scalar.addi v574 c0_i32_258
  let v576 : Index := Scalar.indexCast v575
  let c384_259 : Index := 384#32
  let c0_260 : Index := 0#32
  ![v576.toNat, 384, 0]
def k0_off13 (i : grid0.Coords) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_268 : BitVec 32 := 4#32
  let v598 : BitVec 32 := Scalar.muli v134 c4_i32_268
  let c0_i32_269 : BitVec 32 := 0#32
  let v599 : BitVec 32 := Scalar.addi v598 c0_i32_269
  let v600 : Index := Scalar.indexCast v599
  let c448 : Index := 448#32
  let c0_270 : Index := 0#32
  ![v600.toNat, 448, 0]
def k0_cond2 (i : grid0.Coords) : BitVec 1 :=
  let arg1 : BitVec 32 := BitVec.ofNat 32 (i 1).val
  let c4_i32_70 : BitVec 32 := 4#32
  let c0_i32_71 : BitVec 32 := 0#32
  let v148 : BitVec 1 := Scalar.cmpi .eq c4_i32_70 c0_i32_71
  let c1_i32_72 : BitVec 32 := 1#32
  let v149 : BitVec 32 := Scalar.select v148 c1_i32_72 c4_i32_70
  let v150 : BitVec 32 := Scalar.remsi arg1 v149
  let c0_i32_74 : BitVec 32 := 0#32
  let v152 : BitVec 1 := Scalar.cmpi .slt v150 c0_i32_74
  let c0_i32_75 : BitVec 32 := 0#32
  let v153 : BitVec 1 := Scalar.cmpi .slt v149 c0_i32_75
  let v154 : BitVec 1 := Scalar.xori v152 v153
  let c0_i32_73 : BitVec 32 := 0#32
  let v151 : BitVec 1 := Scalar.cmpi .ne v150 c0_i32_73
  let v155 : BitVec 1 := Scalar.andi v154 v151
  let v156 : BitVec 32 := Scalar.addi v150 v149
  let v157 : BitVec 32 := Scalar.select v155 v156 v150
  let c1_i32_76 : BitVec 32 := 1#32
  let v158 : BitVec 1 := Scalar.cmpi .eq v157 c1_i32_76
  let v159 : BitVec 32 := Scalar.extui v158
  let c0_i32_77 : BitVec 32 := 0#32
  let v160 : BitVec 1 := Scalar.cmpi .ne v159 c0_i32_77
  v160

def k0_mult9 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let c1_i32_112 : BitVec 32 := 1#32
  let v206 : BitVec 32 := Scalar.addi v205 c1_i32_112
  let c256_i32 : BitVec 32 := 256#32
  let v207 : BitVec 32 := Scalar.muli v206 c256_i32
  v207
def k0_off14 (i : grid0.Coords) (c1_i32_112 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let v206 : BitVec 32 := Scalar.addi v205 c1_i32_112
  let c256_i32 : BitVec 32 := 256#32
  let v207 : BitVec 32 := Scalar.muli v206 c256_i32
  let v208 : BitVec 32 := v207
  let v209 : Index := Scalar.indexCast v208
  let c0_113 : Index := 0#32
  ![v209.toNat, 0]
def k0_mult10 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_116 : BitVec 32 := 4#32
  let v219 : BitVec 32 := Scalar.muli v134 c4_i32_116
  let c1_i32_117 : BitVec 32 := 1#32
  let v220 : BitVec 32 := Scalar.addi v219 c1_i32_117
  let c256_i32_118 : BitVec 32 := 256#32
  let v221 : BitVec 32 := Scalar.muli v220 c256_i32_118
  v221
def k0_mult11 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let c1_i32_123 : BitVec 32 := 1#32
  let v234 : BitVec 32 := Scalar.addi v233 c1_i32_123
  let c256_i32_124 : BitVec 32 := 256#32
  let v235 : BitVec 32 := Scalar.muli v234 c256_i32_124
  v235
def k0_off15 (i : grid0.Coords) (c1_i32_123 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let v234 : BitVec 32 := Scalar.addi v233 c1_i32_123
  let c256_i32_124 : BitVec 32 := 256#32
  let v235 : BitVec 32 := Scalar.muli v234 c256_i32_124
  let v236 : BitVec 32 := v235
  let v237 : Index := Scalar.indexCast v236
  let c128_125 : Index := 128#32
  ![v237.toNat, 128]
def k0_mult12 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_133 : BitVec 32 := 4#32
  let v262 : BitVec 32 := Scalar.muli v134 c4_i32_133
  let c1_i32_134 : BitVec 32 := 1#32
  let v263 : BitVec 32 := Scalar.addi v262 c1_i32_134
  let c256_i32_135 : BitVec 32 := 256#32
  let v264 : BitVec 32 := Scalar.muli v263 c256_i32_135
  v264
def k0_mult13 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let c1_i32_145 : BitVec 32 := 1#32
  let v292 : BitVec 32 := Scalar.addi v291 c1_i32_145
  let c256_i32_146 : BitVec 32 := 256#32
  let v293 : BitVec 32 := Scalar.muli v292 c256_i32_146
  v293
def k0_off16 (i : grid0.Coords) (c1_i32_145 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let v292 : BitVec 32 := Scalar.addi v291 c1_i32_145
  let c256_i32_146 : BitVec 32 := 256#32
  let v293 : BitVec 32 := Scalar.muli v292 c256_i32_146
  let v294 : BitVec 32 := v293
  let v295 : Index := Scalar.indexCast v294
  let c256_147 : Index := 256#32
  ![v295.toNat, 256]
def k0_off17 (i : grid0.Coords) (c1_i32_157 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_156 : BitVec 32 := 4#32
  let v324 : BitVec 32 := Scalar.muli v134 c4_i32_156
  let v325 : BitVec 32 := Scalar.addi v324 c1_i32_157
  let v326 : Index := Scalar.indexCast v325
  let c0_158 : Index := 0#32
  let c0_159 : Index := 0#32
  ![v326.toNat, 0, 0]
def k0_mult14 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_161 : BitVec 32 := 4#32
  let v333 : BitVec 32 := Scalar.muli v134 c4_i32_161
  let c1_i32_162 : BitVec 32 := 1#32
  let v334 : BitVec 32 := Scalar.addi v333 c1_i32_162
  let c256_i32_163 : BitVec 32 := 256#32
  let v335 : BitVec 32 := Scalar.muli v334 c256_i32_163
  v335
def k0_off18 (i : grid0.Coords) (c1_i32_174 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_173 : BitVec 32 := 4#32
  let v366 : BitVec 32 := Scalar.muli v134 c4_i32_173
  let v367 : BitVec 32 := Scalar.addi v366 c1_i32_174
  let v368 : Index := Scalar.indexCast v367
  let c64 : Index := 64#32
  let c0_175 : Index := 0#32
  ![v368.toNat, 64, 0]
def k0_mult15 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let c1_i32_183 : BitVec 32 := 1#32
  let v387 : BitVec 32 := Scalar.addi v386 c1_i32_183
  let c256_i32_184 : BitVec 32 := 256#32
  let v388 : BitVec 32 := Scalar.muli v387 c256_i32_184
  v388
def k0_off19 (i : grid0.Coords) (c1_i32_183 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let v387 : BitVec 32 := Scalar.addi v386 c1_i32_183
  let c256_i32_184 : BitVec 32 := 256#32
  let v388 : BitVec 32 := Scalar.muli v387 c256_i32_184
  let v389 : BitVec 32 := v388
  let v390 : Index := Scalar.indexCast v389
  let c384_185 : Index := 384#32
  ![v390.toNat, 384]
def k0_off20 (i : grid0.Coords) (c1_i32_195 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_194 : BitVec 32 := 4#32
  let v419 : BitVec 32 := Scalar.muli v134 c4_i32_194
  let v420 : BitVec 32 := Scalar.addi v419 c1_i32_195
  let v421 : Index := Scalar.indexCast v420
  let c128_196 : Index := 128#32
  let c0_197 : Index := 0#32
  ![v421.toNat, 128, 0]
def k0_mult16 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_204 : BitVec 32 := 4#32
  let v439 : BitVec 32 := Scalar.muli v134 c4_i32_204
  let c1_i32_205 : BitVec 32 := 1#32
  let v440 : BitVec 32 := Scalar.addi v439 c1_i32_205
  let c256_i32_206 : BitVec 32 := 256#32
  let v441 : BitVec 32 := Scalar.muli v440 c256_i32_206
  v441
def k0_off21 (i : grid0.Coords) (c1_i32_217 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_216 : BitVec 32 := 4#32
  let v472 : BitVec 32 := Scalar.muli v134 c4_i32_216
  let v473 : BitVec 32 := Scalar.addi v472 c1_i32_217
  let v474 : Index := Scalar.indexCast v473
  let c192 : Index := 192#32
  let c0_218 : Index := 0#32
  ![v474.toNat, 192, 0]
def k0_mult17 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_225 : BitVec 32 := 4#32
  let v492 : BitVec 32 := Scalar.muli v134 c4_i32_225
  let c0_i32_226 : BitVec 32 := 0#32
  let v493 : BitVec 32 := Scalar.addi v492 c0_i32_226
  let c256_i32_227 : BitVec 32 := 256#32
  let v494 : BitVec 32 := Scalar.muli v493 c256_i32_227
  v494
def k0_off22 (i : grid0.Coords) (c1_i32_237 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_236 : BitVec 32 := 4#32
  let v521 : BitVec 32 := Scalar.muli v134 c4_i32_236
  let v522 : BitVec 32 := Scalar.addi v521 c1_i32_237
  let v523 : Index := Scalar.indexCast v522
  let c256_238 : Index := 256#32
  let c0_239 : Index := 0#32
  ![v523.toNat, 256, 0]
def k0_mult18 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_246 : BitVec 32 := 4#32
  let v541 : BitVec 32 := Scalar.muli v134 c4_i32_246
  let c0_i32_247 : BitVec 32 := 0#32
  let v542 : BitVec 32 := Scalar.addi v541 c0_i32_247
  let c256_i32_248 : BitVec 32 := 256#32
  let v543 : BitVec 32 := Scalar.muli v542 c256_i32_248
  v543
def k0_off23 (i : grid0.Coords) (c1_i32_258 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_257 : BitVec 32 := 4#32
  let v570 : BitVec 32 := Scalar.muli v134 c4_i32_257
  let v571 : BitVec 32 := Scalar.addi v570 c1_i32_258
  let v572 : Index := Scalar.indexCast v571
  let c320 : Index := 320#32
  let c0_259 : Index := 0#32
  ![v572.toNat, 320, 0]
def k0_mult19 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_266 : BitVec 32 := 4#32
  let v590 : BitVec 32 := Scalar.muli v134 c4_i32_266
  let c0_i32_267 : BitVec 32 := 0#32
  let v591 : BitVec 32 := Scalar.addi v590 c0_i32_267
  let c256_i32_268 : BitVec 32 := 256#32
  let v592 : BitVec 32 := Scalar.muli v591 c256_i32_268
  v592
def k0_off24 (i : grid0.Coords) (c1_i32_277 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_276 : BitVec 32 := 4#32
  let v617 : BitVec 32 := Scalar.muli v134 c4_i32_276
  let v618 : BitVec 32 := Scalar.addi v617 c1_i32_277
  let v619 : Index := Scalar.indexCast v618
  let c384_278 : Index := 384#32
  let c0_279 : Index := 0#32
  ![v619.toNat, 384, 0]
def k0_mult20 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_286 : BitVec 32 := 4#32
  let v637 : BitVec 32 := Scalar.muli v134 c4_i32_286
  let c0_i32_287 : BitVec 32 := 0#32
  let v638 : BitVec 32 := Scalar.addi v637 c0_i32_287
  let c256_i32_288 : BitVec 32 := 256#32
  let v639 : BitVec 32 := Scalar.muli v638 c256_i32_288
  v639
def k0_off25 (i : grid0.Coords) (c1_i32_297 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_296 : BitVec 32 := 4#32
  let v664 : BitVec 32 := Scalar.muli v134 c4_i32_296
  let v665 : BitVec 32 := Scalar.addi v664 c1_i32_297
  let v666 : Index := Scalar.indexCast v665
  let c448 : Index := 448#32
  let c0_298 : Index := 0#32
  ![v666.toNat, 448, 0]
def k0_mult21 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_305 : BitVec 32 := 4#32
  let v684 : BitVec 32 := Scalar.muli v134 c4_i32_305
  let c0_i32_306 : BitVec 32 := 0#32
  let v685 : BitVec 32 := Scalar.addi v684 c0_i32_306
  let c256_i32_307 : BitVec 32 := 256#32
  let v686 : BitVec 32 := Scalar.muli v685 c256_i32_307
  v686
def k0_mult22 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_324 : BitVec 32 := 4#32
  let v729 : BitVec 32 := Scalar.muli v134 c4_i32_324
  let c0_i32_325 : BitVec 32 := 0#32
  let v730 : BitVec 32 := Scalar.addi v729 c0_i32_325
  let c256_i32_326 : BitVec 32 := 256#32
  let v731 : BitVec 32 := Scalar.muli v730 c256_i32_326
  v731
def k0_mult23 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_343 : BitVec 32 := 4#32
  let v774 : BitVec 32 := Scalar.muli v134 c4_i32_343
  let c0_i32_344 : BitVec 32 := 0#32
  let v775 : BitVec 32 := Scalar.addi v774 c0_i32_344
  let c256_i32_345 : BitVec 32 := 256#32
  let v776 : BitVec 32 := Scalar.muli v775 c256_i32_345
  v776
def k0_mult24 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_362 : BitVec 32 := 4#32
  let v819 : BitVec 32 := Scalar.muli v134 c4_i32_362
  let c0_i32_363 : BitVec 32 := 0#32
  let v820 : BitVec 32 := Scalar.addi v819 c0_i32_363
  let c256_i32_364 : BitVec 32 := 256#32
  let v821 : BitVec 32 := Scalar.muli v820 c256_i32_364
  v821
def k0_cond3 (i : grid0.Coords) : BitVec 1 :=
  let arg1 : BitVec 32 := BitVec.ofNat 32 (i 1).val
  let c4_i32_78 : BitVec 32 := 4#32
  let c0_i32_79 : BitVec 32 := 0#32
  let v161 : BitVec 1 := Scalar.cmpi .eq c4_i32_78 c0_i32_79
  let c1_i32_80 : BitVec 32 := 1#32
  let v162 : BitVec 32 := Scalar.select v161 c1_i32_80 c4_i32_78
  let v163 : BitVec 32 := Scalar.remsi arg1 v162
  let c0_i32_82 : BitVec 32 := 0#32
  let v165 : BitVec 1 := Scalar.cmpi .slt v163 c0_i32_82
  let c0_i32_83 : BitVec 32 := 0#32
  let v166 : BitVec 1 := Scalar.cmpi .slt v162 c0_i32_83
  let v167 : BitVec 1 := Scalar.xori v165 v166
  let c0_i32_81 : BitVec 32 := 0#32
  let v164 : BitVec 1 := Scalar.cmpi .ne v163 c0_i32_81
  let v168 : BitVec 1 := Scalar.andi v167 v164
  let v169 : BitVec 32 := Scalar.addi v163 v162
  let v170 : BitVec 32 := Scalar.select v168 v169 v163
  let c2_i32_84 : BitVec 32 := 2#32
  let v171 : BitVec 1 := Scalar.cmpi .eq v170 c2_i32_84
  let v172 : BitVec 32 := Scalar.extui v171
  let c0_i32_85 : BitVec 32 := 0#32
  let v173 : BitVec 1 := Scalar.cmpi .ne v172 c0_i32_85
  v173

def k0_mult25 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let c2_i32_112 : BitVec 32 := 2#32
  let v206 : BitVec 32 := Scalar.addi v205 c2_i32_112
  let c256_i32 : BitVec 32 := 256#32
  let v207 : BitVec 32 := Scalar.muli v206 c256_i32
  v207
def k0_off26 (i : grid0.Coords) (c2_i32_112 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let v206 : BitVec 32 := Scalar.addi v205 c2_i32_112
  let c256_i32 : BitVec 32 := 256#32
  let v207 : BitVec 32 := Scalar.muli v206 c256_i32
  let v208 : BitVec 32 := v207
  let v209 : Index := Scalar.indexCast v208
  let c0_113 : Index := 0#32
  ![v209.toNat, 0]
def k0_mult26 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_116 : BitVec 32 := 4#32
  let v219 : BitVec 32 := Scalar.muli v134 c4_i32_116
  let c2_i32_117 : BitVec 32 := 2#32
  let v220 : BitVec 32 := Scalar.addi v219 c2_i32_117
  let c256_i32_118 : BitVec 32 := 256#32
  let v221 : BitVec 32 := Scalar.muli v220 c256_i32_118
  v221
def k0_mult27 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let c2_i32_123 : BitVec 32 := 2#32
  let v234 : BitVec 32 := Scalar.addi v233 c2_i32_123
  let c256_i32_124 : BitVec 32 := 256#32
  let v235 : BitVec 32 := Scalar.muli v234 c256_i32_124
  v235
def k0_off27 (i : grid0.Coords) (c2_i32_123 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let v234 : BitVec 32 := Scalar.addi v233 c2_i32_123
  let c256_i32_124 : BitVec 32 := 256#32
  let v235 : BitVec 32 := Scalar.muli v234 c256_i32_124
  let v236 : BitVec 32 := v235
  let v237 : Index := Scalar.indexCast v236
  let c128_125 : Index := 128#32
  ![v237.toNat, 128]
def k0_mult28 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_133 : BitVec 32 := 4#32
  let v262 : BitVec 32 := Scalar.muli v134 c4_i32_133
  let c2_i32_134 : BitVec 32 := 2#32
  let v263 : BitVec 32 := Scalar.addi v262 c2_i32_134
  let c256_i32_135 : BitVec 32 := 256#32
  let v264 : BitVec 32 := Scalar.muli v263 c256_i32_135
  v264
def k0_mult29 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let c2_i32_145 : BitVec 32 := 2#32
  let v292 : BitVec 32 := Scalar.addi v291 c2_i32_145
  let c256_i32_146 : BitVec 32 := 256#32
  let v293 : BitVec 32 := Scalar.muli v292 c256_i32_146
  v293
def k0_off28 (i : grid0.Coords) (c2_i32_145 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let v292 : BitVec 32 := Scalar.addi v291 c2_i32_145
  let c256_i32_146 : BitVec 32 := 256#32
  let v293 : BitVec 32 := Scalar.muli v292 c256_i32_146
  let v294 : BitVec 32 := v293
  let v295 : Index := Scalar.indexCast v294
  let c256_147 : Index := 256#32
  ![v295.toNat, 256]
def k0_off29 (i : grid0.Coords) (c2_i32_157 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_156 : BitVec 32 := 4#32
  let v324 : BitVec 32 := Scalar.muli v134 c4_i32_156
  let v325 : BitVec 32 := Scalar.addi v324 c2_i32_157
  let v326 : Index := Scalar.indexCast v325
  let c0_158 : Index := 0#32
  let c0_159 : Index := 0#32
  ![v326.toNat, 0, 0]
def k0_mult30 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_161 : BitVec 32 := 4#32
  let v333 : BitVec 32 := Scalar.muli v134 c4_i32_161
  let c2_i32_162 : BitVec 32 := 2#32
  let v334 : BitVec 32 := Scalar.addi v333 c2_i32_162
  let c256_i32_163 : BitVec 32 := 256#32
  let v335 : BitVec 32 := Scalar.muli v334 c256_i32_163
  v335
def k0_off30 (i : grid0.Coords) (c2_i32_174 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_173 : BitVec 32 := 4#32
  let v366 : BitVec 32 := Scalar.muli v134 c4_i32_173
  let v367 : BitVec 32 := Scalar.addi v366 c2_i32_174
  let v368 : Index := Scalar.indexCast v367
  let c64 : Index := 64#32
  let c0_175 : Index := 0#32
  ![v368.toNat, 64, 0]
def k0_mult31 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let c2_i32_183 : BitVec 32 := 2#32
  let v387 : BitVec 32 := Scalar.addi v386 c2_i32_183
  let c256_i32_184 : BitVec 32 := 256#32
  let v388 : BitVec 32 := Scalar.muli v387 c256_i32_184
  v388
def k0_off31 (i : grid0.Coords) (c2_i32_183 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let v387 : BitVec 32 := Scalar.addi v386 c2_i32_183
  let c256_i32_184 : BitVec 32 := 256#32
  let v388 : BitVec 32 := Scalar.muli v387 c256_i32_184
  let v389 : BitVec 32 := v388
  let v390 : Index := Scalar.indexCast v389
  let c384_185 : Index := 384#32
  ![v390.toNat, 384]
def k0_off32 (i : grid0.Coords) (c2_i32_195 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_194 : BitVec 32 := 4#32
  let v419 : BitVec 32 := Scalar.muli v134 c4_i32_194
  let v420 : BitVec 32 := Scalar.addi v419 c2_i32_195
  let v421 : Index := Scalar.indexCast v420
  let c128_196 : Index := 128#32
  let c0_197 : Index := 0#32
  ![v421.toNat, 128, 0]
def k0_mult32 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_204 : BitVec 32 := 4#32
  let v439 : BitVec 32 := Scalar.muli v134 c4_i32_204
  let c2_i32_205 : BitVec 32 := 2#32
  let v440 : BitVec 32 := Scalar.addi v439 c2_i32_205
  let c256_i32_206 : BitVec 32 := 256#32
  let v441 : BitVec 32 := Scalar.muli v440 c256_i32_206
  v441
def k0_off33 (i : grid0.Coords) (c2_i32_217 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_216 : BitVec 32 := 4#32
  let v472 : BitVec 32 := Scalar.muli v134 c4_i32_216
  let v473 : BitVec 32 := Scalar.addi v472 c2_i32_217
  let v474 : Index := Scalar.indexCast v473
  let c192 : Index := 192#32
  let c0_218 : Index := 0#32
  ![v474.toNat, 192, 0]
def k0_mult33 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_225 : BitVec 32 := 4#32
  let v492 : BitVec 32 := Scalar.muli v134 c4_i32_225
  let c1_i32_226 : BitVec 32 := 1#32
  let v493 : BitVec 32 := Scalar.addi v492 c1_i32_226
  let c256_i32_227 : BitVec 32 := 256#32
  let v494 : BitVec 32 := Scalar.muli v493 c256_i32_227
  v494
def k0_off34 (i : grid0.Coords) (c2_i32_237 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_236 : BitVec 32 := 4#32
  let v521 : BitVec 32 := Scalar.muli v134 c4_i32_236
  let v522 : BitVec 32 := Scalar.addi v521 c2_i32_237
  let v523 : Index := Scalar.indexCast v522
  let c256_238 : Index := 256#32
  let c0_239 : Index := 0#32
  ![v523.toNat, 256, 0]
def k0_mult34 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_246 : BitVec 32 := 4#32
  let v541 : BitVec 32 := Scalar.muli v134 c4_i32_246
  let c1_i32_247 : BitVec 32 := 1#32
  let v542 : BitVec 32 := Scalar.addi v541 c1_i32_247
  let c256_i32_248 : BitVec 32 := 256#32
  let v543 : BitVec 32 := Scalar.muli v542 c256_i32_248
  v543
def k0_off35 (i : grid0.Coords) (c2_i32_258 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_257 : BitVec 32 := 4#32
  let v570 : BitVec 32 := Scalar.muli v134 c4_i32_257
  let v571 : BitVec 32 := Scalar.addi v570 c2_i32_258
  let v572 : Index := Scalar.indexCast v571
  let c320 : Index := 320#32
  let c0_259 : Index := 0#32
  ![v572.toNat, 320, 0]
def k0_mult35 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_266 : BitVec 32 := 4#32
  let v590 : BitVec 32 := Scalar.muli v134 c4_i32_266
  let c1_i32_267 : BitVec 32 := 1#32
  let v591 : BitVec 32 := Scalar.addi v590 c1_i32_267
  let c256_i32_268 : BitVec 32 := 256#32
  let v592 : BitVec 32 := Scalar.muli v591 c256_i32_268
  v592
def k0_off36 (i : grid0.Coords) (c2_i32_277 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_276 : BitVec 32 := 4#32
  let v617 : BitVec 32 := Scalar.muli v134 c4_i32_276
  let v618 : BitVec 32 := Scalar.addi v617 c2_i32_277
  let v619 : Index := Scalar.indexCast v618
  let c384_278 : Index := 384#32
  let c0_279 : Index := 0#32
  ![v619.toNat, 384, 0]
def k0_mult36 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_286 : BitVec 32 := 4#32
  let v637 : BitVec 32 := Scalar.muli v134 c4_i32_286
  let c1_i32_287 : BitVec 32 := 1#32
  let v638 : BitVec 32 := Scalar.addi v637 c1_i32_287
  let c256_i32_288 : BitVec 32 := 256#32
  let v639 : BitVec 32 := Scalar.muli v638 c256_i32_288
  v639
def k0_off37 (i : grid0.Coords) (c2_i32_297 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_296 : BitVec 32 := 4#32
  let v664 : BitVec 32 := Scalar.muli v134 c4_i32_296
  let v665 : BitVec 32 := Scalar.addi v664 c2_i32_297
  let v666 : Index := Scalar.indexCast v665
  let c448 : Index := 448#32
  let c0_298 : Index := 0#32
  ![v666.toNat, 448, 0]
def k0_mult37 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_305 : BitVec 32 := 4#32
  let v684 : BitVec 32 := Scalar.muli v134 c4_i32_305
  let c1_i32_306 : BitVec 32 := 1#32
  let v685 : BitVec 32 := Scalar.addi v684 c1_i32_306
  let c256_i32_307 : BitVec 32 := 256#32
  let v686 : BitVec 32 := Scalar.muli v685 c256_i32_307
  v686
def k0_mult38 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_324 : BitVec 32 := 4#32
  let v729 : BitVec 32 := Scalar.muli v134 c4_i32_324
  let c1_i32_325 : BitVec 32 := 1#32
  let v730 : BitVec 32 := Scalar.addi v729 c1_i32_325
  let c256_i32_326 : BitVec 32 := 256#32
  let v731 : BitVec 32 := Scalar.muli v730 c256_i32_326
  v731
def k0_mult39 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_343 : BitVec 32 := 4#32
  let v774 : BitVec 32 := Scalar.muli v134 c4_i32_343
  let c1_i32_344 : BitVec 32 := 1#32
  let v775 : BitVec 32 := Scalar.addi v774 c1_i32_344
  let c256_i32_345 : BitVec 32 := 256#32
  let v776 : BitVec 32 := Scalar.muli v775 c256_i32_345
  v776
def k0_mult40 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_362 : BitVec 32 := 4#32
  let v819 : BitVec 32 := Scalar.muli v134 c4_i32_362
  let c1_i32_363 : BitVec 32 := 1#32
  let v820 : BitVec 32 := Scalar.addi v819 c1_i32_363
  let c256_i32_364 : BitVec 32 := 256#32
  let v821 : BitVec 32 := Scalar.muli v820 c256_i32_364
  v821
def k0_mult41 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_381 : BitVec 32 := 4#32
  let v864 : BitVec 32 := Scalar.muli v134 c4_i32_381
  let c0_i32_382 : BitVec 32 := 0#32
  let v865 : BitVec 32 := Scalar.addi v864 c0_i32_382
  let c256_i32_383 : BitVec 32 := 256#32
  let v866 : BitVec 32 := Scalar.muli v865 c256_i32_383
  v866
def k0_mult42 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_400 : BitVec 32 := 4#32
  let v909 : BitVec 32 := Scalar.muli v134 c4_i32_400
  let c0_i32_401 : BitVec 32 := 0#32
  let v910 : BitVec 32 := Scalar.addi v909 c0_i32_401
  let c256_i32_402 : BitVec 32 := 256#32
  let v911 : BitVec 32 := Scalar.muli v910 c256_i32_402
  v911
def k0_mult43 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_419 : BitVec 32 := 4#32
  let v954 : BitVec 32 := Scalar.muli v134 c4_i32_419
  let c0_i32_420 : BitVec 32 := 0#32
  let v955 : BitVec 32 := Scalar.addi v954 c0_i32_420
  let c256_i32_421 : BitVec 32 := 256#32
  let v956 : BitVec 32 := Scalar.muli v955 c256_i32_421
  v956
def k0_mult44 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_438 : BitVec 32 := 4#32
  let v999 : BitVec 32 := Scalar.muli v134 c4_i32_438
  let c0_i32_439 : BitVec 32 := 0#32
  let v1000 : BitVec 32 := Scalar.addi v999 c0_i32_439
  let c256_i32_440 : BitVec 32 := 256#32
  let v1001 : BitVec 32 := Scalar.muli v1000 c256_i32_440
  v1001
def k0_mult45 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_457 : BitVec 32 := 4#32
  let v1044 : BitVec 32 := Scalar.muli v134 c4_i32_457
  let c0_i32_458 : BitVec 32 := 0#32
  let v1045 : BitVec 32 := Scalar.addi v1044 c0_i32_458
  let c256_i32_459 : BitVec 32 := 256#32
  let v1046 : BitVec 32 := Scalar.muli v1045 c256_i32_459
  v1046
def k0_mult46 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_476 : BitVec 32 := 4#32
  let v1089 : BitVec 32 := Scalar.muli v134 c4_i32_476
  let c0_i32_477 : BitVec 32 := 0#32
  let v1090 : BitVec 32 := Scalar.addi v1089 c0_i32_477
  let c256_i32_478 : BitVec 32 := 256#32
  let v1091 : BitVec 32 := Scalar.muli v1090 c256_i32_478
  v1091
def k0_mult47 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_495 : BitVec 32 := 4#32
  let v1134 : BitVec 32 := Scalar.muli v134 c4_i32_495
  let c0_i32_496 : BitVec 32 := 0#32
  let v1135 : BitVec 32 := Scalar.addi v1134 c0_i32_496
  let c256_i32_497 : BitVec 32 := 256#32
  let v1136 : BitVec 32 := Scalar.muli v1135 c256_i32_497
  v1136
def k0_mult48 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_514 : BitVec 32 := 4#32
  let v1179 : BitVec 32 := Scalar.muli v134 c4_i32_514
  let c0_i32_515 : BitVec 32 := 0#32
  let v1180 : BitVec 32 := Scalar.addi v1179 c0_i32_515
  let c256_i32_516 : BitVec 32 := 256#32
  let v1181 : BitVec 32 := Scalar.muli v1180 c256_i32_516
  v1181
def k0_cond4 (i : grid0.Coords) : BitVec 1 :=
  let arg1 : BitVec 32 := BitVec.ofNat 32 (i 1).val
  let c4_i32_86 : BitVec 32 := 4#32
  let c0_i32_87 : BitVec 32 := 0#32
  let v174 : BitVec 1 := Scalar.cmpi .eq c4_i32_86 c0_i32_87
  let c1_i32_88 : BitVec 32 := 1#32
  let v175 : BitVec 32 := Scalar.select v174 c1_i32_88 c4_i32_86
  let v176 : BitVec 32 := Scalar.remsi arg1 v175
  let c0_i32_90 : BitVec 32 := 0#32
  let v178 : BitVec 1 := Scalar.cmpi .slt v176 c0_i32_90
  let c0_i32_91 : BitVec 32 := 0#32
  let v179 : BitVec 1 := Scalar.cmpi .slt v175 c0_i32_91
  let v180 : BitVec 1 := Scalar.xori v178 v179
  let c0_i32_89 : BitVec 32 := 0#32
  let v177 : BitVec 1 := Scalar.cmpi .ne v176 c0_i32_89
  let v181 : BitVec 1 := Scalar.andi v180 v177
  let v182 : BitVec 32 := Scalar.addi v176 v175
  let v183 : BitVec 32 := Scalar.select v181 v182 v176
  let c3_i32_92 : BitVec 32 := 3#32
  let v184 : BitVec 1 := Scalar.cmpi .eq v183 c3_i32_92
  let v185 : BitVec 32 := Scalar.extui v184
  let c0_i32_93 : BitVec 32 := 0#32
  let v186 : BitVec 1 := Scalar.cmpi .ne v185 c0_i32_93
  v186

def k0_mult49 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let c3_i32_112 : BitVec 32 := 3#32
  let v206 : BitVec 32 := Scalar.addi v205 c3_i32_112
  let c256_i32 : BitVec 32 := 256#32
  let v207 : BitVec 32 := Scalar.muli v206 c256_i32
  v207
def k0_off38 (i : grid0.Coords) (c3_i32_112 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_111 : BitVec 32 := 4#32
  let v205 : BitVec 32 := Scalar.muli v134 c4_i32_111
  let v206 : BitVec 32 := Scalar.addi v205 c3_i32_112
  let c256_i32 : BitVec 32 := 256#32
  let v207 : BitVec 32 := Scalar.muli v206 c256_i32
  let v208 : BitVec 32 := v207
  let v209 : Index := Scalar.indexCast v208
  let c0_113 : Index := 0#32
  ![v209.toNat, 0]
def k0_mult50 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_116 : BitVec 32 := 4#32
  let v219 : BitVec 32 := Scalar.muli v134 c4_i32_116
  let c3_i32_117 : BitVec 32 := 3#32
  let v220 : BitVec 32 := Scalar.addi v219 c3_i32_117
  let c256_i32_118 : BitVec 32 := 256#32
  let v221 : BitVec 32 := Scalar.muli v220 c256_i32_118
  v221
def k0_mult51 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let c3_i32_123 : BitVec 32 := 3#32
  let v234 : BitVec 32 := Scalar.addi v233 c3_i32_123
  let c256_i32_124 : BitVec 32 := 256#32
  let v235 : BitVec 32 := Scalar.muli v234 c256_i32_124
  v235
def k0_off39 (i : grid0.Coords) (c3_i32_123 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_122 : BitVec 32 := 4#32
  let v233 : BitVec 32 := Scalar.muli v134 c4_i32_122
  let v234 : BitVec 32 := Scalar.addi v233 c3_i32_123
  let c256_i32_124 : BitVec 32 := 256#32
  let v235 : BitVec 32 := Scalar.muli v234 c256_i32_124
  let v236 : BitVec 32 := v235
  let v237 : Index := Scalar.indexCast v236
  let c128_125 : Index := 128#32
  ![v237.toNat, 128]
def k0_mult52 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_133 : BitVec 32 := 4#32
  let v262 : BitVec 32 := Scalar.muli v134 c4_i32_133
  let c3_i32_134 : BitVec 32 := 3#32
  let v263 : BitVec 32 := Scalar.addi v262 c3_i32_134
  let c256_i32_135 : BitVec 32 := 256#32
  let v264 : BitVec 32 := Scalar.muli v263 c256_i32_135
  v264
def k0_mult53 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let c3_i32_145 : BitVec 32 := 3#32
  let v292 : BitVec 32 := Scalar.addi v291 c3_i32_145
  let c256_i32_146 : BitVec 32 := 256#32
  let v293 : BitVec 32 := Scalar.muli v292 c256_i32_146
  v293
def k0_off40 (i : grid0.Coords) (c3_i32_145 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_144 : BitVec 32 := 4#32
  let v291 : BitVec 32 := Scalar.muli v134 c4_i32_144
  let v292 : BitVec 32 := Scalar.addi v291 c3_i32_145
  let c256_i32_146 : BitVec 32 := 256#32
  let v293 : BitVec 32 := Scalar.muli v292 c256_i32_146
  let v294 : BitVec 32 := v293
  let v295 : Index := Scalar.indexCast v294
  let c256_147 : Index := 256#32
  ![v295.toNat, 256]
def k0_off41 (i : grid0.Coords) (c3_i32_157 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_156 : BitVec 32 := 4#32
  let v324 : BitVec 32 := Scalar.muli v134 c4_i32_156
  let v325 : BitVec 32 := Scalar.addi v324 c3_i32_157
  let v326 : Index := Scalar.indexCast v325
  let c0_158 : Index := 0#32
  let c0_159 : Index := 0#32
  ![v326.toNat, 0, 0]
def k0_mult54 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_161 : BitVec 32 := 4#32
  let v333 : BitVec 32 := Scalar.muli v134 c4_i32_161
  let c3_i32_162 : BitVec 32 := 3#32
  let v334 : BitVec 32 := Scalar.addi v333 c3_i32_162
  let c256_i32_163 : BitVec 32 := 256#32
  let v335 : BitVec 32 := Scalar.muli v334 c256_i32_163
  v335
def k0_off42 (i : grid0.Coords) (c3_i32_174 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_173 : BitVec 32 := 4#32
  let v366 : BitVec 32 := Scalar.muli v134 c4_i32_173
  let v367 : BitVec 32 := Scalar.addi v366 c3_i32_174
  let v368 : Index := Scalar.indexCast v367
  let c64 : Index := 64#32
  let c0_175 : Index := 0#32
  ![v368.toNat, 64, 0]
def k0_mult55 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let c3_i32_183 : BitVec 32 := 3#32
  let v387 : BitVec 32 := Scalar.addi v386 c3_i32_183
  let c256_i32_184 : BitVec 32 := 256#32
  let v388 : BitVec 32 := Scalar.muli v387 c256_i32_184
  v388
def k0_off43 (i : grid0.Coords) (c3_i32_183 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_182 : BitVec 32 := 4#32
  let v386 : BitVec 32 := Scalar.muli v134 c4_i32_182
  let v387 : BitVec 32 := Scalar.addi v386 c3_i32_183
  let c256_i32_184 : BitVec 32 := 256#32
  let v388 : BitVec 32 := Scalar.muli v387 c256_i32_184
  let v389 : BitVec 32 := v388
  let v390 : Index := Scalar.indexCast v389
  let c384_185 : Index := 384#32
  ![v390.toNat, 384]
def k0_off44 (i : grid0.Coords) (c3_i32_195 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_194 : BitVec 32 := 4#32
  let v419 : BitVec 32 := Scalar.muli v134 c4_i32_194
  let v420 : BitVec 32 := Scalar.addi v419 c3_i32_195
  let v421 : Index := Scalar.indexCast v420
  let c128_196 : Index := 128#32
  let c0_197 : Index := 0#32
  ![v421.toNat, 128, 0]
def k0_mult56 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_204 : BitVec 32 := 4#32
  let v439 : BitVec 32 := Scalar.muli v134 c4_i32_204
  let c3_i32_205 : BitVec 32 := 3#32
  let v440 : BitVec 32 := Scalar.addi v439 c3_i32_205
  let c256_i32_206 : BitVec 32 := 256#32
  let v441 : BitVec 32 := Scalar.muli v440 c256_i32_206
  v441
def k0_off45 (i : grid0.Coords) (c3_i32_217 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_216 : BitVec 32 := 4#32
  let v472 : BitVec 32 := Scalar.muli v134 c4_i32_216
  let v473 : BitVec 32 := Scalar.addi v472 c3_i32_217
  let v474 : Index := Scalar.indexCast v473
  let c192 : Index := 192#32
  let c0_218 : Index := 0#32
  ![v474.toNat, 192, 0]
def k0_mult57 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_225 : BitVec 32 := 4#32
  let v492 : BitVec 32 := Scalar.muli v134 c4_i32_225
  let c2_i32_226 : BitVec 32 := 2#32
  let v493 : BitVec 32 := Scalar.addi v492 c2_i32_226
  let c256_i32_227 : BitVec 32 := 256#32
  let v494 : BitVec 32 := Scalar.muli v493 c256_i32_227
  v494
def k0_off46 (i : grid0.Coords) (c3_i32_237 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_236 : BitVec 32 := 4#32
  let v521 : BitVec 32 := Scalar.muli v134 c4_i32_236
  let v522 : BitVec 32 := Scalar.addi v521 c3_i32_237
  let v523 : Index := Scalar.indexCast v522
  let c256_238 : Index := 256#32
  let c0_239 : Index := 0#32
  ![v523.toNat, 256, 0]
def k0_mult58 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_246 : BitVec 32 := 4#32
  let v541 : BitVec 32 := Scalar.muli v134 c4_i32_246
  let c2_i32_247 : BitVec 32 := 2#32
  let v542 : BitVec 32 := Scalar.addi v541 c2_i32_247
  let c256_i32_248 : BitVec 32 := 256#32
  let v543 : BitVec 32 := Scalar.muli v542 c256_i32_248
  v543
def k0_off47 (i : grid0.Coords) (c3_i32_258 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_257 : BitVec 32 := 4#32
  let v570 : BitVec 32 := Scalar.muli v134 c4_i32_257
  let v571 : BitVec 32 := Scalar.addi v570 c3_i32_258
  let v572 : Index := Scalar.indexCast v571
  let c320 : Index := 320#32
  let c0_259 : Index := 0#32
  ![v572.toNat, 320, 0]
def k0_mult59 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_266 : BitVec 32 := 4#32
  let v590 : BitVec 32 := Scalar.muli v134 c4_i32_266
  let c2_i32_267 : BitVec 32 := 2#32
  let v591 : BitVec 32 := Scalar.addi v590 c2_i32_267
  let c256_i32_268 : BitVec 32 := 256#32
  let v592 : BitVec 32 := Scalar.muli v591 c256_i32_268
  v592
def k0_off48 (i : grid0.Coords) (c3_i32_277 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_276 : BitVec 32 := 4#32
  let v617 : BitVec 32 := Scalar.muli v134 c4_i32_276
  let v618 : BitVec 32 := Scalar.addi v617 c3_i32_277
  let v619 : Index := Scalar.indexCast v618
  let c384_278 : Index := 384#32
  let c0_279 : Index := 0#32
  ![v619.toNat, 384, 0]
def k0_mult60 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_286 : BitVec 32 := 4#32
  let v637 : BitVec 32 := Scalar.muli v134 c4_i32_286
  let c2_i32_287 : BitVec 32 := 2#32
  let v638 : BitVec 32 := Scalar.addi v637 c2_i32_287
  let c256_i32_288 : BitVec 32 := 256#32
  let v639 : BitVec 32 := Scalar.muli v638 c256_i32_288
  v639
def k0_off49 (i : grid0.Coords) (c3_i32_297 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_296 : BitVec 32 := 4#32
  let v664 : BitVec 32 := Scalar.muli v134 c4_i32_296
  let v665 : BitVec 32 := Scalar.addi v664 c3_i32_297
  let v666 : Index := Scalar.indexCast v665
  let c448 : Index := 448#32
  let c0_298 : Index := 0#32
  ![v666.toNat, 448, 0]
def k0_mult61 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_305 : BitVec 32 := 4#32
  let v684 : BitVec 32 := Scalar.muli v134 c4_i32_305
  let c2_i32_306 : BitVec 32 := 2#32
  let v685 : BitVec 32 := Scalar.addi v684 c2_i32_306
  let c256_i32_307 : BitVec 32 := 256#32
  let v686 : BitVec 32 := Scalar.muli v685 c256_i32_307
  v686
def k0_mult62 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_324 : BitVec 32 := 4#32
  let v729 : BitVec 32 := Scalar.muli v134 c4_i32_324
  let c2_i32_325 : BitVec 32 := 2#32
  let v730 : BitVec 32 := Scalar.addi v729 c2_i32_325
  let c256_i32_326 : BitVec 32 := 256#32
  let v731 : BitVec 32 := Scalar.muli v730 c256_i32_326
  v731
def k0_mult63 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_343 : BitVec 32 := 4#32
  let v774 : BitVec 32 := Scalar.muli v134 c4_i32_343
  let c2_i32_344 : BitVec 32 := 2#32
  let v775 : BitVec 32 := Scalar.addi v774 c2_i32_344
  let c256_i32_345 : BitVec 32 := 256#32
  let v776 : BitVec 32 := Scalar.muli v775 c256_i32_345
  v776
def k0_mult64 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_362 : BitVec 32 := 4#32
  let v819 : BitVec 32 := Scalar.muli v134 c4_i32_362
  let c2_i32_363 : BitVec 32 := 2#32
  let v820 : BitVec 32 := Scalar.addi v819 c2_i32_363
  let c256_i32_364 : BitVec 32 := 256#32
  let v821 : BitVec 32 := Scalar.muli v820 c256_i32_364
  v821
def k0_mult65 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_381 : BitVec 32 := 4#32
  let v864 : BitVec 32 := Scalar.muli v134 c4_i32_381
  let c1_i32_382 : BitVec 32 := 1#32
  let v865 : BitVec 32 := Scalar.addi v864 c1_i32_382
  let c256_i32_383 : BitVec 32 := 256#32
  let v866 : BitVec 32 := Scalar.muli v865 c256_i32_383
  v866
def k0_mult66 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_400 : BitVec 32 := 4#32
  let v909 : BitVec 32 := Scalar.muli v134 c4_i32_400
  let c1_i32_401 : BitVec 32 := 1#32
  let v910 : BitVec 32 := Scalar.addi v909 c1_i32_401
  let c256_i32_402 : BitVec 32 := 256#32
  let v911 : BitVec 32 := Scalar.muli v910 c256_i32_402
  v911
def k0_mult67 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_419 : BitVec 32 := 4#32
  let v954 : BitVec 32 := Scalar.muli v134 c4_i32_419
  let c1_i32_420 : BitVec 32 := 1#32
  let v955 : BitVec 32 := Scalar.addi v954 c1_i32_420
  let c256_i32_421 : BitVec 32 := 256#32
  let v956 : BitVec 32 := Scalar.muli v955 c256_i32_421
  v956
def k0_mult68 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_438 : BitVec 32 := 4#32
  let v999 : BitVec 32 := Scalar.muli v134 c4_i32_438
  let c1_i32_439 : BitVec 32 := 1#32
  let v1000 : BitVec 32 := Scalar.addi v999 c1_i32_439
  let c256_i32_440 : BitVec 32 := 256#32
  let v1001 : BitVec 32 := Scalar.muli v1000 c256_i32_440
  v1001
def k0_mult69 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_457 : BitVec 32 := 4#32
  let v1044 : BitVec 32 := Scalar.muli v134 c4_i32_457
  let c1_i32_458 : BitVec 32 := 1#32
  let v1045 : BitVec 32 := Scalar.addi v1044 c1_i32_458
  let c256_i32_459 : BitVec 32 := 256#32
  let v1046 : BitVec 32 := Scalar.muli v1045 c256_i32_459
  v1046
def k0_mult70 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_476 : BitVec 32 := 4#32
  let v1089 : BitVec 32 := Scalar.muli v134 c4_i32_476
  let c1_i32_477 : BitVec 32 := 1#32
  let v1090 : BitVec 32 := Scalar.addi v1089 c1_i32_477
  let c256_i32_478 : BitVec 32 := 256#32
  let v1091 : BitVec 32 := Scalar.muli v1090 c256_i32_478
  v1091
def k0_mult71 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_495 : BitVec 32 := 4#32
  let v1134 : BitVec 32 := Scalar.muli v134 c4_i32_495
  let c1_i32_496 : BitVec 32 := 1#32
  let v1135 : BitVec 32 := Scalar.addi v1134 c1_i32_496
  let c256_i32_497 : BitVec 32 := 256#32
  let v1136 : BitVec 32 := Scalar.muli v1135 c256_i32_497
  v1136
def k0_mult72 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_514 : BitVec 32 := 4#32
  let v1179 : BitVec 32 := Scalar.muli v134 c4_i32_514
  let c1_i32_515 : BitVec 32 := 1#32
  let v1180 : BitVec 32 := Scalar.addi v1179 c1_i32_515
  let c256_i32_516 : BitVec 32 := 256#32
  let v1181 : BitVec 32 := Scalar.muli v1180 c256_i32_516
  v1181
def k0_mult73 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_533 : BitVec 32 := 4#32
  let v1224 : BitVec 32 := Scalar.muli v134 c4_i32_533
  let c0_i32_534 : BitVec 32 := 0#32
  let v1225 : BitVec 32 := Scalar.addi v1224 c0_i32_534
  let c256_i32_535 : BitVec 32 := 256#32
  let v1226 : BitVec 32 := Scalar.muli v1225 c256_i32_535
  v1226
def k0_mult74 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_552 : BitVec 32 := 4#32
  let v1269 : BitVec 32 := Scalar.muli v134 c4_i32_552
  let c0_i32_553 : BitVec 32 := 0#32
  let v1270 : BitVec 32 := Scalar.addi v1269 c0_i32_553
  let c256_i32_554 : BitVec 32 := 256#32
  let v1271 : BitVec 32 := Scalar.muli v1270 c256_i32_554
  v1271
def k0_mult75 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_571 : BitVec 32 := 4#32
  let v1314 : BitVec 32 := Scalar.muli v134 c4_i32_571
  let c0_i32_572 : BitVec 32 := 0#32
  let v1315 : BitVec 32 := Scalar.addi v1314 c0_i32_572
  let c256_i32_573 : BitVec 32 := 256#32
  let v1316 : BitVec 32 := Scalar.muli v1315 c256_i32_573
  v1316
def k0_mult76 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_590 : BitVec 32 := 4#32
  let v1359 : BitVec 32 := Scalar.muli v134 c4_i32_590
  let c0_i32_591 : BitVec 32 := 0#32
  let v1360 : BitVec 32 := Scalar.addi v1359 c0_i32_591
  let c256_i32_592 : BitVec 32 := 256#32
  let v1361 : BitVec 32 := Scalar.muli v1360 c256_i32_592
  v1361
def k0_mult77 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_609 : BitVec 32 := 4#32
  let v1404 : BitVec 32 := Scalar.muli v134 c4_i32_609
  let c0_i32_610 : BitVec 32 := 0#32
  let v1405 : BitVec 32 := Scalar.addi v1404 c0_i32_610
  let c256_i32_611 : BitVec 32 := 256#32
  let v1406 : BitVec 32 := Scalar.muli v1405 c256_i32_611
  v1406
def k0_mult78 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_628 : BitVec 32 := 4#32
  let v1449 : BitVec 32 := Scalar.muli v134 c4_i32_628
  let c0_i32_629 : BitVec 32 := 0#32
  let v1450 : BitVec 32 := Scalar.addi v1449 c0_i32_629
  let c256_i32_630 : BitVec 32 := 256#32
  let v1451 : BitVec 32 := Scalar.muli v1450 c256_i32_630
  v1451
def k0_mult79 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_647 : BitVec 32 := 4#32
  let v1494 : BitVec 32 := Scalar.muli v134 c4_i32_647
  let c0_i32_648 : BitVec 32 := 0#32
  let v1495 : BitVec 32 := Scalar.addi v1494 c0_i32_648
  let c256_i32_649 : BitVec 32 := 256#32
  let v1496 : BitVec 32 := Scalar.muli v1495 c256_i32_649
  v1496
def k0_mult80 (i : grid0.Coords) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c4_i32_666 : BitVec 32 := 4#32
  let v1539 : BitVec 32 := Scalar.muli v134 c4_i32_666
  let c0_i32_667 : BitVec 32 := 0#32
  let v1540 : BitVec 32 := Scalar.addi v1539 c0_i32_667
  let c256_i32_668 : BitVec 32 := 256#32
  let v1541 : BitVec 32 := Scalar.muli v1540 c256_i32_668
  v1541
@[reducible] def k0_t1_loop (i : grid0.Coords) : Scf.Loop 32 :=
  let c0_i32_103 : BitVec 32 := 0#32
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_105 : BitVec 32 := 1#32
  ⟨c0_i32_103, v199, c1_i32_105⟩
def k0_mult81 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_112 : BitVec 32 := 4#32
  let v207 : BitVec 32 := Scalar.muli v206 c4_i32_112
  let c3_i32_113 : BitVec 32 := 3#32
  let v208 : BitVec 32 := Scalar.addi v207 c3_i32_113
  let c256_i32 : BitVec 32 := 256#32
  let v209 : BitVec 32 := Scalar.muli v208 c256_i32
  v209
def k0_off50 (i : grid0.Coords) (k0_t1 : Fin (k0_t1_loop i).trips) (c3_i32_113 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_112 : BitVec 32 := 4#32
  let v207 : BitVec 32 := Scalar.muli v206 c4_i32_112
  let v208 : BitVec 32 := Scalar.addi v207 c3_i32_113
  let c256_i32 : BitVec 32 := 256#32
  let v209 : BitVec 32 := Scalar.muli v208 c256_i32
  let v210 : BitVec 32 := v209
  let v211 : Index := Scalar.indexCast v210
  let c0_114 : Index := 0#32
  ![v211.toNat, 0]
def k0_mult82 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_116 : BitVec 32 := 4#32
  let v217 : BitVec 32 := Scalar.muli v206 c4_i32_116
  let c3_i32_117 : BitVec 32 := 3#32
  let v218 : BitVec 32 := Scalar.addi v217 c3_i32_117
  let c256_i32_118 : BitVec 32 := 256#32
  let v219 : BitVec 32 := Scalar.muli v218 c256_i32_118
  v219
def k0_mult83 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_121 : BitVec 32 := 4#32
  let v227 : BitVec 32 := Scalar.muli v206 c4_i32_121
  let c3_i32_122 : BitVec 32 := 3#32
  let v228 : BitVec 32 := Scalar.addi v227 c3_i32_122
  let c256_i32_123 : BitVec 32 := 256#32
  let v229 : BitVec 32 := Scalar.muli v228 c256_i32_123
  v229
def k0_off51 (i : grid0.Coords) (k0_t1 : Fin (k0_t1_loop i).trips) (c3_i32_122 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_121 : BitVec 32 := 4#32
  let v227 : BitVec 32 := Scalar.muli v206 c4_i32_121
  let v228 : BitVec 32 := Scalar.addi v227 c3_i32_122
  let c256_i32_123 : BitVec 32 := 256#32
  let v229 : BitVec 32 := Scalar.muli v228 c256_i32_123
  let v230 : BitVec 32 := v229
  let v231 : Index := Scalar.indexCast v230
  let c128_124 : Index := 128#32
  ![v231.toNat, 128]
def k0_mult84 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_130 : BitVec 32 := 4#32
  let v250 : BitVec 32 := Scalar.muli v206 c4_i32_130
  let c3_i32_131 : BitVec 32 := 3#32
  let v251 : BitVec 32 := Scalar.addi v250 c3_i32_131
  let c256_i32_132 : BitVec 32 := 256#32
  let v252 : BitVec 32 := Scalar.muli v251 c256_i32_132
  v252
def k0_mult85 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_139 : BitVec 32 := 4#32
  let v273 : BitVec 32 := Scalar.muli v206 c4_i32_139
  let c3_i32_140 : BitVec 32 := 3#32
  let v274 : BitVec 32 := Scalar.addi v273 c3_i32_140
  let c256_i32_141 : BitVec 32 := 256#32
  let v275 : BitVec 32 := Scalar.muli v274 c256_i32_141
  v275
def k0_off52 (i : grid0.Coords) (k0_t1 : Fin (k0_t1_loop i).trips) (c3_i32_140 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_139 : BitVec 32 := 4#32
  let v273 : BitVec 32 := Scalar.muli v206 c4_i32_139
  let v274 : BitVec 32 := Scalar.addi v273 c3_i32_140
  let c256_i32_141 : BitVec 32 := 256#32
  let v275 : BitVec 32 := Scalar.muli v274 c256_i32_141
  let v276 : BitVec 32 := v275
  let v277 : Index := Scalar.indexCast v276
  let c256_142 : Index := 256#32
  ![v277.toNat, 256]
def k0_off53 (i : grid0.Coords) (k0_t1 : Fin (k0_t1_loop i).trips) (c3_i32_149 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_148 : BitVec 32 := 4#32
  let v298 : BitVec 32 := Scalar.muli v206 c4_i32_148
  let v299 : BitVec 32 := Scalar.addi v298 c3_i32_149
  let v300 : Index := Scalar.indexCast v299
  let c0_150 : Index := 0#32
  let c0_151 : Index := 0#32
  ![v300.toNat, 0, 0]
def k0_mult86 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_153 : BitVec 32 := 4#32
  let v307 : BitVec 32 := Scalar.muli v206 c4_i32_153
  let c3_i32_154 : BitVec 32 := 3#32
  let v308 : BitVec 32 := Scalar.addi v307 c3_i32_154
  let c256_i32_155 : BitVec 32 := 256#32
  let v309 : BitVec 32 := Scalar.muli v308 c256_i32_155
  v309
def k0_off54 (i : grid0.Coords) (k0_t1 : Fin (k0_t1_loop i).trips) (c3_i32_163 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_162 : BitVec 32 := 4#32
  let v332 : BitVec 32 := Scalar.muli v206 c4_i32_162
  let v333 : BitVec 32 := Scalar.addi v332 c3_i32_163
  let v334 : Index := Scalar.indexCast v333
  let c64 : Index := 64#32
  let c0_164 : Index := 0#32
  ![v334.toNat, 64, 0]
def k0_mult87 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_171 : BitVec 32 := 4#32
  let v352 : BitVec 32 := Scalar.muli v206 c4_i32_171
  let c3_i32_172 : BitVec 32 := 3#32
  let v353 : BitVec 32 := Scalar.addi v352 c3_i32_172
  let c256_i32_173 : BitVec 32 := 256#32
  let v354 : BitVec 32 := Scalar.muli v353 c256_i32_173
  v354
def k0_off55 (i : grid0.Coords) (k0_t1 : Fin (k0_t1_loop i).trips) (c3_i32_172 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_171 : BitVec 32 := 4#32
  let v352 : BitVec 32 := Scalar.muli v206 c4_i32_171
  let v353 : BitVec 32 := Scalar.addi v352 c3_i32_172
  let c256_i32_173 : BitVec 32 := 256#32
  let v354 : BitVec 32 := Scalar.muli v353 c256_i32_173
  let v355 : BitVec 32 := v354
  let v356 : Index := Scalar.indexCast v355
  let c384_174 : Index := 384#32
  ![v356.toNat, 384]
def k0_off56 (i : grid0.Coords) (k0_t1 : Fin (k0_t1_loop i).trips) (c3_i32_181 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_180 : BitVec 32 := 4#32
  let v377 : BitVec 32 := Scalar.muli v206 c4_i32_180
  let v378 : BitVec 32 := Scalar.addi v377 c3_i32_181
  let v379 : Index := Scalar.indexCast v378
  let c128_182 : Index := 128#32
  let c0_183 : Index := 0#32
  ![v379.toNat, 128, 0]
def k0_mult88 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_190 : BitVec 32 := 4#32
  let v397 : BitVec 32 := Scalar.muli v206 c4_i32_190
  let c3_i32_191 : BitVec 32 := 3#32
  let v398 : BitVec 32 := Scalar.addi v397 c3_i32_191
  let c256_i32_192 : BitVec 32 := 256#32
  let v399 : BitVec 32 := Scalar.muli v398 c256_i32_192
  v399
def k0_off57 (i : grid0.Coords) (k0_t1 : Fin (k0_t1_loop i).trips) (c3_i32_200 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_199 : BitVec 32 := 4#32
  let v422 : BitVec 32 := Scalar.muli v206 c4_i32_199
  let v423 : BitVec 32 := Scalar.addi v422 c3_i32_200
  let v424 : Index := Scalar.indexCast v423
  let c192 : Index := 192#32
  let c0_201 : Index := 0#32
  ![v424.toNat, 192, 0]
def k0_mult89 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_208 : BitVec 32 := 4#32
  let v442 : BitVec 32 := Scalar.muli v206 c4_i32_208
  let c2_i32_209 : BitVec 32 := 2#32
  let v443 : BitVec 32 := Scalar.addi v442 c2_i32_209
  let c256_i32_210 : BitVec 32 := 256#32
  let v444 : BitVec 32 := Scalar.muli v443 c256_i32_210
  v444
def k0_off58 (i : grid0.Coords) (k0_t1 : Fin (k0_t1_loop i).trips) (c3_i32_218 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_217 : BitVec 32 := 4#32
  let v467 : BitVec 32 := Scalar.muli v206 c4_i32_217
  let v468 : BitVec 32 := Scalar.addi v467 c3_i32_218
  let v469 : Index := Scalar.indexCast v468
  let c256_219 : Index := 256#32
  let c0_220 : Index := 0#32
  ![v469.toNat, 256, 0]
def k0_mult90 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_227 : BitVec 32 := 4#32
  let v487 : BitVec 32 := Scalar.muli v206 c4_i32_227
  let c2_i32_228 : BitVec 32 := 2#32
  let v488 : BitVec 32 := Scalar.addi v487 c2_i32_228
  let c256_i32_229 : BitVec 32 := 256#32
  let v489 : BitVec 32 := Scalar.muli v488 c256_i32_229
  v489
def k0_off59 (i : grid0.Coords) (k0_t1 : Fin (k0_t1_loop i).trips) (c3_i32_237 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_236 : BitVec 32 := 4#32
  let v512 : BitVec 32 := Scalar.muli v206 c4_i32_236
  let v513 : BitVec 32 := Scalar.addi v512 c3_i32_237
  let v514 : Index := Scalar.indexCast v513
  let c320 : Index := 320#32
  let c0_238 : Index := 0#32
  ![v514.toNat, 320, 0]
def k0_mult91 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_245 : BitVec 32 := 4#32
  let v532 : BitVec 32 := Scalar.muli v206 c4_i32_245
  let c2_i32_246 : BitVec 32 := 2#32
  let v533 : BitVec 32 := Scalar.addi v532 c2_i32_246
  let c256_i32_247 : BitVec 32 := 256#32
  let v534 : BitVec 32 := Scalar.muli v533 c256_i32_247
  v534
def k0_off60 (i : grid0.Coords) (k0_t1 : Fin (k0_t1_loop i).trips) (c3_i32_255 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_254 : BitVec 32 := 4#32
  let v557 : BitVec 32 := Scalar.muli v206 c4_i32_254
  let v558 : BitVec 32 := Scalar.addi v557 c3_i32_255
  let v559 : Index := Scalar.indexCast v558
  let c384_256 : Index := 384#32
  let c0_257 : Index := 0#32
  ![v559.toNat, 384, 0]
def k0_mult92 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_264 : BitVec 32 := 4#32
  let v577 : BitVec 32 := Scalar.muli v206 c4_i32_264
  let c2_i32_265 : BitVec 32 := 2#32
  let v578 : BitVec 32 := Scalar.addi v577 c2_i32_265
  let c256_i32_266 : BitVec 32 := 256#32
  let v579 : BitVec 32 := Scalar.muli v578 c256_i32_266
  v579
def k0_off61 (i : grid0.Coords) (k0_t1 : Fin (k0_t1_loop i).trips) (c3_i32_274 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_273 : BitVec 32 := 4#32
  let v602 : BitVec 32 := Scalar.muli v206 c4_i32_273
  let v603 : BitVec 32 := Scalar.addi v602 c3_i32_274
  let v604 : Index := Scalar.indexCast v603
  let c448 : Index := 448#32
  let c0_275 : Index := 0#32
  ![v604.toNat, 448, 0]
def k0_mult93 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_282 : BitVec 32 := 4#32
  let v622 : BitVec 32 := Scalar.muli v206 c4_i32_282
  let c2_i32_283 : BitVec 32 := 2#32
  let v623 : BitVec 32 := Scalar.addi v622 c2_i32_283
  let c256_i32_284 : BitVec 32 := 256#32
  let v624 : BitVec 32 := Scalar.muli v623 c256_i32_284
  v624
def k0_mult94 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_301 : BitVec 32 := 4#32
  let v667 : BitVec 32 := Scalar.muli v206 c4_i32_301
  let c2_i32_302 : BitVec 32 := 2#32
  let v668 : BitVec 32 := Scalar.addi v667 c2_i32_302
  let c256_i32_303 : BitVec 32 := 256#32
  let v669 : BitVec 32 := Scalar.muli v668 c256_i32_303
  v669
def k0_mult95 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_320 : BitVec 32 := 4#32
  let v712 : BitVec 32 := Scalar.muli v206 c4_i32_320
  let c2_i32_321 : BitVec 32 := 2#32
  let v713 : BitVec 32 := Scalar.addi v712 c2_i32_321
  let c256_i32_322 : BitVec 32 := 256#32
  let v714 : BitVec 32 := Scalar.muli v713 c256_i32_322
  v714
def k0_mult96 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_339 : BitVec 32 := 4#32
  let v757 : BitVec 32 := Scalar.muli v206 c4_i32_339
  let c2_i32_340 : BitVec 32 := 2#32
  let v758 : BitVec 32 := Scalar.addi v757 c2_i32_340
  let c256_i32_341 : BitVec 32 := 256#32
  let v759 : BitVec 32 := Scalar.muli v758 c256_i32_341
  v759
def k0_mult97 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_358 : BitVec 32 := 4#32
  let v802 : BitVec 32 := Scalar.muli v206 c4_i32_358
  let c1_i32_359 : BitVec 32 := 1#32
  let v803 : BitVec 32 := Scalar.addi v802 c1_i32_359
  let c256_i32_360 : BitVec 32 := 256#32
  let v804 : BitVec 32 := Scalar.muli v803 c256_i32_360
  v804
def k0_mult98 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_377 : BitVec 32 := 4#32
  let v847 : BitVec 32 := Scalar.muli v206 c4_i32_377
  let c1_i32_378 : BitVec 32 := 1#32
  let v848 : BitVec 32 := Scalar.addi v847 c1_i32_378
  let c256_i32_379 : BitVec 32 := 256#32
  let v849 : BitVec 32 := Scalar.muli v848 c256_i32_379
  v849
def k0_mult99 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_396 : BitVec 32 := 4#32
  let v892 : BitVec 32 := Scalar.muli v206 c4_i32_396
  let c1_i32_397 : BitVec 32 := 1#32
  let v893 : BitVec 32 := Scalar.addi v892 c1_i32_397
  let c256_i32_398 : BitVec 32 := 256#32
  let v894 : BitVec 32 := Scalar.muli v893 c256_i32_398
  v894
def k0_mult100 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_415 : BitVec 32 := 4#32
  let v937 : BitVec 32 := Scalar.muli v206 c4_i32_415
  let c1_i32_416 : BitVec 32 := 1#32
  let v938 : BitVec 32 := Scalar.addi v937 c1_i32_416
  let c256_i32_417 : BitVec 32 := 256#32
  let v939 : BitVec 32 := Scalar.muli v938 c256_i32_417
  v939
def k0_mult101 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_434 : BitVec 32 := 4#32
  let v982 : BitVec 32 := Scalar.muli v206 c4_i32_434
  let c1_i32_435 : BitVec 32 := 1#32
  let v983 : BitVec 32 := Scalar.addi v982 c1_i32_435
  let c256_i32_436 : BitVec 32 := 256#32
  let v984 : BitVec 32 := Scalar.muli v983 c256_i32_436
  v984
def k0_mult102 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_453 : BitVec 32 := 4#32
  let v1027 : BitVec 32 := Scalar.muli v206 c4_i32_453
  let c1_i32_454 : BitVec 32 := 1#32
  let v1028 : BitVec 32 := Scalar.addi v1027 c1_i32_454
  let c256_i32_455 : BitVec 32 := 256#32
  let v1029 : BitVec 32 := Scalar.muli v1028 c256_i32_455
  v1029
def k0_mult103 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_472 : BitVec 32 := 4#32
  let v1072 : BitVec 32 := Scalar.muli v206 c4_i32_472
  let c1_i32_473 : BitVec 32 := 1#32
  let v1073 : BitVec 32 := Scalar.addi v1072 c1_i32_473
  let c256_i32_474 : BitVec 32 := 256#32
  let v1074 : BitVec 32 := Scalar.muli v1073 c256_i32_474
  v1074
def k0_mult104 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_491 : BitVec 32 := 4#32
  let v1117 : BitVec 32 := Scalar.muli v206 c4_i32_491
  let c1_i32_492 : BitVec 32 := 1#32
  let v1118 : BitVec 32 := Scalar.addi v1117 c1_i32_492
  let c256_i32_493 : BitVec 32 := 256#32
  let v1119 : BitVec 32 := Scalar.muli v1118 c256_i32_493
  v1119
def k0_mult105 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_510 : BitVec 32 := 4#32
  let v1162 : BitVec 32 := Scalar.muli v206 c4_i32_510
  let c0_i32_511 : BitVec 32 := 0#32
  let v1163 : BitVec 32 := Scalar.addi v1162 c0_i32_511
  let c256_i32_512 : BitVec 32 := 256#32
  let v1164 : BitVec 32 := Scalar.muli v1163 c256_i32_512
  v1164
def k0_mult106 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_529 : BitVec 32 := 4#32
  let v1207 : BitVec 32 := Scalar.muli v206 c4_i32_529
  let c0_i32_530 : BitVec 32 := 0#32
  let v1208 : BitVec 32 := Scalar.addi v1207 c0_i32_530
  let c256_i32_531 : BitVec 32 := 256#32
  let v1209 : BitVec 32 := Scalar.muli v1208 c256_i32_531
  v1209
def k0_mult107 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_548 : BitVec 32 := 4#32
  let v1252 : BitVec 32 := Scalar.muli v206 c4_i32_548
  let c0_i32_549 : BitVec 32 := 0#32
  let v1253 : BitVec 32 := Scalar.addi v1252 c0_i32_549
  let c256_i32_550 : BitVec 32 := 256#32
  let v1254 : BitVec 32 := Scalar.muli v1253 c256_i32_550
  v1254
def k0_mult108 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_567 : BitVec 32 := 4#32
  let v1297 : BitVec 32 := Scalar.muli v206 c4_i32_567
  let c0_i32_568 : BitVec 32 := 0#32
  let v1298 : BitVec 32 := Scalar.addi v1297 c0_i32_568
  let c256_i32_569 : BitVec 32 := 256#32
  let v1299 : BitVec 32 := Scalar.muli v1298 c256_i32_569
  v1299
def k0_mult109 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_586 : BitVec 32 := 4#32
  let v1342 : BitVec 32 := Scalar.muli v206 c4_i32_586
  let c0_i32_587 : BitVec 32 := 0#32
  let v1343 : BitVec 32 := Scalar.addi v1342 c0_i32_587
  let c256_i32_588 : BitVec 32 := 256#32
  let v1344 : BitVec 32 := Scalar.muli v1343 c256_i32_588
  v1344
def k0_mult110 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_605 : BitVec 32 := 4#32
  let v1387 : BitVec 32 := Scalar.muli v206 c4_i32_605
  let c0_i32_606 : BitVec 32 := 0#32
  let v1388 : BitVec 32 := Scalar.addi v1387 c0_i32_606
  let c256_i32_607 : BitVec 32 := 256#32
  let v1389 : BitVec 32 := Scalar.muli v1388 c256_i32_607
  v1389
def k0_mult111 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_624 : BitVec 32 := 4#32
  let v1432 : BitVec 32 := Scalar.muli v206 c4_i32_624
  let c0_i32_625 : BitVec 32 := 0#32
  let v1433 : BitVec 32 := Scalar.addi v1432 c0_i32_625
  let c256_i32_626 : BitVec 32 := 256#32
  let v1434 : BitVec 32 := Scalar.muli v1433 c256_i32_626
  v1434
def k0_mult112 (i : grid0.Coords) (k0_t1 : Fin (k0_t1_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let c1_i32_105 : BitVec 32 := 1#32
  let arg9 : BitVec 32 := Scf.iv c0_i32_103 c1_i32_105 k0_t1
  let v206 : BitVec 32 := Scalar.subi v205 arg9
  let c4_i32_643 : BitVec 32 := 4#32
  let v1477 : BitVec 32 := Scalar.muli v206 c4_i32_643
  let c0_i32_644 : BitVec 32 := 0#32
  let v1478 : BitVec 32 := Scalar.addi v1477 c0_i32_644
  let c256_i32_645 : BitVec 32 := 256#32
  let v1479 : BitVec 32 := Scalar.muli v1478 c256_i32_645
  v1479
@[reducible] def k0_t2_loop (i : grid0.Coords) : Scf.Loop 32 :=
  let c0_i32_103 : BitVec 32 := 0#32
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let v196 : BitVec 32 := Scalar.addi c0_i32_103 v195
  let c1_i32_106 : BitVec 32 := 1#32
  ⟨v199, v196, c1_i32_106⟩
def k0_mult113 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_112 : BitVec 32 := 4#32
  let v207 : BitVec 32 := Scalar.muli v206 c4_i32_112
  let c3_i32_113 : BitVec 32 := 3#32
  let v208 : BitVec 32 := Scalar.addi v207 c3_i32_113
  let c256_i32 : BitVec 32 := 256#32
  let v209 : BitVec 32 := Scalar.muli v208 c256_i32
  v209
def k0_off62 (i : grid0.Coords) (k0_t2 : Fin (k0_t2_loop i).trips) (c3_i32_113 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_112 : BitVec 32 := 4#32
  let v207 : BitVec 32 := Scalar.muli v206 c4_i32_112
  let v208 : BitVec 32 := Scalar.addi v207 c3_i32_113
  let c256_i32 : BitVec 32 := 256#32
  let v209 : BitVec 32 := Scalar.muli v208 c256_i32
  let v210 : BitVec 32 := v209
  let v211 : Index := Scalar.indexCast v210
  let c0_114 : Index := 0#32
  ![v211.toNat, 0]
def k0_mult114 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_116 : BitVec 32 := 4#32
  let v217 : BitVec 32 := Scalar.muli v206 c4_i32_116
  let c3_i32_117 : BitVec 32 := 3#32
  let v218 : BitVec 32 := Scalar.addi v217 c3_i32_117
  let c256_i32_118 : BitVec 32 := 256#32
  let v219 : BitVec 32 := Scalar.muli v218 c256_i32_118
  v219
def k0_mult115 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_121 : BitVec 32 := 4#32
  let v227 : BitVec 32 := Scalar.muli v206 c4_i32_121
  let c3_i32_122 : BitVec 32 := 3#32
  let v228 : BitVec 32 := Scalar.addi v227 c3_i32_122
  let c256_i32_123 : BitVec 32 := 256#32
  let v229 : BitVec 32 := Scalar.muli v228 c256_i32_123
  v229
def k0_off63 (i : grid0.Coords) (k0_t2 : Fin (k0_t2_loop i).trips) (c3_i32_122 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_121 : BitVec 32 := 4#32
  let v227 : BitVec 32 := Scalar.muli v206 c4_i32_121
  let v228 : BitVec 32 := Scalar.addi v227 c3_i32_122
  let c256_i32_123 : BitVec 32 := 256#32
  let v229 : BitVec 32 := Scalar.muli v228 c256_i32_123
  let v230 : BitVec 32 := v229
  let v231 : Index := Scalar.indexCast v230
  let c128_124 : Index := 128#32
  ![v231.toNat, 128]
def k0_mult116 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_130 : BitVec 32 := 4#32
  let v250 : BitVec 32 := Scalar.muli v206 c4_i32_130
  let c3_i32_131 : BitVec 32 := 3#32
  let v251 : BitVec 32 := Scalar.addi v250 c3_i32_131
  let c256_i32_132 : BitVec 32 := 256#32
  let v252 : BitVec 32 := Scalar.muli v251 c256_i32_132
  v252
def k0_mult117 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_139 : BitVec 32 := 4#32
  let v273 : BitVec 32 := Scalar.muli v206 c4_i32_139
  let c3_i32_140 : BitVec 32 := 3#32
  let v274 : BitVec 32 := Scalar.addi v273 c3_i32_140
  let c256_i32_141 : BitVec 32 := 256#32
  let v275 : BitVec 32 := Scalar.muli v274 c256_i32_141
  v275
def k0_off64 (i : grid0.Coords) (k0_t2 : Fin (k0_t2_loop i).trips) (c3_i32_140 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_139 : BitVec 32 := 4#32
  let v273 : BitVec 32 := Scalar.muli v206 c4_i32_139
  let v274 : BitVec 32 := Scalar.addi v273 c3_i32_140
  let c256_i32_141 : BitVec 32 := 256#32
  let v275 : BitVec 32 := Scalar.muli v274 c256_i32_141
  let v276 : BitVec 32 := v275
  let v277 : Index := Scalar.indexCast v276
  let c256_142 : Index := 256#32
  ![v277.toNat, 256]
def k0_off65 (i : grid0.Coords) (k0_t2 : Fin (k0_t2_loop i).trips) (c3_i32_149 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_148 : BitVec 32 := 4#32
  let v298 : BitVec 32 := Scalar.muli v206 c4_i32_148
  let v299 : BitVec 32 := Scalar.addi v298 c3_i32_149
  let v300 : Index := Scalar.indexCast v299
  let c0_150 : Index := 0#32
  let c0_151 : Index := 0#32
  ![v300.toNat, 0, 0]
def k0_mult118 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_153 : BitVec 32 := 4#32
  let v307 : BitVec 32 := Scalar.muli v206 c4_i32_153
  let c3_i32_154 : BitVec 32 := 3#32
  let v308 : BitVec 32 := Scalar.addi v307 c3_i32_154
  let c256_i32_155 : BitVec 32 := 256#32
  let v309 : BitVec 32 := Scalar.muli v308 c256_i32_155
  v309
def k0_off66 (i : grid0.Coords) (k0_t2 : Fin (k0_t2_loop i).trips) (c3_i32_163 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_162 : BitVec 32 := 4#32
  let v332 : BitVec 32 := Scalar.muli v206 c4_i32_162
  let v333 : BitVec 32 := Scalar.addi v332 c3_i32_163
  let v334 : Index := Scalar.indexCast v333
  let c64 : Index := 64#32
  let c0_164 : Index := 0#32
  ![v334.toNat, 64, 0]
def k0_mult119 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_171 : BitVec 32 := 4#32
  let v352 : BitVec 32 := Scalar.muli v206 c4_i32_171
  let c3_i32_172 : BitVec 32 := 3#32
  let v353 : BitVec 32 := Scalar.addi v352 c3_i32_172
  let c256_i32_173 : BitVec 32 := 256#32
  let v354 : BitVec 32 := Scalar.muli v353 c256_i32_173
  v354
def k0_off67 (i : grid0.Coords) (k0_t2 : Fin (k0_t2_loop i).trips) (c3_i32_172 : BitVec 32) : Fin 2 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_171 : BitVec 32 := 4#32
  let v352 : BitVec 32 := Scalar.muli v206 c4_i32_171
  let v353 : BitVec 32 := Scalar.addi v352 c3_i32_172
  let c256_i32_173 : BitVec 32 := 256#32
  let v354 : BitVec 32 := Scalar.muli v353 c256_i32_173
  let v355 : BitVec 32 := v354
  let v356 : Index := Scalar.indexCast v355
  let c384_174 : Index := 384#32
  ![v356.toNat, 384]
def k0_off68 (i : grid0.Coords) (k0_t2 : Fin (k0_t2_loop i).trips) (c3_i32_181 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_180 : BitVec 32 := 4#32
  let v377 : BitVec 32 := Scalar.muli v206 c4_i32_180
  let v378 : BitVec 32 := Scalar.addi v377 c3_i32_181
  let v379 : Index := Scalar.indexCast v378
  let c128_182 : Index := 128#32
  let c0_183 : Index := 0#32
  ![v379.toNat, 128, 0]
def k0_mult120 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_190 : BitVec 32 := 4#32
  let v397 : BitVec 32 := Scalar.muli v206 c4_i32_190
  let c3_i32_191 : BitVec 32 := 3#32
  let v398 : BitVec 32 := Scalar.addi v397 c3_i32_191
  let c256_i32_192 : BitVec 32 := 256#32
  let v399 : BitVec 32 := Scalar.muli v398 c256_i32_192
  v399
def k0_off69 (i : grid0.Coords) (k0_t2 : Fin (k0_t2_loop i).trips) (c3_i32_200 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_199 : BitVec 32 := 4#32
  let v422 : BitVec 32 := Scalar.muli v206 c4_i32_199
  let v423 : BitVec 32 := Scalar.addi v422 c3_i32_200
  let v424 : Index := Scalar.indexCast v423
  let c192 : Index := 192#32
  let c0_201 : Index := 0#32
  ![v424.toNat, 192, 0]
def k0_mult121 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_208 : BitVec 32 := 4#32
  let v442 : BitVec 32 := Scalar.muli v206 c4_i32_208
  let c2_i32_209 : BitVec 32 := 2#32
  let v443 : BitVec 32 := Scalar.addi v442 c2_i32_209
  let c256_i32_210 : BitVec 32 := 256#32
  let v444 : BitVec 32 := Scalar.muli v443 c256_i32_210
  v444
def k0_off70 (i : grid0.Coords) (k0_t2 : Fin (k0_t2_loop i).trips) (c3_i32_218 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_217 : BitVec 32 := 4#32
  let v467 : BitVec 32 := Scalar.muli v206 c4_i32_217
  let v468 : BitVec 32 := Scalar.addi v467 c3_i32_218
  let v469 : Index := Scalar.indexCast v468
  let c256_219 : Index := 256#32
  let c0_220 : Index := 0#32
  ![v469.toNat, 256, 0]
def k0_mult122 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_227 : BitVec 32 := 4#32
  let v487 : BitVec 32 := Scalar.muli v206 c4_i32_227
  let c2_i32_228 : BitVec 32 := 2#32
  let v488 : BitVec 32 := Scalar.addi v487 c2_i32_228
  let c256_i32_229 : BitVec 32 := 256#32
  let v489 : BitVec 32 := Scalar.muli v488 c256_i32_229
  v489
def k0_off71 (i : grid0.Coords) (k0_t2 : Fin (k0_t2_loop i).trips) (c3_i32_237 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_236 : BitVec 32 := 4#32
  let v512 : BitVec 32 := Scalar.muli v206 c4_i32_236
  let v513 : BitVec 32 := Scalar.addi v512 c3_i32_237
  let v514 : Index := Scalar.indexCast v513
  let c320 : Index := 320#32
  let c0_238 : Index := 0#32
  ![v514.toNat, 320, 0]
def k0_mult123 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_245 : BitVec 32 := 4#32
  let v532 : BitVec 32 := Scalar.muli v206 c4_i32_245
  let c2_i32_246 : BitVec 32 := 2#32
  let v533 : BitVec 32 := Scalar.addi v532 c2_i32_246
  let c256_i32_247 : BitVec 32 := 256#32
  let v534 : BitVec 32 := Scalar.muli v533 c256_i32_247
  v534
def k0_off72 (i : grid0.Coords) (k0_t2 : Fin (k0_t2_loop i).trips) (c3_i32_255 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_254 : BitVec 32 := 4#32
  let v557 : BitVec 32 := Scalar.muli v206 c4_i32_254
  let v558 : BitVec 32 := Scalar.addi v557 c3_i32_255
  let v559 : Index := Scalar.indexCast v558
  let c384_256 : Index := 384#32
  let c0_257 : Index := 0#32
  ![v559.toNat, 384, 0]
def k0_mult124 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_264 : BitVec 32 := 4#32
  let v577 : BitVec 32 := Scalar.muli v206 c4_i32_264
  let c2_i32_265 : BitVec 32 := 2#32
  let v578 : BitVec 32 := Scalar.addi v577 c2_i32_265
  let c256_i32_266 : BitVec 32 := 256#32
  let v579 : BitVec 32 := Scalar.muli v578 c256_i32_266
  v579
def k0_off73 (i : grid0.Coords) (k0_t2 : Fin (k0_t2_loop i).trips) (c3_i32_274 : BitVec 32) : Fin 3 → Nat :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_273 : BitVec 32 := 4#32
  let v602 : BitVec 32 := Scalar.muli v206 c4_i32_273
  let v603 : BitVec 32 := Scalar.addi v602 c3_i32_274
  let v604 : Index := Scalar.indexCast v603
  let c448 : Index := 448#32
  let c0_275 : Index := 0#32
  ![v604.toNat, 448, 0]
def k0_mult125 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_282 : BitVec 32 := 4#32
  let v622 : BitVec 32 := Scalar.muli v206 c4_i32_282
  let c2_i32_283 : BitVec 32 := 2#32
  let v623 : BitVec 32 := Scalar.addi v622 c2_i32_283
  let c256_i32_284 : BitVec 32 := 256#32
  let v624 : BitVec 32 := Scalar.muli v623 c256_i32_284
  v624
def k0_mult126 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_301 : BitVec 32 := 4#32
  let v667 : BitVec 32 := Scalar.muli v206 c4_i32_301
  let c2_i32_302 : BitVec 32 := 2#32
  let v668 : BitVec 32 := Scalar.addi v667 c2_i32_302
  let c256_i32_303 : BitVec 32 := 256#32
  let v669 : BitVec 32 := Scalar.muli v668 c256_i32_303
  v669
def k0_mult127 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_320 : BitVec 32 := 4#32
  let v712 : BitVec 32 := Scalar.muli v206 c4_i32_320
  let c2_i32_321 : BitVec 32 := 2#32
  let v713 : BitVec 32 := Scalar.addi v712 c2_i32_321
  let c256_i32_322 : BitVec 32 := 256#32
  let v714 : BitVec 32 := Scalar.muli v713 c256_i32_322
  v714
def k0_mult128 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_339 : BitVec 32 := 4#32
  let v757 : BitVec 32 := Scalar.muli v206 c4_i32_339
  let c2_i32_340 : BitVec 32 := 2#32
  let v758 : BitVec 32 := Scalar.addi v757 c2_i32_340
  let c256_i32_341 : BitVec 32 := 256#32
  let v759 : BitVec 32 := Scalar.muli v758 c256_i32_341
  v759
def k0_mult129 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_358 : BitVec 32 := 4#32
  let v802 : BitVec 32 := Scalar.muli v206 c4_i32_358
  let c1_i32_359 : BitVec 32 := 1#32
  let v803 : BitVec 32 := Scalar.addi v802 c1_i32_359
  let c256_i32_360 : BitVec 32 := 256#32
  let v804 : BitVec 32 := Scalar.muli v803 c256_i32_360
  v804
def k0_mult130 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_377 : BitVec 32 := 4#32
  let v847 : BitVec 32 := Scalar.muli v206 c4_i32_377
  let c1_i32_378 : BitVec 32 := 1#32
  let v848 : BitVec 32 := Scalar.addi v847 c1_i32_378
  let c256_i32_379 : BitVec 32 := 256#32
  let v849 : BitVec 32 := Scalar.muli v848 c256_i32_379
  v849
def k0_mult131 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_396 : BitVec 32 := 4#32
  let v892 : BitVec 32 := Scalar.muli v206 c4_i32_396
  let c1_i32_397 : BitVec 32 := 1#32
  let v893 : BitVec 32 := Scalar.addi v892 c1_i32_397
  let c256_i32_398 : BitVec 32 := 256#32
  let v894 : BitVec 32 := Scalar.muli v893 c256_i32_398
  v894
def k0_mult132 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_415 : BitVec 32 := 4#32
  let v937 : BitVec 32 := Scalar.muli v206 c4_i32_415
  let c1_i32_416 : BitVec 32 := 1#32
  let v938 : BitVec 32 := Scalar.addi v937 c1_i32_416
  let c256_i32_417 : BitVec 32 := 256#32
  let v939 : BitVec 32 := Scalar.muli v938 c256_i32_417
  v939
def k0_mult133 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_434 : BitVec 32 := 4#32
  let v982 : BitVec 32 := Scalar.muli v206 c4_i32_434
  let c1_i32_435 : BitVec 32 := 1#32
  let v983 : BitVec 32 := Scalar.addi v982 c1_i32_435
  let c256_i32_436 : BitVec 32 := 256#32
  let v984 : BitVec 32 := Scalar.muli v983 c256_i32_436
  v984
def k0_mult134 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_453 : BitVec 32 := 4#32
  let v1027 : BitVec 32 := Scalar.muli v206 c4_i32_453
  let c1_i32_454 : BitVec 32 := 1#32
  let v1028 : BitVec 32 := Scalar.addi v1027 c1_i32_454
  let c256_i32_455 : BitVec 32 := 256#32
  let v1029 : BitVec 32 := Scalar.muli v1028 c256_i32_455
  v1029
def k0_mult135 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_472 : BitVec 32 := 4#32
  let v1072 : BitVec 32 := Scalar.muli v206 c4_i32_472
  let c1_i32_473 : BitVec 32 := 1#32
  let v1073 : BitVec 32 := Scalar.addi v1072 c1_i32_473
  let c256_i32_474 : BitVec 32 := 256#32
  let v1074 : BitVec 32 := Scalar.muli v1073 c256_i32_474
  v1074
def k0_mult136 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_491 : BitVec 32 := 4#32
  let v1117 : BitVec 32 := Scalar.muli v206 c4_i32_491
  let c1_i32_492 : BitVec 32 := 1#32
  let v1118 : BitVec 32 := Scalar.addi v1117 c1_i32_492
  let c256_i32_493 : BitVec 32 := 256#32
  let v1119 : BitVec 32 := Scalar.muli v1118 c256_i32_493
  v1119
def k0_mult137 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_510 : BitVec 32 := 4#32
  let v1162 : BitVec 32 := Scalar.muli v206 c4_i32_510
  let c0_i32_511 : BitVec 32 := 0#32
  let v1163 : BitVec 32 := Scalar.addi v1162 c0_i32_511
  let c256_i32_512 : BitVec 32 := 256#32
  let v1164 : BitVec 32 := Scalar.muli v1163 c256_i32_512
  v1164
def k0_mult138 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_529 : BitVec 32 := 4#32
  let v1207 : BitVec 32 := Scalar.muli v206 c4_i32_529
  let c0_i32_530 : BitVec 32 := 0#32
  let v1208 : BitVec 32 := Scalar.addi v1207 c0_i32_530
  let c256_i32_531 : BitVec 32 := 256#32
  let v1209 : BitVec 32 := Scalar.muli v1208 c256_i32_531
  v1209
def k0_mult139 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_548 : BitVec 32 := 4#32
  let v1252 : BitVec 32 := Scalar.muli v206 c4_i32_548
  let c0_i32_549 : BitVec 32 := 0#32
  let v1253 : BitVec 32 := Scalar.addi v1252 c0_i32_549
  let c256_i32_550 : BitVec 32 := 256#32
  let v1254 : BitVec 32 := Scalar.muli v1253 c256_i32_550
  v1254
def k0_mult140 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_567 : BitVec 32 := 4#32
  let v1297 : BitVec 32 := Scalar.muli v206 c4_i32_567
  let c0_i32_568 : BitVec 32 := 0#32
  let v1298 : BitVec 32 := Scalar.addi v1297 c0_i32_568
  let c256_i32_569 : BitVec 32 := 256#32
  let v1299 : BitVec 32 := Scalar.muli v1298 c256_i32_569
  v1299
def k0_mult141 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_586 : BitVec 32 := 4#32
  let v1342 : BitVec 32 := Scalar.muli v206 c4_i32_586
  let c0_i32_587 : BitVec 32 := 0#32
  let v1343 : BitVec 32 := Scalar.addi v1342 c0_i32_587
  let c256_i32_588 : BitVec 32 := 256#32
  let v1344 : BitVec 32 := Scalar.muli v1343 c256_i32_588
  v1344
def k0_mult142 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_605 : BitVec 32 := 4#32
  let v1387 : BitVec 32 := Scalar.muli v206 c4_i32_605
  let c0_i32_606 : BitVec 32 := 0#32
  let v1388 : BitVec 32 := Scalar.addi v1387 c0_i32_606
  let c256_i32_607 : BitVec 32 := 256#32
  let v1389 : BitVec 32 := Scalar.muli v1388 c256_i32_607
  v1389
def k0_mult143 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_624 : BitVec 32 := 4#32
  let v1432 : BitVec 32 := Scalar.muli v206 c4_i32_624
  let c0_i32_625 : BitVec 32 := 0#32
  let v1433 : BitVec 32 := Scalar.addi v1432 c0_i32_625
  let c256_i32_626 : BitVec 32 := 256#32
  let v1434 : BitVec 32 := Scalar.muli v1433 c256_i32_626
  v1434
def k0_mult144 (i : grid0.Coords) (k0_t2 : Fin (k0_t2_loop i).trips) : BitVec 32 :=
  let arg1 : BitVec 32 := BitVec.ofNat 32 (i 1).val
  let c0_i32_56 : BitVec 32 := 0#32
  let v119 : BitVec 1 := Scalar.cmpi .sgt arg1 c0_i32_56
  let v120 : BitVec 32 := Scalar.extui v119
  let c0_i32_57 : BitVec 32 := 0#32
  let v121 : BitVec 1 := Scalar.cmpi .slt arg1 c0_i32_57
  let v122 : BitVec 32 := Scalar.extui v121
  let v123 : BitVec 32 := Scalar.subi v120 v122
  let c4_i32_55 : BitVec 32 := 4#32
  let c0_i32_58 : BitVec 32 := 0#32
  let v124 : BitVec 1 := Scalar.cmpi .sgt c4_i32_55 c0_i32_58
  let v125 : BitVec 32 := Scalar.extui v124
  let c0_i32_59 : BitVec 32 := 0#32
  let v126 : BitVec 1 := Scalar.cmpi .slt c4_i32_55 c0_i32_59
  let v127 : BitVec 32 := Scalar.extui v126
  let v128 : BitVec 32 := Scalar.subi v125 v127
  let v129 : BitVec 1 := Scalar.cmpi .ne v123 v128
  let v130 : BitVec 32 := Scalar.remsi arg1 c4_i32_55
  let c0_i32_60 : BitVec 32 := 0#32
  let v131 : BitVec 1 := Scalar.cmpi .ne v130 c0_i32_60
  let v132 : BitVec 1 := Scalar.andi v129 v131
  let v118 : BitVec 32 := Scalar.divsi arg1 c4_i32_55
  let c1_i32_61 : BitVec 32 := 1#32
  let v133 : BitVec 32 := Scalar.subi v118 c1_i32_61
  let v134 : BitVec 32 := Scalar.select v132 v133 v118
  let c1_i32_111 : BitVec 32 := 1#32
  let v205 : BitVec 32 := Scalar.subi v134 c1_i32_111
  let c0_i32_103 : BitVec 32 := 0#32
  let v195 : BitVec 32 := Scalar.subi v134 c0_i32_103
  let c1_i32_104 : BitVec 32 := 1#32
  let v197 : BitVec 32 := Scalar.divsi v195 c1_i32_104
  let v198 : BitVec 32 := Scalar.muli v197 c1_i32_104
  let v199 : BitVec 32 := Scalar.addi c0_i32_103 v198
  let c1_i32_106 : BitVec 32 := 1#32
  let arg9 : BitVec 32 := Scf.iv v199 c1_i32_106 k0_t2
  let v206 : BitVec 32 := Scalar.subi v205 arg9
  let c4_i32_643 : BitVec 32 := 4#32
  let v1477 : BitVec 32 := Scalar.muli v206 c4_i32_643
  let c0_i32_644 : BitVec 32 := 0#32
  let v1478 : BitVec 32 := Scalar.addi v1477 c0_i32_644
  let c256_i32_645 : BitVec 32 := 256#32
  let v1479 : BitVec 32 := Scalar.muli v1478 c256_i32_645
  v1479
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S64x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16384x1024 : Shape := ⟨2, ![16384, 1024]⟩
abbrev S16 : Shape := ⟨1, ![16]⟩
abbrev S16384x16x64 : Shape := ⟨3, ![16384, 16, 64]⟩
abbrev S_ : Shape := ⟨0, ![]⟩
abbrev S16x16384x16384 : Shape := ⟨3, ![16, 16384, 16384]⟩
abbrev S16x1x1 : Shape := ⟨3, ![16, 1, 1]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16, .f32⟩
  | .hbm, ⟨4, _⟩ => ⟨S16384x16x64, .f32⟩
  | .hbm, ⟨5, _⟩ => ⟨S_, .f32⟩
  | .hbm, ⟨6, _⟩ => ⟨S16384x16x64, .f32⟩
  | .hbm, ⟨7, _⟩ => ⟨S16384x16x64, .f32⟩
  | .hbm, ⟨8, _⟩ => ⟨S16384x16x64, .f32⟩
  | .hbm, ⟨9, _⟩ => ⟨S16384x16x64, .f32⟩
  | .hbm, ⟨10, _⟩ => ⟨S16x16384x16384, .f32⟩
  | .hbm, ⟨11, _⟩ => ⟨S16x1x1, .f32⟩
  | .hbm, ⟨12, _⟩ => ⟨S16x16384x16384, .f32⟩
  | .hbm, ⟨13, _⟩ => ⟨S16x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S16x16384x16384, .f32⟩
  | .hbm, ⟨21, _⟩ => ⟨S16x16384x16384, .f32⟩
  | .hbm, ⟨22, _⟩ => ⟨S_, .f32⟩
  | .hbm, ⟨23, _⟩ => ⟨S16x16384x16384, .f32⟩
  | .hbm, ⟨24, _⟩ => ⟨S16x16384x16384, .f32⟩
  | .hbm, ⟨25, _⟩ => ⟨S16x16384x16384, .f32⟩
  | .hbm, ⟨26, _⟩ => ⟨S16x16384x16384, .f32⟩
  | .hbm, ⟨27, _⟩ => ⟨S16x16384x16384, .i1⟩
  | .hbm, ⟨28, _⟩ => ⟨S16x16384x16384, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S16x16384x16384, .f32⟩
  | .hbm, ⟨36, _⟩ => ⟨S16x16384x16384, .f32⟩
  | .hbm, ⟨37, _⟩ => ⟨S_, .f32⟩
  | .hbm, ⟨38, _⟩ => ⟨S_, .f32⟩
  | .hbm, ⟨39, _⟩ => ⟨S16x16384x16384, .i1⟩
  | .hbm, ⟨40, _⟩ => ⟨S16x16384x16384, .f32⟩
  | .hbm, ⟨41, _⟩ => ⟨S16x16384x16384, .f32⟩
  | .hbm, ⟨42, _⟩ => ⟨S_, .f32⟩
  | .hbm, ⟨43, _⟩ => ⟨S_, .f32⟩
  | .hbm, ⟨44, _⟩ => ⟨S16x16384x16384, .f32⟩
  | .hbm, ⟨45, _⟩ => ⟨S16x16384x16384, .f32⟩
  | .hbm, ⟨46, _⟩ => ⟨S16x16384x16384, .f32⟩
  | .hbm, ⟨47, _⟩ => ⟨S_, .f32⟩
  | .hbm, ⟨48, _⟩ => ⟨S16x16384x16384, .f32⟩
  | .hbm, ⟨49, _⟩ => ⟨S16x16384x16384, .f32⟩
  | .hbm, ⟨50, _⟩ => ⟨S16x16384x16384, .f32⟩
  | .hbm, ⟨51, _⟩ => ⟨S16x16384x16384, .f32⟩
  | .hbm, ⟨52, _⟩ => ⟨S16x16384x16384, .i1⟩
  | .hbm, ⟨53, _⟩ => ⟨S16x16384x16384, .f32⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S16x16384x16384, .f32⟩
  | .hbm, ⟨58, _⟩ => ⟨S16x16384x16384, .f32⟩
  | .hbm, ⟨59, _⟩ => ⟨S16x16384x16384, .f32⟩
  | .hbm, ⟨60, _⟩ => ⟨S16x16384x16384, .f32⟩
  | .hbm, ⟨61, _⟩ => ⟨S16x16384x16384, .f32⟩
  | .hbm, ⟨62, _⟩ => ⟨S16x16384x16384, .f32⟩
  | .hbm, ⟨63, _⟩ => ⟨S16x16384x16384, .f32⟩
  | .hbm, ⟨64, _⟩ => ⟨S_, .f32⟩
  | .hbm, ⟨65, _⟩ => ⟨S_, .f32⟩
  | .hbm, ⟨66, _⟩ => ⟨S16x16384x16384, .i1⟩
  | .hbm, ⟨67, _⟩ => ⟨S16x16384x16384, .f32⟩
  | .hbm, ⟨68, _⟩ => ⟨S16x16384x16384, .f32⟩
  | .hbm, ⟨69, _⟩ => ⟨S16x64x16384, .f32⟩
  | .hbm, ⟨70, _⟩ => ⟨S16384x16x64, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩

abbrev nD : Nat := 1
abbrev τ : Topo := Topo.v7x

variable {F : FTy → Type} [FloatOps F]
-- ==== Projection.lean ====
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S16384x1024 : Shape := ⟨2, ![16384, 1024]⟩
abbrev S64x1024x256 : Shape := ⟨3, ![64, 1024, 256]⟩
abbrev S512x2048 : Shape := ⟨2, ![512, 2048]⟩
abbrev S2048x1024 : Shape := ⟨2, ![2048, 1024]⟩
abbrev S512x1024 : Shape := ⟨2, ![512, 1024]⟩
abbrev S2x1024x256 : Shape := ⟨3, ![2, 1024, 256]⟩
abbrev S512 : Shape := ⟨1, ![512]⟩
abbrev S512x1 : Shape := ⟨2, ![512, 1]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 14
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048x6144, .f32⟩
  | .hbm, ⟨5, _⟩ => ⟨S1x2048, .f32⟩
  | .hbm, ⟨6, _⟩ => ⟨S2048x6144, .bf16⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S64x1024x256, .bf16⟩
  | .hbm, ⟨12, _⟩ => ⟨S16384x1024, .f32⟩
  | .hbm, ⟨13, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S2x1024x256, .bf16⟩
  | .local _ .vmem, ⟨16, _⟩ => ⟨S2x1024x256, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x2048, .bf16⟩
  | .local _ .vmem, ⟨22, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v2_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def k0_cond7 (i : grid0.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ProjectionIdeal.lean ====
variable {F : FTy → Type} [FloatOps F] [Named F]
def κ : String → Option EReal := fun
  | "qscale" => some (((1 / 8) * (Real.log 2)⁻¹ : ℝ) : EReal)
  | _ => none
-- ==== ProjectionReferenceIdeal.lean ====
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x1024 : Shape := ⟨2, ![16384, 1024]⟩
abbrev S64x256x1024 : Shape := ⟨3, ![64, 256, 1024]⟩
abbrev S64x1024x256 : Shape := ⟨3, ![64, 1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048x6144, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x6144, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S64x256x1024, .f32⟩
  | .hbm, ⟨36, _⟩ => ⟨S64x1024x256, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S16384x1024, .bf16⟩
  | .hbm, ⟨46, _⟩ => ⟨S64x1024x256, .bf16⟩
  | .hbm, ⟨47, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Mixing.lean ====
abbrev S16384x1024 : Shape := ⟨2, ![16384, 1024]⟩
abbrev S16384x2048 : Shape := ⟨2, ![16384, 2048]⟩
abbrev S1x2048 : Shape := ⟨2, ![1, 2048]⟩
abbrev S3x1024 : Shape := ⟨2, ![3, 1024]⟩
abbrev S1024 : Shape := ⟨1, ![1024]⟩
abbrev S2048 : Shape := ⟨1, ![2048]⟩
abbrev S2048x2048 : Shape := ⟨2, ![2048, 2048]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S8x1024 : Shape := ⟨2, ![8, 1024]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 54
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S3x1024, .f32⟩
  | .hbm, ⟨8, _⟩ => ⟨S1024, .f32⟩
  | .hbm, ⟨9, _⟩ => ⟨S1024, .f32⟩
  | .hbm, ⟨10, _⟩ => ⟨S2048, .f32⟩
  | .hbm, ⟨11, _⟩ => ⟨S2048x2048, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1x1024, .i32⟩
  | .hbm, ⟨33, _⟩ => ⟨S1024x1024, .i32⟩
  | .hbm, ⟨34, _⟩ => ⟨S1024x1024, .i32⟩
  | .hbm, ⟨35, _⟩ => ⟨S1024x1024, .i1⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x1024, .bf16⟩
  | .hbm, ⟨42, _⟩ => ⟨S_, .i32⟩
  | .hbm, ⟨43, _⟩ => ⟨S_, .f32⟩
  | .hbm, ⟨44, _⟩ => ⟨S8x1024, .f32⟩
  | .hbm, ⟨45, _⟩ => ⟨S_, .f32⟩
  | .hbm, ⟨46, _⟩ => ⟨S8x1024, .f32⟩
  | .hbm, ⟨47, _⟩ => ⟨S1x1024, .f32⟩
  | .hbm, ⟨48, _⟩ => ⟨S1x1024, .f32⟩
  | .hbm, ⟨49, _⟩ => ⟨S1x2048, .f32⟩
  | .hbm, ⟨50, _⟩ => ⟨S2048x2048, .bf16⟩
  | .hbm, ⟨51, _⟩ => ⟨S16384x2048, .f32⟩
  | .hbm, ⟨52, _⟩ => ⟨S16384x2048, .bf16⟩
  | .hbm, ⟨53, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S8x1024, .f32⟩
  | .local _ .vmem, ⟨15, _⟩ => ⟨S1x1024, .f32⟩
  | .local _ .vmem, ⟨16, _⟩ => ⟨S1x1024, .f32⟩
  | .local _ .vmem, ⟨17, _⟩ => ⟨S1x2048, .f32⟩
  | .local _ .vmem, ⟨18, _⟩ => ⟨S1024x1024, .bf16⟩
  | .local _ .vmem, ⟨19, _⟩ => ⟨S2048x2048, .bf16⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_v7 : Ref sig .tc := ⟨.hbm, 40, rfl⟩
abbrev main_v8 : Ref sig .tc := ⟨.hbm, 41, rfl⟩
abbrev main_c_1 : Ref sig .tc := ⟨.hbm, 42, rfl⟩
abbrev main_call2_v0 : Ref sig .tc := ⟨.hbm, 43, rfl⟩
abbrev main_v9 : Ref sig .tc := ⟨.hbm, 44, rfl⟩
abbrev main_cst_2 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15_0 : Ref sig .tc := ⟨.hbm, 51, rfl⟩
abbrev main_v15_1 : Ref sig .tc := ⟨.hbm, 52, rfl⟩
abbrev main_v15_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixingReferenceIdeal.lean ====
abbrev S16384x1024 : Shape := ⟨2, ![16384, 1024]⟩
abbrev S16384x2048 : Shape := ⟨2, ![16384, 2048]⟩
abbrev S1x2048 : Shape := ⟨2, ![1, 2048]⟩
abbrev S3x1024 : Shape := ⟨2, ![3, 1024]⟩
abbrev S1024 : Shape := ⟨1, ![1024]⟩
abbrev S2048 : Shape := ⟨1, ![2048]⟩
abbrev S2048x2048 : Shape := ⟨2, ![2048, 2048]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S16384x16x64 : Shape := ⟨3, ![16384, 16, 64]⟩
abbrev S16384x16 : Shape := ⟨2, ![16384, 16]⟩
abbrev S16384x16x1 : Shape := ⟨3, ![16384, 16, 1]⟩
abbrev S16x64 : Shape := ⟨2, ![16, 64]⟩
abbrev S1x16x64 : Shape := ⟨3, ![1, 16, 64]⟩
abbrev S16384 : Shape := ⟨1, ![16384]⟩
abbrev S16384x1 : Shape := ⟨2, ![16384, 1]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S3x1024, .f32⟩
  | .hbm, ⟨8, _⟩ => ⟨S1024, .f32⟩
  | .hbm, ⟨9, _⟩ => ⟨S1024, .f32⟩
  | .hbm, ⟨10, _⟩ => ⟨S2048, .f32⟩
  | .hbm, ⟨11, _⟩ => ⟨S2048x2048, .f32⟩
  | .hbm, ⟨12, _⟩ => ⟨S_, .f32⟩
  | .hbm, ⟨13, _⟩ => ⟨S2x1024, .f32⟩
  | .hbm, ⟨14, _⟩ => ⟨S16386x1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x16x64, .f32⟩
  | .hbm, ⟨37, _⟩ => ⟨S16384x16x64, .f32⟩
  | .hbm, ⟨38, _⟩ => ⟨S_, .f32⟩
  | .hbm, ⟨39, _⟩ => ⟨S16384x16, .f32⟩
  | .hbm, ⟨40, _⟩ => ⟨S16384x16x1, .f32⟩
  | .hbm, ⟨41, _⟩ => ⟨S_, .f32⟩
  | .hbm, ⟨42, _⟩ => ⟨S16384x16x1, .f32⟩
  | .hbm, ⟨43, _⟩ => ⟨S16384x16x1, .f32⟩
  | .hbm, ⟨44, _⟩ => ⟨S_, .f32⟩
  | .hbm, ⟨45, _⟩ => ⟨S16384x16x1, .f32⟩
  | .hbm, ⟨46, _⟩ => ⟨S16384x16x1, .f32⟩
  | .hbm, ⟨47, _⟩ => ⟨S16384x16x1, .f32⟩
  | .hbm, ⟨48, _⟩ => ⟨S16384x16x64, .f32⟩
  | .hbm, ⟨49, _⟩ => ⟨S16384x16x64, .f32⟩
  | .hbm, ⟨50, _⟩ => ⟨S16x64, .f32⟩
  | .hbm, ⟨51, _⟩ => ⟨S1x16x64, .f32⟩
  | .hbm, ⟨52, _⟩ => ⟨S16384x16x64, .f32⟩
  | .hbm, ⟨53, _⟩ => ⟨S16384x16x64, .f32⟩
  | .hbm, ⟨54, _⟩ => ⟨S16384x1024, .f32⟩
  | .hbm, ⟨55, _⟩ => ⟨S16384x16x64, .f32⟩
  | .hbm, ⟨56, _⟩ => ⟨S16384x16x64, .f32⟩
  | .hbm, ⟨57, _⟩ => ⟨S_, .f32⟩
  | .hbm, ⟨58, _⟩ => ⟨S16384x16, .f32⟩
  | .hbm, ⟨59, _⟩ => ⟨S16384x16x1, .f32⟩
  | .hbm, ⟨60, _⟩ => ⟨S_, .f32⟩
  | .hbm, ⟨61, _⟩ => ⟨S16384x16x1, .f32⟩
  | .hbm, ⟨62, _⟩ => ⟨S16384x16x1, .f32⟩
  | .hbm, ⟨63, _⟩ => ⟨S_, .f32⟩
  | .hbm, ⟨64, _⟩ => ⟨S16384x16x1, .f32⟩
  | .hbm, ⟨65, _⟩ => ⟨S16384x16x1, .f32⟩
  | .hbm, ⟨66, _⟩ => ⟨S16384x16x1, .f32⟩
  | .hbm, ⟨67, _⟩ => ⟨S16384x16x64, .f32⟩
  | .hbm, ⟨68, _⟩ => ⟨S16384x16x64, .f32⟩
  | .hbm, ⟨69, _⟩ => ⟨S16x64, .f32⟩
  | .hbm, ⟨70, _⟩ => ⟨S1x16x64, .f32⟩
  | .hbm, ⟨71, _⟩ => ⟨S16384x16x64, .f32⟩
  | .hbm, ⟨72, _⟩ => ⟨S16384x16x64, .f32⟩
  | .hbm, ⟨73, _⟩ => ⟨S16384x1024, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x2048, .f32⟩
  | .hbm, ⟨91, _⟩ => ⟨S16384x2048, .f32⟩
  | .hbm, ⟨92, _⟩ => ⟨S1x2048, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S1x2048, .f32⟩
  | .hbm, ⟨97, _⟩ => ⟨S1x2048, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .bf16⟩
  | .hbm, ⟨103, _⟩ => ⟨S16384x2048, .bf16⟩
  | .hbm, ⟨104, _⟩ => ⟨S16384x2048, .f32⟩
  | .hbm, ⟨105, _⟩ => ⟨S16384x2048, .f32⟩
  | .hbm, ⟨106, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== Sample.lean ====
abbrev S32x4x2048 : Shape := ⟨3, ![32, 4, 2048]⟩
abbrev S32x2048 : Shape := ⟨2, ![32, 2048]⟩
abbrev S2048 : Shape := ⟨1, ![2048]⟩
abbrev S2048x6144 : Shape := ⟨2, ![2048, 6144]⟩
abbrev S128x2048 : Shape := ⟨2, ![128, 2048]⟩
abbrev S1x2048 : Shape := ⟨2, ![1, 2048]⟩
abbrev S128x1024 : Shape := ⟨2, ![128, 1024]⟩
abbrev S1x1024x128 : Shape := ⟨3, ![1, 1024, 128]⟩
abbrev S2048x1024 : Shape := ⟨2, ![2048, 1024]⟩
abbrev S128 : Shape := ⟨1, ![128]⟩
abbrev S128x1 : Shape := ⟨2, ![128, 1]⟩
abbrev S1024x128 : Shape := ⟨2, ![1024, 128]⟩

abbrev nBuf : Space → Nat
  | .hbm => 19
  | .vmem => 15
  | .smem => 0
  | _ => 0

abbrev bufTy : (tb : Table) → Fin (tcTables nBuf tb) → BufTy
  | .hbm, ⟨0, _⟩ => ⟨S32x4x2048, .f32⟩
  | .hbm, ⟨1, _⟩ => ⟨S32x2048, .f32⟩
  | .hbm, ⟨2, _⟩ => ⟨S32x2048, .f32⟩
  | .hbm, ⟨3, _⟩ => ⟨S2048, .f32⟩
  | .hbm, ⟨4, _⟩ => ⟨S2048x6144, .f32⟩
  | .hbm, ⟨5, _⟩ => ⟨S128x2048, .f32⟩
  | .hbm, ⟨6, _⟩ => ⟨S32x4x2048, .f32⟩
  | .hbm, ⟨7, _⟩ => ⟨S128x2048, .f32⟩
  | .hbm, ⟨8, _⟩ => ⟨S32x4x2048, .f32⟩
  | .hbm, ⟨9, _⟩ => ⟨S128x2048, .f32⟩
  | .hbm, ⟨10, _⟩ => ⟨S1x2048, .f32⟩
  | .hbm, ⟨11, _⟩ => ⟨S2048x6144, .bf16⟩
  | .hbm, ⟨12, _⟩ => ⟨S128x1024, .bf16⟩
  | .hbm, ⟨13, _⟩ => ⟨S128x1024, .f32⟩
  | .hbm, ⟨14, _⟩ => ⟨S128x1024, .bf16⟩
  | .hbm, ⟨15, _⟩ => ⟨S128x1024, .f32⟩
  | .hbm, ⟨16, _⟩ => ⟨S1x1024x128, .bf16⟩
  | .hbm, ⟨17, _⟩ => ⟨S128x1024, .f32⟩
  | .hbm, ⟨18, _⟩ => ⟨S128x1024, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S128x1024, .f32⟩
  | .local _ .vmem, ⟨8, _⟩ => ⟨S128x1024, .bf16⟩
  | .local _ .vmem, ⟨9, _⟩ => ⟨S128x1024, .f32⟩
  | .local _ .vmem, ⟨10, _⟩ => ⟨S1x1024x128, .bf16⟩
  | .local _ .vmem, ⟨11, _⟩ => ⟨S128x1024, .f32⟩
  | .local _ .vmem, ⟨12, _⟩ => ⟨S128x1024, .f32⟩
  | .local _ .vmem, ⟨13, _⟩ => ⟨S128x2048, .bf16⟩
  | .local _ .vmem, ⟨14, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_v7_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def k0_cond7 (i : grid0.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== SampleIdeal.lean ====
variable {F : FTy → Type} [FloatOps F] [Named F]
def κ : String → Option EReal := fun
  | "qscale" => some (((1 / 8) * (Real.log 2)⁻¹ : ℝ) : EReal)
  | _ => none
-- ==== SampleReferenceIdeal.lean ====
abbrev S32x4x2048 : Shape := ⟨3, ![32, 4, 2048]⟩
abbrev S32x2048 : Shape := ⟨2, ![32, 2048]⟩
abbrev S2048 : Shape := ⟨1, ![2048]⟩
abbrev S2048x6144 : Shape := ⟨2, ![2048, 6144]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x1x2048 : Shape := ⟨3, ![32, 1, 2048]⟩
abbrev S32x4x6144 : Shape := ⟨3, ![32, 4, 6144]⟩
abbrev S32x4x1024 : Shape := ⟨3, ![32, 4, 1024]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 56
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x2048, .f32⟩
  | .hbm, ⟨2, _⟩ => ⟨S32x2048, .f32⟩
  | .hbm, ⟨3, _⟩ => ⟨S2048, .f32⟩
  | .hbm, ⟨4, _⟩ => ⟨S2048x6144, .f32⟩
  | .hbm, ⟨5, _⟩ => ⟨S32x4x2048, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x2048, .f32⟩
  | .hbm, ⟨17, _⟩ => ⟨S32x4x2048, .f32⟩
  | .hbm, ⟨18, _⟩ => ⟨S1x1x2048, .f32⟩
  | .hbm, ⟨19, _⟩ => ⟨S32x4x2048, .f32⟩
  | .hbm, ⟨20, _⟩ => ⟨S32x4x2048, .f32⟩
  | .hbm, ⟨21, _⟩ => ⟨S32x1x2048, .f32⟩
  | .hbm, ⟨22, _⟩ => ⟨S_, .f32⟩
  | .hbm, ⟨23, _⟩ => ⟨S32x1x2048, .f32⟩
  | .hbm, ⟨24, _⟩ => ⟨S32x1x2048, .f32⟩
  | .hbm, ⟨25, _⟩ => ⟨S32x4x2048, .f32⟩
  | .hbm, ⟨26, _⟩ => ⟨S32x4x2048, .f32⟩
  | .hbm, ⟨27, _⟩ => ⟨S32x1x2048, .f32⟩
  | .hbm, ⟨28, _⟩ => ⟨S32x4x2048, .f32⟩
  | .hbm, ⟨29, _⟩ => ⟨S32x4x2048, .f32⟩
  | .hbm, ⟨30, _⟩ => ⟨S32x4x6144, .f32⟩
  | .hbm, ⟨31, _⟩ => ⟨S32x4x1024, .f32⟩
  | .hbm, ⟨32, _⟩ => ⟨S32x4x1024, .f32⟩
  | .hbm, ⟨33, _⟩ => ⟨S32x4x1024, .f32⟩
  | .hbm, ⟨34, _⟩ => ⟨S32x4x1024, .f32⟩
  | .hbm, ⟨35, _⟩ => ⟨S32x4x1024, .f32⟩
  | .hbm, ⟨36, _⟩ => ⟨S32x4x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .bf16⟩
  | .hbm, ⟨51, _⟩ => ⟨S128x1024, .bf16⟩
  | .hbm, ⟨52, _⟩ => ⟨S1024x128, .f32⟩
  | .hbm, ⟨53, _⟩ => ⟨S1x1024x128, .f32⟩
  | .hbm, ⟨54, _⟩ => ⟨S1x1024x128, .bf16⟩
  | .hbm, ⟨55, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Modulation.lean ====
abbrev S1x2048 : Shape := ⟨2, ![1, 2048]⟩
abbrev S32x2048 : Shape := ⟨2, ![32, 2048]⟩
abbrev S2048x12288 : Shape := ⟨2, ![2048, 12288]⟩
abbrev S12288 : Shape := ⟨1, ![12288]⟩
abbrev S33x2048 : Shape := ⟨2, ![33, 2048]⟩
abbrev S_ : Shape := ⟨0, ![]⟩
abbrev S40x2048 : Shape := ⟨2, ![40, 2048]⟩
abbrev S1x12288 : Shape := ⟨2, ![1, 12288]⟩
abbrev S40x12288 : Shape := ⟨2, ![40, 12288]⟩
abbrev S2048x512 : Shape := ⟨2, ![2048, 512]⟩
abbrev S1x512 : Shape := ⟨2, ![1, 512]⟩
abbrev S40x512 : Shape := ⟨2, ![40, 512]⟩

abbrev nBuf : Space → Nat
  | .hbm => 10
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S32x2048, .f32⟩
  | .hbm, ⟨2, _⟩ => ⟨S2048x12288, .f32⟩
  | .hbm, ⟨3, _⟩ => ⟨S12288, .f32⟩
  | .hbm, ⟨4, _⟩ => ⟨S33x2048, .f32⟩
  | .hbm, ⟨5, _⟩ => ⟨S_, .i32⟩
  | .hbm, ⟨6, _⟩ => ⟨S_, .f32⟩
  | .hbm, ⟨7, _⟩ => ⟨S40x2048, .f32⟩
  | .hbm, ⟨8, _⟩ => ⟨S1x12288, .f32⟩
  | .hbm, ⟨9, _⟩ => ⟨S40x12288, .f32⟩
  | .local _ .vmem, ⟨0, _⟩ => ⟨S40x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S1x2048 : Shape := ⟨2, ![1, 2048]⟩
abbrev S32x2048 : Shape := ⟨2, ![32, 2048]⟩
abbrev S2048x12288 : Shape := ⟨2, ![2048, 12288]⟩
abbrev S12288 : Shape := ⟨1, ![12288]⟩
abbrev S_ : Shape := ⟨0, ![]⟩
abbrev S7x2048 : Shape := ⟨2, ![7, 2048]⟩
abbrev S40x2048 : Shape := ⟨2, ![40, 2048]⟩
abbrev S40x12288 : Shape := ⟨2, ![40, 12288]⟩
abbrev S1x12288 : Shape := ⟨2, ![1, 12288]⟩

abbrev nBuf : Space → Nat
  | .hbm => 20
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S32x2048, .f32⟩
  | .hbm, ⟨2, _⟩ => ⟨S2048x12288, .f32⟩
  | .hbm, ⟨3, _⟩ => ⟨S12288, .f32⟩
  | .hbm, ⟨4, _⟩ => ⟨S_, .f32⟩
  | .hbm, ⟨5, _⟩ => ⟨S7x2048, .f32⟩
  | .hbm, ⟨6, _⟩ => ⟨S40x2048, .f32⟩
  | .hbm, ⟨7, _⟩ => ⟨S40x2048, .f32⟩
  | .hbm, ⟨8, _⟩ => ⟨S40x2048, .f32⟩
  | .hbm, ⟨9, _⟩ => ⟨S_, .f32⟩
  | .hbm, ⟨10, _⟩ => ⟨S40x2048, .f32⟩
  | .hbm, ⟨11, _⟩ => ⟨S40x2048, .f32⟩
  | .hbm, ⟨12, _⟩ => ⟨S_, .f32⟩
  | .hbm, ⟨13, _⟩ => ⟨S40x2048, .f32⟩
  | .hbm, ⟨14, _⟩ => ⟨S40x2048, .f32⟩
  | .hbm, ⟨15, _⟩ => ⟨S40x2048, .f32⟩
  | .hbm, ⟨16, _⟩ => ⟨S40x12288, .f32⟩
  | .hbm, ⟨17, _⟩ => ⟨S1x12288, .f32⟩
  | .hbm, ⟨18, _⟩ => ⟨S40x12288, .f32⟩
  | .hbm, ⟨19, _⟩ => ⟨S40x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.ProjBody.lean ====
/- The runs of the projection's body at the six points of a row block. -/
module

public import proofs.«01_k».proof.Proof.Gen.ProjectionIdeal.Frame
public import proofs.«01_k».proof.Proof.Gen.ProjectionIdeal.Skeleton
public import Idealize.ShloMosaic.Lib.Pipeline.ValueKit
public import Idealize.ShloMosaic.Lib.VecWindow

@[expose] public section

set_option maxRecDepth 16384

noncomputable section

namespace Cert.ProjectionIdeal.Hand

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- A branch's condition at a grid point, as the kernel computes it: its column is `n`. -/
abbrev cond (i : grid0.Coords) (n : BitVec 32) : Prop :=
  Scalar.cmpi .ne (Scalar.extui (Scalar.cmpi .eq (BitVec.ofNat 32 (i 1).val) n) : BitVec 32) 0#32 = 1#1

theorem cond_iff (i : grid0.Coords) (n : Fin 6) : cond i (BitVec.ofNat 32 n.val) ↔ (i 1).val = n.val := by
  have : ∀ y n : Fin 6, Scalar.cmpi .ne (Scalar.extui (Scalar.cmpi .eq (BitVec.ofNat 32 y.val) (BitVec.ofNat 32 n.val)) : BitVec 32) 0#32 = 1#1 ↔ y.val = n.val := by
    decide +kernel
  exact this (i 1) n

variable {F : FTy → Type} [FloatOps F] [Named F]

/-- One store of a whole buffer, read back. -/
theorem stored {S : Shape} {e : EltTy} (M : Memref sig .tc .vmem S e) (f : M.view.ty.Contents (Elt F)) {off : Fin S.rank → ℕ}
    (inb : ∀ a, off a + S.size a ≤ S.size a) (w : S.Idx → Elt F e) :
    M.view.read (Elt F) (M.view.writes (Elt F) f [⟨Rect.unit off S.size inb, w⟩]) = w :=
  View.read_writes_full M.view f inb w []

/-- One store of a whole buffer, loaded back. -/
theorem loaded {S : Shape} {e : EltTy} (M : Memref sig .tc .vmem S e) (f : M.view.ty.Contents (Elt F)) {off off' : Fin S.rank → ℕ}
    (inb : ∀ a, off a + S.size a ≤ S.size a) (inb' : ∀ a, off' a + S.size a ≤ S.size a) (w : S.Idx → Elt F e) :
    M.view.readAt (Elt F) (Rect.unit off' S.size inb').toLoadRect (M.view.writes (Elt F) f [⟨Rect.unit off S.size inb, w⟩]) = w :=
  View.readAt_writes_full M.view f inb' inb w []

/-- The two transposed halves of a value block, as stores, the last first. -/
abbrev halves (H : Vec F S512x2048 .bf16) (w : Vec F S2048x1024 .bf16) : List (View.Piece (Elt F) S2x1024x256 .bf16) :=
  [⟨Rect.unit (s := S2x1024x256) ![1, 0, 0] S1x1024x256.size inb_S2x1024x256_S1x1024x256_1_0_0, k0_pay6 H w⟩,
   ⟨Rect.unit (s := S2x1024x256) ![0, 0, 0] S1x1024x256.size inb_S2x1024x256_S1x1024x256_0_0_0, k0_pay5 H w⟩]

/-- The value block with its halves transposed. -/
def vt (H : Vec F S512x2048 .bf16) (w : Vec F S2048x1024 .bf16) : Vec F S2x1024x256 .bf16 :=
  View.canon (halves H w)

theorem halves_cover (H : Vec F S512x2048 .bf16) (w : Vec F S2048x1024 .bf16) (y : S2x1024x256.Idx) : ∃ p ∈ halves H w, y ∈ p.1.set :=
  View.cover_of_tiledL (halves H w) S1x1024x256.size (by sl_kernel_rfl) y

set_option maxHeartbeats 1280000 in
/-- The body at a row block's point 0. -/
theorem run0 (c : Dev nD) (i : grid0.Coords) (hj : (i 1).val = 0) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (x : Vec F S512x2048 .f32) (sh : Vec F S1x2048 .f32) (sc : Vec F S1x2048 .f32) (nm : Vec F S1x2048 .f32) (w : Vec F S2048x1024 .bf16) (E : Set ℕ) (K : PUnit → sProp (MT nD τ sig Unit (Elt F) ℕ (UR sig nD τ) ℕ)) :
    iprop(owns (c : Thread nD τ) arg2 fullShare x ∗ owns (c : Thread nD τ) arg3 fullShare sh ∗ owns (c : Thread nD τ) arg4 fullShare sc ∗ owns (c : Thread nD τ) arg5 fullShare nm ∗ owns (c : Thread nD τ) arg6 fullShare w ∗ (∃ d, owns (c : Thread nD τ) arg7 fullShare d) ∗ (∃ d, owns (c : Thread nD τ) arg14 fullShare d)
        ∗ (iprop(owns (c : Thread nD τ) arg2 fullShare x ∗ owns (c : Thread nD τ) arg3 fullShare sh ∗ owns (c : Thread nD τ) arg4 fullShare sc ∗ owns (c : Thread nD τ) arg5 fullShare nm ∗ owns (c : Thread nD τ) arg6 fullShare w ∗ owns (c : Thread nD τ) arg7 fullShare (k0_pay3 (k0_pay1 x nm sc sh) w) ∗ owns (c : Thread nD τ) arg14 fullShare (k0_pay1 x nm sc sh)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : cond i 0#32 := (cond_iff i 0).2 hj
  have hc1 : k0_cond2 i = 1#1 := (cond_iff i 0).2 hj
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6
  have e2 : arg2.view.readAt (Elt F) (Rect.unit (s := S512x2048) ![0, 0] S512x2048.size inb_S512x2048_S512x2048_0_0).toLoadRect (harg2.unread x) = x := (View.readAt_full arg2.view _ _).trans (harg2.read_unread _)
  have e3 : arg3.view.readAt (Elt F) (Rect.unit (s := S1x2048) ![0, 0] S1x2048.size inb_S1x2048_S1x2048_0_0).toLoadRect (harg3.unread sh) = sh := (View.readAt_full arg3.view _ _).trans (harg3.read_unread _)
  have e4 : arg4.view.readAt (Elt F) (Rect.unit (s := S1x2048) ![0, 0] S1x2048.size inb_S1x2048_S1x2048_0_0).toLoadRect (harg4.unread sc) = sc := (View.readAt_full arg4.view _ _).trans (harg4.read_unread _)
  have e5 : arg5.view.readAt (Elt F) (Rect.unit (s := S1x2048) ![0, 0] S1x2048.size inb_S1x2048_S1x2048_0_0).toLoadRect (harg5.unread nm) = nm := (View.readAt_full arg5.view _ _).trans (harg5.read_unread _)
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  sl_exec (disch := first | sl_exact hc0 | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; refine (stored _ _ _ _).trans ?_; unfold run0.sl.v3; exact congrArg (fun H => k0_pay3 H w) (View.readCov_full _ _ _ _ _)
  iexists _; isplitr; swap; · iexact H14
  ipureintro; refine (stored _ _ _ _).trans ?_; rfl

set_option maxHeartbeats 1280000 in
/-- The body at a row block's point 1. -/
theorem run1 (c : Dev nD) (i : grid0.Coords) (hj : (i 1).val = 1) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (w : Vec F S2048x1024 .bf16) (H : Vec F S512x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg8 fullShare d) ∗ (∃ d, owns (c : Thread nD τ) arg9 fullShare d)
        ∗ (iprop(owns (c : Thread nD τ) arg6 fullShare w ∗ owns (c : Thread nD τ) arg14 fullShare H ∗ owns (c : Thread nD τ) arg8 fullShare (k0_pay2 H w) ∗ owns (c : Thread nD τ) arg9 fullShare (k0_pay4 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : k0_cond3 i = 1#1 := (cond_iff i 1).2 hj
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d8, %f8, -, H8⟩, ⟨%d9, %f9, -, H9⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S512x2048) ![0, 0] S512x2048.size inb_S512x2048_S512x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H8]
  · iexists _; isplitr; swap; · iexact H8
    ipureintro; refine (stored _ _ _ _).trans ?_; rfl
  iexists _; isplitr; swap; · iexact H9
  ipureintro; refine (stored _ _ _ _).trans ?_; rfl

set_option maxHeartbeats 1280000 in
/-- The body at a row block's point 2. -/
theorem run2 (c : Dev nD) (i : grid0.Coords) (hj : (i 1).val = 2) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (w : Vec F S2048x1024 .bf16) (H : Vec F S512x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg10 fullShare d) ∗ (∃ d, owns (c : Thread nD τ) arg11 fullShare d)
        ∗ (iprop(owns (c : Thread nD τ) arg6 fullShare w ∗ owns (c : Thread nD τ) arg14 fullShare H ∗ owns (c : Thread nD τ) arg10 fullShare (k0_pay2 H w) ∗ owns (c : Thread nD τ) arg11 fullShare (vt H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : k0_cond4 i = 1#1 := (cond_iff i 2).2 hj
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d10, %f10, -, H10⟩, ⟨%d11, %f11, -, H11⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S512x2048) ![0, 0] S512x2048.size inb_S512x2048_S512x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H10]
  · iexists _; isplitr; swap; · iexact H10
    ipureintro; refine (stored _ _ _ _).trans ?_; rfl
  iexists _; isplitr; swap; · iexact H11
  ipureintro; exact View.read_writes_eq_canon _ _ _ (halves_cover H w)

set_option maxHeartbeats 1280000 in
/-- The body at a row block's point 3. -/
theorem run3 (c : Dev nD) (i : grid0.Coords) (hj : (i 1).val = 3) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (w : Vec F S2048x1024 .bf16) (H : Vec F S512x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg12 fullShare d)
        ∗ (iprop(owns (c : Thread nD τ) arg6 fullShare w ∗ owns (c : Thread nD τ) arg14 fullShare H ∗ owns (c : Thread nD τ) arg12 fullShare (k0_pay2 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : k0_cond5 i = 1#1 := (cond_iff i 3).2 hj
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d12, %f12, -, H12⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S512x2048) ![0, 0] S512x2048.size inb_S512x2048_S512x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  iexists _; isplitr; swap; · iexact H12
  ipureintro; refine (stored _ _ _ _).trans ?_; rfl

set_option maxHeartbeats 1280000 in
/-- The body at a row block's point 4. -/
theorem run4 (c : Dev nD) (i : grid0.Coords) (hj : (i 1).val = 4) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (w : Vec F S2048x1024 .bf16) (H : Vec F S512x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg15 fullShare d)
        ∗ (iprop(owns (c : Thread nD τ) arg6 fullShare w ∗ owns (c : Thread nD τ) arg14 fullShare H ∗ owns (c : Thread nD τ) arg15 fullShare (k0_pay7 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : cond i 4#32 := (cond_iff i 4).2 hj
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d15, %f15, -, H15⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S512x2048) ![0, 0] S512x2048.size inb_S512x2048_S512x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  iexists _; isplitr; swap; · iexact H15
  ipureintro; refine (stored _ _ _ _).trans ?_; rfl

set_option maxHeartbeats 1280000 in
/-- The body at a row block's point 5. -/
theorem run5 (c : Dev nD) (i : grid0.Coords) (hj : (i 1).val = 5) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S2x1024x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x2048 .bf16) (harg14 : arg14.IsWhole) (arg15 : Memref sig .tc .vmem S512x1024 .f32) (harg15 : arg15.IsWhole)
    (w : Vec F S2048x1024 .bf16) (H : Vec F S512x2048 .bf16) (G : Vec F S512x1024 .f32) (E : Set ℕ) (K : PUnit → sProp (MT nD τ sig Unit (Elt F) ℕ (UR sig nD τ) ℕ)) :
    iprop(owns (c : Thread nD τ) arg6 fullShare w ∗ owns (c : Thread nD τ) arg14 fullShare H ∗ owns (c : Thread nD τ) arg15 fullShare G ∗ (∃ d, owns (c : Thread nD τ) arg13 fullShare d)
        ∗ (iprop(owns (c : Thread nD τ) arg6 fullShare w ∗ owns (c : Thread nD τ) arg14 fullShare H ∗ owns (c : Thread nD τ) arg15 fullShare G ∗ owns (c : Thread nD τ) arg13 fullShare (k0_pay8 H w G)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : k0_cond7 i = 1#1 := (cond_iff i 5).2 hj
  rw [cc0__proj_kernel_eq_skeleton]; unfold cc0__proj_kernel_skel
  unfold owns
  iintro ⟨⟨%f6, %hf6, H6⟩, ⟨%f14, %hf14, H14⟩, ⟨%f15, %hf15, H15⟩, ⟨%d13, %f13, -, H13⟩, Hk⟩
  obtain rfl := harg6.eq_unread hf6; obtain rfl := harg14.eq_unread hf14; obtain rfl := harg15.eq_unread hf15
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S512x2048) ![0, 0] S512x2048.size inb_S512x2048_S512x2048_0_0).toLoadRect (harg14.unread H) = H := (View.readAt_full arg14.view _ _).trans (harg14.read_unread _)
  have e15 : arg15.view.readAt (Elt F) (Rect.unit (s := S512x1024) ![0, 0] S512x1024.size inb_S512x1024_S512x1024_0_0).toLoadRect (harg15.unread G) = G := (View.readAt_full arg15.view _ _).trans (harg15.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H15]
  · iexists _; isplitr; · ipureintro; exact harg15.read_unread _
    iexact H15
  iexists _; isplitr; swap; · iexact H13
  ipureintro; refine (stored _ _ _ _).trans ?_; rfl

end Cert.ProjectionIdeal.Hand

end
-- ==== Proof.ProjRun.lean ====
/- The projection's run: what every point leaves, the body at each, and the launch. -/
module

public import proofs.«01_k».proof.Proof.ProjBody

@[expose] public section

set_option maxRecDepth 16384

noncomputable section

namespace Cert.ProjectionIdeal.Hand

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

section
variable {c : Dev nD} (dat : Dat τ (Elt F) Unit ℕ (UR sig nD τ) ℕ cfg0 c) (w : Fin cfg0.W) (s : ℕ)

/-- What is known of an output window: stored at the points `s` of the row blocks, written back at their last points. -/
structure Out : Prop where
  fetch : ∀ t, (cfg0.win w).fetch t = false
  flush : ∀ t, (cfg0.win w).flush t = true ↔ t.val % 6 = 5
  idle : ∀ t, cfg0.idle w (cfg0.grid.coords t) = true ↔ ¬t.val % 6 = s
  kept : ∀ t d, dat.kept w t d = dat.after w t
  same : ∀ t t' : Fin cfg0.N, t.val / 6 = t'.val / 6 → dat.after w t = dat.after w t'

variable {dat w s} (h : Out dat w s)
include h

/-- Past its store the window's buffer keeps the block. -/
theorem Out.before : ∀ (n : ℕ) (t : Fin cfg0.N), t.val % 6 = n → s < n → ∀ d, dat.before w t d = dat.after w t := by
  intro n
  induction n with
  | zero => intro t _ hs; omega
  | succ n ih =>
    intro t ht hs d
    rw [dat.before_of_pos w t (by omega) (h.fetch t) d]
    rw [if_neg (fun e => by have := (h.flush _).1 e; simp only at this; omega)]
    have hsame := h.same ⟨t.val - 1, Nat.lt_of_le_of_lt (Nat.sub_le _ _) t.isLt⟩ t (by simp only; omega)
    unfold Dat.left
    by_cases hn : n = s
    · have : cfg0.idle w (cfg0.grid.coords ⟨t.val - 1, Nat.lt_of_le_of_lt (Nat.sub_le _ _) t.isLt⟩) = false := by
        rw [← Bool.not_eq_true, h.idle]; simp only; omega
      rw [this]
      exact (h.kept _ d).trans hsame
    · have : cfg0.idle w (cfg0.grid.coords ⟨t.val - 1, Nat.lt_of_le_of_lt (Nat.sub_le _ _) t.isLt⟩) = true := by
        rw [h.idle]; simp only; omega
      rw [this]
      exact (ih _ (by simp only; omega) (by omega) d).trans hsame

/-- A point that stores nothing into the window hands its buffer back. -/
theorem Out.pass (hs : s ≤ 5) (t : Fin cfg0.N) (ht : ¬t.val % 6 = s) :
    (∃ d, owns (c : Thread nD τ) ((cfg0.win w).stage (cfg0.slots t w)) fullShare (dat.before w t d) : sProp (MT nD τ sig Unit (Elt F) ℕ (UR sig nD τ) ℕ)) ⊢ dat.leavesExact w t := by
  have hi := (h.idle t).2 ht
  by_cases hf : t.val % 6 = 5
  · have hf' := (h.flush t).2 hf
    unfold Dat.leavesExact; rw [hi, hf']
    iintro ⟨%d, H⟩
    rw [h.before 5 t hf (by omega) d]
    iexact H
  · have hf' : (cfg0.win w).flush t = false := by rw [← Bool.not_eq_true, h.flush]; exact hf
    rw [dat.leavesExact_idle w t hi hf']

/-- The point that stores the window's block leaves it there. -/
theorem Out.put (t : Fin cfg0.N) (ht : t.val % 6 = s) :
    (owns (c : Thread nD τ) ((cfg0.win w).stage (cfg0.slots t w)) fullShare (dat.after w t) : sProp (MT nD τ sig Unit (Elt F) ℕ (UR sig nD τ) ℕ)) ⊢ dat.leavesExact w t := by
  have hi : cfg0.idle w (cfg0.grid.coords t) = false := by rw [← Bool.not_eq_true, h.idle]; omega
  unfold Dat.leavesExact; rw [hi]

end

/-! ## What the points leave -/

variable (m : (ℓ : Loc nD τ sig) → Buf (Elt F) ℓ) (ρ : Dev nD → PrngReg)

/-- Point `j` of row block `I`. -/
def pt (I j : ℕ) : Fin cfg0.N := ⟨(6 * I + j) % 192, lt_of_lt_of_eq (Nat.mod_lt _ (by decide)) N_0.symm⟩

theorem pt_eq (t : Fin cfg0.N) : pt (t.val / 6) (t.val % 6) = t := by
  have : t.val < 192 := lt_of_lt_of_eq t.isLt N_0
  exact Fin.ext (by show (6 * (t.val / 6) + t.val % 6) % 192 = t.val; omega)

theorem column (t : Fin cfg0.N) : (grid0.coords t 1).val = t.val % 6 := by
  have : ∀ t : Fin grid0.N, (grid0.coords t 1).val = t.val % 6 := by decide +kernel
  exact this t

/-- The weight's block `j` as row block `I` reads it. -/
def wv (c : Dev nD) (I j : ℕ) : Vec F S2048x1024 .bf16 := iblk m c 4 (pt I j)
/-- The normalised rows of block `I`. -/
def hv (c : Dev nD) (I : ℕ) : Vec F S512x2048 .bf16 :=
  k0_pay1 (iblk m c 0 (pt I 0)) (iblk m c 3 (pt I 0)) (iblk m c 2 (pt I 0)) (iblk m c 1 (pt I 0))
/-- The scratch block the last point multiplies by. -/
def gv (c : Dev nD) (I : ℕ) : Vec F S512x1024 .f32 := k0_pay7 (hv m c I) (wv m c I 4)

def o5 (c : Dev nD) (I : ℕ) : Vec F S512x1024 .bf16 := k0_pay3 (hv m c I) (wv m c I 0)
def o6 (c : Dev nD) (I : ℕ) : Vec F S512x1024 .f32 := k0_pay2 (hv m c I) (wv m c I 1)
def o7 (c : Dev nD) (I : ℕ) : Vec F S512x1024 .bf16 := k0_pay4 (hv m c I) (wv m c I 1)
def o8 (c : Dev nD) (I : ℕ) : Vec F S512x1024 .f32 := k0_pay2 (hv m c I) (wv m c I 2)
def o9 (c : Dev nD) (I : ℕ) : Vec F S2x1024x256 .bf16 := vt (hv m c I) (wv m c I 2)
def o10 (c : Dev nD) (I : ℕ) : Vec F S512x1024 .f32 := k0_pay2 (hv m c I) (wv m c I 3)
def o11 (c : Dev nD) (I : ℕ) : Vec F S512x1024 .f32 := k0_pay8 (hv m c I) (wv m c I 5) (gv m c I)

abbrev sc0 : Memref sig .tc .vmem S512x2048 .bf16 := Memref.whole cc0_scratch0
abbrev sc1 : Memref sig .tc .vmem S512x1024 .f32 := Memref.whole cc0_scratch1

/-- What the scratch holds before point `t`: past the first point of a row block its normalised rows, before the last
    point also the block it multiplies by. -/
def inv (c : Dev nD) (t : ℕ) : sProp (MT nD τ sig Unit (Elt F) ℕ (UR sig nD τ) ℕ) :=
  iprop(∃ (H : Vec F S512x2048 .bf16) (G : Vec F S512x1024 .f32), owns (c : Thread nD τ) sc0 fullShare H ∗ owns (c : Thread nD τ) sc1 fullShare G ∗ (∃ r, prngReg c r)
    ∗ ⌜¬t % 6 = 0 → H = hv m c (t / 6)⌝ ∗ ⌜t % 6 = 5 → G = gv m c (t / 6)⌝)

/-- The proof data. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => o5 m c (t.val / 6) | 6 => o6 m c (t.val / 6) | 7 => o7 m c (t.val / 6) | 8 => o8 m c (t.val / 6)
    | 9 => o9 m c (t.val / 6) | 10 => o10 m c (t.val / 6) | 11 => o11 m c (t.val / 6)
    | ⟨_ + 12, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

theorem after5 (c : Dev nD) (t : Fin cfg0.N) : (dats m 0 c).after 5 t = o5 m c (t.val / 6) := by dsimp only [dats]
theorem out5 (c : Dev nD) : Out (dats m 0 c) 5 0 where
  fetch _ := rfl
  flush := flush0_5
  idle t := by
    have : cond (grid0.coords t) (BitVec.ofNat 32 0) ↔ t.val % 6 = 0 := by rw [← column t]; exact cond_iff (grid0.coords t) 0
    rw [← this]
    show (!(k0_cond2 (grid0.coords t) == 1#1)) = true ↔ ¬k0_cond2 (grid0.coords t) = 1#1
    simp only [Bool.not_eq_true', beq_eq_false_iff_ne, ne_eq]
  kept _ _ := rfl
  same t t' e := by rw [after5, after5, e]

theorem after6 (c : Dev nD) (t : Fin cfg0.N) : (dats m 0 c).after 6 t = o6 m c (t.val / 6) := by dsimp only [dats]
theorem out6 (c : Dev nD) : Out (dats m 0 c) 6 1 where
  fetch _ := rfl
  flush := flush0_6
  idle t := by
    have : cond (grid0.coords t) (BitVec.ofNat 32 1) ↔ t.val % 6 = 1 := by rw [← column t]; exact cond_iff (grid0.coords t) 1
    rw [← this]
    show (!(k0_cond3 (grid0.coords t) == 1#1)) = true ↔ ¬k0_cond3 (grid0.coords t) = 1#1
    simp only [Bool.not_eq_true', beq_eq_false_iff_ne, ne_eq]
  kept _ _ := rfl
  same t t' e := by rw [after6, after6, e]

theorem after7 (c : Dev nD) (t : Fin cfg0.N) : (dats m 0 c).after 7 t = o7 m c (t.val / 6) := by dsimp only [dats]
theorem out7 (c : Dev nD) : Out (dats m 0 c) 7 1 where
  fetch _ := rfl
  flush := flush0_7
  idle t := by
    have : cond (grid0.coords t) (BitVec.ofNat 32 1) ↔ t.val % 6 = 1 := by rw [← column t]; exact cond_iff (grid0.coords t) 1
    rw [← this]
    show (!(k0_cond3 (grid0.coords t) == 1#1)) = true ↔ ¬k0_cond3 (grid0.coords t) = 1#1
    simp only [Bool.not_eq_true', beq_eq_false_iff_ne, ne_eq]
  kept _ _ := rfl
  same t t' e := by rw [after7, after7, e]

theorem after8 (c : Dev nD) (t : Fin cfg0.N) : (dats m 0 c).after 8 t = o8 m c (t.val / 6) := by dsimp only [dats]
theorem out8 (c : Dev nD) : Out (dats m 0 c) 8 2 where
  fetch _ := rfl
  flush := flush0_8
  idle t := by
    have : cond (grid0.coords t) (BitVec.ofNat 32 2) ↔ t.val % 6 = 2 := by rw [← column t]; exact cond_iff (grid0.coords t) 2
    rw [← this]
    show (!(k0_cond4 (grid0.coords t) == 1#1)) = true ↔ ¬k0_cond4 (grid0.coords t) = 1#1
    simp only [Bool.not_eq_true', beq_eq_false_iff_ne, ne_eq]
  kept _ _ := rfl
  same t t' e := by rw [after8, after8, e]

theorem after9 (c : Dev nD) (t : Fin cfg0.N) : (dats m 0 c).after 9 t = o9 m c (t.val / 6) := by dsimp only [dats]
theorem out9 (c : Dev nD) : Out (dats m 0 c) 9 2 where
  fetch _ := rfl
  flush := flush0_9
  idle t := by
    have : cond (grid0.coords t) (BitVec.ofNat 32 2) ↔ t.val % 6 = 2 := by rw [← column t]; exact cond_iff (grid0.coords t) 2
    rw [← this]
    show (!(k0_cond4 (grid0.coords t) == 1#1)) = true ↔ ¬k0_cond4 (grid0.coords t) = 1#1
    simp only [Bool.not_eq_true', beq_eq_false_iff_ne, ne_eq]
  kept _ _ := rfl
  same t t' e := by rw [after9, after9, e]

theorem after10 (c : Dev nD) (t : Fin cfg0.N) : (dats m 0 c).after 10 t = o10 m c (t.val / 6) := by dsimp only [dats]
theorem out10 (c : Dev nD) : Out (dats m 0 c) 10 3 where
  fetch _ := rfl
  flush := flush0_10
  idle t := by
    have : cond (grid0.coords t) (BitVec.ofNat 32 3) ↔ t.val % 6 = 3 := by rw [← column t]; exact cond_iff (grid0.coords t) 3
    rw [← this]
    show (!(k0_cond5 (grid0.coords t) == 1#1)) = true ↔ ¬k0_cond5 (grid0.coords t) = 1#1
    simp only [Bool.not_eq_true', beq_eq_false_iff_ne, ne_eq]
  kept _ _ := rfl
  same t t' e := by rw [after10, after10, e]

theorem after11 (c : Dev nD) (t : Fin cfg0.N) : (dats m 0 c).after 11 t = o11 m c (t.val / 6) := by dsimp only [dats]
theorem out11 (c : Dev nD) : Out (dats m 0 c) 11 5 where
  fetch _ := rfl
  flush := flush0_11
  idle t := by
    have : cond (grid0.coords t) (BitVec.ofNat 32 5) ↔ t.val % 6 = 5 := by rw [← column t]; exact cond_iff (grid0.coords t) 5
    rw [← this]
    show (!(k0_cond7 (grid0.coords t) == 1#1)) = true ↔ ¬k0_cond7 (grid0.coords t) = 1#1
    simp only [Bool.not_eq_true', beq_eq_false_iff_ne, ne_eq]
  kept _ _ := rfl
  same t t' e := by rw [after11, after11, e]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem body0 (c : Dev nD) (t : Fin cfg0.N) (ht : t.val % 6 = 0) :
    bodyPre m c t ⊢ wp frame (wpE (defs₀ (F := F)) Variants.none c none) Set.univ (bodyAt0 t) (fun _ => bodyPost m c t) := by
  have hp : pt (t.val / 6) 0 = t := by rw [← ht]; exact pt_eq t
  have ew : iblk m c 4 t = wv m c (t.val / 6) 0 := by unfold wv; rw [hp]
  have eh : k0_pay1 (iblk m c 0 t) (iblk m c 3 t) (iblk m c 2 t) (iblk m c 1 t) = hv m c (t.val / 6) := by unfold hv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  iapply (run0 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · icases H5 with ⟨%d5, H5⟩; iexists _; iexact H5
  isplitl [S0]; · iexists _; iexact S0
  iintro ⟨H0, H1, H2, H3, H4, H5, S0⟩
  rw [eh]
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).put t ht); rw [after5, ew]; iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body1 (c : Dev nD) (t : Fin cfg0.N) (ht : t.val % 6 = 1) :
    bodyPre m c t ⊢ wp frame (wpE (defs₀ (F := F)) Variants.none c none) Set.univ (bodyAt0 t) (fun _ => bodyPost m c t) := by
  have hp : pt (t.val / 6) 1 = t := by rw [← ht]; exact pt_eq t
  have ew : iblk m c 4 t = wv m c (t.val / 6) 1 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run1 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H6]; · icases H6 with ⟨%d6, H6⟩; iexists _; iexact H6
  isplitl [H7]; · icases H7 with ⟨%d7, H7⟩; iexists _; iexact H7
  iintro ⟨H4, S0, H6, H7⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).put t ht); rw [after6, ew]; iexact H6
  isplitl [H7]; · iapply ((out7 m c).put t ht); rw [after7, ew]; iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body2 (c : Dev nD) (t : Fin cfg0.N) (ht : t.val % 6 = 2) :
    bodyPre m c t ⊢ wp frame (wpE (defs₀ (F := F)) Variants.none c none) Set.univ (bodyAt0 t) (fun _ => bodyPost m c t) := by
  have hp : pt (t.val / 6) 2 = t := by rw [← ht]; exact pt_eq t
  have ew : iblk m c 4 t = wv m c (t.val / 6) 2 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run2 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H8]; · icases H8 with ⟨%d8, H8⟩; iexists _; iexact H8
  isplitl [H9]; · icases H9 with ⟨%d9, H9⟩; iexists _; iexact H9
  iintro ⟨H4, S0, H8, H9⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).put t ht); rw [after8, ew]; iexact H8
  isplitl [H9]; · iapply ((out9 m c).put t ht); rw [after9, ew]; iexact H9
  isplitl [H10]; · iapply ((out10 m c).pass (by decide) t (by omega)); iexact H10
  iapply ((out11 m c).pass (by decide) t (by omega)); iexact H11

theorem body3 (c : Dev nD) (t : Fin cfg0.N) (ht : t.val % 6 = 3) :
    bodyPre m c t ⊢ wp frame (wpE (defs₀ (F := F)) Variants.none c none) Set.univ (bodyAt0 t) (fun _ => bodyPost m c t) := by
  have hp : pt (t.val / 6) 3 = t := by rw [← ht]; exact pt_eq t
  have ew : iblk m c 4 t = wv m c (t.val / 6) 3 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run3 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H10]; · icases H10 with ⟨%d10, H10⟩; iexists _; iexact H10
  iintro ⟨H4, S0, H10⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).put t ht); rw [after10, ew]; iexact H10
  iapply ((out11 m c).pass (by decide) t (by omega)); iexact H11

theorem body4 (c : Dev nD) (t : Fin cfg0.N) (ht : t.val % 6 = 4) :
    bodyPre m c t ⊢ wp frame (wpE (defs₀ (F := F)) Variants.none c none) Set.univ (bodyAt0 t) (fun _ => bodyPost m c t) := by
  have hp : pt (t.val / 6) 4 = t := by rw [← ht]; exact pt_eq t
  have ew : iblk m c 4 t = wv m c (t.val / 6) 4 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run4 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [S1]; · iexists _; iexact S1
  iintro ⟨H4, S0, S1⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; rw [show (t.val + 1) / 6 = t.val / 6 by omega, ew]; rfl
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body5 (c : Dev nD) (t : Fin cfg0.N) (ht : t.val % 6 = 5) :
    bodyPre m c t ⊢ wp frame (wpE (defs₀ (F := F)) Variants.none c none) Set.univ (bodyAt0 t) (fun _ => bodyPost m c t) := by
  have hp : pt (t.val / 6) 5 = t := by rw [← ht]; exact pt_eq t
  have ew : iblk m c 4 t = wv m c (t.val / 6) 5 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  obtain rfl := hG ht
  iapply (run5 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) (gv m c (t.val / 6)) Set.univ _)
  isplitl [H4]; · iexact H4
  isplitl [S0]; · iexact S0
  isplitl [S1]; · iexact S1
  isplitl [H11]; · icases H11 with ⟨%d11, H11⟩; iexists _; iexact H11
  iintro ⟨H4, S0, S1, H11⟩
  isplitl [S0 S1 Hg]
  · iexists _, _
    isplitl [S0]; · iexact S0
    isplitl [S1]; · iexact S1
    isplitl [Hg]; · iexact Hg
    isplitr
    · ipureintro; intro h; exact absurd (show (t.val + 1) % 6 = 0 by omega) h
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).put t ht); rw [after11, ew]; iexact H11

theorem sound_body (c : Dev nD) (t : Fin cfg0.N) :
    bodyPre m c t ⊢ wp frame (wpE (defs₀ (F := F)) Variants.none c none) Set.univ (bodyAt0 t) (fun _ => bodyPost m c t) := by
  rcases (show t.val % 6 = 0 ∨ t.val % 6 = 1 ∨ t.val % 6 = 2 ∨ t.val % 6 = 3 ∨ t.val % 6 = 4 ∨ t.val % 6 = 5 by omega) with h | h | h | h | h | h
  · exact body0 m c t h
  · exact body1 m c t h
  · exact body2 m c t h
  · exact body3 m c t h
  · exact body4 m c t h
  · exact body5 m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ inv m c 0 := by
  unfold Pipeline.ΦA inv; rw [scopedRest0_eq]
  simp only [← owns_whole]
  iintro ⟨⟨⟨%H, S0⟩, ⟨%G, S1⟩⟩, Hg⟩
  iexists _, _
  isplitl [S0]; · iexact S0
  isplitl [S1]; · iexact S1
  isplitl [Hg]; · iexact Hg
  isplitr
  · ipureintro; intro h; exact absurd trivial h
  · ipureintro; intro h; exact absurd h (by decide)

theorem inv_out (c : Dev nD) (n : ℕ) : inv (F := F) m c n ⊢ Pipeline.ΦA spec0 c := by
  unfold Pipeline.ΦA inv; rw [scopedRest0_eq]
  simp only [← owns_whole]
  iintro ⟨%H, %G, S0, S1, Hg, -, -⟩
  isplitl [S0 S1]
  · isplitl [S0]
    · iexists _; iexact S0
    · iexists _; iexact S1
  iexact Hg

set_option backward.isDefEq.respectTransparency.types false in
/-- The launch: every array of the windows at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjectionIdeal.Hand

end
-- ==== Proof.ProjValue.lean ====
/- The projection at an element: a normalised row times a column of the weight, in the kernel's blocks and in the reference. -/
module

public import proofs.«01_k».proof.Proof.ProjBody
public import proofs.«01_k».proof.Proof.Gen.ProjectionReferenceIdeal.Read
public import Idealize.ShloMosaic.Lib.MatmulPlain
public import Idealize.ShloMosaic.Lib.KernelVsHost

@[expose] public section
set_option maxRecDepth 16384

noncomputable section

namespace Cert.ProjValue

open Idealize.ShloMosaic hiding ix1 ix2 ix3 eq_ix1 eq_ix2 eq_ix3
open Idealize.ShloMosaic.ValueIdx
open Cert.ProjectionIdeal Cert.ProjectionIdeal.Gen Cert.ProjectionIdeal.Hand

/-- A row over its root mean square, times the norm's weights, scaled and shifted. -/
def nrow (x nm sc sh : Fin 2048 → EReal) (k : Fin 2048) : EReal :=
  x k * Ideal.rsqrt (Ideal.div (∑ l, x l * x l) (Ideal.ofBits .f32 0x45000000#32) + Ideal.ofBits .f32 0x358637BD#32) * nm k
    * (Ideal.ofBits .f32 0x3F800000#32 + sc k) + sh k

/-- A row times a column. -/
def prod (h w : Fin 2048 → EReal) : EReal := ∑ k, h k * w k

/-! ## The kernel's blocks -/

/-- A row laid along every row. -/
theorem along (v : Vec Ideal S1x2048 .f32) (r : Fin 512) (k : Fin 2048) :
    broadcastTo S512x2048 v broadcasts_S1x2048_S512x2048 (ix2 r k) = v (ix2 (0 : Fin 1) k) :=
  broadcastTo_apply v broadcasts_S1x2048_S512x2048 (ix2 r k) (ix2 (0 : Fin 1) k) fun b => match b with
    | ⟨0, _⟩ => by show (0 : ℕ) = if (1 : ℕ) = 1 then 0 else _; rfl
    | ⟨1, _⟩ => by show k.val = if (2048 : ℕ) = 1 then 0 else k.val; rfl

/-- A column laid along every column. -/
theorem down (v : FVec Ideal S512x1 .f32) (r : Fin 512) (k : Fin 2048) :
    broadcastTo S512x2048 v broadcasts_S512x1_S512x2048 (ix2 r k) = v (ix2 r (0 : Fin 1)) :=
  broadcastTo_apply v broadcasts_S512x1_S512x2048 (ix2 r k) (ix2 r (0 : Fin 1)) fun b => match b with
    | ⟨0, _⟩ => by show r.val = if (512 : ℕ) = 1 then 0 else r.val; rfl
    | ⟨1, _⟩ => by show (0 : ℕ) = if (1 : ℕ) = 1 then 0 else _; rfl

/-- A row's sum. -/
theorem total (v : FVec Ideal S512x2048 .f32) (r : Fin 512) :
    shapeCast S512x1 (multiReduction .add [1] S512 v 0x00000000#32 reduces_S512x2048_S512 (.inl rfl) rfl) shapeCasts_S512_S512x1 (ix2 r (0 : Fin 1))
      = ∑ l : Fin 2048, (v (ix2 r l) : EReal) := by
  rw [shapeCast_apply _ shapeCasts_S512_S512x1 (ix2 r (0 : Fin 1)) (ix1 r) (by
    rw [Shape.rowMajor_val_one, Shape.rowMajor_val_two]; show r.val = r.val * 1 + 0; omega)]
  refine (Ideal.multiReduction_add_single v _ reduces_S512x2048_S512 _ _ (ix1 r)).trans (Finset.sum_congr rfl fun l _ => congrArg v ?_)
  funext a
  match a with
  | ⟨0, _⟩ => rfl
  | ⟨1, _⟩ => rfl

/-- The normalised block. -/
theorem pay1_apply (x : Vec Ideal S512x2048 .f32) (nm sc sh : Vec Ideal S1x2048 .f32) (r : Fin 512) (k : Fin 2048) :
    (k0_pay1 x nm sc sh (ix2 r k) : EReal) = nrow (fun l => x (ix2 r l)) (fun l => nm (ix2 (0 : Fin 1) l)) (fun l => sc (ix2 (0 : Fin 1) l)) (fun l => sh (ix2 (0 : Fin 1) l)) k := by
  unfold k0_pay1
  simp only [shapeCast_self]
  show (x (ix2 r k) * broadcastTo S512x2048 _ broadcasts_S512x1_S512x2048 (ix2 r k) * broadcastTo S512x2048 _ broadcasts_S1x2048_S512x2048 (ix2 r k)
    * broadcastTo S512x2048 _ broadcasts_S1x2048_S512x2048 (ix2 r k) + broadcastTo S512x2048 _ broadcasts_S1x2048_S512x2048 (ix2 r k) : EReal) = _
  rw [down, along, along, along]
  show (x (ix2 r k) * Ideal.rsqrt (Ideal.div (shapeCast S512x1 _ shapeCasts_S512_S512x1 (ix2 r (0 : Fin 1))) _ + _) * _ * _ + _ : EReal) = _
  rw [total]
  rfl

/-- The product block. -/
theorem pay2_apply (H : Vec Ideal S512x2048 .bf16) (w : Vec Ideal S2048x1024 .bf16) (r : Fin 512) (y : Fin 1024) :
    (k0_pay2 H w (ix2 r y) : EReal) = prod (fun k => H (ix2 r k)) (fun k => w (ix2 k y)) := by
  have h := Ideal.matmul_plain_apply (M := 512) (K := 2048) (N := 1024) (φ₁ := .bf16) (φ₂ := .bf16) none H (shapeCast S2048x1024 w shapeCasts_S2048x1024_S2048x1024)
    (constant S512x1024 .f32 0x00000000#32) r y
  refine Eq.trans h ?_
  have h0 : (constant (F := Ideal) S512x1024 .f32 0x00000000#32 (ix2 r y) : EReal) = 0 := Ideal.ofBits_zero_f32
  rw [h0, zero_add, shapeCast_self]
  rfl

theorem pay3_apply (H : Vec Ideal S512x2048 .bf16) (w : Vec Ideal S2048x1024 .bf16) (y : S512x1024.Idx) :
    (k0_pay3 H w y : EReal) = k0_pay2 H w y * (((1 / 8) * (Real.log 2)⁻¹ : ℝ) : EReal) := rfl

theorem pay4_apply (H : Vec Ideal S512x2048 .bf16) (w : Vec Ideal S2048x1024 .bf16) (y : S512x1024.Idx) :
    (k0_pay4 H w y : EReal) = k0_pay2 H w y := rfl

theorem pay7_apply (H : Vec Ideal S512x2048 .bf16) (w : Vec Ideal S2048x1024 .bf16) : k0_pay7 H w = k0_pay2 H w := by
  unfold k0_pay7; exact shapeCast_self _ _

theorem pay8_apply (H : Vec Ideal S512x2048 .bf16) (w : Vec Ideal S2048x1024 .bf16) (g : Vec Ideal S512x1024 .f32) (y : S512x1024.Idx) :
    (k0_pay8 H w g y : EReal) = g y * k0_pay2 H w y := rfl

/-- Rows from `e` on, transposed. -/
theorem turned (v : FVec Ideal S512x1024 .f32) (e : ℕ) (he : S512x1024.Slices ![e, 0] S256x1024) (a : Fin 1) (y : Fin 1024) (s : Fin 256)
    (r : Fin 512) (hr : r.val = e + s.val) :
    shapeCast S1x1024x256 (truncf .bf16 (transpose S1024x256 [1, 0] (extractStridedSlice S256x1024 ![e, 0] v he) transposes_S256x1024_p1_0_S1024x256) bitsLt_bf16_f32)
      shapeCasts_S1024x256_S1x1024x256 (ix3 a y s) = v (ix2 r y) := by
  rw [shapeCast_apply _ shapeCasts_S1024x256_S1x1024x256 (ix3 a y s) (ix2 y s) (by
    rw [Shape.rowMajor_val_three, Shape.rowMajor_val_two]; show y.val * 256 + s.val = (a.val * 1024 + y.val) * 256 + s.val; omega)]
  refine Eq.trans (b := transpose S1024x256 [1, 0] (extractStridedSlice S256x1024 ![e, 0] v he) transposes_S256x1024_p1_0_S1024x256 (ix2 y s)) rfl ?_
  rw [transpose_apply [1, 0] _ transposes_S256x1024_p1_0_S1024x256 (ix2 y s) (ix2 s y) (fun b => match b with
    | ⟨0, _⟩ => rfl
    | ⟨1, _⟩ => rfl)]
  exact extractStridedSlice_apply ![e, 0] v he (ix2 s y) (ix2 r y) fun b => match b with
    | ⟨0, _⟩ => hr
    | ⟨1, _⟩ => by show y.val = 0 + y.val; omega

/-- The value block with its halves transposed. -/
theorem vt_apply (H : Vec Ideal S512x2048 .bf16) (w : Vec Ideal S2048x1024 .bf16) (b : Fin 2) (y : Fin 1024) (s : Fin 256)
    (r : Fin 512) (hr : r.val = 256 * b.val + s.val) : (vt H w (ix3 b y s) : EReal) = k0_pay2 H w (ix2 r y) := by
  have hb : b.val = 0 ∨ b.val = 1 := by omega
  unfold vt
  rcases hb with hb | hb
  · rw [View.canon_cons_of_not_mem]
    · have e : (ix3 b y s : S2x1024x256.Idx) = (Rect.unit (s := S2x1024x256) ![0, 0, 0] S1x1024x256.size inb_S2x1024x256_S1x1024x256_0_0_0).emb (ix3 (0 : Fin 1) y s) := by
        funext a
        match a with
        | ⟨0, _⟩ => exact Fin.ext (by show b.val = 0 + 1 * 0; omega)
        | ⟨1, _⟩ => exact Fin.ext (by show y.val = 0 + 1 * y.val; omega)
        | ⟨2, _⟩ => exact Fin.ext (by show s.val = 0 + 1 * s.val; omega)
      rw [e, View.canon_cons_emb]
      exact turned _ 0 _ 0 y s r (by omega)
    · intro hm
      have : 1 ≤ b.val := ((Rect.mem_set_unit (inb := inb_S2x1024x256_S1x1024x256_1_0_0)).1 hm 0).1
      omega
  · have e : (ix3 b y s : S2x1024x256.Idx) = (Rect.unit (s := S2x1024x256) ![1, 0, 0] S1x1024x256.size inb_S2x1024x256_S1x1024x256_1_0_0).emb (ix3 (0 : Fin 1) y s) := by
      funext a
      match a with
      | ⟨0, _⟩ => exact Fin.ext (by show b.val = 1 + 1 * 0; omega)
      | ⟨1, _⟩ => exact Fin.ext (by show y.val = 0 + 1 * y.val; omega)
      | ⟨2, _⟩ => exact Fin.ext (by show s.val = 0 + 1 * s.val; omega)
    rw [e, View.canon_cons_emb]
    exact turned _ 256 _ 0 y s r (by omega)

/-! ## The reference -/

section
open Cert.ProjectionReferenceIdeal.Read

variable (X : S16384x2048.Idx → EReal) (sh sc : S1x2048.Idx → EReal) (nm : S2048.Idx → EReal) (W : S2048x6144.Idx → EReal)

/-- The product at row `R` and column `Y`. -/
def proj (R : Fin 16384) (Y : Fin 6144) : EReal :=
  prod (nrow (fun l => X (ix2 R l)) (fun l => nm (ix1 l)) (fun l => sc (ix2 (0 : Fin 1) l)) (fun l => sh (ix2 (0 : Fin 1) l))) (fun k => W (ix2 k Y))

theorem row_apply (R : Fin 16384) (k : Fin 2048) :
    val_main_v18 (F := Ideal) X sh sc nm (ix2 R k)
      = nrow (fun l => X (ix2 R l)) (fun l => nm (ix1 l)) (fun l => sc (ix2 (0 : Fin 1) l)) (fun l => sh (ix2 (0 : Fin 1) l)) k := by
  rw [val_main_v18_apply, val_main_v16_apply, val_main_v12_apply, val_main_v9_apply, val_main_v8_apply, val_main_v7_apply, val_main_v6_apply,
    val_main_v4_apply, val_main_v3_apply, val_main_cst_0_apply, val_main_v5_apply, val_main_cst_1_apply, val_main_v2_apply, val_main_v1_apply,
    val_main_cst_apply, val_main_v11_apply, val_main_v10_apply, val_main_v15_apply, val_main_v14_apply, val_main_v13_apply, val_main_cst_2_apply,
    val_main_v17_apply]
  have hX : ∀ l : Fin 2048, val_main_v0 (F := Ideal) X (idx_main_v1 (idx_main_v2 (idx_main_v8 (ix2 R k))) l) = X (ix2 R l) * X (ix2 R l) := fun l => by
    rw [val_main_v0_apply]
    have : idx_main_v1 (idx_main_v2 (idx_main_v8 (ix2 R k))) l = ix2 R l := funext fun a => match a with | ⟨0, _⟩ => rfl | ⟨1, _⟩ => rfl
    rw [this]; rfl
  have h1 : idx_main_v10 (idx_main_v11 (ix2 R k)) = ix1 k := funext fun a => match a with | ⟨0, _⟩ => rfl
  have h2 : idx_main_v15 (ix2 R k) = ix2 (0 : Fin 1) k := funext fun a => match a with | ⟨0, _⟩ => rfl | ⟨1, _⟩ => rfl
  have h3 : idx_main_v17 (ix2 R k) = ix2 (0 : Fin 1) k := funext fun a => match a with | ⟨0, _⟩ => rfl | ⟨1, _⟩ => rfl
  have h0 : FloatOps.ofBits (F := Ideal) .f32 0x00000000#32 = (0 : EReal) := Ideal.ofBits_zero_f32
  simp only [hX, h1, h2, h3, h0, zero_add]
  rfl

theorem proj_apply (i : (⟨2, ![16384, 6144]⟩ : Shape).Idx) (R : Fin 16384) (Y : Fin 6144) (h0 : (i 0).val = R.val) (h1 : (i 1).val = Y.val) :
    val_main_v19 (F := Ideal) X sh sc nm W i = proj X sh sc nm W R Y := by
  rw [val_main_v19_apply]
  unfold proj prod
  refine Finset.sum_congr rfl fun k _ => ?_
  have e0 : lidx_main_v19 i k = ix2 R k := funext fun a => match a with | ⟨0, _⟩ => Fin.ext h0 | ⟨1, _⟩ => rfl
  have e1 : ridx_main_v19 i k = ix2 k Y := funext fun a => match a with | ⟨0, _⟩ => rfl | ⟨1, _⟩ => Fin.ext h1
  rw [e0, e1, row_apply]

/-- Dividing by log 2 after an eighth is one factor. -/
theorem eighth (x : EReal) : Ideal.div (x * Ideal.ofBits .f32 0x3E000000#32) (Ideal.log (Ideal.ofBits .f32 0x40000000#32))
    = x * (((1 / 8) * (Real.log 2)⁻¹ : ℝ) : EReal) := by
  have e8 : Ideal.ofBits .f32 0x3E000000#32 = (((1 : ℝ) / 8 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  rw [e8, e2, Ideal.log_coe, if_neg (by norm_num), Ideal.div_coe (Real.log_pos (by norm_num)).ne', mul_assoc, ← EReal.coe_mul, one_div (Real.log 2)]

end

end Cert.ProjValue

end
-- ==== Proof.ProjHost.lean ====
/- The projection's arrays: every window's blocks are the arguments' own rows and columns, and every result is the reference's. -/
module

public import proofs.«01_k».proof.Proof.ProjValue
public import proofs.«01_k».proof.Proof.ProjRun
public import Idealize.ShloMosaic.Lib.Pipeline.ValueKit
public import Idealize.ShloMosaic.Lib.Tactic
public import Idealize.ShloMosaic.Lib.StableHlo.ReadAt

@[expose] public section
set_option maxRecDepth 16384

noncomputable section

namespace Cert.ProjHost

open Idealize.ShloMosaic hiding ix1 ix2 ix3 eq_ix1 eq_ix2 eq_ix3
open Idealize.ShloMosaic.ValueIdx Idealize.ShloMosaic.TcCoe Idealize.ShloMosaic.StableHlo
open Cert.ProjectionIdeal hiding sig
open Cert.ProjectionIdeal.Gen Cert.ProjectionIdeal.Hand Cert.ProjValue
open Cert.ProjectionReferenceIdeal.Read

variable (m : (ℓ : Loc nD τ ProjectionIdeal.sig) → Buf (Elt Ideal) ℓ) (c : Dev nD)

/-- The arguments. -/
abbrev xs : S16384x2048.Idx → EReal := m ((c : Thread nD τ).loc main_arg0)
abbrev shs : S1x2048.Idx → EReal := m ((c : Thread nD τ).loc main_arg1)
abbrev scs : S1x2048.Idx → EReal := m ((c : Thread nD τ).loc main_arg2)
abbrev nms : S2048.Idx → EReal := m ((c : Thread nD τ).loc main_arg3)
abbrev ws : S2048x6144.Idx → EReal := m ((c : Thread nD τ).loc main_arg4)

theorem places (t : Fin cfg0.N) : win0_0.index t = ![t.val / 6, 0] ∧ win0_1.index t = ![0, 0] ∧ win0_2.index t = ![0, 0]
    ∧ win0_3.index t = ![0, 0] ∧ win0_4.index t = ![0, t.val % 6] ∧ win0_5.index t = ![t.val / 6, 0] ∧ win0_6.index t = ![t.val / 6, 0]
    ∧ win0_7.index t = ![t.val / 6, 0] ∧ win0_8.index t = ![t.val / 6, 0] ∧ win0_9.index t = ![t.val / 6, 0, 0]
    ∧ win0_10.index t = ![t.val / 6, 0] ∧ win0_11.index t = ![t.val / 6, 0] := by
  revert t; decide +kernel

theorem norm_host (k : Fin 2048) : (V m c main_v0 : S1x2048.Idx → EReal) (ix2 (0 : Fin 1) k) = nms m c (ix1 k) := by
  unfold V
  after_reads_at
  refine congrArg (nms m c) (funext fun a => ?_)
  match a with
  | ⟨0, _⟩ => exact Fin.ext (by simp)

theorem weight_host (x : S2048x6144.Idx) : (V m c main_v1 : S2048x6144.Idx → EReal) x = ws m c x := by
  unfold V
  after_reads_at

theorem pt_val (I j : ℕ) (hI : I < 32) (hj : j < 6) : (pt I j).val = 6 * I + j := by
  show (6 * I + j) % 192 = _
  omega

section
variable (I : ℕ) (hI : I < 32)
include hI

theorem rows_at (y : S512x2048.Idx) (i : S16384x2048.Idx) (h0 : (i 0).val = 512 * I + (y 0).val) (h1 : (i 1).val = (y 1).val) :
    (iblk m c 0 (pt I 0) y : EReal) = xs m c i := by
  have hp := pt_val I 0 hI (by omega)
  have e0 : (((cfg0.win 0).blk (pt I 0)).view.emb y 0).val = (i 0).val := by rw [h0]; blk_simp [places (pt I 0), hp]; omega
  have e1 : (((cfg0.win 0).blk (pt I 0)).view.emb y 1).val = (i 1).val := by rw [h1]; blk_simp [places (pt I 0), hp]
  refine (congrFun (V_main_arg0 m c) _).trans (congrArg (xs m c) (funext fun a => Fin.ext ?_))
  match a with
  | ⟨0, _⟩ => exact e0
  | ⟨1, _⟩ => exact e1

theorem rows (r : Fin 512) (k : Fin 2048) (R : Fin 16384) (hR : R.val = 512 * I + r.val) :
    (iblk m c 0 (pt I 0) (ix2 r k) : EReal) = xs m c (ix2 R k) := rows_at m c I hI (ix2 r k) (ix2 R k) hR rfl

theorem shift_row (k : Fin 2048) : (iblk m c 1 (pt I 0) (ix2 (0 : Fin 1) k) : EReal) = shs m c (ix2 (0 : Fin 1) k) := by
  refine (congrFun (V_main_arg1 m c) _).trans (congrArg (shs m c) (funext fun a => Fin.ext ?_))
  match a with
  | ⟨0, _⟩ => blk_simp [places (pt I 0)]
  | ⟨1, _⟩ => blk_simp [places (pt I 0)]

theorem scale_row (k : Fin 2048) : (iblk m c 2 (pt I 0) (ix2 (0 : Fin 1) k) : EReal) = scs m c (ix2 (0 : Fin 1) k) := by
  refine (congrFun (V_main_arg2 m c) _).trans (congrArg (scs m c) (funext fun a => Fin.ext ?_))
  match a with
  | ⟨0, _⟩ => blk_simp [places (pt I 0)]
  | ⟨1, _⟩ => blk_simp [places (pt I 0)]

theorem norm_row (k : Fin 2048) : (iblk m c 3 (pt I 0) (ix2 (0 : Fin 1) k) : EReal) = nms m c (ix1 k) := by
  refine Eq.trans (congrArg (V m c main_v0 : S1x2048.Idx → EReal) (funext fun a => Fin.ext ?_)) (norm_host m c k)
  match a with
  | ⟨0, _⟩ => blk_simp [places (pt I 0)]
  | ⟨1, _⟩ => blk_simp [places (pt I 0)]

theorem cols_at (j : ℕ) (hj : j < 6) (y : S2048x1024.Idx) (i : S2048x6144.Idx) (h0 : (i 0).val = (y 0).val)
    (h1 : (i 1).val = 1024 * j + (y 1).val) : (wv m c I j y : EReal) = ws m c i := by
  have hp := pt_val I j hI hj
  have e0 : (((cfg0.win 4).blk (pt I j)).view.emb y 0).val = (i 0).val := by rw [h0]; blk_simp [places (pt I j), hp]
  have e1 : (((cfg0.win 4).blk (pt I j)).view.emb y 1).val = (i 1).val := by rw [h1]; blk_simp [places (pt I j), hp]; omega
  refine (weight_host m c _).trans (congrArg (ws m c) (funext fun a => Fin.ext ?_))
  match a with
  | ⟨0, _⟩ => exact e0
  | ⟨1, _⟩ => exact e1

theorem cols (j : ℕ) (hj : j < 6) (k : Fin 2048) (y : Fin 1024) (Y : Fin 6144) (hY : Y.val = 1024 * j + y.val) :
    (wv m c I j (ix2 k y) : EReal) = ws m c (ix2 k Y) := cols_at m c I hI j hj (ix2 k y) (ix2 k Y) rfl hY

/-- A product block's element. -/
theorem block (j : ℕ) (hj : j < 6) (r : Fin 512) (y : Fin 1024) (R : Fin 16384) (hR : R.val = 512 * I + r.val) (Y : Fin 6144)
    (hY : Y.val = 1024 * j + y.val) :
    (k0_pay2 (hv m c I) (wv m c I j) (ix2 r y) : EReal) = proj (xs m c) (shs m c) (scs m c) (nms m c) (ws m c) R Y := by
  rw [pay2_apply]
  unfold proj hv
  have e0 : (fun k => (wv m c I j (ix2 k y) : EReal)) = fun k => ws m c (ix2 k Y) := funext fun k => cols m c I hI j hj k y Y hY
  have e1 : (fun k => (k0_pay1 (iblk m c 0 (pt I 0)) (iblk m c 3 (pt I 0)) (iblk m c 2 (pt I 0)) (iblk m c 1 (pt I 0)) (ix2 r k) : EReal))
      = nrow (fun l => xs m c (ix2 R l)) (fun l => nms m c (ix1 l)) (fun l => scs m c (ix2 (0 : Fin 1) l)) (fun l => shs m c (ix2 (0 : Fin 1) l)) := by
    funext k
    rw [pay1_apply]
    have a0 : (fun l => (iblk m c 0 (pt I 0) (ix2 r l) : EReal)) = fun l => xs m c (ix2 R l) := funext fun l => rows m c I hI r l R hR
    have a1 : (fun l => (iblk m c 1 (pt I 0) (ix2 (0 : Fin 1) l) : EReal)) = fun l => shs m c (ix2 (0 : Fin 1) l) := funext fun l => shift_row m c I hI l
    have a2 : (fun l => (iblk m c 2 (pt I 0) (ix2 (0 : Fin 1) l) : EReal)) = fun l => scs m c (ix2 (0 : Fin 1) l) := funext fun l => scale_row m c I hI l
    have a3 : (fun l => (iblk m c 3 (pt I 0) (ix2 (0 : Fin 1) l) : EReal)) = fun l => nms m c (ix1 l) := funext fun l => norm_row m c I hI l
    exact congrFun (congr (congr (congr (congrArg nrow a0) a3) a2) a1) k
  exact congr (congrArg prod e1) e0

end

/-- A product block's element, as the reference's product at the array index the block places it at. -/
theorem block_at (t : Fin cfg0.N) (j : ℕ) (hj : j < 6) (r : Fin 512) (y : Fin 1024) (i : (⟨2, ![16384, 6144]⟩ : Shape).Idx)
    (h0 : (i 0).val = 512 * (t.val / 6) + r.val) (h1 : (i 1).val = 1024 * j + y.val) :
    (k0_pay2 (hv m c (t.val / 6)) (wv m c (t.val / 6) j) (ix2 r y) : EReal) = val_main_v19 (F := Ideal) (xs m c) (shs m c) (scs m c) (nms m c) (ws m c) i := by
  have ht : t.val < 192 := lt_of_lt_of_eq t.isLt N_0
  rw [proj_apply _ _ _ _ _ i (i 0) (i 1) rfl rfl]
  exact block m c (t.val / 6) (by omega) j hj r y (i 0) h0 (i 1) h1

theorem arr6 : (dats m 0 c).arrAt 6 cfg0.N = val_main_v21 (F := Ideal) (xs m c) (shs m c) (scs m c) (nms m c) (ws m c) := by
  refine (dats m 0 c).arrAt_eq_of_covers 6 _ (by decide +kernel) fun t _ y => ?_
  have e : y = ix2 (y 0) (y 1) := by funext a; fin_cases a <;> rfl
  have h0 : (((cfg0.win 6).blk t).view.emb y 0).val = 512 * (t.val / 6) + (y 0).val := by blk_simp [places t]; omega
  have h1 : (((cfg0.win 6).blk t).view.emb y 1).val = (y 1).val := by blk_simp [places t]
  refine Eq.trans (congrFun (after6 m c t) y) ((congrArg (o6 m c (t.val / 6)) e).trans ?_)
  refine Eq.trans ?_ (val_main_v21_apply (F := Ideal) _ _ _ _ _ _).symm
  exact block_at m c t 1 (by omega) (y 0) (y 1) _ h0 (by show 1024 + _ = _; rw [h1])

theorem arr5 : (dats m 0 c).arrAt 5 cfg0.N = val_main_v33 (F := Ideal) (xs m c) (shs m c) (scs m c) (nms m c) (ws m c) := by
  refine (dats m 0 c).arrAt_eq_of_covers 5 _ (by decide +kernel) fun t _ y => ?_
  have e : y = ix2 (y 0) (y 1) := by funext a; fin_cases a <;> rfl
  have h0 : (((cfg0.win 5).blk t).view.emb y 0).val = 512 * (t.val / 6) + (y 0).val := by blk_simp [places t]; omega
  have h1 : (((cfg0.win 5).blk t).view.emb y 1).val = (y 1).val := by blk_simp [places t]
  refine Eq.trans (congrFun (after5 m c t) y) ((congrArg (o5 m c (t.val / 6)) e).trans ?_)
  refine Eq.trans ?_ (val_main_v33_apply (F := Ideal) _ _ _ _ _ _).symm
  rw [val_main_v32_apply, val_main_v31_apply, val_main_v30_apply, val_main_cst_4_apply, val_main_v29_apply, val_main_v28_apply, val_main_cst_3_apply,
    val_main_v20_apply]
  refine Eq.trans (Eq.trans (pay3_apply _ _ _) (congrArg (· * (((1 / 8) * (Real.log 2)⁻¹ : ℝ) : EReal)) ?_)) (eighth _).symm
  exact block_at m c t 0 (by omega) (y 0) (y 1) _ h0 (by show _ = _; rw [h1]; omega)

theorem arr7 : (dats m 0 c).arrAt 7 cfg0.N = val_main_v34 (F := Ideal) (xs m c) (shs m c) (scs m c) (nms m c) (ws m c) := by
  refine (dats m 0 c).arrAt_eq_of_covers 7 _ (by decide +kernel) fun t _ y => ?_
  have e : y = ix2 (y 0) (y 1) := by funext a; fin_cases a <;> rfl
  have h0 : (((cfg0.win 7).blk t).view.emb y 0).val = 512 * (t.val / 6) + (y 0).val := by blk_simp [places t]; omega
  have h1 : (((cfg0.win 7).blk t).view.emb y 1).val = (y 1).val := by blk_simp [places t]
  refine Eq.trans (congrFun (after7 m c t) y) ((congrArg (o7 m c (t.val / 6)) e).trans ?_)
  refine Eq.trans ?_ (val_main_v34_apply (F := Ideal) _ _ _ _ _ _).symm
  rw [val_main_v21_apply]
  refine Eq.trans (pay4_apply _ _ _) ?_
  exact block_at m c t 1 (by omega) (y 0) (y 1) _ h0 (by show 1024 + _ = _; rw [h1])

theorem arr8 : (dats m 0 c).arrAt 8 cfg0.N = val_main_v22 (F := Ideal) (xs m c) (shs m c) (scs m c) (nms m c) (ws m c) := by
  refine (dats m 0 c).arrAt_eq_of_covers 8 _ (by decide +kernel) fun t _ y => ?_
  have e : y = ix2 (y 0) (y 1) := by funext a; fin_cases a <;> rfl
  have h0 : (((cfg0.win 8).blk t).view.emb y 0).val = 512 * (t.val / 6) + (y 0).val := by blk_simp [places t]; omega
  have h1 : (((cfg0.win 8).blk t).view.emb y 1).val = (y 1).val := by blk_simp [places t]
  refine Eq.trans (congrFun (after8 m c t) y) ((congrArg (o8 m c (t.val / 6)) e).trans ?_)
  refine Eq.trans ?_ (val_main_v22_apply (F := Ideal) _ _ _ _ _ _).symm
  exact block_at m c t 2 (by omega) (y 0) (y 1) _ h0 (by show 2048 + _ = _; rw [h1])

theorem arr10 : (dats m 0 c).arrAt 10 cfg0.N = val_main_v23 (F := Ideal) (xs m c) (shs m c) (scs m c) (nms m c) (ws m c) := by
  refine (dats m 0 c).arrAt_eq_of_covers 10 _ (by decide +kernel) fun t _ y => ?_
  have e : y = ix2 (y 0) (y 1) := by funext a; fin_cases a <;> rfl
  have h0 : (((cfg0.win 10).blk t).view.emb y 0).val = 512 * (t.val / 6) + (y 0).val := by blk_simp [places t]; omega
  have h1 : (((cfg0.win 10).blk t).view.emb y 1).val = (y 1).val := by blk_simp [places t]
  refine Eq.trans (congrFun (after10 m c t) y) ((congrArg (o10 m c (t.val / 6)) e).trans ?_)
  refine Eq.trans ?_ (val_main_v23_apply (F := Ideal) _ _ _ _ _ _).symm
  exact block_at m c t 3 (by omega) (y 0) (y 1) _ h0 (by show 3072 + _ = _; rw [h1])

theorem arr11 : (dats m 0 c).arrAt 11 cfg0.N = val_main_v36 (F := Ideal) (xs m c) (shs m c) (scs m c) (nms m c) (ws m c) := by
  refine (dats m 0 c).arrAt_eq_of_covers 11 _ (by decide +kernel) fun t _ y => ?_
  have e : y = ix2 (y 0) (y 1) := by funext a; fin_cases a <;> rfl
  have h0 : (((cfg0.win 11).blk t).view.emb y 0).val = 512 * (t.val / 6) + (y 0).val := by blk_simp [places t]; omega
  have h1 : (((cfg0.win 11).blk t).view.emb y 1).val = (y 1).val := by blk_simp [places t]
  refine Eq.trans (congrFun (after11 m c t) y) ((congrArg (o11 m c (t.val / 6)) e).trans ?_)
  refine Eq.trans ?_ (val_main_v36_apply (F := Ideal) _ _ _ _ _ _).symm
  rw [val_main_v24_apply, val_main_v25_apply]
  refine Eq.trans (pay8_apply _ _ _ _) (congr (congrArg (fun a b : EReal => a * b) ?_) ?_)
  · refine Eq.trans (congrFun (pay7_apply _ _) _) ?_
    exact block_at m c t 4 (by omega) (y 0) (y 1) _ h0 (by show 4096 + _ = _; rw [h1])
  · exact block_at m c t 5 (by omega) (y 0) (y 1) _ h0 (by show 5120 + _ = _; rw [h1])

theorem arr9 : (dats m 0 c).arrAt 9 cfg0.N = val_main_v35 (F := Ideal) (xs m c) (shs m c) (scs m c) (nms m c) (ws m c) := by
  refine (dats m 0 c).arrAt_eq_of_covers 9 _ (by decide +kernel) fun t _ y => ?_
  have e : y = ix3 (y 0) (y 1) (y 2) := by funext a; fin_cases a <;> rfl
  have h0 : (((cfg0.win 9).blk t).view.emb y 0).val = 2 * (t.val / 6) + (y 0).val := by blk_simp [places t]; omega
  have h1 : (((cfg0.win 9).blk t).view.emb y 1).val = (y 1).val := by blk_simp [places t]
  have h2 : (((cfg0.win 9).blk t).view.emb y 2).val = (y 2).val := by blk_simp [places t]
  have y0 : (y 0).val < 2 := (y 0).isLt
  have y1 : (y 1).val < 1024 := (y 1).isLt
  have y2 : (y 2).val < 256 := (y 2).isLt
  refine Eq.trans (congrFun (after9 m c t) y) ((congrArg (o9 m c (t.val / 6)) e).trans ?_)
  refine Eq.trans ?_ (val_main_v35_apply (F := Ideal) _ _ _ _ _ _).symm
  rw [val_main_v27_apply, val_main_v26_apply, val_main_v22_apply]
  refine (vt_apply _ _ (y 0) (y 1) (y 2) ⟨256 * (y 0).val + (y 2).val, by omega⟩ rfl).trans ?_
  refine block_at m c t 2 (by omega) _ (y 1) _ ?_ ?_
  · show ((((((cfg0.win 9).blk t).view.emb y 0).val * 256 + (((cfg0.win 9).blk t).view.emb y 2).val) * 1024 + (((cfg0.win 9).blk t).view.emb y 1).val) / 1024)
      = 512 * (t.val / 6) + (256 * (y 0).val + (y 2).val)
    rw [h0, h1, h2]; omega
  · show 2048 + ((((((cfg0.win 9).blk t).view.emb y 0).val * 256 + (((cfg0.win 9).blk t).view.emb y 2).val) * 1024 + (((cfg0.win 9).blk t).view.emb y 1).val) % 1024)
      = 1024 * 2 + (y 1).val
    rw [h0, h1, h2]; omega

end Cert.ProjHost

end
-- ==== Proof.Stick.lean ====
/- The stick-breaking weights of one query, over the reals and the extended reals: the softplus, the weights as
   exponentials of partial sums, and one key block's step of the kernel's accumulation. -/
module

public import Idealize.ShloMosaic.PureOps.Ideal.Laws

@[expose] public section

noncomputable section

namespace Cert.Stick

open Idealize.ShloMosaic

/-- The softplus `log (1 + e^x)`. -/
def sig (x : ℝ) : ℝ := Real.log (1 + Real.exp x)

theorem one_add_exp_pos (x : ℝ) : 0 < 1 + Real.exp x := by positivity

theorem sig_nonneg (x : ℝ) : 0 ≤ sig x := Real.log_nonneg (by have := Real.exp_pos x; linarith)

theorem le_sig (x : ℝ) : x ≤ sig x := by
  unfold sig
  rw [Real.le_log_iff_exp_le (one_add_exp_pos x)]
  linarith

/-- `softplus (-x) = softplus x - x`. -/
theorem sig_neg (x : ℝ) : sig (-x) = sig x - x := by
  unfold sig
  have h : 1 + Real.exp (-x) = (1 + Real.exp x) * Real.exp (-x) := by
    rw [add_mul, one_mul, ← Real.exp_add, add_neg_cancel, Real.exp_zero]; ring
  rw [h, Real.log_mul (one_add_exp_pos x).ne' (Real.exp_ne_zero _), Real.log_exp]; ring

/-- The stable form: `max x 0 + log (1 + e^(-|x|))`. -/
theorem sig_stable (x : ℝ) : max x 0 + Real.log (1 + Real.exp (-|x|)) = sig x := by
  rcases le_total 0 x with h | h
  · rw [max_eq_left h, abs_of_nonneg h]
    have := sig_neg x
    unfold sig at this ⊢
    rw [this]; ring
  · rw [max_eq_right h, abs_of_nonpos h, neg_neg, zero_add]; rfl

/-- The base-two logarithm of e. -/
def lg : ℝ := (Real.log 2)⁻¹

theorem log2_pos : 0 < Real.log 2 := Real.log_pos (by norm_num)

theorem lg_pos : 0 < lg := inv_pos.mpr log2_pos

theorem rpow_two_lg (x : ℝ) : Real.rpow 2 (x * lg) = Real.exp x := by
  show (2 : ℝ) ^ (x * lg) = _
  rw [Real.rpow_def_of_pos (by norm_num)]
  congr 1
  unfold lg
  field_simp [log2_pos.ne']

/-- A score of at most 29 is at most 43 in base two. -/
theorem score_le (x : ℝ) (h : x ≤ 29) : x * lg ≤ 43 := by
  have h2 : (29 / 43 : ℝ) ≤ Real.log 2 := by
    rw [Real.le_log_iff_exp_le (by norm_num)]
    refine (Real.exp_bound' (by norm_num) (by norm_num) (n := 6) (by norm_num)).trans ?_
    norm_num [Finset.sum_range_succ, Nat.factorial]
  have : lg ≤ 43 / 29 := by
    unfold lg
    rw [inv_le_comm₀ log2_pos (by norm_num)]
    norm_num at h2 ⊢; linarith
  nlinarith [lg_pos]

section
variable (ζ : ℕ → ℝ) (t : ℕ)

/-- The weight of key `s` for query `t`: `sigmoid ζ_s · ∏_{s<j<t} (1 - sigmoid ζ_j)`, as an exponential. -/
def wt (s : ℕ) : ℝ := Real.exp (ζ s - sig (ζ s) - ∑ j ∈ Finset.Ico (s + 1) t, sig (ζ j))

/-- The weighted values of the keys from `a` on, before query `t`. -/
def part (V : ℕ → EReal) (a : ℕ) : EReal := ∑ s ∈ Finset.Ico a t, V s * (wt ζ t s : EReal)

/-- The sum of the softplus of the keys from `a` on, before query `t`. -/
def tail (a : ℕ) : ℝ := ∑ j ∈ Finset.Ico a t, sig (ζ j)

theorem part_self (V : ℕ → EReal) {a : ℕ} (h : t ≤ a) : part ζ t V a = 0 := by
  unfold part; rw [Finset.Ico_eq_empty (by omega)]; simp

theorem tail_self {a : ℕ} (h : t ≤ a) : tail ζ t a = 0 := by
  unfold tail; rw [Finset.Ico_eq_empty (by omega)]; simp

/-- A sum of extended reals times a positive real is the sum of the products. -/
theorem sum_mul_pos {ι : Type} (S : Finset ι) (f : ι → EReal) (c : ℝ) (hc : 0 < c) :
    (∑ i ∈ S, f i) * (c : EReal) = ∑ i ∈ S, f i * (c : EReal) := by
  classical
  induction S using Finset.induction_on with
  | empty => simp
  | insert a s ha ih =>
    rw [Finset.sum_insert ha, Finset.sum_insert ha, ← ih,
      EReal.right_distrib_of_nonneg_of_ne_top (by exact_mod_cast hc.le) (EReal.coe_ne_top c)]

/-- One key block `[a, a + n)` wholly before the query: the block's values, each weighted within the block, times the
    exponential of minus the sum over the later keys, added to what the later keys gave, is what the keys from `a` give. -/
theorem part_block (V : ℕ → EReal) (a n : ℕ) (h : a + n ≤ t) :
    part ζ t V (a + n) + (∑ p ∈ Finset.range n, V (a + p)
        * (Real.exp (ζ (a + p) - sig (ζ (a + p)) - ∑ j ∈ Finset.Ico (a + p + 1) (a + n), sig (ζ j)) : EReal))
      * (Real.exp (-(tail ζ t (a + n))) : EReal) = part ζ t V a := by
  unfold part
  rw [sum_mul_pos _ _ _ (Real.exp_pos _), ← Finset.sum_Ico_consecutive _ (Nat.le_add_right a n) h, add_comm]
  congr 1
  rw [Finset.sum_Ico_eq_sum_range, Nat.add_sub_cancel_left]
  refine Finset.sum_congr rfl fun p hp => ?_
  rw [Finset.mem_range] at hp
  rw [mul_assoc, ← EReal.coe_mul, ← Real.exp_add]
  unfold wt tail
  have : ∑ j ∈ Finset.Ico (a + p + 1) t, sig (ζ j)
      = ∑ j ∈ Finset.Ico (a + p + 1) (a + n), sig (ζ j) + ∑ j ∈ Finset.Ico (a + n) t, sig (ζ j) := by
    rw [Finset.sum_Ico_consecutive _ (by omega) h]
  rw [this]; congr 3; ring

theorem tail_block (a n : ℕ) (h : a + n ≤ t) : tail ζ t (a + n) + ∑ p ∈ Finset.range n, sig (ζ (a + p)) = tail ζ t a := by
  unfold tail
  rw [← Finset.sum_Ico_consecutive _ (Nat.le_add_right a n) h, add_comm, Finset.sum_Ico_eq_sum_range _ a (a + n),
    Nat.add_sub_cancel_left]

end

end Cert.Stick

end
-- ==== Proof.Score.lean ====
/- The score of a query and a key, over the reals, read off the argument arrays; what the precondition says of it. -/
module

public import proofs.«01_k».proof.Pre_bounded_rows
public import proofs.«01_k».proof.Proof.Stick
public import Idealize.ShloMosaic.Lib.ValueIdx
public import Idealize.ShloMosaic.Lib.IdealHost
public import Idealize.ShloMosaic.Lib.Pointwise.Select
public import Idealize.ShloMosaic.Lib.Pipeline.Value
public import Idealize.ShloMosaic.PureOps.Ideal.Laws

@[expose] public section

noncomputable section

namespace Cert.Score

open Idealize.ShloMosaic Cert.Stick

abbrev Rows : Shape := ⟨2, ![16384, 1024]⟩
abbrev Heads : Shape := ⟨1, ![16]⟩

/-- The index of row `t`, column `c`. -/
def ix (t c : ℕ) (ht : t < 16384) (hc : c < 1024) : Rows.Idx := fun a => match a with
  | ⟨0, _⟩ => ⟨t, ht⟩
  | ⟨1, _⟩ => ⟨c, hc⟩

/-- The element at row `t`, column `c`, zero outside the array. -/
def el (x : Rows.Idx → EReal) (t c : ℕ) : EReal := if h : t < 16384 ∧ c < 1024 then x (ix t c h.1 h.2) else 0

/-- Head `h`'s bias, zero past the last head. -/
def hd (b : Heads.Idx → EReal) (h : ℕ) : EReal :=
  if h' : h < 16 then b (fun a => match a with | ⟨0, _⟩ => ⟨h, h'⟩) else 0

theorem el_of (x : Rows.Idx → EReal) (i : Rows.Idx) (t c : ℕ) (h0 : (i 0).val = t) (h1 : (i 1).val = c) : x i = el x t c := by
  subst h0 h1
  have i0 : (i 0).val < 16384 := (i 0).isLt
  have i1 : (i 1).val < 1024 := (i 1).isLt
  unfold el
  rw [dif_pos ⟨i0, i1⟩]
  refine congrArg x (funext fun a => ?_)
  match a with
  | ⟨0, _⟩ => rfl
  | ⟨1, _⟩ => rfl

theorem hd_of (b : Heads.Idx → EReal) (i : Heads.Idx) (h : ℕ) (h0 : (i 0).val = h) : b i = hd b h := by
  subst h0
  have i0 : (i 0).val < 16 := (i 0).isLt
  unfold hd
  rw [dif_pos i0]
  refine congrArg b (funext fun a => ?_)
  match a with
  | ⟨0, _⟩ => rfl

/-- The element as a real. -/
def rl (x : Rows.Idx → EReal) (t c : ℕ) : ℝ := (el x t c).toReal

/-- The score of query `t` and key `s` at head `h`: `q · k / 8 + bias`. -/
def score (q k : Rows.Idx → EReal) (b : Heads.Idx → EReal) (h t s : ℕ) : ℝ :=
  (∑ d : Fin 64, rl q t (64 * h + d.val) * (1 / 8) * rl k s (64 * h + d.val)) + (hd b h).toReal

/-- What the precondition gives: queries, keys and biases are reals, and every score is at most 29. -/
structure Fine (q k : Rows.Idx → EReal) (b : Heads.Idx → EReal) : Prop where
  hq : ∀ t c, el q t c = (rl q t c : EReal)
  hk : ∀ t c, el k t c = (rl k t c : EReal)
  hb : ∀ h, hd b h = ((hd b h).toReal : EReal)
  le : ∀ h t s, h < 16 → t < 16384 → s < 16384 → score q k b h t s ≤ 29

/-- A sum of squares at most a real has real terms. -/
theorem real_of_sq_sum {ι : Type} [Fintype ι] (f : ι → EReal) (c : ℝ) (h : ∑ i, f i * f i ≤ (c : EReal)) (i : ι) :
    f i = ((f i).toReal : EReal) := by
  have h1 : f i * f i ≤ (c : EReal) :=
    le_trans (Finset.single_le_sum (f := fun i => f i * f i) (fun j _ => by
      rcases le_total 0 (f j) with hj | hj
      · exact mul_nonneg hj hj
      · have := EReal.neg_nonneg.mpr hj
        have h3 : f j * f j = (-f j) * (-f j) := (neg_mul_neg _ _).symm
        show 0 ≤ f j * f j
        rw [h3]; exact mul_nonneg this this) (Finset.mem_univ i)) h
  refine (EReal.coe_toReal ?_ ?_).symm
  · intro ht
    rw [ht, EReal.top_mul_top] at h1
    exact absurd (top_le_iff.mp h1) (EReal.coe_ne_top c)
  · intro hb
    rw [hb, EReal.bot_mul_bot] at h1
    exact absurd (top_le_iff.mp h1) (EReal.coe_ne_top c)

theorem coe_sum {ι : Type} (S : Finset ι) (f : ι → ℝ) : ∑ i ∈ S, (f i : EReal) = ((∑ i ∈ S, f i : ℝ) : EReal) := by
  classical
  induction S using Finset.induction_on with
  | empty => simp
  | insert a s ha ih => rw [Finset.sum_insert ha, Finset.sum_insert ha, ih, EReal.coe_add]

theorem sq_sum_nonneg {ι : Type} [Fintype ι] (f : ι → EReal) : 0 ≤ ∑ i, f i * f i := by
  refine Finset.sum_nonneg fun j _ => ?_
  rcases le_total 0 (f j) with hj | hj
  · exact mul_nonneg hj hj
  · have := EReal.neg_nonneg.mpr hj
    have h3 : f j * f j = (-f j) * (-f j) := (neg_mul_neg _ _).symm
    rw [h3]; exact mul_nonneg this this

/-- The room `(29 - b) * 8` is a real when it bounds a sum of squares and `b` is above minus infinity. -/
theorem bias_real {ι : Type} [Fintype ι] (f : ι → EReal) (β : EReal) (h : ∑ i, f i * f i ≤ (((29 : ℝ) : EReal) - β) * ((8 : ℝ) : EReal))
    (hb : ⊥ < β) : β = (β.toReal : EReal) := by
  refine (EReal.coe_toReal ?_ hb.ne').symm
  intro ht
  rw [ht, EReal.sub_top, EReal.bot_mul_coe_of_pos (by norm_num)] at h
  exact absurd (le_trans (sq_sum_nonneg f) h) (by simp)

theorem ofBits_29 : Ideal.ofBits .f32 0x41E80000#32 = ((29 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The rows' heads reshaped out, read at a row, a head and a coordinate. -/
theorem heads_apply (x : Rows.Idx → EReal) (h : Rows.ShapeCasts ⟨3, ![16384, 16, 64]⟩) (j : (⟨3, ![16384, 16, 64]⟩ : Shape).Idx) :
    shapeCast _ x h j = el x (j 0).val (64 * (j 1).val + (j 2).val) := by
  have h0 : (j 0).val < 16384 := (j 0).isLt
  have h1 : (j 1).val < 16 := (j 1).isLt
  have h2 : (j 2).val < 64 := (j 2).isLt
  rw [shapeCast_apply x h j (ix (j 0).val (64 * (j 1).val + (j 2).val) h0 (by omega))
    (by rw [Shape.rowMajor_val_two, Shape.rowMajor_val_three]
        show (j 0).val * 1024 + (64 * (j 1).val + (j 2).val) = ((j 0).val * 16 + (j 1).val) * 64 + (j 2).val
        omega)]
  exact el_of x _ _ _ rfl rfl

theorem sq_rows (x : Rows.Idx → EReal) (h : Rows.ShapeCasts ⟨3, ![16384, 16, 64]⟩)
    (hr : (⟨3, ![16384, 16, 64]⟩ : Shape).ReducesTo [2] ⟨2, ![16384, 16]⟩) (init : EReal) (hi : init = 0)
    (j : (⟨2, ![16384, 16]⟩ : Shape).Idx) :
    Ideal.hostReduceAdd hr (mulf (F := Ideal) (φ := .f32) (shapeCast _ x h) (shapeCast _ x h)) init j
      = ∑ d : Fin 64, el x (j 0).val (64 * (j 1).val + d.val) * el x (j 0).val (64 * (j 1).val + d.val) := by
  rw [Ideal.hostReduceAdd_single hr (by decide), hi, zero_add]
  refine Finset.sum_congr rfl fun d _ => ?_
  show shapeCast _ x h _ * shapeCast _ x h _ = _
  rw [heads_apply]
  rfl

theorem and_one (a b : BitVec 1) (h : a &&& b = 1#1) : a = 1#1 ∧ b = 1#1 := by revert a b; decide

section
variable [Cert.Pre_bounded_rows.Facts]

/-- The row-wise room and bounds, one head at a time. -/
theorem rows_of_pre (q k v : Rows.Idx → EReal) (b : Heads.Idx → EReal)
    (h : Cert.Pre_bounded_rows.fn (F := Ideal) q k v b = fun _ => 1#1) (t n : ℕ) (ht : t < 16384) (hn : n < 16) :
    (∑ d : Fin 64, el q t (64 * n + d.val) * el q t (64 * n + d.val) ≤ (((29 : ℝ) : EReal) - hd b n) * ((8 : ℝ) : EReal))
    ∧ (∑ d : Fin 64, el k t (64 * n + d.val) * el k t (64 * n + d.val) ≤ (((29 : ℝ) : EReal) - hd b n) * ((8 : ℝ) : EReal))
    ∧ ⊥ < hd b n := by
  have h1 := congrFun h (fun a => match a with | ⟨0, _⟩ => ⟨t, ht⟩ | ⟨1, _⟩ => ⟨n, hn⟩)
  simp only [Cert.Pre_bounded_rows.fn, Cert.Pre_bounded_rows.fn_part1, andi, cmpf, Host.reduceAdd, Ideal.hostReduceAdd_def,
    broadcastInDim, IntOp.andi] at h1
  obtain ⟨h2, hc⟩ := and_one _ _ h1
  obtain ⟨ha, hb⟩ := and_one _ _ h2
  have hz : (constant (F := Ideal) Cert.Pre_bounded_rows.S_ FTy.f32 (0#32) (Shape.Idx.first Cert.Pre_bounded_rows.Facts.h_S_)) = (0 : EReal) :=
    Ideal.ofBits_zero_f32
  rw [sq_rows q _ _ _ hz] at ha
  rw [sq_rows k _ _ _ hz] at hb
  have room : ∀ j : Heads.Idx, (j 0).val = n → (mulf (F := Ideal) (φ := .f32)
      (subf (φ := .f32) (broadcastInDim Cert.Pre_bounded_rows.S16 ![] Cert.Pre_bounded_rows.Facts.bcast_S_S16
        (constant (F := Ideal) Cert.Pre_bounded_rows.S_ FTy.f32 1105723392#32)) b)
      (broadcastInDim Cert.Pre_bounded_rows.S16 ![] Cert.Pre_bounded_rows.Facts.bcast_S_S16
        (constant (F := Ideal) Cert.Pre_bounded_rows.S_ FTy.f32 1090519040#32))) j
      = (((29 : ℝ) : EReal) - hd b n) * ((8 : ℝ) : EReal) := by
    intro j hj
    show (Ideal.ofBits .f32 0x41E80000#32 - b j) * Ideal.ofBits .f32 0x41000000#32 = _
    rw [ofBits_29, ofBits_8, hd_of b j n hj]
  have ha' := (Ideal.cmp_ole_eq_one ..).1 ha
  have hb' := (Ideal.cmp_ole_eq_one ..).1 hb
  have hc' := (Ideal.cmp_ogt_eq_one ..).1 hc
  rw [room _ rfl] at ha' hb'
  refine ⟨ha', hb', ?_⟩
  rw [hd_of b _ n rfl] at hc'
  exact lt_of_le_of_lt bot_le hc'

theorem fine_of_pre (q k v : Rows.Idx → EReal) (b : Heads.Idx → EReal)
    (h : Cert.Pre_bounded_rows.fn (F := Ideal) q k v b = fun _ => 1#1) : Fine q k b := by
  have hb : ∀ n, hd b n = ((hd b n).toReal : EReal) := by
    intro n
    by_cases hn : n < 16
    · obtain ⟨h1, _, h3⟩ := rows_of_pre q k v b h 0 n (by norm_num) hn
      exact bias_real _ _ h1 h3
    · unfold hd; rw [dif_neg hn]; simp
  have room : ∀ n, (((29 : ℝ) : EReal) - hd b n) * ((8 : ℝ) : EReal) = (((29 - (hd b n).toReal) * 8 : ℝ) : EReal) := by
    intro n
    rw [hb n, ← EReal.coe_sub, ← EReal.coe_mul, EReal.toReal_coe]
  have real : ∀ x : Rows.Idx → EReal, (∀ t n, t < 16384 → n < 16 →
      ∑ d : Fin 64, el x t (64 * n + d.val) * el x t (64 * n + d.val) ≤ (((29 : ℝ) : EReal) - hd b n) * ((8 : ℝ) : EReal)) →
      ∀ t c, el x t c = (rl x t c : EReal) := by
    intro x hx t c
    by_cases htc : t < 16384 ∧ c < 1024
    · have := hx t (c / 64) htc.1 (by omega)
      rw [room] at this
      have h2 := real_of_sq_sum _ _ this ⟨c % 64, by omega⟩
      have hc : 64 * (c / 64) + c % 64 = c := by omega
      simp only [hc] at h2; exact h2
    · unfold rl el; rw [dif_neg htc]; simp
  have hq := real q fun t n ht hn => (rows_of_pre q k v b h t n ht hn).1
  have hk := real k fun t n ht hn => (rows_of_pre q k v b h t n ht hn).2.1
  refine ⟨hq, hk, hb, fun n t s hn ht hs => ?_⟩
  have h1 := (rows_of_pre q k v b h t n ht hn).1
  have h2 := (rows_of_pre q k v b h s n hs hn).2.1
  rw [room] at h1 h2
  simp only [hq, hk, ← EReal.coe_mul, coe_sum, EReal.coe_le_coe_iff] at h1 h2
  unfold score
  have h3 : (∑ d : Fin 64, rl q t (64 * n + d.val) * (1 / 8) * rl k s (64 * n + d.val))
      ≤ ∑ d : Fin 64, (1 / 16 * (rl q t (64 * n + d.val) * rl q t (64 * n + d.val))
        + 1 / 16 * (rl k s (64 * n + d.val) * rl k s (64 * n + d.val))) :=
    Finset.sum_le_sum fun d _ => by nlinarith [sq_nonneg (rl q t (64 * n + d.val) - rl k s (64 * n + d.val))]
  rw [Finset.sum_add_distrib, ← Finset.mul_sum, ← Finset.mul_sum] at h3
  linarith

end

end Cert.Score

end
-- ==== Proof.Suffix.lean ====
/- The host's running sum from the right, read at an index: a window of the whole axis, padded on the high side. -/
module

public import Idealize.ShloMosaic.PureOps.Ideal.Laws
public import Idealize.ShloMosaic.Lib.ValueIdx

@[expose] public section

noncomputable section

namespace Cert.Suffix

open Idealize.ShloMosaic

/-- A left fold of additions is the start plus the sum over the list. -/
theorem foldl_add_eq {ι : Type} (g : ι → EReal) (l : List ι) (a : EReal) :
    l.foldl (fun r n => r + g n) a = a + (l.map g).sum := by
  induction l generalizing a with
  | nil => simp
  | cons x l ih => simp only [List.foldl_cons, List.map_cons, List.sum_cons, ih, add_assoc]

/-- The window's row-major position is its last coordinate, the first two having one value each. -/
theorem window_last {N : ℕ} (n : Fin (⟨3, ![1, 1, N]⟩ : Shape).numel) :
    (((⟨3, ![1, 1, N]⟩ : Shape).rowMajor.symm n) 0).val = 0 ∧ (((⟨3, ![1, 1, N]⟩ : Shape).rowMajor.symm n) 1).val = 0
      ∧ (((⟨3, ![1, 1, N]⟩ : Shape).rowMajor.symm n) 2).val = n.val := by
  have h := Shape.rowMajor_val_three ((⟨3, ![1, 1, N]⟩ : Shape).rowMajor.symm n)
  rw [Equiv.apply_symm_apply] at h
  have h0 : (((⟨3, ![1, 1, N]⟩ : Shape).rowMajor.symm n) 0).val < 1 := (((⟨3, ![1, 1, N]⟩ : Shape).rowMajor.symm n) 0).isLt
  have h1 : (((⟨3, ![1, 1, N]⟩ : Shape).rowMajor.symm n) 1).val < 1 := (((⟨3, ![1, 1, N]⟩ : Shape).rowMajor.symm n) 1).isLt
  have e0 : (((⟨3, ![1, 1, N]⟩ : Shape).rowMajor.symm n) 0).val = 0 := by omega
  have e1 : (((⟨3, ![1, 1, N]⟩ : Shape).rowMajor.symm n) 1).val = 0 := by omega
  refine ⟨e0, e1, ?_⟩
  rw [e0, e1] at h
  simpa using h.symm

theorem numel_window (N : ℕ) : (⟨3, ![1, 1, N]⟩ : Shape).numel = N := by
  simp [Shape.numel, Fin.prod_univ_three]

/-- The element of `x` at row `(a, b)` and last coordinate `p`, zero past the end. -/
def atOrZero {A B N : ℕ} (x : (⟨3, ![A, B, N]⟩ : Shape).Idx → EReal) (j : (⟨3, ![A, B, N]⟩ : Shape).Idx) (p : ℕ) : EReal :=
  if hp : p < N then x (fun a => match a with | ⟨0, _⟩ => j 0 | ⟨1, _⟩ => j 1 | ⟨2, _⟩ => ⟨p, hp⟩) else 0

/-- The float window sum over the whole last axis, padded high by one less than the axis: at `j` the sum of the
    elements of `j`'s row from `j`'s last coordinate on. -/
theorem reduceWindowAdd_right {A B N M : ℕ} (x : FVec Ideal ⟨3, ![A, B, N]⟩ .f32) (init : FVec Ideal ⟨0, ![]⟩ .f32)
    (hinit : ∀ i, init i = (0 : EReal))
    (h : (⟨3, ![A, B, N]⟩ : Shape).ReduceWindows ![1, 1, N] ![1, 1, 1] ![0, 0, 0] ![0, 0, M] ⟨3, ![A, B, N]⟩)
    (hu : 0 < (⟨0, ![]⟩ : Shape).numel) (j : (⟨3, ![A, B, N]⟩ : Shape).Idx) :
    Host.reduceWindowAdd ![1, 1, N] ![1, 1, 1] ![0, 0, 0] ![0, 0, M] x init h hu j
      = ∑ n ∈ Finset.range N, atOrZero x j ((j 2).val + n) := by
  unfold Host.reduceWindowAdd
  rw [Ideal.hostReduceWindowAdd_def, hinit]
  unfold Ideal.hostReduceWindowAdd Host.reduceWindow
  have hstep : ∀ n : Fin (⟨3, ![1, 1, N]⟩ : Shape).numel,
      (if hin : ∀ a : Fin 3, (![0, 0, 0] : Fin 3 → ℕ) a ≤ (j (a.cast h.1.symm)).val * (![1, 1, 1] : Fin 3 → ℕ) a
            + ((⟨3, ![1, 1, N]⟩ : Shape).rowMajor.symm n a).val
          ∧ (j (a.cast h.1.symm)).val * (![1, 1, 1] : Fin 3 → ℕ) a + ((⟨3, ![1, 1, N]⟩ : Shape).rowMajor.symm n a).val
            - (![0, 0, 0] : Fin 3 → ℕ) a < (![A, B, N] : Fin 3 → ℕ) a
        then x (fun a => ⟨(j (a.cast h.1.symm)).val * (![1, 1, 1] : Fin 3 → ℕ) a
            + ((⟨3, ![1, 1, N]⟩ : Shape).rowMajor.symm n a).val - (![0, 0, 0] : Fin 3 → ℕ) a, (hin a).2⟩)
        else (0 : EReal)) = atOrZero x j ((j 2).val + n.val) := by
    intro n
    obtain ⟨w0, w1, w2⟩ := window_last n
    have j0 : (j 0).val < A := (j 0).isLt
    have j1 : (j 1).val < B := (j 1).isLt
    unfold atOrZero
    by_cases hp : (j 2).val + n.val < N
    · rw [dif_pos hp, dif_pos]
      · refine congrArg x (funext fun a => Fin.ext ?_)
        match a with
        | ⟨0, _⟩ => show (j 0).val * 1 + (((⟨3, ![1, 1, N]⟩ : Shape).rowMajor.symm n) 0).val - 0 = (j 0).val; omega
        | ⟨1, _⟩ => show (j 1).val * 1 + (((⟨3, ![1, 1, N]⟩ : Shape).rowMajor.symm n) 1).val - 0 = (j 1).val; omega
        | ⟨2, _⟩ => show (j 2).val * 1 + (((⟨3, ![1, 1, N]⟩ : Shape).rowMajor.symm n) 2).val - 0 = (j 2).val + n.val; omega
      · intro a
        match a with
        | ⟨0, _⟩ =>
          show 0 ≤ _ ∧ (j 0).val * 1 + (((⟨3, ![1, 1, N]⟩ : Shape).rowMajor.symm n) 0).val - 0 < A
          omega
        | ⟨1, _⟩ =>
          show 0 ≤ _ ∧ (j 1).val * 1 + (((⟨3, ![1, 1, N]⟩ : Shape).rowMajor.symm n) 1).val - 0 < B
          omega
        | ⟨2, _⟩ =>
          show 0 ≤ _ ∧ (j 2).val * 1 + (((⟨3, ![1, 1, N]⟩ : Shape).rowMajor.symm n) 2).val - 0 < N
          omega
    · rw [dif_neg hp, dif_neg]
      intro hin
      have h2 : (j 2).val * 1 + (((⟨3, ![1, 1, N]⟩ : Shape).rowMajor.symm n) 2).val - 0 < N := (hin 2).2
      omega
  calc _ = (List.finRange (⟨3, ![1, 1, N]⟩ : Shape).numel).foldl (fun r n => r + atOrZero x j ((j 2).val + n.val)) 0 := by
        refine congrArg (fun f => List.foldl f (0 : EReal) _) (funext fun r => funext fun n => ?_)
        exact congrArg (r + ·) (hstep n)
    _ = _ := by
        rw [foldl_add_eq, zero_add, ← Fin.sum_univ_def, Finset.sum_range]
        exact Fintype.sum_equiv (finCongr (numel_window N)) _ _ fun n => rfl

end Cert.Suffix

end
-- ==== Proof.Ref.lean ====
/- The reference's result at an element: the sum over the earlier keys of their values times their stick-breaking weights. -/
module

public import proofs.«01_k».proof.Proof.Gen.ReferenceIdeal.Read
public import proofs.«01_k».proof.Proof.Score
public import proofs.«01_k».proof.Proof.Suffix
public import Idealize.ShloMosaic.Lib.WordCmp

@[expose] public section

set_option maxRecDepth 16384

noncomputable section

namespace Cert.Ref

open Cert.ReferenceIdeal Cert.ReferenceIdeal.Read Cert.Score Cert.Stick Idealize.ShloMosaic

theorem ofBits_eighth : Ideal.ofBits .f32 0x3E000000#32 = (((1 : ℝ) / 8 : ℝ) : EReal) := by
  simp [Ideal.ofBits, Ideal.ieee, -EReal.coe_mul]; norm_num

theorem coe_max (x y : ℝ) : ((max x y : ℝ) : EReal) = max (x : EReal) (y : EReal) := EReal.coe_strictMono.monotone.map_max

/-- The terms of a long sum that fall before `t`. -/
theorem sum_cut (N s t : ℕ) (ht : t ≤ N) (f : ℕ → ℝ) :
    ∑ n ∈ Finset.range N, (if s + n < t then f (s + n) else 0) = ∑ j ∈ Finset.Ico s t, f j := by
  rw [← Finset.sum_filter, Finset.sum_Ico_eq_sum_range]
  refine Finset.sum_congr (Finset.ext fun n => ?_) fun n _ => rfl
  rw [Finset.mem_filter, Finset.mem_range, Finset.mem_range]
  omega

/-- The terms of a long sum before `t`, over the extended reals. -/
theorem sum_before (N t : ℕ) (ht : t ≤ N) (f : ℕ → EReal) :
    ∑ s : Fin N, (if s.val < t then f s.val else 0) = ∑ s ∈ Finset.Ico 0 t, f s := by
  rw [← Finset.sum_range fun s => if s < t then f s else 0, ← Finset.sum_filter]
  refine Finset.sum_congr (Finset.ext fun n => ?_) fun n _ => rfl
  rw [Finset.mem_filter, Finset.mem_range, Finset.mem_Ico]
  omega

/-- The stable softplus the reference takes, at a real. -/
theorem softplus_real (x : ℝ) (y : EReal) :
    Scalar.select (Ideal.cmp .une ((x : EReal) - 0) ((x : EReal) - 0)) y
      (max (x : EReal) 0 + Ideal.log1p (Ideal.exp (-(max ((x : EReal) - 0) (-((x : EReal) - 0)))))) = (sig x : EReal) := by
  have hne : Ideal.cmp .une ((x : EReal) - 0) ((x : EReal) - 0) = 0#1 := by rw [Ideal.cmp_une]; simp
  rw [hne]
  show max (x : EReal) 0 + _ = _
  have habs : max ((x : EReal) - 0) (-((x : EReal) - 0)) = ((|x| : ℝ) : EReal) := by
    rw [sub_zero, ← EReal.coe_neg, abs_eq_max_neg, coe_max]
  rw [habs, ← EReal.coe_neg, Ideal.exp_coe]
  unfold Ideal.log1p
  rw [← EReal.coe_one, ← EReal.coe_add, Ideal.log_coe, if_neg (by have := Real.exp_pos (-|x|); linarith), ← EReal.coe_zero,
    ← coe_max, ← EReal.coe_add, sig_stable]

section
variable {q k v : Rows.Idx → EReal} {b : Heads.Idx → EReal}

/-- The scores. -/
theorem z_apply (hf : Fine q k b) (i : S16x16384x16384.Idx) :
    val_main_v8 (F := Ideal) q k b i = (score q k b (i 0).val (i 1).val (i 2).val : EReal) := by
  rw [val_main_v8_apply, val_main_v5_apply, val_main_v7_apply, val_main_v6_apply]
  have hq : ∀ d : Fin 64, val_main_v2 (F := Ideal) q (lidx_main_v5 i d)
      = ((rl q (i 1).val (64 * (i 0).val + d.val) * (1 / 8) : ℝ) : EReal) := by
    intro d
    rw [val_main_v2_apply, val_main_v1_apply, val_main_cst_apply]
    show val_main_v0 (F := Ideal) q _ * Ideal.ofBits .f32 0x3E000000#32 = _
    rw [ofBits_eighth]
    unfold val_main_v0
    rw [heads_apply, hf.hq, ← EReal.coe_mul]
  have hk : ∀ d : Fin 64, val_main_v3 (F := Ideal) k (ridx_main_v5 i d)
      = ((rl k (i 2).val (64 * (i 0).val + d.val) : ℝ) : EReal) := by
    intro d
    unfold val_main_v3
    rw [heads_apply, hf.hk]
  have hb : b (idx_main_v6 (idx_main_v7 i)) = (((hd b (i 0).val).toReal : ℝ) : EReal) := by
    rw [hd_of b _ (i 0).val rfl]; exact hf.hb _
  show (∑ d, _) + _ = _
  simp only [hq, hk, hb, ← EReal.coe_mul, coe_sum, ← EReal.coe_add]
  rfl

/-- `log (1 - sigmoid z) = -softplus z`. -/
theorem log1mb_apply (hf : Fine q k b) (i : S16x16384x16384.Idx) :
    val_main_v16 (F := Ideal) q k b i = ((-sig (score q k b (i 0).val (i 1).val (i 2).val) : ℝ) : EReal) := by
  have hx : val_main_call0_v0 (F := Ideal) q k b i = (score q k b (i 0).val (i 1).val (i 2).val : EReal) := by
    rw [val_main_call0_v0_apply, val_main_v15_apply, z_apply hf]
    exact neg_neg _
  have hz : ∀ j, val_main_call0_call0_cst (F := Ideal) j = (0 : EReal) := fun j => Ideal.ofBits_zero_f32
  rw [val_main_v16_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    hx, hz, EReal.coe_neg, ← softplus_real _ (val_main_call0_call0_v6 (F := Ideal) q k b i)]
  rfl

/-- `log (sigmoid z) = z - softplus z`. -/
theorem logb_apply (hf : Fine q k b) (i : S16x16384x16384.Idx) :
    val_main_v20 (F := Ideal) q k b i = ((score q k b (i 0).val (i 1).val (i 2).val
      - sig (score q k b (i 0).val (i 1).val (i 2).val) : ℝ) : EReal) := by
  have hx : val_main_call3_v0 (F := Ideal) q k b i = ((-score q k b (i 0).val (i 1).val (i 2).val : ℝ) : EReal) := by
    rw [val_main_call3_v0_apply, z_apply hf, EReal.coe_neg]
    rfl
  have hz : ∀ j, val_main_call3_call0_cst (F := Ideal) j = (0 : EReal) := fun j => Ideal.ofBits_zero_f32
  have hs : ∀ x : ℝ, x - sig x = -sig (-x) := fun x => by rw [sig_neg]; ring
  rw [val_main_v20_apply, val_main_call3_v1_apply, val_main_call3_call0_v4_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v2_apply, val_main_call3_call0_v0_apply,
    hx, hz, hs, EReal.coe_neg (sig _), ← softplus_real _ (val_main_call3_call0_v6 (F := Ideal) q k b i)]
  rfl

/-- The causal mask: key strictly before query. -/
theorem mask_apply (i : S16384x16384.Idx) :
    val_main_v14 (F := Ideal) i = BitVec.ofBool (decide ((i 1).val < (i 0).val)) := by
  have h0 : (i 0).val < 16384 := (i 0).isLt
  have h1 : (i 1).val < 16384 := (i 1).isLt
  rw [val_main_v14_apply, val_main_v12_apply, val_main_v13_apply, val_main_v10_apply, val_main_v11_apply, val_main_v9_apply,
    val_main_v9_apply]
  exact WordCmp.cmpi_slt_ofNat (by norm_num; omega) (by norm_num; omega)

theorem select_ofBool {α : Type} (p : Prop) [Decidable p] (x y : α) :
    Scalar.select (BitVec.ofBool (decide p)) x y = if p then x else y := by
  by_cases h : p <;> simp [Scalar.select, h]

/-- The masked softplus of a key, negated. -/
def g (q k : Rows.Idx → EReal) (b : Heads.Idx → EReal) (h t s : ℕ) : ℝ := if s < t then -sig (score q k b h t s) else 0

theorem masked_apply (hf : Fine q k b) (i : S16x16384x16384.Idx) :
    val_main_v17 (F := Ideal) q k b i = (g q k b (i 0).val (i 1).val (i 2).val : EReal) := by
  have hz : val_main_call1_v2 (F := Ideal) i = (0 : EReal) := by
    rw [val_main_call1_v2_apply, val_main_call1_v0_apply]; exact Ideal.ofBits_zero_f32
  rw [val_main_v17_apply, val_main_call1_v1_apply, mask_apply, select_ofBool, log1mb_apply hf, hz]
  unfold g
  show (if (i 2).val < (i 1).val then _ else _) = _
  split_ifs
  · rfl
  · rfl

/-- The sum of the masked softplus from a key on. -/
theorem sums_apply (hf : Fine q k b) (i : S16x16384x16384.Idx) :
    val_main_v18 (F := Ideal) q k b i
      = ((∑ j ∈ Finset.Ico (i 2).val (i 1).val, -sig (score q k b (i 0).val (i 1).val j) : ℝ) : EReal) := by
  have h1 : (i 1).val < 16384 := (i 1).isLt
  unfold val_main_v18
  rw [Suffix.reduceWindowAdd_right _ _ (fun j => by rw [val_main_call2_v0_apply]; exact Ideal.ofBits_zero_f32)]
  have : ∀ n ∈ Finset.range 16384, Suffix.atOrZero (val_main_v17 (F := Ideal) q k b) i ((i 2).val + n)
      = ((g q k b (i 0).val (i 1).val ((i 2).val + n) : ℝ) : EReal) := by
    intro n _
    unfold Suffix.atOrZero
    split_ifs with hn
    · rw [masked_apply hf]
    · unfold g; rw [if_neg (by omega)]; rfl
  rw [Finset.sum_congr rfl this, coe_sum]
  exact congrArg _ (sum_cut 16384 _ _ h1.le fun j => -sig (score q k b (i 0).val (i 1).val j))

/-- The attention weights. -/
theorem weight_apply (hf : Fine q k b) (i : S16x16384x16384.Idx) :
    val_main_v23 (F := Ideal) q k b i = if (i 2).val < (i 1).val
      then ((wt (score q k b (i 0).val (i 1).val) (i 1).val (i 2).val : ℝ) : EReal) else 0 := by
  have hz : val_main_call4_v2 (F := Ideal) i = (0 : EReal) := by
    rw [val_main_call4_v2_apply, val_main_call4_v0_apply]; exact Ideal.ofBits_zero_f32
  rw [val_main_v23_apply, val_main_call4_v1_apply, mask_apply, select_ofBool, hz]
  show (if (i 2).val < (i 1).val then _ else _) = _
  split_ifs with hlt
  · rw [val_main_v22_apply, val_main_v21_apply, logb_apply hf, val_main_v19_apply, sums_apply hf, masked_apply hf]
    rw [Ideal.hostUnary_exp_def, Ideal.addf_def, Ideal.subf_def, ← EReal.coe_sub, ← EReal.coe_add, Ideal.exp_coe]
    congr 2
    unfold g
    rw [if_pos hlt, Finset.sum_eq_sum_Ico_succ_bot hlt, Finset.sum_neg_distrib]
    ring
  · rfl

/-- The result at row `t`, column `c`. -/
theorem result_apply (hf : Fine q k b) (v : Rows.Idx → EReal) (i : S16384x1024.Idx) :
    val_main_v26 (F := Ideal) q k v b i
      = part (score q k b ((i 1).val / 64) (i 0).val) (i 0).val (fun s => el v s (i 1).val) 0 := by
  have h0 : (i 0).val < 16384 := (i 0).isLt
  have h1 : (i 1).val < 1024 := (i 1).isLt
  have e0 : ((i 0).val * 1024 + (i 1).val) / 1024 = (i 0).val := by omega
  have e1 : ((i 0).val * 1024 + (i 1).val) / 64 % 16 = (i 1).val / 64 := by omega
  have e2 : ((i 0).val * 1024 + (i 1).val) % 64 = (i 1).val % 64 := by omega
  rw [val_main_v26_apply, val_main_v25_apply, val_main_v24_apply]
  have hterm : ∀ s : Fin 16384, val_main_v4 (F := Ideal) v (lidx_main_v24 (idx_main_v25 (idx_main_v26 i)) s)
      * val_main_v23 (F := Ideal) q k b (ridx_main_v24 (idx_main_v25 (idx_main_v26 i)) s)
      = if s.val < (i 0).val then el v s.val (i 1).val
        * ((wt (score q k b ((i 1).val / 64) (i 0).val) (i 0).val s.val : ℝ) : EReal) else 0 := by
    intro s
    rw [weight_apply hf]
    unfold val_main_v4
    rw [heads_apply]
    show el v s.val (64 * (((i 0).val * 1024 + (i 1).val) / 64 % 16) + ((i 0).val * 1024 + (i 1).val) % 64)
      * (if s.val < ((i 0).val * 1024 + (i 1).val) / 1024 then
          ((wt (score q k b (((i 0).val * 1024 + (i 1).val) / 64 % 16) (((i 0).val * 1024 + (i 1).val) / 1024))
            (((i 0).val * 1024 + (i 1).val) / 1024) s.val : ℝ) : EReal) else 0) = _
    rw [e0, e1, e2, show 64 * ((i 1).val / 64) + (i 1).val % 64 = (i 1).val by omega]
    split_ifs
    · rfl
    · exact mul_zero _
  rw [Finset.sum_congr rfl fun s _ => hterm s]
  unfold part
  generalize (i 0).val = t at h0 ⊢
  exact sum_before 16384 t h0.le fun s => el v s (i 1).val * ((wt (score q k b ((i 1).val / 64) t) t s : ℝ) : EReal)

end

end Cert.Ref

end
-- ==== Proof.MixValue.lean ====
/- The output projection at an element: the shifted rows, the grouped norm and the merged product, in the kernel's blocks. -/
module

public import proofs.«01_k».proof.Proof.ProjValue
public import proofs.«01_k».proof.Proof.Gen.MixingIdeal.Value
public import Idealize.ShloMosaic.Lib.MatmulPlain
public import Idealize.ShloMosaic.Lib.KernelVsHost

@[expose] public section
set_option maxRecDepth 16384

noncomputable section

namespace Cert.MixValue

open Idealize.ShloMosaic hiding ix1 ix2 ix3 eq_ix1 eq_ix2 eq_ix3
open Idealize.ShloMosaic.ValueIdx
open Cert.MixingIdeal Cert.MixingIdeal.Gen
open Cert.ProjValue (nrow)

/-- The row `n` before `R`, zero before the first. -/
def back (U : ℕ → Fin 1024 → EReal) (n R : ℕ) (y : Fin 1024) : EReal := if R < n then 0 else U (R - n) y

/-- Three rows' weighted sum. -/
def conv (a b c : Fin 1024 → EReal) (U : ℕ → Fin 1024 → EReal) (R : ℕ) (y : Fin 1024) : EReal :=
  a y * back U 2 R y + b y * back U 1 R y + c y * U R y

/-- The `j`-th lane of the group of lane `y`. -/
def lane (y : Fin 1024) (j : Fin 64) : Fin 1024 := ⟨64 * (y.val / 64) + j.val, by omega⟩

/-- A row over its groups' root mean squares, times the norm's weights. -/
def gnorm (v g : Fin 1024 → EReal) (y : Fin 1024) : EReal :=
  v y * Ideal.rsqrt (Ideal.div (∑ j, v (lane y j) * v (lane y j)) (Ideal.ofBits .f32 0x42800000#32) + Ideal.ofBits .f32 0x358637BD#32) * g y

/-- Two rows times the two halves of a column. -/
def merge (a c : Fin 1024 → EReal) (w : Fin 2048 → EReal) : EReal :=
  (∑ k : Fin 1024, a k * w ⟨k.val, by omega⟩) + ∑ k : Fin 1024, c k * w ⟨1024 + k.val, by omega⟩

/-! ## The mean of a group as a product -/

theorem sq_nonneg' (x : EReal) : 0 ≤ x * x := by
  rcases le_total 0 x with h | h
  · exact EReal.mul_nonneg h h
  · have h' : 0 ≤ -x := EReal.neg_nonneg.2 h
    have := EReal.mul_nonneg h' h'
    rwa [neg_mul_neg] at this

theorem sum_mul_right {ι : Type} (s : Finset ι) (f : ι → EReal) (hf : ∀ i, 0 ≤ f i) (q : EReal) :
    ∑ i ∈ s, f i * q = (∑ i ∈ s, f i) * q := by
  classical
  induction s using Finset.induction_on with
  | empty => simp
  | insert a s ha ih =>
    rw [Finset.sum_insert ha, Finset.sum_insert ha, ih, EReal.right_distrib_of_nonneg (hf a) (Finset.sum_nonneg fun i _ => hf i)]

theorem group_mean (f : Fin 1024 → EReal) (hf : ∀ k, 0 ≤ f k) (y : Fin 1024) :
    ∑ k : Fin 1024, f k * (if k.val / 64 = y.val / 64 then Ideal.ofBits .f32 0x3C800000#32 else 0)
      = Ideal.div (∑ j : Fin 64, f (lane y j)) (Ideal.ofBits .f32 0x42800000#32) := by
  have e1 : Ideal.ofBits .f32 0x3C800000#32 = (((1 : ℝ) / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2, Ideal.div_coe (by norm_num), ← sum_mul_right _ _ fun j => hf (lane y j)]
  rw [← (finProdFinEquiv (m := 16) (n := 64)).sum_comp, Fintype.sum_prod_type]
  have hy : y.val / 64 < 16 := by omega
  have hv : ∀ (b : Fin 16) (j : Fin 64), ((finProdFinEquiv (m := 16) (n := 64)) (b, j)).val = j.val + 64 * b.val := fun _ _ => rfl
  rw [Finset.sum_eq_single (⟨y.val / 64, hy⟩ : Fin 16)]
  · refine Finset.sum_congr rfl fun j _ => ?_
    have h1 : (finProdFinEquiv (m := 16) (n := 64)) (⟨y.val / 64, hy⟩, j) = lane y j := Fin.ext (by rw [hv]; show _ = 64 * (y.val / 64) + j.val; simp only []; omega)
    rw [h1, if_pos (by show (64 * (y.val / 64) + j.val) / 64 = _; omega)]
  · intro b _ hb
    refine Finset.sum_eq_zero fun j _ => ?_
    rw [if_neg, mul_zero]
    rw [hv]
    intro h
    exact hb (Fin.ext (by show b.val = y.val / 64; omega))
  · intro h; exact absurd (Finset.mem_univ _) h

/-! ## Blocks -/

theorem along (v : Vec Ideal S1x2048 .f32) (r : Fin 256) (k : Fin 2048) :
    broadcastTo S256x2048 v broadcasts_S1x2048_S256x2048 (ix2 r k) = v (ix2 (0 : Fin 1) k) :=
  broadcastTo_apply v broadcasts_S1x2048_S256x2048 (ix2 r k) (ix2 (0 : Fin 1) k) fun b => match b with
    | ⟨0, _⟩ => by show (0 : ℕ) = if (1 : ℕ) = 1 then 0 else _; rfl
    | ⟨1, _⟩ => by show k.val = if (2048 : ℕ) = 1 then 0 else k.val; rfl

theorem along' (v : Vec Ideal S1x1024 .f32) (r : Fin 256) (k : Fin 1024) :
    broadcastTo S256x1024 v broadcasts_S1x1024_S256x1024 (ix2 r k) = v (ix2 (0 : Fin 1) k) :=
  broadcastTo_apply v broadcasts_S1x1024_S256x1024 (ix2 r k) (ix2 (0 : Fin 1) k) fun b => match b with
    | ⟨0, _⟩ => by show (0 : ℕ) = if (1 : ℕ) = 1 then 0 else _; rfl
    | ⟨1, _⟩ => by show k.val = if (1024 : ℕ) = 1 then 0 else k.val; rfl

theorem down (v : FVec Ideal S256x1 .f32) (r : Fin 256) (k : Fin 2048) :
    broadcastTo S256x2048 v broadcasts_S256x1_S256x2048 (ix2 r k) = v (ix2 r (0 : Fin 1)) :=
  broadcastTo_apply v broadcasts_S256x1_S256x2048 (ix2 r k) (ix2 r (0 : Fin 1)) fun b => match b with
    | ⟨0, _⟩ => by show r.val = if (256 : ℕ) = 1 then 0 else r.val; rfl
    | ⟨1, _⟩ => by show (0 : ℕ) = if (1 : ℕ) = 1 then 0 else _; rfl

theorem total (v : FVec Ideal S256x2048 .f32) (r : Fin 256) :
    shapeCast S256x1 (multiReduction .add [1] S256 v 0x00000000#32 reduces_S256x2048_S256 (.inl rfl) rfl) shapeCasts_S256_S256x1 (ix2 r (0 : Fin 1))
      = ∑ l : Fin 2048, (v (ix2 r l) : EReal) := by
  rw [shapeCast_apply _ shapeCasts_S256_S256x1 (ix2 r (0 : Fin 1)) (ix1 r) (by
    rw [Shape.rowMajor_val_one, Shape.rowMajor_val_two]; show r.val = r.val * 1 + 0; omega)]
  refine (Ideal.multiReduction_add_single v _ reduces_S256x2048_S256 _ _ (ix1 r)).trans (Finset.sum_congr rfl fun l _ => congrArg v ?_)
  funext a
  match a with
  | ⟨0, _⟩ => rfl
  | ⟨1, _⟩ => rfl

theorem pay1_apply (p : FVec Ideal S256x2048 .f32) (x : Vec Ideal S256x2048 .f32) (g : Vec Ideal S1x2048 .f32) (r : Fin 256) (k : Fin 2048) :
    (k0_pay1 p x g (ix2 r k) : EReal) = x (ix2 r k) + g (ix2 (0 : Fin 1) k) * p (ix2 r k) := by
  unfold k0_pay1
  show (x (ix2 r k) + broadcastTo S256x2048 _ broadcasts_S1x2048_S256x2048 (ix2 r k) * p (ix2 r k) : EReal) = _
  rw [along]

theorem pay2_apply (p : FVec Ideal S256x2048 .f32) (x : Vec Ideal S256x2048 .f32) (g nm sc sh : Vec Ideal S1x2048 .f32) (r : Fin 256) (k : Fin 2048) :
    (k0_pay2 p x g nm sc sh (ix2 r k) : EReal)
      = nrow (fun l => k0_pay1 p x g (ix2 r l)) (fun l => nm (ix2 (0 : Fin 1) l)) (fun l => sc (ix2 (0 : Fin 1) l)) (fun l => sh (ix2 (0 : Fin 1) l)) k := by
  unfold k0_pay2
  simp only [shapeCast_self]
  show (k0_pay1 p x g (ix2 r k) * broadcastTo S256x2048 _ broadcasts_S256x1_S256x2048 (ix2 r k) * broadcastTo S256x2048 _ broadcasts_S1x2048_S256x2048 (ix2 r k)
    * broadcastTo S256x2048 _ broadcasts_S1x2048_S256x2048 (ix2 r k) + broadcastTo S256x2048 _ broadcasts_S1x2048_S256x2048 (ix2 r k) : EReal) = _
  rw [down, along, along, along]
  show (k0_pay1 p x g (ix2 r k) * Ideal.rsqrt (Ideal.div (shapeCast S256x1 _ shapeCasts_S256_S256x1 (ix2 r (0 : Fin 1))) _ + _) * _ * _ + _ : EReal) = _
  rw [total]
  rfl

theorem times (H : FVec Ideal S256x1024 .bf16) (w : FVec Ideal S1024x2048 .bf16) (r : Fin 256) (y : Fin 2048) :
    (matmul dot_S256x1024_S1024x2048_S256x2048_1_0_0_1_n_n none H w (constant S256x2048 .f32 0x00000000#32) (ix2 r y) : EReal)
      = ∑ k : Fin 1024, (H (ix2 r k) : EReal) * w (ix2 k y) := by
  refine Eq.trans (Ideal.matmul_plain_apply (M := 256) (K := 1024) (N := 2048) (φ₁ := .bf16) (φ₂ := .bf16) none H w
    (constant S256x2048 .f32 0x00000000#32) r y) ?_
  have h0 : (constant (F := Ideal) S256x2048 .f32 0x00000000#32 (ix2 r y) : EReal) = 0 := Ideal.ofBits_zero_f32
  rw [h0, zero_add]

theorem times' (H : FVec Ideal S256x1024 .bf16) (w : FVec Ideal S1024x1024 .bf16) (r : Fin 256) (y : Fin 1024) :
    (matmul dot_S256x1024_S1024x1024_S256x1024_1_0_0_1_n_n none H w (constant S256x1024 .f32 0x00000000#32) (ix2 r y) : EReal)
      = ∑ k : Fin 1024, (H (ix2 r k) : EReal) * w (ix2 k y) := by
  refine Eq.trans (Ideal.matmul_plain_apply (M := 256) (K := 1024) (N := 1024) (φ₁ := .bf16) (φ₂ := .bf16) none H w
    (constant S256x1024 .f32 0x00000000#32) r y) ?_
  have h0 : (constant (F := Ideal) S256x1024 .f32 0x00000000#32 (ix2 r y) : EReal) = 0 := Ideal.ofBits_zero_f32
  rw [h0, zero_add]

/-- A matrix whose product takes a group's mean. -/
def Means (G : FVec Ideal S1024x1024 .bf16) : Prop :=
  ∀ k y : Fin 1024, (G (ix2 k y) : EReal) = if k.val / 64 = y.val / 64 then Ideal.ofBits .f32 0x3C800000#32 else 0

/-- A block normalised by groups. -/
def gblock (v : FVec Ideal S256x1024 .f32) (G : FVec Ideal S1024x1024 .bf16) (g : Vec Ideal S1x1024 .f32) : FVec Ideal S256x1024 .bf16 :=
  truncf .bf16 (mulf (mulf v (rsqrt (addf (matmul dot_S256x1024_S1024x1024_S256x1024_1_0_0_1_n_n none (truncf .bf16 (mulf v v) bitsLt_bf16_f32) G
    (constant S256x1024 .f32 0x00000000#32)) (broadcast S256x1024 (Scalar.ofBits .f32 0x358637BD#32)))))
    (broadcastTo S256x1024 g broadcasts_S1x1024_S256x1024)) bitsLt_bf16_f32

theorem gblock_apply (v : FVec Ideal S256x1024 .f32) (G : FVec Ideal S1024x1024 .bf16) (hG : Means G) (g : Vec Ideal S1x1024 .f32) (r : Fin 256)
    (k : Fin 1024) : (gblock v G g (ix2 r k) : EReal) = gnorm (fun l => v (ix2 r l)) (fun l => g (ix2 (0 : Fin 1) l)) k := by
  unfold gblock
  show (v (ix2 r k) * Ideal.rsqrt (matmul dot_S256x1024_S1024x1024_S256x1024_1_0_0_1_n_n none _ G (constant S256x1024 .f32 0x00000000#32) (ix2 r k) + _)
    * broadcastTo S256x1024 g broadcasts_S1x1024_S256x1024 (ix2 r k) : EReal) = _
  rw [times', along']
  have e : ∑ l : Fin 1024, (truncf (F := Ideal) .bf16 (mulf v v) bitsLt_bf16_f32 (ix2 r l) : EReal) * G (ix2 l k)
      = Ideal.div (∑ j : Fin 64, v (ix2 r (lane k j)) * v (ix2 r (lane k j))) (Ideal.ofBits .f32 0x42800000#32) := by
    rw [← group_mean (fun l => v (ix2 r l) * v (ix2 r l)) (fun l => sq_nonneg' _) k]
    exact Finset.sum_congr rfl fun l _ => congrArg (_ * ·) (hG l k)
  rw [e]
  rfl

theorem pay6_apply (cv gb at' : FVec Ideal S256x1024 .f32) (G : FVec Ideal S1024x1024 .bf16) (hG : Means G) (ga gc : Vec Ideal S1x1024 .f32)
    (wt wb : FVec Ideal S1024x2048 .bf16) (r : Fin 256) (Y : Fin 2048) :
    (k0_pay6 cv gb at' G ga wt gc wb (ix2 r Y) : EReal)
      = (∑ k, gnorm (fun l => at' (ix2 r l)) (fun l => ga (ix2 (0 : Fin 1) l)) k * wt (ix2 k Y))
        + ∑ k, gnorm (fun l => gb (ix2 r l) * cv (ix2 r l)) (fun l => gc (ix2 (0 : Fin 1) l)) k * wb (ix2 k Y) := by
  unfold k0_pay6
  simp only [shapeCast_self]
  show (matmul dot_S256x1024_S1024x2048_S256x2048_1_0_0_1_n_n none (gblock at' G ga) wt (constant S256x2048 .f32 0x00000000#32) (ix2 r Y)
    + matmul dot_S256x1024_S1024x2048_S256x2048_1_0_0_1_n_n none (gblock (mulf gb cv) G gc) wb (constant S256x2048 .f32 0x00000000#32) (ix2 r Y) : EReal) = _
  rw [times, times]
  simp only [gblock_apply _ _ hG]
  rfl

/-! ## The shifted rows -/

theorem mask (r : Fin 256) (n : Fin 2) : IntOp.cmpi .eq (IntOp.andi (BitVec.ofNat 32 r.val) 255#32) (BitVec.ofNat 32 n.val) = BitVec.ofBool (decide (r.val = n.val)) := by
  revert r n; decide +kernel

theorem first (t : ℕ) (ht : t < 64) : Scalar.cmpi .eq (BitVec.ofNat 32 t) 0#32 = BitVec.ofBool (decide (t = 0)) := by
  have h : ∀ t : Fin 64, Scalar.cmpi .eq (BitVec.ofNat 32 t.val) 0#32 = BitVec.ofBool (decide (t.val = 0)) := by decide +kernel
  exact h ⟨t, ht⟩

theorem pick {α : Type} (p : Prop) [Decidable p] (a b : α) : Scalar.select (BitVec.ofBool (decide p)) a b = if p then a else b := by
  by_cases h : p <;> simp [Scalar.select, h]

theorem rolled (v : FVec Ideal S256x1024 .f32) (s : BitVec 32) (n : ℕ) (hs : s.toNat = n) (hn : n < 256) (r r' : Fin 256) (y : Fin 1024) (hr : r'.val + n = r.val) :
    dynamicRotate 0 s none v rotates_S256x1024_d0 (ix2 r y) = v (ix2 r' y) :=
  dynamicRotate_apply 0 s v rotates_S256x1024_d0 (ix2 r y) (ix2 r' y) fun b => match b with
    | ⟨0, _⟩ => by
      show r'.val = (if (0 : Fin 2) = 0 then (r.val + 256 - s.toNat % 256) % 256 else r.val)
      rw [if_pos rfl, hs]; omega
    | ⟨1, _⟩ => by show y.val = (if (1 : Fin 2) = 0 then _ else y.val); rw [if_neg (by decide)]

theorem cut (v : FVec Ideal S8x1024 .f32) (e : ℕ) (he : S8x1024.Slices ![e, 0] S1x1024) (s : Fin 8) (hs : s.val = e) (y : Fin 1024) :
    extractStridedSlice S1x1024 ![e, 0] v he (ix2 (0 : Fin 1) y) = v (ix2 s y) :=
  extractStridedSlice_apply ![e, 0] v he (ix2 (0 : Fin 1) y) (ix2 s y) fun b => match b with
    | ⟨0, _⟩ => by show s.val = e + 0; omega
    | ⟨1, _⟩ => by show y.val = 0 + y.val; omega

theorem pay5_apply (i : grid0.Coords) (t : ℕ) (hi : (i 0).val = t) (ht : t < 64) (U : ℕ → Fin 1024 → EReal) (v0 : Vec Ideal S256x1024 .f32)
    (v2 v4 w : Vec Ideal S8x1024 .f32) (h0 : ∀ (r : Fin 256) y, (v0 (ix2 r y) : EReal) = U (256 * t + r.val) y) (h2 : ∀ (s : Fin 8) y, (v2 (ix2 s y) : EReal) = 0)
    (h4 : 0 < t → ∀ (s : Fin 8) y, (v4 (ix2 s y) : EReal) = U (256 * t - 8 + s.val) y) (r : Fin 256) (y : Fin 1024) :
    (k0_pay5 i v0 v2 v4 w (ix2 r y) : EReal)
      = conv (fun l => w (ix2 (0 : Fin 8) l)) (fun l => w (ix2 (1 : Fin 8) l)) (fun l => w (ix2 (2 : Fin 8) l)) U (256 * t + r.val) y := by
  have g7 : (Scalar.select (Scalar.cmpi .eq (BitVec.ofNat 32 (i 0).val) 0#32) (extractStridedSlice S1x1024 ![7, 0] v2 slices_S8x1024_o7_0_S1x1024)
      (extractStridedSlice S1x1024 ![7, 0] v4 slices_S8x1024_o7_0_S1x1024) (ix2 (0 : Fin 1) y) : EReal) = back U 1 (256 * t) y := by
    rw [hi, first t ht, pick]
    unfold back
    split_ifs with ha hb hb
    · rw [cut _ 7 _ 7 rfl, h2]
    · omega
    · omega
    · rw [cut _ 7 _ 7 rfl, h4 (by omega)]
      congr 1; show 256 * t - 8 + 7 = _; omega
  have g6 : (Scalar.select (Scalar.cmpi .eq (BitVec.ofNat 32 (i 0).val) 0#32) (extractStridedSlice S1x1024 ![6, 0] v2 slices_S8x1024_o6_0_S1x1024)
      (extractStridedSlice S1x1024 ![6, 0] v4 slices_S8x1024_o6_0_S1x1024) (ix2 (0 : Fin 1) y) : EReal) = back U 2 (256 * t) y := by
    rw [hi, first t ht, pick]
    unfold back
    split_ifs with ha hb hb
    · rw [cut _ 6 _ 6 rfl, h2]
    · omega
    · omega
    · rw [cut _ 6 _ 6 rfl, h4 (by omega)]
      congr 1; show 256 * t - 8 + 6 = _; omega
  unfold k0_pay5
  simp only [shapeCast_self]
  have m0 : cmpi .eq (andi (iota .tc S256x1024 32 [0] iota_S256x1024_d0_w32) (broadcast S256x1024 255#32)) (broadcast S256x1024 0#32) (ix2 r y)
      = BitVec.ofBool (decide (r.val = 0)) := by
    refine Eq.trans ?_ (mask r 0)
    show IntOp.cmpi .eq (IntOp.andi (BitVec.ofNat 32 (0 * 256 + r.val)) 255#32) 0#32 = _
    rw [zero_mul, zero_add]; rfl
  have m1 : cmpi .eq (andi (iota .tc S256x1024 32 [0] iota_S256x1024_d0_w32) (broadcast S256x1024 255#32)) (broadcast S256x1024 1#32) (ix2 r y)
      = BitVec.ofBool (decide (r.val = 1)) := by
    refine Eq.trans ?_ (mask r 1)
    show IntOp.cmpi .eq (IntOp.andi (BitVec.ofNat 32 (0 * 256 + r.val)) 255#32) 1#32 = _
    rw [zero_mul, zero_add]; rfl
  show (broadcastTo S256x1024 _ broadcasts_S1x1024_S256x1024 (ix2 r y)
      * Scalar.select (cmpi .eq (andi (iota .tc S256x1024 32 [0] iota_S256x1024_d0_w32) (broadcast S256x1024 255#32)) (broadcast S256x1024 0#32) (ix2 r y))
          (broadcastTo S256x1024 _ broadcasts_S1x1024_S256x1024 (ix2 r y))
          (Scalar.select (cmpi .eq (andi (iota .tc S256x1024 32 [0] iota_S256x1024_d0_w32) (broadcast S256x1024 255#32)) (broadcast S256x1024 1#32) (ix2 r y))
            (broadcastTo S256x1024 _ broadcasts_S1x1024_S256x1024 (ix2 r y)) (dynamicRotate 0 2#32 none v0 rotates_S256x1024_d0 (ix2 r y)))
    + broadcastTo S256x1024 _ broadcasts_S1x1024_S256x1024 (ix2 r y)
      * Scalar.select (cmpi .eq (andi (iota .tc S256x1024 32 [0] iota_S256x1024_d0_w32) (broadcast S256x1024 255#32)) (broadcast S256x1024 0#32) (ix2 r y))
          (broadcastTo S256x1024 _ broadcasts_S1x1024_S256x1024 (ix2 r y)) (dynamicRotate 0 1#32 none v0 rotates_S256x1024_d0 (ix2 r y))
    + broadcastTo S256x1024 _ broadcasts_S1x1024_S256x1024 (ix2 r y) * v0 (ix2 r y) : EReal) = _
  rw [m0, m1]
  simp only [pick]
  rw [along', along', along', along', along', g6, g7]
  rw [cut _ 0 _ 0 rfl, cut _ 1 _ 1 rfl, cut _ 2 _ 2 rfl, h0]
  unfold conv
  have k2 : (if r.val = 0 then back U 2 (256 * t) y else if r.val = 1 then back U 1 (256 * t) y else dynamicRotate 0 2#32 none v0 rotates_S256x1024_d0 (ix2 r y))
      = back U 2 (256 * t + r.val) y := by
    split_ifs with ha hb
    · rw [ha, Nat.add_zero]
    · unfold back
      rw [hb]
      split_ifs with hc hd hd
      · rfl
      · omega
      · omega
      · rfl
    · rw [rolled v0 2#32 2 rfl (by omega) r ⟨r.val - 2, by omega⟩ y (by show r.val - 2 + 2 = r.val; omega), h0]
      unfold back
      rw [if_neg (by omega)]
      congr 1; show 256 * t + (r.val - 2) = _; omega
  have k1 : (if r.val = 0 then back U 1 (256 * t) y else dynamicRotate 0 1#32 none v0 rotates_S256x1024_d0 (ix2 r y))
      = back U 1 (256 * t + r.val) y := by
    split_ifs with ha
    · rw [ha, Nat.add_zero]
    · rw [rolled v0 1#32 1 rfl (by omega) r ⟨r.val - 1, by omega⟩ y (by show r.val - 1 + 1 = r.val; omega), h0]
      unfold back
      rw [if_neg (by omega)]
      congr 1; show 256 * t + (r.val - 1) = _; omega
  rw [k2, k1]

end Cert.MixValue

end
-- ==== Proof.MixRef.lean ====
/- The reference of the output projection at an element. -/
module

public import proofs.«01_k».proof.Proof.MixValue
public import proofs.«01_k».proof.Proof.Gen.MixingReferenceIdeal.Read
public import Idealize.ShloMosaic.Lib.KernelVsHost

@[expose] public section
set_option maxRecDepth 16384

noncomputable section

namespace Cert.MixRef

open Idealize.ShloMosaic hiding ix1 ix2 ix3 eq_ix1 eq_ix2 eq_ix3
open Idealize.ShloMosaic.ValueIdx
open Cert.MixingReferenceIdeal Cert.MixingReferenceIdeal.Gen Cert.MixingReferenceIdeal.Read Cert.MixValue
open Cert.ProjValue (nrow)

variable (at' gb u : S16384x1024.Idx → EReal) (X : S16384x2048.Idx → EReal) (gt sc sh : S1x2048.Idx → EReal) (cw : S3x1024.Idx → EReal)
  (ga gc : S1024.Idx → EReal) (nm : S2048.Idx → EReal) (W : S2048x2048.Idx → EReal)

/-- The rows by number, zero past the last. -/
def rowsOf (R : ℕ) (y : Fin 1024) : EReal := if h : R < 16384 then u (ix2 (⟨R, h⟩ : Fin 16384) y) else 0

/-- A row's convolution. -/
def convOf (R : Fin 16384) : Fin 1024 → EReal :=
  conv (fun l => cw (ix2 (0 : Fin 3) l)) (fun l => cw (ix2 (1 : Fin 3) l)) (fun l => cw (ix2 (2 : Fin 3) l)) (rowsOf u) R.val

/-- A row of the residual stream after the merged product. -/
def stream (R : Fin 16384) (Y : Fin 2048) : EReal :=
  X (ix2 R Y) + gt (ix2 (0 : Fin 1) Y) * merge (gnorm (fun l => at' (ix2 R l)) (fun l => ga (ix1 l)))
    (gnorm (fun l => gb (ix2 R l) * convOf u cw R l) (fun l => gc (ix1 l))) (fun k => W (ix2 k Y))

/-- Its norm, scaled and shifted. -/
def normed (R : Fin 16384) (Y : Fin 2048) : EReal :=
  nrow (stream at' gb u X gt cw ga gc W R) (fun l => nm (ix1 l)) (fun l => sc (ix2 (0 : Fin 1) l)) (fun l => sh (ix2 (0 : Fin 1) l)) Y

theorem padded (n : ℕ) (R : Fin 16384) (hn : n ≤ 2) (i : S16386x1024.Idx) (hi : (i 0).val + n = R.val + 2) (y : Fin 1024) (hy : (i 1).val = y.val) :
    val_main_v1 (F := Ideal) u i = back (rowsOf u) n R.val y := by
  unfold val_main_v1 back
  split_ifs with h
  · rw [concatenate_pair_apply_left 0 _ _ concatenates_S2x1024_S16384x1024_S16386x1024_d0 i rfl (ix2 (⟨(i 0).val, by omega⟩ : Fin 2) y) (fun b => match b with
      | ⟨0, _⟩ => rfl
      | ⟨1, _⟩ => hy.symm)]
    rw [val_main_v0_apply, val_main_cst_apply]
    exact Ideal.ofBits_zero_f32
  · rw [concatenate_pair_apply_right 0 _ _ concatenates_S2x1024_S16384x1024_S16386x1024_d0 i rfl rfl (ix2 (⟨R.val - n, by omega⟩ : Fin 16384) y) (fun b hb => match b, hb with
      | ⟨0, _⟩, hb => absurd rfl hb
      | ⟨1, _⟩, _ => hy.symm) (by show R.val - n + 2 = (i 0).val; omega)]
    unfold rowsOf
    rw [dif_pos (by omega)]

theorem conv_apply (R : Fin 16384) (y : Fin 1024) : val_main_v21 (F := Ideal) u cw (ix2 R y) = convOf u cw R y := by
  rw [val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply]
  rw [padded u 2 R (by omega) (idx_main_v4 (ix2 R y)) rfl y rfl, padded u 1 R (by omega) (idx_main_v10 (ix2 R y)) (by show 1 + R.val + 1 = R.val + 2; omega) y rfl,
    padded u 0 R (by omega) (idx_main_v17 (ix2 R y)) (by show 2 + R.val + 0 = R.val + 2; omega) y rfl]
  have h0 : idx_main_v2 (idx_main_v3 (idx_main_v5 (idx_main_v6 (ix2 R y)))) = ix2 (0 : Fin 3) y := funext fun a => match a with
    | ⟨0, _⟩ => rfl
    | ⟨1, _⟩ => Fin.ext (Nat.mod_eq_of_lt y.isLt)
  have h1 : idx_main_v8 (idx_main_v9 (idx_main_v11 (idx_main_v12 (ix2 R y)))) = ix2 (1 : Fin 3) y := funext fun a => match a with
    | ⟨0, _⟩ => rfl
    | ⟨1, _⟩ => Fin.ext (Nat.mod_eq_of_lt y.isLt)
  have h2 : idx_main_v15 (idx_main_v16 (idx_main_v18 (idx_main_v19 (ix2 R y)))) = ix2 (2 : Fin 3) y := funext fun a => match a with
    | ⟨0, _⟩ => rfl
    | ⟨1, _⟩ => Fin.ext (Nat.mod_eq_of_lt y.isLt)
  rw [h0, h1, h2]
  rfl

theorem flat (R : Fin 16384) (y : Fin 1024) (i : S16384x1024.Idx) (h0 : (i 0).val = R.val) (h1 : (i 1).val = y.val) : i = ix2 R y :=
  funext fun a => match a with
    | ⟨0, _⟩ => Fin.ext h0
    | ⟨1, _⟩ => Fin.ext h1

theorem attn_apply (R : Fin 16384) (y : Fin 1024) :
    val_main_v38 (F := Ideal) at' ga (ix2 R y) = gnorm (fun l => at' (ix2 R l)) (fun l => ga (ix1 l)) y := by
  rw [val_main_v38_apply, val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_v25_apply, val_main_v23_apply,
    val_main_cst_0_apply, val_main_cst_1_apply, val_main_cst_2_apply]
  have hy := y.isLt
  have hX : ∀ l : Fin 64, val_main_v24 (F := Ideal) at' (idx_main_v25 (idx_main_v26 (idx_main_v32 (idx_main_v38 (ix2 R y)))) l)
      = at' (ix2 R (lane y l)) * at' (ix2 R (lane y l)) := fun l => by
    rw [val_main_v24_apply, val_main_v23_apply, flat R (lane y l) (idx_main_v23 _)]
    · rfl
    · show (((R.val * 1024 + y.val) / 1024 * 16 + (R.val * 1024 + y.val) / 64 % 16) * 64 + l.val) / 1024 = R.val
      have := l.isLt; omega
    · show (((R.val * 1024 + y.val) / 1024 * 16 + (R.val * 1024 + y.val) / 64 % 16) * 64 + l.val) % 1024 = 64 * (y.val / 64) + l.val
      have := l.isLt; omega
  have h1 : idx_main_v23 (idx_main_v38 (ix2 R y)) = ix2 R y := flat R y _
    (by show (((R.val * 1024 + y.val) / 1024 * 16 + (R.val * 1024 + y.val) / 64 % 16) * 64 + (R.val * 1024 + y.val) % 64) / 1024 = R.val; omega)
    (by show (((R.val * 1024 + y.val) / 1024 * 16 + (R.val * 1024 + y.val) / 64 % 16) * 64 + (R.val * 1024 + y.val) % 64) % 1024 = y.val; omega)
  have h2 : idx_main_v34 (idx_main_v35 (idx_main_v36 (idx_main_v38 (ix2 R y)))) = ix1 y := funext fun a => match a with
    | ⟨0, _⟩ => Fin.ext (by show (R.val * 1024 + y.val) / 64 % 16 * 64 + (R.val * 1024 + y.val) % 64 = y.val; omega)
  have h0 : FloatOps.ofBits (F := Ideal) .f32 0x00000000#32 = (0 : EReal) := Ideal.ofBits_zero_f32
  simp only [hX, h1, h2, h0, zero_add]
  rfl

theorem gated_apply (R : Fin 16384) (y : Fin 1024) : val_main_v22 (F := Ideal) gb u cw (ix2 R y) = gb (ix2 R y) * convOf u cw R y := by
  rw [val_main_v22_apply, conv_apply]; rfl

theorem conv_norm_apply (R : Fin 16384) (y : Fin 1024) :
    val_main_v54 (F := Ideal) gb u cw gc (ix2 R y) = gnorm (fun l => gb (ix2 R l) * convOf u cw R l) (fun l => gc (ix1 l)) y := by
  rw [val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply, val_main_v39_apply,
    val_main_cst_3_apply, val_main_cst_4_apply, val_main_cst_5_apply]
  have hy := y.isLt
  have hX : ∀ l : Fin 64, val_main_v40 (F := Ideal) gb u cw (idx_main_v41 (idx_main_v42 (idx_main_v48 (idx_main_v54 (ix2 R y)))) l)
      = (gb (ix2 R (lane y l)) * convOf u cw R (lane y l)) * (gb (ix2 R (lane y l)) * convOf u cw R (lane y l)) := fun l => by
    rw [val_main_v40_apply, val_main_v39_apply, flat R (lane y l) (idx_main_v39 _), gated_apply]
    · rfl
    · show (((R.val * 1024 + y.val) / 1024 * 16 + (R.val * 1024 + y.val) / 64 % 16) * 64 + l.val) / 1024 = R.val
      have := l.isLt; omega
    · show (((R.val * 1024 + y.val) / 1024 * 16 + (R.val * 1024 + y.val) / 64 % 16) * 64 + l.val) % 1024 = 64 * (y.val / 64) + l.val
      have := l.isLt; omega
  have h1 : idx_main_v39 (idx_main_v54 (ix2 R y)) = ix2 R y := flat R y _
    (by show (((R.val * 1024 + y.val) / 1024 * 16 + (R.val * 1024 + y.val) / 64 % 16) * 64 + (R.val * 1024 + y.val) % 64) / 1024 = R.val; omega)
    (by show (((R.val * 1024 + y.val) / 1024 * 16 + (R.val * 1024 + y.val) / 64 % 16) * 64 + (R.val * 1024 + y.val) % 64) % 1024 = y.val; omega)
  have h2 : idx_main_v50 (idx_main_v51 (idx_main_v52 (idx_main_v54 (ix2 R y)))) = ix1 y := funext fun a => match a with
    | ⟨0, _⟩ => Fin.ext (by show (R.val * 1024 + y.val) / 64 % 16 * 64 + (R.val * 1024 + y.val) % 64 = y.val; omega)
  have h0 : FloatOps.ofBits (F := Ideal) .f32 0x00000000#32 = (0 : EReal) := Ideal.ofBits_zero_f32
  simp only [hX, h1, h2, h0, zero_add, gated_apply]
  rfl

theorem left_apply (R : Fin 16384) (k : Fin 2048) (l : Fin 1024) (h : k.val = l.val) :
    val_main_v55 (F := Ideal) at' gb u cw ga gc (ix2 R k) = gnorm (fun l => at' (ix2 R l)) (fun l => ga (ix1 l)) l := by
  unfold val_main_v55
  rw [concatenate_pair_apply_left 1 _ _ concatenates_S16384x1024_S16384x1024_S16384x2048_d1 (ix2 R k) rfl (ix2 R l) (fun b => match b with
    | ⟨0, _⟩ => rfl
    | ⟨1, _⟩ => h.symm)]
  exact attn_apply at' ga R l

theorem right_apply (R : Fin 16384) (k : Fin 2048) (l : Fin 1024) (h : k.val = 1024 + l.val) :
    val_main_v55 (F := Ideal) at' gb u cw ga gc (ix2 R k) = gnorm (fun l => gb (ix2 R l) * convOf u cw R l) (fun l => gc (ix1 l)) l := by
  unfold val_main_v55
  rw [concatenate_pair_apply_right 1 _ _ concatenates_S16384x1024_S16384x1024_S16384x2048_d1 (ix2 R k) rfl rfl (ix2 R l) (fun b hb => match b, hb with
    | ⟨0, _⟩, _ => rfl
    | ⟨1, _⟩, hb => absurd rfl hb) (by show l.val + 1024 = k.val; omega)]
  exact conv_norm_apply gb u cw gc R l

theorem merge_apply (R : Fin 16384) (Y : Fin 2048) :
    val_main_v56 (F := Ideal) at' gb u cw ga gc W (ix2 R Y) = merge (gnorm (fun l => at' (ix2 R l)) (fun l => ga (ix1 l)))
      (gnorm (fun l => gb (ix2 R l) * convOf u cw R l) (fun l => gc (ix1 l))) (fun k => W (ix2 k Y)) := by
  rw [val_main_v56_apply]
  have e : ∀ k : Fin 2048, val_main_v55 (F := Ideal) at' gb u cw ga gc (lidx_main_v56 (ix2 R Y) k) * W (ridx_main_v56 (ix2 R Y) k)
      = val_main_v55 (F := Ideal) at' gb u cw ga gc (ix2 R k) * W (ix2 k Y) := fun k => by
    have e0 : lidx_main_v56 (ix2 R Y) k = ix2 R k := funext fun a => match a with | ⟨0, _⟩ => rfl | ⟨1, _⟩ => rfl
    have e1 : ridx_main_v56 (ix2 R Y) k = ix2 k Y := funext fun a => match a with | ⟨0, _⟩ => rfl | ⟨1, _⟩ => rfl
    rw [e0, e1]
  rw [Finset.sum_congr rfl fun k _ => e k]
  unfold merge
  refine (Fin.sum_univ_add (a := 1024) (b := 1024) (fun k : Fin (1024 + 1024) => val_main_v55 (F := Ideal) at' gb u cw ga gc (ix2 R k) * W (ix2 k Y))).trans ?_
  refine congr (congrArg HAdd.hAdd (Finset.sum_congr rfl fun k _ => ?_)) (Finset.sum_congr rfl fun k _ => ?_)
  · rw [left_apply at' gb u cw ga gc R _ k rfl]; rfl
  · rw [right_apply at' gb u cw ga gc R _ k rfl]; rfl

theorem stream_apply (R : Fin 16384) (Y : Fin 2048) :
    val_main_v59 (F := Ideal) at' gb u X gt cw ga gc W (ix2 R Y) = stream at' gb u X gt cw ga gc W R Y := by
  rw [val_main_v59_apply, val_main_v58_apply, val_main_v57_apply, merge_apply]
  have h : idx_main_v57 (ix2 R Y) = ix2 (0 : Fin 1) Y := funext fun a => match a with | ⟨0, _⟩ => rfl | ⟨1, _⟩ => rfl
  rw [h]
  rfl

theorem normed_apply (R : Fin 16384) (Y : Fin 2048) :
    val_main_v78 (F := Ideal) at' gb u X gt sc sh cw ga gc nm W (ix2 R Y) = normed at' gb u X gt sc sh cw ga gc nm W R Y := by
  rw [val_main_v78_apply, val_main_v77_apply, val_main_v76_apply, val_main_v75_apply, val_main_v74_apply, val_main_v73_apply, val_main_v72_apply,
    val_main_v71_apply, val_main_v70_apply, val_main_v69_apply, val_main_v68_apply, val_main_v67_apply, val_main_v66_apply, val_main_v65_apply,
    val_main_v64_apply, val_main_v63_apply, val_main_v62_apply, val_main_v61_apply, val_main_cst_6_apply, val_main_cst_7_apply, val_main_cst_8_apply,
    val_main_cst_9_apply, stream_apply]
  have hX : ∀ l : Fin 2048, val_main_v60 (F := Ideal) at' gb u X gt cw ga gc W (idx_main_v61 (idx_main_v62 (idx_main_v68 (ix2 R Y))) l)
      = stream at' gb u X gt cw ga gc W R l * stream at' gb u X gt cw ga gc W R l := fun l => by
    have e : idx_main_v61 (idx_main_v62 (idx_main_v68 (ix2 R Y))) l = ix2 R l := funext fun a => match a with | ⟨0, _⟩ => rfl | ⟨1, _⟩ => rfl
    rw [val_main_v60_apply, e, stream_apply]; rfl
  have h1 : idx_main_v70 (idx_main_v71 (ix2 R Y)) = ix1 Y := funext fun a => match a with | ⟨0, _⟩ => rfl
  have h2 : idx_main_v75 (ix2 R Y) = ix2 (0 : Fin 1) Y := funext fun a => match a with | ⟨0, _⟩ => rfl | ⟨1, _⟩ => rfl
  have h3 : idx_main_v77 (ix2 R Y) = ix2 (0 : Fin 1) Y := funext fun a => match a with | ⟨0, _⟩ => rfl | ⟨1, _⟩ => rfl
  have h0 : FloatOps.ofBits (F := Ideal) .f32 0x00000000#32 = (0 : EReal) := Ideal.ofBits_zero_f32
  simp only [hX, h1, h2, h3, h0, zero_add]
  rfl

end Cert.MixRef

end
-- ==== Proof.MixHost.lean ====
/- The output projection's arrays: every window's blocks are the arguments' own rows and columns, and every result is the reference's. -/
module

public import proofs.«01_k».proof.Proof.MixValue
public import proofs.«01_k».proof.Proof.MixRef
public import Idealize.ShloMosaic.Lib.Pipeline.ValueKit
public import Idealize.ShloMosaic.Lib.Tactic
public import Idealize.ShloMosaic.Lib.StableHlo.ReadAt

@[expose] public section
set_option maxRecDepth 16384

noncomputable section

namespace Cert.MixHost

open Idealize.ShloMosaic hiding ix1 ix2 ix3 eq_ix1 eq_ix2 eq_ix3
open Idealize.ShloMosaic.ValueIdx Idealize.ShloMosaic.TcCoe Idealize.ShloMosaic.StableHlo
open Cert.MixingIdeal hiding sig
open Cert.MixingIdeal.Gen Cert.MixValue Cert.MixRef
open Cert.MixingReferenceIdeal.Read
open Cert.ProjValue (nrow)

variable (m : (ℓ : Loc nD τ MixingIdeal.sig) → Buf (Elt Ideal) ℓ) (c : Dev nD)

/-- The arguments. -/
abbrev ats : S16384x1024.Idx → EReal := m ((c : Thread nD τ).loc main_arg0)
abbrev gbs : S16384x1024.Idx → EReal := m ((c : Thread nD τ).loc main_arg1)
abbrev us : S16384x1024.Idx → EReal := m ((c : Thread nD τ).loc main_arg2)
abbrev xs : S16384x2048.Idx → EReal := m ((c : Thread nD τ).loc main_arg3)
abbrev gates : S1x2048.Idx → EReal := m ((c : Thread nD τ).loc main_arg4)
abbrev scs : S1x2048.Idx → EReal := m ((c : Thread nD τ).loc main_arg5)
abbrev shs : S1x2048.Idx → EReal := m ((c : Thread nD τ).loc main_arg6)
abbrev cws : S3x1024.Idx → EReal := m ((c : Thread nD τ).loc main_arg7)
abbrev gas : S1024.Idx → EReal := m ((c : Thread nD τ).loc main_arg8)
abbrev gcs : S1024.Idx → EReal := m ((c : Thread nD τ).loc main_arg9)
abbrev nms : S2048.Idx → EReal := m ((c : Thread nD τ).loc main_arg10)
abbrev ws : S2048x2048.Idx → EReal := m ((c : Thread nD τ).loc main_arg11)

theorem norm_host (k : Fin 2048) : (V m c main_v13 : S1x2048.Idx → EReal) (ix2 (0 : Fin 1) k) = nms m c (ix1 k) := by
  unfold V
  after_reads_at
  refine congrArg (nms m c) (funext fun a => ?_)
  match a with
  | ⟨0, _⟩ => exact Fin.ext (by simp)

theorem ga_host (k : Fin 1024) : (V m c main_v11 : S1x1024.Idx → EReal) (ix2 (0 : Fin 1) k) = gas m c (ix1 k) := by
  unfold V
  after_reads_at
  refine congrArg (gas m c) (funext fun a => ?_)
  match a with
  | ⟨0, _⟩ => exact Fin.ext (by simp)

theorem gc_host (k : Fin 1024) : (V m c main_v12 : S1x1024.Idx → EReal) (ix2 (0 : Fin 1) k) = gcs m c (ix1 k) := by
  unfold V
  after_reads_at
  refine congrArg (gcs m c) (funext fun a => ?_)
  match a with
  | ⟨0, _⟩ => exact Fin.ext (by simp)

theorem weight_host (x : S2048x2048.Idx) : (V m c main_v14 : S2048x2048.Idx → EReal) x = ws m c x := by
  unfold V
  after_reads_at

theorem zero_host (x : S8x1024.Idx) : (V m c main_v10 : S8x1024.Idx → EReal) x = (0 : EReal) := by
  unfold V
  after_reads_at

theorem taps_host (n : Fin 8) (s : Fin 3) (hs : n.val = s.val) (k : Fin 1024) : (V m c main_v9 : S8x1024.Idx → EReal) (ix2 n k) = cws m c (ix2 s k) := by
  unfold V
  after_reads_at
  rw [dif_pos (by show n.val < 3; have := s.isLt; omega)]
  refine congrArg (cws m c) (funext fun a => ?_)
  match a with
  | ⟨0, _⟩ => exact Fin.ext hs
  | ⟨1, _⟩ => rfl

/-- The printed floor division of a lane's number by 64. -/
def word (n : ℕ) : BitVec 32 :=
  Scalar.select (IntOp.andi (IntOp.cmpi .ne (if BitVec.ofNat 32 n = 0 then 0 else if (BitVec.ofNat 32 n).msb = true then -1 else 1)
      (if (64#32 : BitVec 32) = 0 then 0 else if BitVec.msb 64#32 = true then -1 else 1 : BitVec 32))
    (IntOp.cmpi .ne (IntOp.remsi .host (BitVec.ofNat 32 n) 64#32) 0#32))
    (IntOp.subi (IntOp.divsi .host (BitVec.ofNat 32 n) 64#32) 1#32) (IntOp.divsi .host (BitVec.ofNat 32 n) 64#32)

theorem word_eq (k : Fin 1024) : word k.val = BitVec.ofNat 32 (k.val / 64) := by
  revert k; decide +kernel

theorem words (a b : Fin 16) : IntOp.cmpi .eq (BitVec.ofNat 32 a.val) (BitVec.ofNat 32 b.val) = BitVec.ofBool (decide (a.val = b.val)) := by
  revert a b; decide +kernel

theorem means_host : Means (V m c main_v8 : S1024x1024.Idx → EReal) := by
  intro k y
  unfold V
  after_reads_at
  refine Eq.trans (b := Scalar.select (IntOp.cmpi .eq (word k.val) (word y.val)) (Ideal.ofBits .f32 0x3C800000#32) 0) rfl ?_
  rw [word_eq, word_eq, words ⟨k.val / 64, by omega⟩ ⟨y.val / 64, by omega⟩, pick]

theorem places (t : Fin cfg0.N) : win0_0.index t = ![t.val, 0] ∧ win0_1.index t = ![t.val, 0] ∧ win0_2.index t = ![t.val, 0]
    ∧ win0_3.index t = ![0, 0] ∧ win0_4.index t = ![32 * t.val - 1, 0] ∧ win0_5.index t = ![t.val, 0] ∧ win0_6.index t = ![0, 0]
    ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0]
    ∧ win0_15.index t = ![t.val, 0] ∧ win0_16.index t = ![t.val, 0] ∧ win0_17.index t = ![t.val, 0] := by
  revert t; decide +kernel

theorem point (t : Fin cfg0.N) : (grid0.coords t 0).val = t.val := by
  revert t; decide +kernel

variable (t : Fin cfg0.N)

theorem attn_at (y : S256x1024.Idx) (i : S16384x1024.Idx) (h0 : (i 0).val = 256 * t.val + (y 0).val) (h1 : (i 1).val = (y 1).val) :
    (iblk m c 0 t y : EReal) = ats m c i := by
  have e0 : (((cfg0.win 0).blk t).view.emb y 0).val = (i 0).val := by rw [h0]; blk_simp [places t]; omega
  have e1 : (((cfg0.win 0).blk t).view.emb y 1).val = (i 1).val := by rw [h1]; blk_simp [places t]
  refine (congrFun (V_main_arg0 m c) _).trans (congrArg (ats m c) (funext fun a => Fin.ext ?_))
  match a with
  | ⟨0, _⟩ => exact e0
  | ⟨1, _⟩ => exact e1

theorem gate_in_at (y : S256x1024.Idx) (i : S16384x1024.Idx) (h0 : (i 0).val = 256 * t.val + (y 0).val) (h1 : (i 1).val = (y 1).val) :
    (iblk m c 1 t y : EReal) = gbs m c i := by
  have e0 : (((cfg0.win 1).blk t).view.emb y 0).val = (i 0).val := by rw [h0]; blk_simp [places t]; omega
  have e1 : (((cfg0.win 1).blk t).view.emb y 1).val = (i 1).val := by rw [h1]; blk_simp [places t]
  refine (congrFun (V_main_arg1 m c) _).trans (congrArg (gbs m c) (funext fun a => Fin.ext ?_))
  match a with
  | ⟨0, _⟩ => exact e0
  | ⟨1, _⟩ => exact e1

theorem u_at (y : S256x1024.Idx) (i : S16384x1024.Idx) (h0 : (i 0).val = 256 * t.val + (y 0).val) (h1 : (i 1).val = (y 1).val) :
    (iblk m c 2 t y : EReal) = us m c i := by
  have e0 : (((cfg0.win 2).blk t).view.emb y 0).val = (i 0).val := by rw [h0]; blk_simp [places t]; omega
  have e1 : (((cfg0.win 2).blk t).view.emb y 1).val = (i 1).val := by rw [h1]; blk_simp [places t]
  refine (congrFun (V_main_arg2 m c) _).trans (congrArg (us m c) (funext fun a => Fin.ext ?_))
  match a with
  | ⟨0, _⟩ => exact e0
  | ⟨1, _⟩ => exact e1

theorem zero_at (y : S8x1024.Idx) : (iblk m c 3 t y : EReal) = (0 : EReal) := zero_host m c _

theorem prev_at (ht : 0 < t.val) (y : S8x1024.Idx) (i : S16384x1024.Idx) (h0 : (i 0).val = 256 * t.val - 8 + (y 0).val) (h1 : (i 1).val = (y 1).val) :
    (iblk m c 4 t y : EReal) = us m c i := by
  have e0 : (((cfg0.win 4).blk t).view.emb y 0).val = (i 0).val := by rw [h0]; blk_simp [places t]; omega
  have e1 : (((cfg0.win 4).blk t).view.emb y 1).val = (i 1).val := by rw [h1]; blk_simp [places t]
  refine (congrFun (V_main_arg2 m c) _).trans (congrArg (us m c) (funext fun a => Fin.ext ?_))
  match a with
  | ⟨0, _⟩ => exact e0
  | ⟨1, _⟩ => exact e1

theorem x_at (y : S256x2048.Idx) (i : S16384x2048.Idx) (h0 : (i 0).val = 256 * t.val + (y 0).val) (h1 : (i 1).val = (y 1).val) :
    (iblk m c 5 t y : EReal) = xs m c i := by
  have e0 : (((cfg0.win 5).blk t).view.emb y 0).val = (i 0).val := by rw [h0]; blk_simp [places t]; omega
  have e1 : (((cfg0.win 5).blk t).view.emb y 1).val = (i 1).val := by rw [h1]; blk_simp [places t]
  refine (congrFun (V_main_arg3 m c) _).trans (congrArg (xs m c) (funext fun a => Fin.ext ?_))
  match a with
  | ⟨0, _⟩ => exact e0
  | ⟨1, _⟩ => exact e1

theorem gate_row (k : Fin 2048) : (iblk m c 6 t (ix2 (0 : Fin 1) k) : EReal) = gates m c (ix2 (0 : Fin 1) k) := by
  refine (congrFun (V_main_arg4 m c) _).trans (congrArg (gates m c) (funext fun a => Fin.ext ?_))
  match a with
  | ⟨0, _⟩ => blk_simp [places t]
  | ⟨1, _⟩ => blk_simp [places t]

theorem scale_row (k : Fin 2048) : (iblk m c 7 t (ix2 (0 : Fin 1) k) : EReal) = scs m c (ix2 (0 : Fin 1) k) := by
  refine (congrFun (V_main_arg5 m c) _).trans (congrArg (scs m c) (funext fun a => Fin.ext ?_))
  match a with
  | ⟨0, _⟩ => blk_simp [places t]
  | ⟨1, _⟩ => blk_simp [places t]

theorem shift_row (k : Fin 2048) : (iblk m c 8 t (ix2 (0 : Fin 1) k) : EReal) = shs m c (ix2 (0 : Fin 1) k) := by
  refine (congrFun (V_main_arg6 m c) _).trans (congrArg (shs m c) (funext fun a => Fin.ext ?_))
  match a with
  | ⟨0, _⟩ => blk_simp [places t]
  | ⟨1, _⟩ => blk_simp [places t]

theorem taps_row (n : Fin 8) (s : Fin 3) (hs : n.val = s.val) (k : Fin 1024) : (iblk m c 9 t (ix2 n k) : EReal) = cws m c (ix2 s k) := by
  refine Eq.trans (congrArg (V m c main_v9 : S8x1024.Idx → EReal) (funext fun a => Fin.ext ?_)) (taps_host m c n s hs k)
  match a with
  | ⟨0, _⟩ => blk_simp [places t]
  | ⟨1, _⟩ => blk_simp [places t]

theorem ga_row (k : Fin 1024) : (iblk m c 10 t (ix2 (0 : Fin 1) k) : EReal) = gas m c (ix1 k) := by
  refine Eq.trans (congrArg (V m c main_v11 : S1x1024.Idx → EReal) (funext fun a => Fin.ext ?_)) (ga_host m c k)
  match a with
  | ⟨0, _⟩ => blk_simp [places t]
  | ⟨1, _⟩ => blk_simp [places t]

theorem gc_row (k : Fin 1024) : (iblk m c 11 t (ix2 (0 : Fin 1) k) : EReal) = gcs m c (ix1 k) := by
  refine Eq.trans (congrArg (V m c main_v12 : S1x1024.Idx → EReal) (funext fun a => Fin.ext ?_)) (gc_host m c k)
  match a with
  | ⟨0, _⟩ => blk_simp [places t]
  | ⟨1, _⟩ => blk_simp [places t]

theorem norm_row (k : Fin 2048) : (iblk m c 12 t (ix2 (0 : Fin 1) k) : EReal) = nms m c (ix1 k) := by
  refine Eq.trans (congrArg (V m c main_v13 : S1x2048.Idx → EReal) (funext fun a => Fin.ext ?_)) (norm_host m c k)
  match a with
  | ⟨0, _⟩ => blk_simp [places t]
  | ⟨1, _⟩ => blk_simp [places t]

theorem means_block : Means (iblk m c 13 t : S1024x1024.Idx → EReal) := by
  intro k y
  refine Eq.trans (congrArg (V m c main_v8 : S1024x1024.Idx → EReal) (funext fun a => Fin.ext ?_)) (means_host m c k y)
  match a with
  | ⟨0, _⟩ => blk_simp [places t]
  | ⟨1, _⟩ => blk_simp [places t]

theorem weight_at (y : S2048x2048.Idx) : (iblk m c 14 t y : EReal) = ws m c y := by
  refine (weight_host m c _).trans (congrArg (ws m c) (funext fun a => Fin.ext ?_))
  match a with
  | ⟨0, _⟩ => blk_simp [places t]
  | ⟨1, _⟩ => blk_simp [places t]

theorem zeros : (![0, 0] : Fin 2 → ℕ) = fun _ => 0 := funext fun a => match a with
  | ⟨0, _⟩ => rfl
  | ⟨1, _⟩ => rfl

theorem top_at (w : Vec Ideal S2048x2048 .bf16) (k : Fin 1024) (Y : Fin 2048) :
    (View.ld w r0_4 (ix2 k Y) : EReal) = w (ix2 (⟨k.val, by omega⟩ : Fin 2048) Y) :=
  congrArg w (funext fun a => match a with
    | ⟨0, _⟩ => Fin.ext (by show 0 + 1 * k.val = k.val; omega)
    | ⟨1, _⟩ => Fin.ext (by show 0 + 1 * Y.val = Y.val; omega))

theorem bottom_at (w : Vec Ideal S2048x2048 .bf16) (k : Fin 1024) (Y : Fin 2048) :
    (View.ld w r0_5 (ix2 k Y) : EReal) = w (ix2 (⟨1024 + k.val, by omega⟩ : Fin 2048) Y) :=
  congrArg w (funext fun a => match a with
    | ⟨0, _⟩ => Fin.ext (by show 1024 + 1 * k.val = 1024 + k.val; omega)
    | ⟨1, _⟩ => Fin.ext (by show 0 + 1 * Y.val = Y.val; omega))

theorem row_lt (r : Fin 256) : 256 * t.val + r.val < 16384 := by
  have ht : t.val < 64 := lt_of_lt_of_eq t.isLt N_0
  omega

/-- The array's row that row `r` of block `t` is. -/
abbrev row (r : Fin 256) : Fin 16384 := ⟨256 * t.val + r.val, row_lt t r⟩

theorem conv_block (r : Fin 256) (y : Fin 1024) :
    (k0_pay5 (grid0.coords t) (iblk m c 2 t) (iblk m c 3 t) (iblk m c 4 t) (iblk m c 9 t) (ix2 r y) : EReal) = convOf (us m c) (cws m c) (row t r) y := by
  have ht : t.val < 64 := lt_of_lt_of_eq t.isLt N_0
  rw [pay5_apply (grid0.coords t) t.val (point t) ht (rowsOf (us m c)) (iblk m c 2 t) (iblk m c 3 t) (iblk m c 4 t) (iblk m c 9 t)
    (fun r y => by
      unfold rowsOf
      rw [dif_pos (row_lt t r)]
      exact u_at m c t (ix2 r y) (ix2 (row t r) y) rfl rfl)
    (fun s y => zero_at m c t _)
    (fun h s y => by
      unfold rowsOf
      rw [dif_pos (by have := s.isLt; omega)]
      exact prev_at m c t h (ix2 s y) _ rfl rfl)]
  unfold convOf
  have a0 : (fun l => (iblk m c 9 t (ix2 (0 : Fin 8) l) : EReal)) = fun l => cws m c (ix2 (0 : Fin 3) l) := funext fun l => taps_row m c t 0 0 rfl l
  have a1 : (fun l => (iblk m c 9 t (ix2 (1 : Fin 8) l) : EReal)) = fun l => cws m c (ix2 (1 : Fin 3) l) := funext fun l => taps_row m c t 1 1 rfl l
  have a2 : (fun l => (iblk m c 9 t (ix2 (2 : Fin 8) l) : EReal)) = fun l => cws m c (ix2 (2 : Fin 3) l) := funext fun l => taps_row m c t 2 2 rfl l
  exact congrFun (congrFun (congrFun (congr (congr (congrArg conv a0) a1) a2) _) _) _

/-- The merged product of a block. -/
abbrev prodBlock : FVec Ideal S256x2048 .f32 :=
  k0_pay6 (k0_pay5 (grid0.coords t) (iblk m c 2 t) (iblk m c 3 t) (iblk m c 4 t) (iblk m c 9 t)) (iblk m c 1 t) (iblk m c 0 t) (iblk m c 13 t)
    (iblk m c 10 t) (View.ld (iblk m c 14 t) r0_4) (iblk m c 11 t) (View.ld (iblk m c 14 t) r0_5)

theorem merge_block (r : Fin 256) (Y : Fin 2048) :
    (prodBlock m c t (ix2 r Y) : EReal) = merge (gnorm (fun l => ats m c (ix2 (row t r) l)) (fun l => gas m c (ix1 l)))
      (gnorm (fun l => gbs m c (ix2 (row t r) l) * convOf (us m c) (cws m c) (row t r) l) (fun l => gcs m c (ix1 l))) (fun k => ws m c (ix2 k Y)) := by
  unfold prodBlock
  rw [pay6_apply _ _ _ _ (means_block m c t)]
  unfold merge
  have a0 : (fun l => (iblk m c 0 t (ix2 r l) : EReal)) = fun l => ats m c (ix2 (row t r) l) := funext fun l => attn_at m c t (ix2 r l) (ix2 (row t r) l) rfl rfl
  have a1 : (fun l => (iblk m c 10 t (ix2 (0 : Fin 1) l) : EReal)) = fun l => gas m c (ix1 l) := funext fun l => ga_row m c t l
  have a2 : (fun l => HMul.hMul (α := EReal) (β := EReal) (γ := EReal) (iblk m c 1 t (ix2 r l))
      (k0_pay5 (grid0.coords t) (iblk m c 2 t) (iblk m c 3 t) (iblk m c 4 t) (iblk m c 9 t) (ix2 r l)))
      = fun l => gbs m c (ix2 (row t r) l) * convOf (us m c) (cws m c) (row t r) l := funext fun l =>
    congr (congrArg (HMul.hMul (α := EReal) (β := EReal) (γ := EReal)) (gate_in_at m c t (ix2 r l) (ix2 (row t r) l) rfl rfl)) (conv_block m c t r l)
  have a3 : (fun l => (iblk m c 11 t (ix2 (0 : Fin 1) l) : EReal)) = fun l => gcs m c (ix1 l) := funext fun l => gc_row m c t l
  refine congr (congrArg HAdd.hAdd (Finset.sum_congr rfl fun k _ => ?_)) (Finset.sum_congr rfl fun k _ => ?_)
  · exact congr (congrArg HMul.hMul (congrFun (congr (congrArg gnorm a0) a1) k)) ((top_at _ k Y).trans (weight_at m c t _))
  · exact congr (congrArg HMul.hMul (congrFun (congr (congrArg gnorm a2) a3) k)) ((bottom_at _ k Y).trans (weight_at m c t _))

theorem stream_block (r : Fin 256) (Y : Fin 2048) :
    (k0_pay1 (prodBlock m c t) (iblk m c 5 t) (iblk m c 6 t) (ix2 r Y) : EReal)
      = stream (ats m c) (gbs m c) (us m c) (xs m c) (gates m c) (cws m c) (gas m c) (gcs m c) (ws m c) (row t r) Y := by
  rw [pay1_apply, merge_block]
  exact congr (congrArg HAdd.hAdd (x_at m c t (ix2 r Y) (ix2 (row t r) Y) rfl rfl)) (congrArg (· * _) (gate_row m c t Y))

theorem normed_block (r : Fin 256) (Y : Fin 2048) :
    (k0_pay2 (prodBlock m c t) (iblk m c 5 t) (iblk m c 6 t) (iblk m c 12 t) (iblk m c 7 t) (iblk m c 8 t) (ix2 r Y) : EReal)
      = normed (ats m c) (gbs m c) (us m c) (xs m c) (gates m c) (scs m c) (shs m c) (cws m c) (gas m c) (gcs m c) (nms m c) (ws m c) (row t r) Y := by
  rw [pay2_apply]
  unfold normed
  have a0 : (fun l => (k0_pay1 (prodBlock m c t) (iblk m c 5 t) (iblk m c 6 t) (ix2 r l) : EReal))
      = stream (ats m c) (gbs m c) (us m c) (xs m c) (gates m c) (cws m c) (gas m c) (gcs m c) (ws m c) (row t r) := funext fun l => stream_block m c t r l
  have a1 : (fun l => (iblk m c 12 t (ix2 (0 : Fin 1) l) : EReal)) = fun l => nms m c (ix1 l) := funext fun l => norm_row m c t l
  have a2 : (fun l => (iblk m c 7 t (ix2 (0 : Fin 1) l) : EReal)) = fun l => scs m c (ix2 (0 : Fin 1) l) := funext fun l => scale_row m c t l
  have a3 : (fun l => (iblk m c 8 t (ix2 (0 : Fin 1) l) : EReal)) = fun l => shs m c (ix2 (0 : Fin 1) l) := funext fun l => shift_row m c t l
  exact congrFun (congr (congr (congr (congrArg nrow a0) a1) a2) a3) Y

theorem pay7_eq : k0_pay7 (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) = prodBlock m c t := by
  unfold k0_pay7 prodBlock
  simp (disch := decide) only [View.ld_unit_lit']
  rfl

theorem after15 : (dats m 0 c).after 15 t = k0_pay1 (prodBlock m c t) (iblk m c 5 t) (iblk m c 6 t) := by
  rw [after0_15]
  unfold out0_15
  rw [pay7_eq]
  refine (View.canon_cons_unit_zero zeros _ _ []).trans ?_
  simp (disch := decide) only [View.ld_unit_lit']

theorem after16 : (dats m 0 c).after 16 t = k0_pay3 (prodBlock m c t) (iblk m c 5 t) (iblk m c 6 t) (iblk m c 12 t) (iblk m c 7 t) (iblk m c 8 t) := by
  rw [after0_16]
  unfold out0_16
  rw [pay7_eq]
  refine (View.canon_cons_unit_zero zeros _ _ []).trans ?_
  simp (disch := decide) only [View.ld_unit_lit']

theorem after17 : (dats m 0 c).after 17 t = k0_pay4 (prodBlock m c t) (iblk m c 5 t) (iblk m c 6 t) (iblk m c 12 t) (iblk m c 7 t) (iblk m c 8 t) := by
  rw [after0_17]
  unfold out0_17
  rw [pay7_eq]
  refine (View.canon_cons_unit_zero zeros _ _ []).trans ?_
  simp (disch := decide) only [View.ld_unit_lit']

/-- A row and column of the arrays, from a block's. -/
theorem placed (i : S16384x2048.Idx) (r : Fin 256) (Y : Fin 2048) (h0 : (i 0).val = 256 * t.val + r.val) (h1 : (i 1).val = Y.val) : i = ix2 (row t r) Y :=
  funext fun a => match a with
    | ⟨0, _⟩ => Fin.ext h0
    | ⟨1, _⟩ => Fin.ext h1

theorem arr15 : (dats m 0 c).arrAt 15 cfg0.N
    = val_main_v59 (F := Ideal) (ats m c) (gbs m c) (us m c) (xs m c) (gates m c) (cws m c) (gas m c) (gcs m c) (ws m c) := by
  refine (dats m 0 c).arrAt_eq_of_covers 15 _ (by decide +kernel) fun t _ y => ?_
  have e : y = ix2 (y 0) (y 1) := by funext a; fin_cases a <;> rfl
  have h0 : (((cfg0.win 15).blk t).view.emb y 0).val = 256 * t.val + (y 0).val := by blk_simp [places t]; omega
  have h1 : (((cfg0.win 15).blk t).view.emb y 1).val = (y 1).val := by blk_simp [places t]
  refine Eq.trans (congrFun (after15 m c t) y) ((congrArg (k0_pay1 (prodBlock m c t) (iblk m c 5 t) (iblk m c 6 t)) e).trans ?_)
  refine Eq.trans (stream_block m c t (y 0) (y 1)) ((stream_apply _ _ _ _ _ _ _ _ _ _ _).symm.trans ?_)
  exact congrArg _ (placed t _ (y 0) (y 1) h0 h1).symm

theorem arr16 : (dats m 0 c).arrAt 16 cfg0.N
    = val_main_v79 (F := Ideal) (ats m c) (gbs m c) (us m c) (xs m c) (gates m c) (scs m c) (shs m c) (cws m c) (gas m c) (gcs m c) (nms m c) (ws m c) := by
  refine (dats m 0 c).arrAt_eq_of_covers 16 _ (by decide +kernel) fun t _ y => ?_
  have e : y = ix2 (y 0) (y 1) := by funext a; fin_cases a <;> rfl
  have h0 : (((cfg0.win 16).blk t).view.emb y 0).val = 256 * t.val + (y 0).val := by blk_simp [places t]; omega
  have h1 : (((cfg0.win 16).blk t).view.emb y 1).val = (y 1).val := by blk_simp [places t]
  refine Eq.trans (congrFun (after16 m c t) y) ((congrArg (k0_pay3 (prodBlock m c t) (iblk m c 5 t) (iblk m c 6 t) (iblk m c 12 t) (iblk m c 7 t) (iblk m c 8 t)) e).trans ?_)
  refine Eq.trans (normed_block m c t (y 0) (y 1)) ((normed_apply _ _ _ _ _ _ _ _ _ _ _ _ _ _).symm.trans ?_)
  exact congrArg (val_main_v78 (F := Ideal) (ats m c) (gbs m c) (us m c) (xs m c) (gates m c) (scs m c) (shs m c) (cws m c) (gas m c) (gcs m c) (nms m c) (ws m c))
    (placed t _ (y 0) (y 1) h0 h1).symm

theorem arr17 : (dats m 0 c).arrAt 17 cfg0.N
    = val_main_v83 (F := Ideal) (ats m c) (gbs m c) (us m c) (xs m c) (gates m c) (scs m c) (shs m c) (cws m c) (gas m c) (gcs m c) (nms m c) (ws m c) := by
  refine (dats m 0 c).arrAt_eq_of_covers 17 _ (by decide +kernel) fun t _ y => ?_
  have e : y = ix2 (y 0) (y 1) := by funext a; fin_cases a <;> rfl
  have h0 : (((cfg0.win 17).blk t).view.emb y 0).val = 256 * t.val + (y 0).val := by blk_simp [places t]; omega
  have h1 : (((cfg0.win 17).blk t).view.emb y 1).val = (y 1).val := by blk_simp [places t]
  refine Eq.trans (congrFun (after17 m c t) y) ((congrArg (k0_pay4 (prodBlock m c t) (iblk m c 5 t) (iblk m c 6 t) (iblk m c 12 t) (iblk m c 7 t) (iblk m c 8 t)) e).trans ?_)
  have h := (normed_block m c t (y 0) (y 1)).trans ((normed_apply (ats m c) (gbs m c) (us m c) (xs m c) (gates m c) (scs m c) (shs m c) (cws m c) (gas m c) (gcs m c)
    (nms m c) (ws m c) (row t (y 0)) (y 1)).symm.trans
    (congrArg (val_main_v78 (F := Ideal) (ats m c) (gbs m c) (us m c) (xs m c) (gates m c) (scs m c) (shs m c) (cws m c) (gas m c) (gcs m c) (nms m c) (ws m c))
      (placed t _ (y 0) (y 1) h0 h1).symm))
  exact congr (congrArg (HSub.hSub (α := EReal) (β := EReal)) h) h

end Cert.MixHost

end
-- ==== Proof.SampleBody.lean ====
/- The runs of the projection's body at its six points, with a row of shift and of scale for each row. -/
module

public import proofs.«01_k».proof.Proof.Gen.SampleIdeal.Frame
public import proofs.«01_k».proof.Proof.Gen.SampleIdeal.Skeleton
public import Idealize.ShloMosaic.Lib.Pipeline.ValueKit
public import Idealize.ShloMosaic.Lib.VecWindow

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

/-- A branch's condition at a grid point, as the kernel computes it: its column is `n`. -/
abbrev cond (i : grid0.Coords) (n : BitVec 32) : Prop :=
  Scalar.cmpi .ne (Scalar.extui (Scalar.cmpi .eq (BitVec.ofNat 32 (i 1).val) n) : BitVec 32) 0#32 = 1#1

theorem cond_iff (i : grid0.Coords) (n : Fin 6) : cond i (BitVec.ofNat 32 n.val) ↔ (i 1).val = n.val := by
  have : ∀ y n : Fin 6, Scalar.cmpi .ne (Scalar.extui (Scalar.cmpi .eq (BitVec.ofNat 32 y.val) (BitVec.ofNat 32 n.val)) : BitVec 32) 0#32 = 1#1 ↔ y.val = n.val := by
    decide +kernel
  exact this (i 1) n

variable {F : FTy → Type} [FloatOps F] [Named F]

/-- One store of a whole buffer, read back. -/
theorem stored {S : Shape} {e : EltTy} (M : Memref sig .tc .vmem S e) (f : M.view.ty.Contents (Elt F)) {off : Fin S.rank → ℕ}
    (inb : ∀ a, off a + S.size a ≤ S.size a) (w : S.Idx → Elt F e) :
    M.view.read (Elt F) (M.view.writes (Elt F) f [⟨Rect.unit off S.size inb, w⟩]) = w :=
  View.read_writes_full M.view f inb w []

/-- One store of a whole buffer, loaded back. -/
theorem loaded {S : Shape} {e : EltTy} (M : Memref sig .tc .vmem S e) (f : M.view.ty.Contents (Elt F)) {off off' : Fin S.rank → ℕ}
    (inb : ∀ a, off a + S.size a ≤ S.size a) (inb' : ∀ a, off' a + S.size a ≤ S.size a) (w : S.Idx → Elt F e) :
    M.view.readAt (Elt F) (Rect.unit off' S.size inb').toLoadRect (M.view.writes (Elt F) f [⟨Rect.unit off S.size inb, w⟩]) = w :=
  View.readAt_writes_full M.view f inb' inb w []

set_option maxHeartbeats 1280000 in
/-- The body at point 0. -/
theorem run0 (c : Dev nD) (i : grid0.Coords) (hj : (i 1).val = 0) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (x : Vec F S128x2048 .f32) (sh : Vec F S128x2048 .f32) (sc : Vec F S128x2048 .f32) (nm : Vec F S1x2048 .f32) (w : Vec F S2048x1024 .bf16) (E : Set ℕ) (K : PUnit → sProp (MT nD τ sig Unit (Elt F) ℕ (UR sig nD τ) ℕ)) :
    iprop(owns (c : Thread nD τ) arg2 fullShare x ∗ owns (c : Thread nD τ) arg3 fullShare sh ∗ owns (c : Thread nD τ) arg4 fullShare sc ∗ owns (c : Thread nD τ) arg5 fullShare nm ∗ owns (c : Thread nD τ) arg6 fullShare w ∗ (∃ d, owns (c : Thread nD τ) arg7 fullShare d) ∗ (∃ d, owns (c : Thread nD τ) arg14 fullShare d)
        ∗ (iprop(owns (c : Thread nD τ) arg2 fullShare x ∗ owns (c : Thread nD τ) arg3 fullShare sh ∗ owns (c : Thread nD τ) arg4 fullShare sc ∗ owns (c : Thread nD τ) arg5 fullShare nm ∗ owns (c : Thread nD τ) arg6 fullShare w ∗ owns (c : Thread nD τ) arg7 fullShare (k0_pay3 (k0_pay1 x nm sc sh) w) ∗ owns (c : Thread nD τ) arg14 fullShare (k0_pay1 x nm sc sh)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : cond i 0#32 := (cond_iff i 0).2 hj
  have hc1 : k0_cond2 i = 1#1 := (cond_iff i 0).2 hj
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d14, %f14, -, H14⟩, Hk⟩
  obtain rfl := harg2.eq_unread hf2; obtain rfl := harg3.eq_unread hf3; obtain rfl := harg4.eq_unread hf4; obtain rfl := harg5.eq_unread hf5; obtain rfl := harg6.eq_unread hf6
  have e2 : arg2.view.readAt (Elt F) (Rect.unit (s := S128x2048) ![0, 0] S128x2048.size inb_S128x2048_S128x2048_0_0).toLoadRect (harg2.unread x) = x := (View.readAt_full arg2.view _ _).trans (harg2.read_unread _)
  have e3 : arg3.view.readAt (Elt F) (Rect.unit (s := S128x2048) ![0, 0] S128x2048.size inb_S128x2048_S128x2048_0_0).toLoadRect (harg3.unread sh) = sh := (View.readAt_full arg3.view _ _).trans (harg3.read_unread _)
  have e4 : arg4.view.readAt (Elt F) (Rect.unit (s := S128x2048) ![0, 0] S128x2048.size inb_S128x2048_S128x2048_0_0).toLoadRect (harg4.unread sc) = sc := (View.readAt_full arg4.view _ _).trans (harg4.read_unread _)
  have e5 : arg5.view.readAt (Elt F) (Rect.unit (s := S1x2048) ![0, 0] S1x2048.size inb_S1x2048_S1x2048_0_0).toLoadRect (harg5.unread nm) = nm := (View.readAt_full arg5.view _ _).trans (harg5.read_unread _)
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  sl_exec (disch := first | sl_exact hc0 | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; refine (stored _ _ _ _).trans ?_; unfold run0.sl.v3; exact congrArg (fun H => k0_pay3 H w) (View.readCov_full _ _ _ _ _)
  iexists _; isplitr; swap; · iexact H14
  ipureintro; refine (stored _ _ _ _).trans ?_; rfl

set_option maxHeartbeats 1280000 in
/-- The body at point 1. -/
theorem run1 (c : Dev nD) (i : grid0.Coords) (hj : (i 1).val = 1) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (w : Vec F S2048x1024 .bf16) (H : Vec F S128x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg8 fullShare d) ∗ (∃ d, owns (c : Thread nD τ) arg9 fullShare d)
        ∗ (iprop(owns (c : Thread nD τ) arg6 fullShare w ∗ owns (c : Thread nD τ) arg14 fullShare H ∗ owns (c : Thread nD τ) arg8 fullShare (k0_pay2 H w) ∗ owns (c : Thread nD τ) arg9 fullShare (k0_pay4 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : k0_cond3 i = 1#1 := (cond_iff i 1).2 hj
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d8, %f8, -, H8⟩, ⟨%d9, %f9, -, H9⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S128x2048) ![0, 0] S128x2048.size inb_S128x2048_S128x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H8]
  · iexists _; isplitr; swap; · iexact H8
    ipureintro; refine (stored _ _ _ _).trans ?_; rfl
  iexists _; isplitr; swap; · iexact H9
  ipureintro; refine (stored _ _ _ _).trans ?_; rfl

set_option maxHeartbeats 1280000 in
/-- The body at point 2. -/
theorem run2 (c : Dev nD) (i : grid0.Coords) (hj : (i 1).val = 2) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (w : Vec F S2048x1024 .bf16) (H : Vec F S128x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg10 fullShare d) ∗ (∃ d, owns (c : Thread nD τ) arg11 fullShare d)
        ∗ (iprop(owns (c : Thread nD τ) arg6 fullShare w ∗ owns (c : Thread nD τ) arg14 fullShare H ∗ owns (c : Thread nD τ) arg10 fullShare (k0_pay2 H w) ∗ owns (c : Thread nD τ) arg11 fullShare (k0_pay5 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : k0_cond4 i = 1#1 := (cond_iff i 2).2 hj
  have hc4 : ¬k0_cond5 i = 1#1 := fun h => absurd ((cond_iff i 3).1 h) (by rw [hj]; decide)
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d10, %f10, -, H10⟩, ⟨%d11, %f11, -, H11⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S128x2048) ![0, 0] S128x2048.size inb_S128x2048_S128x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H10]
  · iexists _; isplitr; swap; · iexact H10
    ipureintro; refine (stored _ _ _ _).trans ?_; rfl
  iexists _; isplitr; swap; · iexact H11
  ipureintro; refine (stored _ _ _ _).trans ?_; rfl

set_option maxHeartbeats 1280000 in
/-- The body at point 3. -/
theorem run3 (c : Dev nD) (i : grid0.Coords) (hj : (i 1).val = 3) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (w : Vec F S2048x1024 .bf16) (H : Vec F S128x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg12 fullShare d)
        ∗ (iprop(owns (c : Thread nD τ) arg6 fullShare w ∗ owns (c : Thread nD τ) arg14 fullShare H ∗ owns (c : Thread nD τ) arg12 fullShare (k0_pay2 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : k0_cond5 i = 1#1 := (cond_iff i 3).2 hj
  have hc5 : ¬cond i 4#32 := fun h => absurd ((cond_iff i 4).1 h) (by rw [hj]; decide)
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d12, %f12, -, H12⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S128x2048) ![0, 0] S128x2048.size inb_S128x2048_S128x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  iexists _; isplitr; swap; · iexact H12
  ipureintro; refine (stored _ _ _ _).trans ?_; rfl

set_option maxHeartbeats 1280000 in
/-- The body at point 4. -/
theorem run4 (c : Dev nD) (i : grid0.Coords) (hj : (i 1).val = 4) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (w : Vec F S2048x1024 .bf16) (H : Vec F S128x2048 .bf16) (E : Set ℕ) (K : PUnit → sProp (MT nD τ sig Unit (Elt F) ℕ (UR sig nD τ) ℕ)) :
    iprop(owns (c : Thread nD τ) arg6 fullShare w ∗ owns (c : Thread nD τ) arg14 fullShare H ∗ (∃ d, owns (c : Thread nD τ) arg15 fullShare d)
        ∗ (iprop(owns (c : Thread nD τ) arg6 fullShare w ∗ owns (c : Thread nD τ) arg14 fullShare H ∗ owns (c : Thread nD τ) arg15 fullShare (k0_pay6 H w)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : cond i 4#32 := (cond_iff i 4).2 hj
  have hc6 : ¬k0_cond7 i = 1#1 := fun h => absurd ((cond_iff i 5).1 h) (by rw [hj]; decide)
  rw [cc0__proj_kernel_eq_skeleton]; unfold cc0__proj_kernel_skel
  unfold owns
  iintro ⟨⟨%f6, %hf6, H6⟩, ⟨%f14, %hf14, H14⟩, ⟨%d15, %f15, -, H15⟩, Hk⟩
  obtain rfl := harg6.eq_unread hf6; obtain rfl := harg14.eq_unread hf14
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S128x2048) ![0, 0] S128x2048.size inb_S128x2048_S128x2048_0_0).toLoadRect (harg14.unread H) = H := (View.readAt_full arg14.view _ _).trans (harg14.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  iexists _; isplitr; swap; · iexact H15
  ipureintro; refine (stored _ _ _ _).trans ?_; rfl

set_option maxHeartbeats 1280000 in
/-- The body at point 5. -/
theorem run5 (c : Dev nD) (i : grid0.Coords) (hj : (i 1).val = 5) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S128x1024 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S1x1024x128 .bf16) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x2048 .bf16) (harg14 : arg14.IsWhole) (arg15 : Memref sig .tc .vmem S128x1024 .f32) (harg15 : arg15.IsWhole)
    (w : Vec F S2048x1024 .bf16) (H : Vec F S128x2048 .bf16) (G : Vec F S128x1024 .f32) (E : Set ℕ) (K : PUnit → sProp (MT nD τ sig Unit (Elt F) ℕ (UR sig nD τ) ℕ)) :
    iprop(owns (c : Thread nD τ) arg6 fullShare w ∗ owns (c : Thread nD τ) arg14 fullShare H ∗ owns (c : Thread nD τ) arg15 fullShare G ∗ (∃ d, owns (c : Thread nD τ) arg13 fullShare d)
        ∗ (iprop(owns (c : Thread nD τ) arg6 fullShare w ∗ owns (c : Thread nD τ) arg14 fullShare H ∗ owns (c : Thread nD τ) arg15 fullShare G ∗ owns (c : Thread nD τ) arg13 fullShare (k0_pay7 H w G)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11 arg12 harg12 arg13 harg13 arg14 harg14 arg15 harg15) K := by
  have hc0 : ¬cond i 0#32 := fun h => absurd ((cond_iff i 0).1 h) (by rw [hj]; decide)
  have hc1 : ¬k0_cond2 i = 1#1 := fun h => absurd ((cond_iff i 0).1 h) (by rw [hj]; decide)
  have hc2 : ¬k0_cond3 i = 1#1 := fun h => absurd ((cond_iff i 1).1 h) (by rw [hj]; decide)
  have hc3 : ¬k0_cond4 i = 1#1 := fun h => absurd ((cond_iff i 2).1 h) (by rw [hj]; decide)
  have hc4 : ¬k0_cond5 i = 1#1 := fun h => absurd ((cond_iff i 3).1 h) (by rw [hj]; decide)
  have hc5 : ¬cond i 4#32 := fun h => absurd ((cond_iff i 4).1 h) (by rw [hj]; decide)
  have hc6 : k0_cond7 i = 1#1 := (cond_iff i 5).2 hj
  rw [cc0__proj_kernel_eq_skeleton]; unfold cc0__proj_kernel_skel
  unfold owns
  iintro ⟨⟨%f6, %hf6, H6⟩, ⟨%f14, %hf14, H14⟩, ⟨%f15, %hf15, H15⟩, ⟨%d13, %f13, -, H13⟩, Hk⟩
  obtain rfl := harg6.eq_unread hf6; obtain rfl := harg14.eq_unread hf14; obtain rfl := harg15.eq_unread hf15
  have e6 : arg6.view.readAt (Elt F) (Rect.unit (s := S2048x1024) ![0, 0] S2048x1024.size inb_S2048x1024_S2048x1024_0_0).toLoadRect (harg6.unread w) = w := (View.readAt_full arg6.view _ _).trans (harg6.read_unread _)
  have e14 : arg14.view.readAt (Elt F) (Rect.unit (s := S128x2048) ![0, 0] S128x2048.size inb_S128x2048_S128x2048_0_0).toLoadRect (harg14.unread H) = H := (View.readAt_full arg14.view _ _).trans (harg14.read_unread _)
  have e15 : arg15.view.readAt (Elt F) (Rect.unit (s := S128x1024) ![0, 0] S128x1024.size inb_S128x1024_S128x1024_0_0).toLoadRect (harg15.unread G) = G := (View.readAt_full arg15.view _ _).trans (harg15.read_unread _)
  sl_exec (disch := first | sl_exact hc0 | sl_exact hc1 | sl_exact hc2 | sl_exact hc3 | sl_exact hc4 | sl_exact hc5 | sl_exact hc6)
  sl_step
  iapply Hk
  isplitl [H6]
  · iexists _; isplitr; · ipureintro; exact harg6.read_unread _
    iexact H6
  isplitl [H14]
  · iexists _; isplitr; · ipureintro; exact harg14.read_unread _
    iexact H14
  isplitl [H15]
  · iexists _; isplitr; · ipureintro; exact harg15.read_unread _
    iexact H15
  iexists _; isplitr; swap; · iexact H13
  ipureintro; refine (stored _ _ _ _).trans ?_; rfl

end Cert.SampleIdeal.Hand

end
-- ==== Proof.SampleRun.lean ====
/- The projection's run: what every point leaves, the body at each, and the launch. -/
module

public import proofs.«01_k».proof.Proof.SampleBody

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

section
variable {c : Dev nD} (dat : Dat τ (Elt F) Unit ℕ (UR sig nD τ) ℕ cfg0 c) (w : Fin cfg0.W) (s : ℕ)

/-- What is known of an output window: stored at the points `s` of the row blocks, written back at their last points. -/
structure Out : Prop where
  fetch : ∀ t, (cfg0.win w).fetch t = false
  flush : ∀ t, (cfg0.win w).flush t = true ↔ t.val % 6 = 5
  idle : ∀ t, cfg0.idle w (cfg0.grid.coords t) = true ↔ ¬t.val % 6 = s
  kept : ∀ t d, dat.kept w t d = dat.after w t
  same : ∀ t t' : Fin cfg0.N, t.val / 6 = t'.val / 6 → dat.after w t = dat.after w t'

variable {dat w s} (h : Out dat w s)
include h

/-- Past its store the window's buffer keeps the block. -/
theorem Out.before : ∀ (n : ℕ) (t : Fin cfg0.N), t.val % 6 = n → s < n → ∀ d, dat.before w t d = dat.after w t := by
  intro n
  induction n with
  | zero => intro t _ hs; omega
  | succ n ih =>
    intro t ht hs d
    rw [dat.before_of_pos w t (by omega) (h.fetch t) d]
    rw [if_neg (fun e => by have := (h.flush _).1 e; simp only at this; omega)]
    have hsame := h.same ⟨t.val - 1, Nat.lt_of_le_of_lt (Nat.sub_le _ _) t.isLt⟩ t (by simp only; omega)
    unfold Dat.left
    by_cases hn : n = s
    · have : cfg0.idle w (cfg0.grid.coords ⟨t.val - 1, Nat.lt_of_le_of_lt (Nat.sub_le _ _) t.isLt⟩) = false := by
        rw [← Bool.not_eq_true, h.idle]; simp only; omega
      rw [this]
      exact (h.kept _ d).trans hsame
    · have : cfg0.idle w (cfg0.grid.coords ⟨t.val - 1, Nat.lt_of_le_of_lt (Nat.sub_le _ _) t.isLt⟩) = true := by
        rw [h.idle]; simp only; omega
      rw [this]
      exact (ih _ (by simp only; omega) (by omega) d).trans hsame

/-- A point that stores nothing into the window hands its buffer back. -/
theorem Out.pass (hs : s ≤ 5) (t : Fin cfg0.N) (ht : ¬t.val % 6 = s) :
    (∃ d, owns (c : Thread nD τ) ((cfg0.win w).stage (cfg0.slots t w)) fullShare (dat.before w t d) : sProp (MT nD τ sig Unit (Elt F) ℕ (UR sig nD τ) ℕ)) ⊢ dat.leavesExact w t := by
  have hi := (h.idle t).2 ht
  by_cases hf : t.val % 6 = 5
  · have hf' := (h.flush t).2 hf
    unfold Dat.leavesExact; rw [hi, hf']
    iintro ⟨%d, H⟩
    rw [h.before 5 t hf (by omega) d]
    iexact H
  · have hf' : (cfg0.win w).flush t = false := by rw [← Bool.not_eq_true, h.flush]; exact hf
    rw [dat.leavesExact_idle w t hi hf']

/-- The point that stores the window's block leaves it there. -/
theorem Out.put (t : Fin cfg0.N) (ht : t.val % 6 = s) :
    (owns (c : Thread nD τ) ((cfg0.win w).stage (cfg0.slots t w)) fullShare (dat.after w t) : sProp (MT nD τ sig Unit (Elt F) ℕ (UR sig nD τ) ℕ)) ⊢ dat.leavesExact w t := by
  have hi : cfg0.idle w (cfg0.grid.coords t) = false := by rw [← Bool.not_eq_true, h.idle]; omega
  unfold Dat.leavesExact; rw [hi]

end

/-! ## What the points leave -/

variable (m : (ℓ : Loc nD τ sig) → Buf (Elt F) ℓ) (ρ : Dev nD → PrngReg)

/-- Point `j` of row block `I`. -/
def pt (I j : ℕ) : Fin cfg0.N := ⟨(6 * I + j) % 6, lt_of_lt_of_eq (Nat.mod_lt _ (by decide)) N_0.symm⟩

theorem pt_eq (t : Fin cfg0.N) : pt (t.val / 6) (t.val % 6) = t := by
  have : t.val < 6 := lt_of_lt_of_eq t.isLt N_0
  exact Fin.ext (by show (6 * (t.val / 6) + t.val % 6) % 6 = t.val; omega)

theorem column (t : Fin cfg0.N) : (grid0.coords t 1).val = t.val % 6 := by
  have : ∀ t : Fin grid0.N, (grid0.coords t 1).val = t.val % 6 := by decide +kernel
  exact this t

/-- The weight's block `j` as row block `I` reads it. -/
def wv (c : Dev nD) (I j : ℕ) : Vec F S2048x1024 .bf16 := iblk m c 4 (pt I j)
/-- The normalised rows of block `I`. -/
def hv (c : Dev nD) (I : ℕ) : Vec F S128x2048 .bf16 :=
  k0_pay1 (iblk m c 0 (pt I 0)) (iblk m c 3 (pt I 0)) (iblk m c 2 (pt I 0)) (iblk m c 1 (pt I 0))
/-- The scratch block the last point multiplies by. -/
def gv (c : Dev nD) (I : ℕ) : Vec F S128x1024 .f32 := k0_pay6 (hv m c I) (wv m c I 4)

def o5 (c : Dev nD) (I : ℕ) : Vec F S128x1024 .bf16 := k0_pay3 (hv m c I) (wv m c I 0)
def o6 (c : Dev nD) (I : ℕ) : Vec F S128x1024 .f32 := k0_pay2 (hv m c I) (wv m c I 1)
def o7 (c : Dev nD) (I : ℕ) : Vec F S128x1024 .bf16 := k0_pay4 (hv m c I) (wv m c I 1)
def o8 (c : Dev nD) (I : ℕ) : Vec F S128x1024 .f32 := k0_pay2 (hv m c I) (wv m c I 2)
def o9 (c : Dev nD) (I : ℕ) : Vec F S1x1024x128 .bf16 := k0_pay5 (hv m c I) (wv m c I 2)
def o10 (c : Dev nD) (I : ℕ) : Vec F S128x1024 .f32 := k0_pay2 (hv m c I) (wv m c I 3)
def o11 (c : Dev nD) (I : ℕ) : Vec F S128x1024 .f32 := k0_pay7 (hv m c I) (wv m c I 5) (gv m c I)

abbrev sc0 : Memref sig .tc .vmem S128x2048 .bf16 := Memref.whole cc0_scratch0
abbrev sc1 : Memref sig .tc .vmem S128x1024 .f32 := Memref.whole cc0_scratch1

/-- What the scratch holds before point `t`: past the first point of a row block its normalised rows, before the last
    point also the block it multiplies by. -/
def inv (c : Dev nD) (t : ℕ) : sProp (MT nD τ sig Unit (Elt F) ℕ (UR sig nD τ) ℕ) :=
  iprop(∃ (H : Vec F S128x2048 .bf16) (G : Vec F S128x1024 .f32), owns (c : Thread nD τ) sc0 fullShare H ∗ owns (c : Thread nD τ) sc1 fullShare G ∗ (∃ r, prngReg c r)
    ∗ ⌜¬t % 6 = 0 → H = hv m c (t / 6)⌝ ∗ ⌜t % 6 = 5 → G = gv m c (t / 6)⌝)

/-- The proof data. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => o5 m c (t.val / 6) | 6 => o6 m c (t.val / 6) | 7 => o7 m c (t.val / 6) | 8 => o8 m c (t.val / 6)
    | 9 => o9 m c (t.val / 6) | 10 => o10 m c (t.val / 6) | 11 => o11 m c (t.val / 6)
    | ⟨_ + 12, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

theorem after5 (c : Dev nD) (t : Fin cfg0.N) : (dats m 0 c).after 5 t = o5 m c (t.val / 6) := by dsimp only [dats]
theorem out5 (c : Dev nD) : Out (dats m 0 c) 5 0 where
  fetch _ := rfl
  flush := flush0_5
  idle t := by
    have : cond (grid0.coords t) (BitVec.ofNat 32 0) ↔ t.val % 6 = 0 := by rw [← column t]; exact cond_iff (grid0.coords t) 0
    rw [← this]
    show (!(k0_cond2 (grid0.coords t) == 1#1)) = true ↔ ¬k0_cond2 (grid0.coords t) = 1#1
    simp only [Bool.not_eq_true', beq_eq_false_iff_ne, ne_eq]
  kept _ _ := rfl
  same t t' e := by rw [after5, after5, e]

theorem after6 (c : Dev nD) (t : Fin cfg0.N) : (dats m 0 c).after 6 t = o6 m c (t.val / 6) := by dsimp only [dats]
theorem out6 (c : Dev nD) : Out (dats m 0 c) 6 1 where
  fetch _ := rfl
  flush := flush0_6
  idle t := by
    have : cond (grid0.coords t) (BitVec.ofNat 32 1) ↔ t.val % 6 = 1 := by rw [← column t]; exact cond_iff (grid0.coords t) 1
    rw [← this]
    show (!(k0_cond3 (grid0.coords t) == 1#1)) = true ↔ ¬k0_cond3 (grid0.coords t) = 1#1
    simp only [Bool.not_eq_true', beq_eq_false_iff_ne, ne_eq]
  kept _ _ := rfl
  same t t' e := by rw [after6, after6, e]

theorem after7 (c : Dev nD) (t : Fin cfg0.N) : (dats m 0 c).after 7 t = o7 m c (t.val / 6) := by dsimp only [dats]
theorem out7 (c : Dev nD) : Out (dats m 0 c) 7 1 where
  fetch _ := rfl
  flush := flush0_7
  idle t := by
    have : cond (grid0.coords t) (BitVec.ofNat 32 1) ↔ t.val % 6 = 1 := by rw [← column t]; exact cond_iff (grid0.coords t) 1
    rw [← this]
    show (!(k0_cond3 (grid0.coords t) == 1#1)) = true ↔ ¬k0_cond3 (grid0.coords t) = 1#1
    simp only [Bool.not_eq_true', beq_eq_false_iff_ne, ne_eq]
  kept _ _ := rfl
  same t t' e := by rw [after7, after7, e]

theorem after8 (c : Dev nD) (t : Fin cfg0.N) : (dats m 0 c).after 8 t = o8 m c (t.val / 6) := by dsimp only [dats]
theorem out8 (c : Dev nD) : Out (dats m 0 c) 8 2 where
  fetch _ := rfl
  flush := flush0_8
  idle t := by
    have : cond (grid0.coords t) (BitVec.ofNat 32 2) ↔ t.val % 6 = 2 := by rw [← column t]; exact cond_iff (grid0.coords t) 2
    rw [← this]
    show (!(k0_cond4 (grid0.coords t) == 1#1)) = true ↔ ¬k0_cond4 (grid0.coords t) = 1#1
    simp only [Bool.not_eq_true', beq_eq_false_iff_ne, ne_eq]
  kept _ _ := rfl
  same t t' e := by rw [after8, after8, e]

theorem after9 (c : Dev nD) (t : Fin cfg0.N) : (dats m 0 c).after 9 t = o9 m c (t.val / 6) := by dsimp only [dats]
theorem out9 (c : Dev nD) : Out (dats m 0 c) 9 2 where
  fetch _ := rfl
  flush := flush0_9
  idle t := by
    have : cond (grid0.coords t) (BitVec.ofNat 32 2) ↔ t.val % 6 = 2 := by rw [← column t]; exact cond_iff (grid0.coords t) 2
    rw [← this]
    show (!(k0_cond4 (grid0.coords t) == 1#1)) = true ↔ ¬k0_cond4 (grid0.coords t) = 1#1
    simp only [Bool.not_eq_true', beq_eq_false_iff_ne, ne_eq]
  kept _ _ := rfl
  same t t' e := by rw [after9, after9, e]

theorem after10 (c : Dev nD) (t : Fin cfg0.N) : (dats m 0 c).after 10 t = o10 m c (t.val / 6) := by dsimp only [dats]
theorem out10 (c : Dev nD) : Out (dats m 0 c) 10 3 where
  fetch _ := rfl
  flush := flush0_10
  idle t := by
    have : cond (grid0.coords t) (BitVec.ofNat 32 3) ↔ t.val % 6 = 3 := by rw [← column t]; exact cond_iff (grid0.coords t) 3
    rw [← this]
    show (!(k0_cond5 (grid0.coords t) == 1#1)) = true ↔ ¬k0_cond5 (grid0.coords t) = 1#1
    simp only [Bool.not_eq_true', beq_eq_false_iff_ne, ne_eq]
  kept _ _ := rfl
  same t t' e := by rw [after10, after10, e]

theorem after11 (c : Dev nD) (t : Fin cfg0.N) : (dats m 0 c).after 11 t = o11 m c (t.val / 6) := by dsimp only [dats]
theorem out11 (c : Dev nD) : Out (dats m 0 c) 11 5 where
  fetch _ := rfl
  flush := flush0_11
  idle t := by
    have : cond (grid0.coords t) (BitVec.ofNat 32 5) ↔ t.val % 6 = 5 := by rw [← column t]; exact cond_iff (grid0.coords t) 5
    rw [← this]
    show (!(k0_cond7 (grid0.coords t) == 1#1)) = true ↔ ¬k0_cond7 (grid0.coords t) = 1#1
    simp only [Bool.not_eq_true', beq_eq_false_iff_ne, ne_eq]
  kept _ _ := rfl
  same t t' e := by rw [after11, after11, e]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem body0 (c : Dev nD) (t : Fin cfg0.N) (ht : t.val % 6 = 0) :
    bodyPre m c t ⊢ wp frame (wpE (defs₀ (F := F)) Variants.none c none) Set.univ (bodyAt0 t) (fun _ => bodyPost m c t) := by
  have hp : pt (t.val / 6) 0 = t := by rw [← ht]; exact pt_eq t
  have ew : iblk m c 4 t = wv m c (t.val / 6) 0 := by unfold wv; rw [hp]
  have eh : k0_pay1 (iblk m c 0 t) (iblk m c 3 t) (iblk m c 2 t) (iblk m c 1 t) = hv m c (t.val / 6) := by unfold hv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  iapply (run0 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · icases H5 with ⟨%d5, H5⟩; iexists _; iexact H5
  isplitl [S0]; · iexists _; iexact S0
  iintro ⟨H0, H1, H2, H3, H4, H5, S0⟩
  rw [eh]
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).put t ht); rw [after5, ew]; iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body1 (c : Dev nD) (t : Fin cfg0.N) (ht : t.val % 6 = 1) :
    bodyPre m c t ⊢ wp frame (wpE (defs₀ (F := F)) Variants.none c none) Set.univ (bodyAt0 t) (fun _ => bodyPost m c t) := by
  have hp : pt (t.val / 6) 1 = t := by rw [← ht]; exact pt_eq t
  have ew : iblk m c 4 t = wv m c (t.val / 6) 1 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run1 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H6]; · icases H6 with ⟨%d6, H6⟩; iexists _; iexact H6
  isplitl [H7]; · icases H7 with ⟨%d7, H7⟩; iexists _; iexact H7
  iintro ⟨H4, S0, H6, H7⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).put t ht); rw [after6, ew]; iexact H6
  isplitl [H7]; · iapply ((out7 m c).put t ht); rw [after7, ew]; iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body2 (c : Dev nD) (t : Fin cfg0.N) (ht : t.val % 6 = 2) :
    bodyPre m c t ⊢ wp frame (wpE (defs₀ (F := F)) Variants.none c none) Set.univ (bodyAt0 t) (fun _ => bodyPost m c t) := by
  have hp : pt (t.val / 6) 2 = t := by rw [← ht]; exact pt_eq t
  have ew : iblk m c 4 t = wv m c (t.val / 6) 2 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run2 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H8]; · icases H8 with ⟨%d8, H8⟩; iexists _; iexact H8
  isplitl [H9]; · icases H9 with ⟨%d9, H9⟩; iexists _; iexact H9
  iintro ⟨H4, S0, H8, H9⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).put t ht); rw [after8, ew]; iexact H8
  isplitl [H9]; · iapply ((out9 m c).put t ht); rw [after9, ew]; iexact H9
  isplitl [H10]; · iapply ((out10 m c).pass (by decide) t (by omega)); iexact H10
  iapply ((out11 m c).pass (by decide) t (by omega)); iexact H11

theorem body3 (c : Dev nD) (t : Fin cfg0.N) (ht : t.val % 6 = 3) :
    bodyPre m c t ⊢ wp frame (wpE (defs₀ (F := F)) Variants.none c none) Set.univ (bodyAt0 t) (fun _ => bodyPost m c t) := by
  have hp : pt (t.val / 6) 3 = t := by rw [← ht]; exact pt_eq t
  have ew : iblk m c 4 t = wv m c (t.val / 6) 3 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run3 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [H10]; · icases H10 with ⟨%d10, H10⟩; iexists _; iexact H10
  iintro ⟨H4, S0, H10⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).put t ht); rw [after10, ew]; iexact H10
  iapply ((out11 m c).pass (by decide) t (by omega)); iexact H11

theorem body4 (c : Dev nD) (t : Fin cfg0.N) (ht : t.val % 6 = 4) :
    bodyPre m c t ⊢ wp frame (wpE (defs₀ (F := F)) Variants.none c none) Set.univ (bodyAt0 t) (fun _ => bodyPost m c t) := by
  have hp : pt (t.val / 6) 4 = t := by rw [← ht]; exact pt_eq t
  have ew : iblk m c 4 t = wv m c (t.val / 6) 4 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  iapply (run4 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) Set.univ _)
  isplitl [H4]; · iexact H4
  isplitl [S0]; · iexact S0
  isplitl [S1]; · iexists _; iexact S1
  iintro ⟨H4, S0, S1⟩
  isplitl [S0 S1 Hg]
  · iexists _, _
    isplitl [S0]; · iexact S0
    isplitl [S1]; · iexact S1
    isplitl [Hg]; · iexact Hg
    isplitr
    · ipureintro; intro h; rw [show (t.val + 1) / 6 = t.val / 6 by omega]
    · ipureintro; intro h; rw [show (t.val + 1) / 6 = t.val / 6 by omega, ew]; rfl
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).pass (by decide) t (by omega)); iexact H11

theorem body5 (c : Dev nD) (t : Fin cfg0.N) (ht : t.val % 6 = 5) :
    bodyPre m c t ⊢ wp frame (wpE (defs₀ (F := F)) Variants.none c none) Set.univ (bodyAt0 t) (fun _ => bodyPost m c t) := by
  have hp : pt (t.val / 6) 5 = t := by rw [← ht]; exact pt_eq t
  have ew : iblk m c 4 t = wv m c (t.val / 6) 5 := by unfold wv; rw [hp]
  unfold bodyPre bodyPost bodyAt0
  simp only [before0, before1, before2, before3, before4]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨%H, %G, S0, S1, Hg, %hH, %hG⟩, Ho, ⟨%d0, H0⟩, ⟨%d1, H1⟩, ⟨%d2, H2⟩, ⟨%d3, H3⟩, ⟨%d4, H4⟩, H5, H6, H7, H8, H9, H10, H11⟩
  obtain rfl := hH (by omega)
  obtain rfl := hG ht
  iapply (run5 c (grid0.coords t) ((column t).trans ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) sc0 (Memref.isWhole_whole _) sc1 (Memref.isWhole_whole _) (iblk m c 4 t) (hv m c (t.val / 6)) (gv m c (t.val / 6)) Set.univ _)
  isplitl [H4]; · iexact H4
  isplitl [S0]; · iexact S0
  isplitl [S1]; · iexact S1
  isplitl [H11]; · icases H11 with ⟨%d11, H11⟩; iexists _; iexact H11
  iintro ⟨H4, S0, S1, H11⟩
  isplitl [S0 S1 Hg]
  · iexists _, _
    isplitl [S0]; · iexact S0
    isplitl [S1]; · iexact S1
    isplitl [Hg]; · iexact Hg
    isplitr
    · ipureintro; intro h; exact absurd (show (t.val + 1) % 6 = 0 by omega) h
    · ipureintro; intro h; exact absurd h (by omega)
  isplitl [Ho]; · iexact Ho
  isplitl [H0]; · iexact H0
  isplitl [H1]; · iexact H1
  isplitl [H2]; · iexact H2
  isplitl [H3]; · iexact H3
  isplitl [H4]; · iexact H4
  isplitl [H5]; · iapply ((out5 m c).pass (by decide) t (by omega)); iexact H5
  isplitl [H6]; · iapply ((out6 m c).pass (by decide) t (by omega)); iexact H6
  isplitl [H7]; · iapply ((out7 m c).pass (by decide) t (by omega)); iexact H7
  isplitl [H8]; · iapply ((out8 m c).pass (by decide) t (by omega)); iexact H8
  isplitl [H9]; · iapply ((out9 m c).pass (by decide) t (by omega)); iexact H9
  isplitl [H10]; · iapply ((out10 m c).pass (by decide) t (by omega)); iexact H10
  iapply ((out11 m c).put t ht); rw [after11, ew]; iexact H11

theorem sound_body (c : Dev nD) (t : Fin cfg0.N) :
    bodyPre m c t ⊢ wp frame (wpE (defs₀ (F := F)) Variants.none c none) Set.univ (bodyAt0 t) (fun _ => bodyPost m c t) := by
  rcases (show t.val % 6 = 0 ∨ t.val % 6 = 1 ∨ t.val % 6 = 2 ∨ t.val % 6 = 3 ∨ t.val % 6 = 4 ∨ t.val % 6 = 5 by omega) with h | h | h | h | h | h
  · exact body0 m c t h
  · exact body1 m c t h
  · exact body2 m c t h
  · exact body3 m c t h
  · exact body4 m c t h
  · exact body5 m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ inv m c 0 := by
  unfold Pipeline.ΦA inv; rw [scopedRest0_eq]
  simp only [← owns_whole]
  iintro ⟨⟨⟨%H, S0⟩, ⟨%G, S1⟩⟩, Hg⟩
  iexists _, _
  isplitl [S0]; · iexact S0
  isplitl [S1]; · iexact S1
  isplitl [Hg]; · iexact Hg
  isplitr
  · ipureintro; intro h; exact absurd trivial h
  · ipureintro; intro h; exact absurd h (by decide)

theorem inv_out (c : Dev nD) (n : ℕ) : inv (F := F) m c n ⊢ Pipeline.ΦA spec0 c := by
  unfold Pipeline.ΦA inv; rw [scopedRest0_eq]
  simp only [← owns_whole]
  iintro ⟨%H, %G, S0, S1, Hg, -, -⟩
  isplitl [S0 S1]
  · isplitl [S0]
    · iexists _; iexact S0
    · iexists _; iexact S1
  iexact Hg

set_option backward.isDefEq.respectTransparency.types false in
/-- The launch: every array of the windows at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.SampleIdeal.Hand

end
-- ==== Proof.SampleValue.lean ====
/- The sample's projection at an element: a normalised row times a column of the weight, in the kernel's blocks and in the reference. -/
module

public import proofs.«01_k».proof.Proof.SampleBody
public import proofs.«01_k».proof.Proof.ProjValue
public import proofs.«01_k».proof.Proof.Gen.SampleReferenceIdeal.Read

@[expose] public section
set_option maxRecDepth 16384

noncomputable section

namespace Cert.SampleValue

open Idealize.ShloMosaic hiding ix1 ix2 ix3 eq_ix1 eq_ix2 eq_ix3
open Idealize.ShloMosaic.ValueIdx
open Cert.SampleIdeal Cert.SampleIdeal.Gen Cert.SampleIdeal.Hand
open Cert.ProjValue (nrow prod)

/-! ## The kernel's blocks -/

/-- A row laid along every row. -/
theorem along (v : Vec Ideal S1x2048 .f32) (r : Fin 128) (k : Fin 2048) :
    broadcastTo S128x2048 v broadcasts_S1x2048_S128x2048 (ix2 r k) = v (ix2 (0 : Fin 1) k) :=
  broadcastTo_apply v broadcasts_S1x2048_S128x2048 (ix2 r k) (ix2 (0 : Fin 1) k) fun b => match b with
    | ⟨0, _⟩ => by show (0 : ℕ) = if (1 : ℕ) = 1 then 0 else _; rfl
    | ⟨1, _⟩ => by show k.val = if (2048 : ℕ) = 1 then 0 else k.val; rfl

/-- A column laid along every column. -/
theorem down (v : FVec Ideal S128x1 .f32) (r : Fin 128) (k : Fin 2048) :
    broadcastTo S128x2048 v broadcasts_S128x1_S128x2048 (ix2 r k) = v (ix2 r (0 : Fin 1)) :=
  broadcastTo_apply v broadcasts_S128x1_S128x2048 (ix2 r k) (ix2 r (0 : Fin 1)) fun b => match b with
    | ⟨0, _⟩ => by show r.val = if (128 : ℕ) = 1 then 0 else r.val; rfl
    | ⟨1, _⟩ => by show (0 : ℕ) = if (1 : ℕ) = 1 then 0 else _; rfl

/-- A row's sum. -/
theorem total (v : FVec Ideal S128x2048 .f32) (r : Fin 128) :
    shapeCast S128x1 (multiReduction .add [1] S128 v 0x00000000#32 reduces_S128x2048_S128 (.inl rfl) rfl) shapeCasts_S128_S128x1 (ix2 r (0 : Fin 1))
      = ∑ l : Fin 2048, (v (ix2 r l) : EReal) := by
  rw [shapeCast_apply _ shapeCasts_S128_S128x1 (ix2 r (0 : Fin 1)) (ix1 r) (by
    rw [Shape.rowMajor_val_one, Shape.rowMajor_val_two]; show r.val = r.val * 1 + 0; omega)]
  refine (Ideal.multiReduction_add_single v _ reduces_S128x2048_S128 _ _ (ix1 r)).trans (Finset.sum_congr rfl fun l _ => congrArg v ?_)
  funext a
  match a with
  | ⟨0, _⟩ => rfl
  | ⟨1, _⟩ => rfl

/-- The normalised block. -/
theorem pay1_apply (x : Vec Ideal S128x2048 .f32) (nm : Vec Ideal S1x2048 .f32) (sc sh : Vec Ideal S128x2048 .f32) (r : Fin 128) (k : Fin 2048) :
    (k0_pay1 x nm sc sh (ix2 r k) : EReal) = nrow (fun l => x (ix2 r l)) (fun l => nm (ix2 (0 : Fin 1) l)) (fun l => sc (ix2 r l)) (fun l => sh (ix2 r l)) k := by
  unfold k0_pay1
  simp only [shapeCast_self]
  show (x (ix2 r k) * broadcastTo S128x2048 _ broadcasts_S128x1_S128x2048 (ix2 r k) * broadcastTo S128x2048 _ broadcasts_S1x2048_S128x2048 (ix2 r k)
    * _ + _ : EReal) = _
  rw [down, along]
  show (x (ix2 r k) * Ideal.rsqrt (Ideal.div (shapeCast S128x1 _ shapeCasts_S128_S128x1 (ix2 r (0 : Fin 1))) _ + _) * _ * _ + _ : EReal) = _
  rw [total]
  rfl

/-- The product block. -/
theorem pay2_apply (H : Vec Ideal S128x2048 .bf16) (w : Vec Ideal S2048x1024 .bf16) (r : Fin 128) (y : Fin 1024) :
    (k0_pay2 H w (ix2 r y) : EReal) = prod (fun k => H (ix2 r k)) (fun k => w (ix2 k y)) := by
  have h := Ideal.matmul_plain_apply (M := 128) (K := 2048) (N := 1024) (φ₁ := .bf16) (φ₂ := .bf16) none H (shapeCast S2048x1024 w shapeCasts_S2048x1024_S2048x1024)
    (constant S128x1024 .f32 0x00000000#32) r y
  refine Eq.trans h ?_
  have h0 : (constant (F := Ideal) S128x1024 .f32 0x00000000#32 (ix2 r y) : EReal) = 0 := Ideal.ofBits_zero_f32
  rw [h0, zero_add, shapeCast_self]
  rfl

theorem pay3_apply (H : Vec Ideal S128x2048 .bf16) (w : Vec Ideal S2048x1024 .bf16) (y : S128x1024.Idx) :
    (k0_pay3 H w y : EReal) = k0_pay2 H w y * (((1 / 8) * (Real.log 2)⁻¹ : ℝ) : EReal) := rfl

theorem pay4_apply (H : Vec Ideal S128x2048 .bf16) (w : Vec Ideal S2048x1024 .bf16) (y : S128x1024.Idx) :
    (k0_pay4 H w y : EReal) = k0_pay2 H w y := rfl

theorem pay6_apply (H : Vec Ideal S128x2048 .bf16) (w : Vec Ideal S2048x1024 .bf16) : k0_pay6 H w = k0_pay2 H w := by
  unfold k0_pay6; exact shapeCast_self _ _

theorem pay7_apply (H : Vec Ideal S128x2048 .bf16) (w : Vec Ideal S2048x1024 .bf16) (g : Vec Ideal S128x1024 .f32) (y : S128x1024.Idx) :
    (k0_pay7 H w g y : EReal) = g y * k0_pay2 H w y := rfl

/-- The value block, transposed. -/
theorem vt_apply (H : Vec Ideal S128x2048 .bf16) (w : Vec Ideal S2048x1024 .bf16) (a : Fin 1) (y : Fin 1024) (r : Fin 128) :
    (k0_pay5 H w (ix3 a y r) : EReal) = k0_pay2 H w (ix2 r y) := by
  unfold k0_pay5
  refine Eq.trans (shapeCast_apply _ shapeCasts_S1024x128_S1x1024x128 (ix3 a y r) (ix2 y r) (by
    rw [Shape.rowMajor_val_three, Shape.rowMajor_val_two]; show y.val * 128 + r.val = (a.val * 1024 + y.val) * 128 + r.val; omega)) ?_
  refine Eq.trans (b := transpose S1024x128 [1, 0] (k0_pay2 H w) transposes_S128x1024_p1_0_S1024x128 (ix2 y r)) rfl ?_
  exact transpose_apply [1, 0] _ transposes_S128x1024_p1_0_S1024x128 (ix2 y r) (ix2 r y) fun b => match b with
    | ⟨0, _⟩ => rfl
    | ⟨1, _⟩ => rfl

/-! ## The reference -/

section
open Cert.SampleReferenceIdeal.Read

variable (X : S32x4x2048.Idx → EReal) (sh sc : S32x2048.Idx → EReal) (nm : S2048.Idx → EReal) (W : S2048x6144.Idx → EReal)

/-- The product at step `T` of sample `S` and column `Y`. -/
def proj (S : Fin 32) (T : Fin 4) (Y : Fin 6144) : EReal :=
  prod (nrow (fun l => X (ix3 S T l)) (fun l => nm (ix1 l)) (fun l => sc (ix2 S l)) (fun l => sh (ix2 S l))) (fun k => W (ix2 k Y))

theorem row_apply (S : Fin 32) (T : Fin 4) (k : Fin 2048) :
    val_main_v20 (F := Ideal) X sh sc nm (ix3 S T k)
      = nrow (fun l => X (ix3 S T l)) (fun l => nm (ix1 l)) (fun l => sc (ix2 S l)) (fun l => sh (ix2 S l)) k := by
  rw [val_main_v20_apply, val_main_v17_apply, val_main_v12_apply, val_main_v9_apply, val_main_v8_apply, val_main_v7_apply, val_main_v6_apply,
    val_main_v4_apply, val_main_v3_apply, val_main_cst_0_apply, val_main_v5_apply, val_main_cst_1_apply, val_main_v2_apply, val_main_v1_apply,
    val_main_cst_apply, val_main_v11_apply, val_main_v10_apply, val_main_v16_apply, val_main_v15_apply, val_main_v14_apply, val_main_cst_2_apply,
    val_main_v13_apply, val_main_v19_apply, val_main_v18_apply]
  have hX : ∀ l : Fin 2048, val_main_v0 (F := Ideal) X (idx_main_v1 (idx_main_v2 (idx_main_v8 (ix3 S T k))) l) = X (ix3 S T l) * X (ix3 S T l) := fun l => by
    rw [val_main_v0_apply]
    have : idx_main_v1 (idx_main_v2 (idx_main_v8 (ix3 S T k))) l = ix3 S T l := funext fun a => match a with | ⟨0, _⟩ => rfl | ⟨1, _⟩ => rfl | ⟨2, _⟩ => rfl
    rw [this]; rfl
  have h1 : idx_main_v10 (idx_main_v11 (ix3 S T k)) = ix1 k := funext fun a => match a with | ⟨0, _⟩ => rfl
  have h2 : idx_main_v13 (idx_main_v16 (ix3 S T k)) = ix2 S k := funext fun a => match a with | ⟨0, _⟩ => rfl | ⟨1, _⟩ => rfl
  have h3 : idx_main_v18 (idx_main_v19 (ix3 S T k)) = ix2 S k := funext fun a => match a with | ⟨0, _⟩ => rfl | ⟨1, _⟩ => rfl
  have h0 : FloatOps.ofBits (F := Ideal) .f32 0x00000000#32 = (0 : EReal) := Ideal.ofBits_zero_f32
  simp only [hX, h1, h2, h3, h0, zero_add]
  rfl

theorem proj_apply (i : (⟨3, ![32, 4, 6144]⟩ : Shape).Idx) (S : Fin 32) (T : Fin 4) (Y : Fin 6144) (h0 : (i 0).val = S.val) (h1 : (i 1).val = T.val)
    (h2 : (i 2).val = Y.val) : val_main_v21 (F := Ideal) X sh sc nm W i = proj X sh sc nm W S T Y := by
  rw [val_main_v21_apply]
  unfold proj prod
  refine Finset.sum_congr rfl fun k _ => ?_
  have e0 : lidx_main_v21 i k = ix3 S T k := funext fun a => match a with | ⟨0, _⟩ => Fin.ext h0 | ⟨1, _⟩ => Fin.ext h1 | ⟨2, _⟩ => rfl
  have e1 : ridx_main_v21 i k = ix2 k Y := funext fun a => match a with | ⟨0, _⟩ => rfl | ⟨1, _⟩ => Fin.ext h2
  rw [e0, e1, row_apply]

end

end Cert.SampleValue

end
-- ==== Proof.SampleHost.lean ====
/- The sample projection's arrays: every window's blocks are the arguments' own rows and columns, and every result is the reference's. -/
module

public import proofs.«01_k».proof.Proof.SampleValue
public import proofs.«01_k».proof.Proof.SampleRun
public import Idealize.ShloMosaic.Lib.Pipeline.ValueKit
public import Idealize.ShloMosaic.Lib.Tactic
public import Idealize.ShloMosaic.Lib.StableHlo.ReadAt

@[expose] public section
set_option maxRecDepth 16384

noncomputable section

namespace Cert.SampleHost

open Idealize.ShloMosaic hiding ix1 ix2 ix3 eq_ix1 eq_ix2 eq_ix3
open Idealize.ShloMosaic.ValueIdx Idealize.ShloMosaic.TcCoe Idealize.ShloMosaic.StableHlo
open Cert.SampleIdeal hiding sig
open Cert.SampleIdeal.Gen Cert.SampleIdeal.Hand Cert.SampleValue
open Cert.ProjValue (nrow prod eighth)
open Cert.SampleReferenceIdeal.Read

variable (m : (ℓ : Loc nD τ SampleIdeal.sig) → Buf (Elt Ideal) ℓ) (c : Dev nD)

/-- The arguments. -/
abbrev xs : S32x4x2048.Idx → EReal := m ((c : Thread nD τ).loc main_arg0)
abbrev shs : S32x2048.Idx → EReal := m ((c : Thread nD τ).loc main_arg1)
abbrev scs : S32x2048.Idx → EReal := m ((c : Thread nD τ).loc main_arg2)
abbrev nms : S2048.Idx → EReal := m ((c : Thread nD τ).loc main_arg3)
abbrev ws : S2048x6144.Idx → EReal := m ((c : Thread nD τ).loc main_arg4)

theorem places (t : Fin cfg0.N) : win0_0.index t = ![0, 0] ∧ win0_1.index t = ![0, 0] ∧ win0_2.index t = ![0, 0]
    ∧ win0_3.index t = ![0, 0] ∧ win0_4.index t = ![0, t.val % 6] ∧ win0_5.index t = ![0, 0] ∧ win0_6.index t = ![0, 0]
    ∧ win0_7.index t = ![0, 0] ∧ win0_8.index t = ![0, 0] ∧ win0_9.index t = ![0, 0, 0]
    ∧ win0_10.index t = ![0, 0] ∧ win0_11.index t = ![0, 0] := by
  revert t; decide +kernel

theorem norm_host (k : Fin 2048) : (V m c main_v5 : S1x2048.Idx → EReal) (ix2 (0 : Fin 1) k) = nms m c (ix1 k) := by
  unfold V
  after_reads_at
  refine congrArg (nms m c) (funext fun a => ?_)
  match a with
  | ⟨0, _⟩ => exact Fin.ext (by simp)

theorem weight_host (x : S2048x6144.Idx) : (V m c main_v6 : S2048x6144.Idx → EReal) x = ws m c x := by
  unfold V
  after_reads_at

theorem rows_host (S : Fin 32) (T : Fin 4) (r : Fin 128) (k : Fin 2048) (hr : r.val = 4 * S.val + T.val) :
    (V m c main_v0 : S128x2048.Idx → EReal) (ix2 r k) = xs m c (ix3 S T k) := by
  have e : (V m c main_v0 : S128x2048.Idx → EReal) = shapeCast S128x2048 (xs m c) shapeCasts_S32x4x2048_S128x2048 := by
    unfold V
    after_reads_simp
    all_goals try rfl
  rw [e]
  exact shapeCast_apply _ _ (ix2 r k) (ix3 S T k) (by
    rw [Shape.rowMajor_val_three, Shape.rowMajor_val_two]; show (S.val * 4 + T.val) * 2048 + k.val = r.val * 2048 + k.val; omega)

/-- A sample's vector laid along its steps. -/
theorem steps (v : S32x2048.Idx → EReal) (S : Fin 32) (T : Fin 4) (r : Fin 128) (k : Fin 2048) (hr : r.val = 4 * S.val + T.val) :
    shapeCast S128x2048 (broadcastInDim S32x4x2048 ![0, 2] bcast_S32x2048_S32x4x2048_0_2 v) shapeCasts_S32x4x2048_S128x2048 (ix2 r k) = v (ix2 S k) := by
  rw [shapeCast_apply _ shapeCasts_S32x4x2048_S128x2048 (ix2 r k) (ix3 S T k) (by
    rw [Shape.rowMajor_val_three, Shape.rowMajor_val_two]; show (S.val * 4 + T.val) * 2048 + k.val = r.val * 2048 + k.val; omega)]
  exact broadcastInDim_apply _ bcast_S32x2048_S32x4x2048_0_2 v (ix3 S T k) (ix2 S k) fun a => match a with
    | ⟨0, _⟩ => by show S.val = if (32 : ℕ) = 1 then 0 else S.val; rfl
    | ⟨1, _⟩ => by show k.val = if (2048 : ℕ) = 1 then 0 else k.val; rfl

theorem shift_host (S : Fin 32) (T : Fin 4) (r : Fin 128) (k : Fin 2048) (hr : r.val = 4 * S.val + T.val) :
    (V m c main_v2 : S128x2048.Idx → EReal) (ix2 r k) = shs m c (ix2 S k) := by
  have e : (V m c main_v2 : S128x2048.Idx → EReal)
      = shapeCast S128x2048 (broadcastInDim S32x4x2048 ![0, 2] bcast_S32x2048_S32x4x2048_0_2 (shs m c)) shapeCasts_S32x4x2048_S128x2048 := by
    unfold V
    after_reads_simp
    all_goals try rfl
  rw [e]
  exact steps _ S T r k hr

theorem scale_host (S : Fin 32) (T : Fin 4) (r : Fin 128) (k : Fin 2048) (hr : r.val = 4 * S.val + T.val) :
    (V m c main_v4 : S128x2048.Idx → EReal) (ix2 r k) = scs m c (ix2 S k) := by
  have e : (V m c main_v4 : S128x2048.Idx → EReal)
      = shapeCast S128x2048 (broadcastInDim S32x4x2048 ![0, 2] bcast_S32x2048_S32x4x2048_0_2 (scs m c)) shapeCasts_S32x4x2048_S128x2048 := by
    unfold V
    after_reads_simp
    all_goals try rfl
  rw [e]
  exact steps _ S T r k hr

theorem pt_val (I j : ℕ) (hj : j < 6) : (pt I j).val = j := by
  show (6 * I + j) % 6 = _
  omega

section
variable (I : ℕ) (S : Fin 32) (T : Fin 4) (r : Fin 128) (hr : r.val = 4 * S.val + T.val)
include hr

theorem rows (k : Fin 2048) : (iblk m c 0 (pt I 0) (ix2 r k) : EReal) = xs m c (ix3 S T k) := by
  refine Eq.trans (congrArg (V m c main_v0 : S128x2048.Idx → EReal) (funext fun a => Fin.ext ?_)) (rows_host m c S T r k hr)
  match a with
  | ⟨0, _⟩ => blk_simp [places (pt I 0)]
  | ⟨1, _⟩ => blk_simp [places (pt I 0)]

theorem shift_row (k : Fin 2048) : (iblk m c 1 (pt I 0) (ix2 r k) : EReal) = shs m c (ix2 S k) := by
  refine Eq.trans (congrArg (V m c main_v2 : S128x2048.Idx → EReal) (funext fun a => Fin.ext ?_)) (shift_host m c S T r k hr)
  match a with
  | ⟨0, _⟩ => blk_simp [places (pt I 0)]
  | ⟨1, _⟩ => blk_simp [places (pt I 0)]

theorem scale_row (k : Fin 2048) : (iblk m c 2 (pt I 0) (ix2 r k) : EReal) = scs m c (ix2 S k) := by
  refine Eq.trans (congrArg (V m c main_v4 : S128x2048.Idx → EReal) (funext fun a => Fin.ext ?_)) (scale_host m c S T r k hr)
  match a with
  | ⟨0, _⟩ => blk_simp [places (pt I 0)]
  | ⟨1, _⟩ => blk_simp [places (pt I 0)]

omit hr in
theorem norm_row (k : Fin 2048) : (iblk m c 3 (pt I 0) (ix2 (0 : Fin 1) k) : EReal) = nms m c (ix1 k) := by
  refine Eq.trans (congrArg (V m c main_v5 : S1x2048.Idx → EReal) (funext fun a => Fin.ext ?_)) (norm_host m c k)
  match a with
  | ⟨0, _⟩ => blk_simp [places (pt I 0)]
  | ⟨1, _⟩ => blk_simp [places (pt I 0)]

omit hr in
theorem cols_at (j : ℕ) (hj : j < 6) (y : S2048x1024.Idx) (i : S2048x6144.Idx) (h0 : (i 0).val = (y 0).val)
    (h1 : (i 1).val = 1024 * j + (y 1).val) : (wv m c I j y : EReal) = ws m c i := by
  have hp := pt_val I j hj
  have e0 : (((cfg0.win 4).blk (pt I j)).view.emb y 0).val = (i 0).val := by rw [h0]; blk_simp [places (pt I j), hp]
  have e1 : (((cfg0.win 4).blk (pt I j)).view.emb y 1).val = (i 1).val := by rw [h1]; blk_simp [places (pt I j), hp]; omega
  refine (weight_host m c _).trans (congrArg (ws m c) (funext fun a => Fin.ext ?_))
  match a with
  | ⟨0, _⟩ => exact e0
  | ⟨1, _⟩ => exact e1

/-- A product block's element. -/
theorem block (j : ℕ) (hj : j < 6) (y : Fin 1024) (Y : Fin 6144) (hY : Y.val = 1024 * j + y.val) :
    (k0_pay2 (hv m c I) (wv m c I j) (ix2 r y) : EReal) = proj (xs m c) (shs m c) (scs m c) (nms m c) (ws m c) S T Y := by
  rw [pay2_apply]
  unfold proj hv
  have e0 : (fun k => (wv m c I j (ix2 k y) : EReal)) = fun k => ws m c (ix2 k Y) := funext fun k => cols_at m c I j hj (ix2 k y) (ix2 k Y) rfl hY
  have e1 : (fun k => (k0_pay1 (iblk m c 0 (pt I 0)) (iblk m c 3 (pt I 0)) (iblk m c 2 (pt I 0)) (iblk m c 1 (pt I 0)) (ix2 r k) : EReal))
      = nrow (fun l => xs m c (ix3 S T l)) (fun l => nms m c (ix1 l)) (fun l => scs m c (ix2 S l)) (fun l => shs m c (ix2 S l)) := by
    funext k
    rw [pay1_apply]
    have a0 : (fun l => (iblk m c 0 (pt I 0) (ix2 r l) : EReal)) = fun l => xs m c (ix3 S T l) := funext fun l => rows m c I S T r hr l
    have a1 : (fun l => (iblk m c 1 (pt I 0) (ix2 r l) : EReal)) = fun l => shs m c (ix2 S l) := funext fun l => shift_row m c I S T r hr l
    have a2 : (fun l => (iblk m c 2 (pt I 0) (ix2 r l) : EReal)) = fun l => scs m c (ix2 S l) := funext fun l => scale_row m c I S T r hr l
    have a3 : (fun l => (iblk m c 3 (pt I 0) (ix2 (0 : Fin 1) l) : EReal)) = fun l => nms m c (ix1 l) := funext fun l => norm_row m c I l
    exact congrFun (congr (congr (congr (congrArg nrow a0) a3) a2) a1) k
  exact congr (congrArg prod e1) e0

end

/-- A product block's element, as the reference's product at the array index the block places it at. -/
theorem block_at (I j : ℕ) (hj : j < 6) (r : Fin 128) (y : Fin 1024) (R : ℕ) (hR : R = r.val * 1024 + y.val) (i : (⟨3, ![32, 4, 6144]⟩ : Shape).Idx)
    (h0 : (i 0).val = R / 4096) (h1 : (i 1).val = R / 1024 % 4) (h2 : (i 2).val = 1024 * j + R % 1024) :
    (k0_pay2 (hv m c I) (wv m c I j) (ix2 r y) : EReal) = val_main_v21 (F := Ideal) (xs m c) (shs m c) (scs m c) (nms m c) (ws m c) i := by
  rw [proj_apply _ _ _ _ _ i (i 0) (i 1) (i 2) rfl rfl rfl]
  exact block m c I (i 0) (i 1) r (by rw [h0, h1, hR]; omega) j hj y (i 2) (by rw [h2, hR]; omega)

/-- The same at an index of a result's array. -/
theorem result_at (I j : ℕ) (hj : j < 6) (r : Fin 128) (y : Fin 1024) (u : S128x1024.Idx) (hu0 : (u 0).val = r.val) (hu1 : (u 1).val = y.val)
    (i : (⟨3, ![32, 4, 6144]⟩ : Shape).Idx) (h0 : (i 0).val = ((u 0).val * 1024 + (u 1).val) / 4096)
    (h1 : (i 1).val = ((u 0).val * 1024 + (u 1).val) / 1024 % 4) (h2 : (i 2).val = 1024 * j + ((u 0).val * 1024 + (u 1).val) % 1024) :
    (k0_pay2 (hv m c I) (wv m c I j) (ix2 r y) : EReal) = val_main_v21 (F := Ideal) (xs m c) (shs m c) (scs m c) (nms m c) (ws m c) i :=
  block_at m c I j hj r y _ (by rw [hu0, hu1]) i h0 h1 h2

theorem arr6 : (dats m 0 c).arrAt 6 cfg0.N = val_main_v29 (F := Ideal) (xs m c) (shs m c) (scs m c) (nms m c) (ws m c) := by
  refine (dats m 0 c).arrAt_eq_of_covers 6 _ (by decide +kernel) fun t _ y => ?_
  have e : y = ix2 (y 0) (y 1) := by funext a; fin_cases a <;> rfl
  have h0 : (((cfg0.win 6).blk t).view.emb y 0).val = (y 0).val := by blk_simp [places t]
  have h1 : (((cfg0.win 6).blk t).view.emb y 1).val = (y 1).val := by blk_simp [places t]
  refine Eq.trans (congrFun (after6 m c t) y) ((congrArg (o6 m c (t.val / 6)) e).trans ?_)
  refine Eq.trans ?_ (val_main_v29_apply (F := Ideal) _ _ _ _ _ _).symm
  rw [val_main_v23_apply]
  exact result_at m c (t.val / 6) 1 (by omega) (y 0) (y 1) _ h0 h1 _ rfl rfl rfl

theorem arr5 : (dats m 0 c).arrAt 5 cfg0.N = val_main_v39 (F := Ideal) (xs m c) (shs m c) (scs m c) (nms m c) (ws m c) := by
  refine (dats m 0 c).arrAt_eq_of_covers 5 _ (by decide +kernel) fun t _ y => ?_
  have e : y = ix2 (y 0) (y 1) := by funext a; fin_cases a <;> rfl
  have h0 : (((cfg0.win 5).blk t).view.emb y 0).val = (y 0).val := by blk_simp [places t]
  have h1 : (((cfg0.win 5).blk t).view.emb y 1).val = (y 1).val := by blk_simp [places t]
  refine Eq.trans (congrFun (after5 m c t) y) ((congrArg (o5 m c (t.val / 6)) e).trans ?_)
  refine Eq.trans ?_ (val_main_v39_apply (F := Ideal) _ _ _ _ _ _).symm
  rw [val_main_v38_apply, val_main_v37_apply, val_main_v36_apply, val_main_cst_4_apply, val_main_v35_apply, val_main_v34_apply, val_main_cst_3_apply,
    val_main_v28_apply, val_main_v22_apply]
  refine Eq.trans (Eq.trans (pay3_apply _ _ _) (congrArg (· * (((1 / 8) * (Real.log 2)⁻¹ : ℝ) : EReal)) ?_)) (eighth _).symm
  exact result_at m c (t.val / 6) 0 (by omega) (y 0) (y 1) _ h0 h1 _ rfl rfl (Nat.zero_add _).symm

theorem arr7 : (dats m 0 c).arrAt 7 cfg0.N = val_main_v40 (F := Ideal) (xs m c) (shs m c) (scs m c) (nms m c) (ws m c) := by
  refine (dats m 0 c).arrAt_eq_of_covers 7 _ (by decide +kernel) fun t _ y => ?_
  have e : y = ix2 (y 0) (y 1) := by funext a; fin_cases a <;> rfl
  have h0 : (((cfg0.win 7).blk t).view.emb y 0).val = (y 0).val := by blk_simp [places t]
  have h1 : (((cfg0.win 7).blk t).view.emb y 1).val = (y 1).val := by blk_simp [places t]
  refine Eq.trans (congrFun (after7 m c t) y) ((congrArg (o7 m c (t.val / 6)) e).trans ?_)
  refine Eq.trans ?_ (val_main_v40_apply (F := Ideal) _ _ _ _ _ _).symm
  rw [val_main_v29_apply, val_main_v23_apply]
  refine Eq.trans (pay4_apply _ _ _) ?_
  exact result_at m c (t.val / 6) 1 (by omega) (y 0) (y 1) _ h0 h1 _ rfl rfl rfl

theorem arr8 : (dats m 0 c).arrAt 8 cfg0.N = val_main_v30 (F := Ideal) (xs m c) (shs m c) (scs m c) (nms m c) (ws m c) := by
  refine (dats m 0 c).arrAt_eq_of_covers 8 _ (by decide +kernel) fun t _ y => ?_
  have e : y = ix2 (y 0) (y 1) := by funext a; fin_cases a <;> rfl
  have h0 : (((cfg0.win 8).blk t).view.emb y 0).val = (y 0).val := by blk_simp [places t]
  have h1 : (((cfg0.win 8).blk t).view.emb y 1).val = (y 1).val := by blk_simp [places t]
  refine Eq.trans (congrFun (after8 m c t) y) ((congrArg (o8 m c (t.val / 6)) e).trans ?_)
  refine Eq.trans ?_ (val_main_v30_apply (F := Ideal) _ _ _ _ _ _).symm
  rw [val_main_v24_apply]
  exact result_at m c (t.val / 6) 2 (by omega) (y 0) (y 1) _ h0 h1 _ rfl rfl rfl

theorem arr10 : (dats m 0 c).arrAt 10 cfg0.N = val_main_v31 (F := Ideal) (xs m c) (shs m c) (scs m c) (nms m c) (ws m c) := by
  refine (dats m 0 c).arrAt_eq_of_covers 10 _ (by decide +kernel) fun t _ y => ?_
  have e : y = ix2 (y 0) (y 1) := by funext a; fin_cases a <;> rfl
  have h0 : (((cfg0.win 10).blk t).view.emb y 0).val = (y 0).val := by blk_simp [places t]
  have h1 : (((cfg0.win 10).blk t).view.emb y 1).val = (y 1).val := by blk_simp [places t]
  refine Eq.trans (congrFun (after10 m c t) y) ((congrArg (o10 m c (t.val / 6)) e).trans ?_)
  refine Eq.trans ?_ (val_main_v31_apply (F := Ideal) _ _ _ _ _ _).symm
  rw [val_main_v25_apply]
  exact result_at m c (t.val / 6) 3 (by omega) (y 0) (y 1) _ h0 h1 _ rfl rfl rfl

theorem arr11 : (dats m 0 c).arrAt 11 cfg0.N = val_main_v44 (F := Ideal) (xs m c) (shs m c) (scs m c) (nms m c) (ws m c) := by
  refine (dats m 0 c).arrAt_eq_of_covers 11 _ (by decide +kernel) fun t _ y => ?_
  have e : y = ix2 (y 0) (y 1) := by funext a; fin_cases a <;> rfl
  have h0 : (((cfg0.win 11).blk t).view.emb y 0).val = (y 0).val := by blk_simp [places t]
  have h1 : (((cfg0.win 11).blk t).view.emb y 1).val = (y 1).val := by blk_simp [places t]
  refine Eq.trans (congrFun (after11 m c t) y) ((congrArg (o11 m c (t.val / 6)) e).trans ?_)
  refine Eq.trans ?_ (val_main_v44_apply (F := Ideal) _ _ _ _ _ _).symm
  rw [val_main_v32_apply, val_main_v33_apply, val_main_v26_apply, val_main_v27_apply]
  refine Eq.trans (pay7_apply _ _ _ _) (congr (congrArg (fun a b : EReal => a * b) ?_) ?_)
  · refine Eq.trans (congrFun (pay6_apply _ _) _) ?_
    exact result_at m c (t.val / 6) 4 (by omega) (y 0) (y 1) _ h0 h1 _ rfl rfl rfl
  · exact result_at m c (t.val / 6) 5 (by omega) (y 0) (y 1) _ h0 h1 _ rfl rfl rfl

theorem arr9 : (dats m 0 c).arrAt 9 cfg0.N = val_main_v43 (F := Ideal) (xs m c) (shs m c) (scs m c) (nms m c) (ws m c) := by
  refine (dats m 0 c).arrAt_eq_of_covers 9 _ (by decide +kernel) fun t _ y => ?_
  have e : y = ix3 (y 0) (y 1) (y 2) := by funext a; fin_cases a <;> rfl
  have h1 : (((cfg0.win 9).blk t).view.emb y 1).val = (y 1).val := by blk_simp [places t]
  have h2 : (((cfg0.win 9).blk t).view.emb y 2).val = (y 2).val := by blk_simp [places t]
  refine Eq.trans (congrFun (after9 m c t) y) ((congrArg (o9 m c (t.val / 6)) e).trans ?_)
  refine Eq.trans ?_ (val_main_v43_apply (F := Ideal) _ _ _ _ _ _).symm
  rw [val_main_v42_apply, val_main_v41_apply, val_main_v30_apply, val_main_v24_apply]
  refine (vt_apply _ _ (y 0) (y 1) (y 2)).trans ?_
  exact result_at m c (t.val / 6) 2 (by omega) (y 2) (y 1) _ h2 h1 _ rfl rfl rfl

end Cert.SampleHost

end
-- ==== Proof.ModHost.lean ====
/- The modulation's array: over finite values the low halves of the split factors are zero, and what is left is the reference's product. -/
module

public import proofs.«01_k».proof.Proof.Gen.ModulationIdeal.Value
public import proofs.«01_k».proof.Proof.Gen.ModulationReferenceIdeal.Read
public import proofs.«01_k».proof.Pre_finite
public import Idealize.ShloMosaic.Lib.MatmulPlain
public import Idealize.ShloMosaic.Lib.KernelVsHost
public import Idealize.ShloMosaic.Lib.ReduceAll
public import Idealize.ShloMosaic.Lib.Pipeline.ValueKit
public import Idealize.ShloMosaic.Lib.Tactic
public import Idealize.ShloMosaic.Lib.StableHlo.ReadAt

@[expose] public section
set_option maxRecDepth 16384

noncomputable section

namespace Cert.ModHost

open Idealize.ShloMosaic hiding ix1 ix2 ix3 eq_ix1 eq_ix2 eq_ix3
open Idealize.ShloMosaic.ValueIdx Idealize.ShloMosaic.TcCoe Idealize.ShloMosaic.StableHlo
open Cert.ModulationIdeal hiding sig
open Cert.ModulationIdeal.Gen
open Cert.ModulationReferenceIdeal.Read

/-! ## Finite values -/

/-- Neither infinity. -/
def IsReal (x : EReal) : Prop := x ≠ ⊤ ∧ x ≠ ⊥

theorem IsReal.sub_self {x : EReal} (h : IsReal x) : x - x = 0 := EReal.sub_self h.1 h.2

theorem fin_of_abs {x : EReal} (h : FloatOps.cmpf (F := Ideal) .olt (φ := .f32) (FloatOps.hostAbsf (F := Ideal) (φ := .f32) x) (FloatOps.ofBits (F := Ideal) .f32 0x7F800000#32) = 1#1) : IsReal x := by
  have h' : Ideal.cmp .olt (max x (-x)) (Ideal.ofBits .f32 0x7F800000#32) = 1 := h
  have e : Ideal.ofBits .f32 0x7F800000#32 = ⊤ := by simp [Ideal.ofBits, Ideal.ieee]
  rw [e] at h'
  have h2 : max x (-x) < ⊤ := by
    by_contra hn
    simp [Ideal.cmp, hn] at h'
  constructor
  · rintro rfl; simp at h2
  · rintro rfl; simp at h2

/-- A value times its logistic. -/
def act (x : EReal) : EReal := x * Ideal.div (Ideal.ofBits .f32 0x3F800000#32) (Ideal.ofBits .f32 0x3F800000#32 + Ideal.exp (-x))

theorem act_fin {x : EReal} (h : IsReal x) : IsReal (act x) := by
  obtain ⟨r, rfl⟩ : ∃ r : ℝ, x = (r : EReal) := ⟨x.toReal, (EReal.coe_toReal h.1 h.2).symm⟩
  have e1 : Ideal.ofBits .f32 0x3F800000#32 = ((1 : ℝ) : EReal) := by
    simp [Ideal.ofBits, Ideal.ieee, -EReal.coe_mul]; norm_num
  unfold act
  rw [e1, ← EReal.coe_neg, Ideal.exp_coe, ← EReal.coe_add, Ideal.div_coe (by positivity), ← EReal.coe_mul, ← EReal.coe_mul]
  exact ⟨EReal.coe_ne_top _, EReal.coe_ne_bot _⟩

section
variable [Cert.Pre_finite.Facts]

instance : Subsingleton Cert.Pre_finite.S_.Idx := ⟨fun a b => funext fun i => i.elim0⟩

theorem finite_of_pre (c0 : S1x2048.Idx → EReal) (c1 : S32x2048.Idx → EReal) (w : S2048x12288.Idx → EReal) (b : S12288.Idx → EReal)
    (h : Cert.Pre_finite.fn (F := Ideal) c0 c1 w b = fun _ => 1#1) : (∀ i, IsReal (c0 i)) ∧ (∀ i, IsReal (c1 i)) ∧ ∀ i, IsReal (w i) := by
  have h1 := congrFun h (fun a => a.elim0)
  dsimp only [Cert.Pre_finite.fn] at h1
  obtain ⟨h2, hw⟩ := IntOp.andi_eq_one.1 h1
  obtain ⟨h0, h1⟩ := IntOp.andi_eq_one.1 h2
  refine ⟨fun i => fin_of_abs ?_, fun i => fin_of_abs ?_, fun i => fin_of_abs ?_⟩
  · exact Host.reduce_andi_all _ _ _ _ _ h0 i
  · exact Host.reduce_andi_all _ _ _ _ _ h1 i
  · exact Host.reduce_andi_all _ _ _ _ _ hw i

end

/-! ## The kernel's block -/

/-- A row laid along every row. -/
theorem along (v : Vec Ideal S1x512 .f32) (r : Fin 40) (y : Fin 512) :
    broadcastTo S40x512 v broadcasts_S1x512_S40x512 (ix2 r y) = v (ix2 (0 : Fin 1) y) :=
  broadcastTo_apply v broadcasts_S1x512_S40x512 (ix2 r y) (ix2 (0 : Fin 1) y) fun b => match b with
    | ⟨0, _⟩ => by show (0 : ℕ) = if (1 : ℕ) = 1 then 0 else _; rfl
    | ⟨1, _⟩ => by show y.val = if (512 : ℕ) = 1 then 0 else y.val; rfl

/-- A product of two blocks at an element. -/
theorem product (a : FVec Ideal S40x2048 .bf16) (b : FVec Ideal S2048x512 .bf16) (r : Fin 40) (y : Fin 512) :
    (matmul dot_S40x2048_S2048x512_S40x512_1_0_0_1_n_n none a b (constant S40x512 .f32 0x00000000#32) (ix2 r y) : EReal)
      = ∑ k : Fin 2048, (a (ix2 r k) : EReal) * b (ix2 k y) := by
  have h := Ideal.matmul_plain_apply (M := 40) (K := 2048) (N := 512) (φ₁ := .bf16) (φ₂ := .bf16) none a b (constant S40x512 .f32 0x00000000#32) r y
  refine Eq.trans h ?_
  have h0 : (constant (F := Ideal) S40x512 .f32 0x00000000#32 (ix2 r y) : EReal) = 0 := Ideal.ofBits_zero_f32
  rw [h0, zero_add]

theorem sum4 (p q s u : FVec Ideal S40x512 .f32) (i : S40x512.Idx) : (addf (addf (addf p q) s) u i : EReal) = (p i : EReal) + q i + s i + u i := rfl

theorem pay1_apply (x : Vec Ideal S40x2048 .f32) (w : Vec Ideal S2048x512 .f32) (b : Vec Ideal S1x512 .f32) (r : Fin 40) (y : Fin 512)
    (hx : ∀ k, IsReal (x (ix2 r k))) (hw : ∀ k, IsReal (w (ix2 k y))) :
    (k0_pay1 x w b (ix2 r y) : EReal) = (∑ k : Fin 2048, act (x (ix2 r k)) * w (ix2 k y)) + b (ix2 (0 : Fin 1) y) := by
  unfold k0_pay1
  simp only [shapeCast_self]
  rw [sum4, product, product, product, along]
  have hz : ∀ k : Fin 2048, (x (ix2 r k) : EReal) * Ideal.div (Ideal.ofBits .f32 0x3F800000#32)
      (Ideal.ofBits .f32 0x3F800000#32 + Ideal.exp (Ideal.ofBits .f32 0x00000000#32 - x (ix2 r k))) = act (x (ix2 r k)) := fun k => by
    rw [Ideal.ofBits_zero_f32, zero_sub]; rfl
  have e1 : (∑ k : Fin 2048, (x (ix2 r k) : EReal) * Ideal.div (Ideal.ofBits .f32 0x3F800000#32)
      (Ideal.ofBits .f32 0x3F800000#32 + Ideal.exp (Ideal.ofBits .f32 0x00000000#32 - x (ix2 r k))) * w (ix2 k y))
      = ∑ k : Fin 2048, act (x (ix2 r k)) * w (ix2 k y) := Finset.sum_congr rfl fun k _ => by rw [hz]
  have e2 : (∑ k : Fin 2048, (x (ix2 r k) : EReal) * Ideal.div (Ideal.ofBits .f32 0x3F800000#32)
      (Ideal.ofBits .f32 0x3F800000#32 + Ideal.exp (Ideal.ofBits .f32 0x00000000#32 - x (ix2 r k))) * (w (ix2 k y) - w (ix2 k y))) = 0 :=
    Finset.sum_eq_zero fun k _ => by rw [(hw k).sub_self, mul_zero]
  have e3 : (∑ k : Fin 2048, ((x (ix2 r k) : EReal) * Ideal.div (Ideal.ofBits .f32 0x3F800000#32)
      (Ideal.ofBits .f32 0x3F800000#32 + Ideal.exp (Ideal.ofBits .f32 0x00000000#32 - x (ix2 r k)))
      - x (ix2 r k) * Ideal.div (Ideal.ofBits .f32 0x3F800000#32)
      (Ideal.ofBits .f32 0x3F800000#32 + Ideal.exp (Ideal.ofBits .f32 0x00000000#32 - x (ix2 r k)))) * w (ix2 k y)) = 0 :=
    Finset.sum_eq_zero fun k _ => by rw [hz, (act_fin (hx k)).sub_self, zero_mul]
  refine congrArg (· + (b (ix2 (0 : Fin 1) y) : EReal)) ?_
  refine Eq.trans (congr (congrArg (fun p q : EReal => p + q) (congr (congrArg (fun p q : EReal => p + q) e1) e2)) e3) ?_
  rw [add_zero, add_zero]

/-! ## The conditioning rows -/

/-- The prompt's row, the samples' rows, then rows of zeros. -/
def cond (c0 : S1x2048.Idx → EReal) (c1 : S32x2048.Idx → EReal) (r : Fin 40) (k : Fin 2048) : EReal :=
  if r.val < 1 then c0 (ix2 (0 : Fin 1) k) else if h : r.val - 1 < 32 then c1 (ix2 ⟨r.val - 1, h⟩ k) else 0

theorem cond_fin {c0 : S1x2048.Idx → EReal} {c1 : S32x2048.Idx → EReal} (h0 : ∀ i, IsReal (c0 i)) (h1 : ∀ i, IsReal (c1 i)) (r : Fin 40) (k : Fin 2048) :
    IsReal (cond c0 c1 r k) := by
  unfold cond
  split_ifs
  exacts [h0 _, h1 _, ⟨EReal.zero_ne_top, EReal.zero_ne_bot⟩]

/-- The reference's rows. -/
theorem rows_ref (c0 : S1x2048.Idx → EReal) (c1 : S32x2048.Idx → EReal) (r : Fin 40) (k : Fin 2048) :
    val_main_v1 (F := Ideal) c0 c1 (ix2 r k) = cond c0 c1 r k := by
  unfold val_main_v1 cond
  split_ifs with h h'
  · exact concatenate_apply_piece 0 _ _ (ix2 r k) 0 (by simp) S1x2048 c0 rfl rfl 0 rfl (ix2 (0 : Fin 1) k)
      (fun b hb => match b, hb with | ⟨0, _⟩, hb => absurd rfl hb | ⟨1, _⟩, _ => rfl) (by show 0 + 0 = r.val; omega)
  · exact concatenate_apply_piece 0 _ _ (ix2 r k) 1 (by simp) S32x2048 c1 rfl rfl 1 rfl (ix2 (⟨r.val - 1, h'⟩ : Fin 32) k)
      (fun b hb => match b, hb with | ⟨0, _⟩, hb => absurd rfl hb | ⟨1, _⟩, _ => rfl) (by show 1 + (r.val - 1) = r.val; omega)
  · refine (concatenate_apply_piece 0 _ _ (ix2 r k) 2 (by simp) ⟨2, ![7, 2048]⟩ (val_main_v0 (F := Ideal)) rfl rfl 33 rfl (ix2 (⟨r.val - 33, by omega⟩ : Fin 7) k)
      (fun b hb => match b, hb with | ⟨0, _⟩, hb => absurd rfl hb | ⟨1, _⟩, _ => rfl) (by show 33 + (r.val - 33) = r.val; omega)).trans ?_
    rw [val_main_v0_apply, val_main_cst_apply]
    exact Ideal.ofBits_zero_f32

/-- The kernel's rows. -/
theorem rows_pad (c0 : S1x2048.Idx → EReal) (c1 : S32x2048.Idx → EReal) (z : S_.Idx → EReal) (hz : ∀ i, z i = 0) (r : Fin 40) (k : Fin 2048) :
    pad S40x2048 ![0, 0] ![7, 0] ![0, 0] (concatenate S33x2048 0 [⟨S1x2048, c0⟩, ⟨S32x2048, c1⟩] concatenates_S1x2048_S32x2048_S33x2048_d0) z
      pads_S33x2048_S40x2048_070_000 h_S_ (ix2 r k) = cond c0 c1 r k := by
  unfold cond
  by_cases hr : r.val < 33
  · rw [pad_apply_of_inside ![0, 0] ![7, 0] ![0, 0] _ z pads_S33x2048_S40x2048_070_000 h_S_ (ix2 r k) (ix2 (⟨r.val, hr⟩ : Fin 33) k) (fun a => match a with
      | ⟨0, _⟩ => by show r.val = 0 + r.val * (0 + 1); omega
      | ⟨1, _⟩ => by show k.val = 0 + k.val * (0 + 1); omega)]
    split_ifs with h h'
    · exact concatenate_apply_piece 0 _ _ (ix2 (⟨r.val, hr⟩ : Fin 33) k) 0 (by simp) S1x2048 c0 rfl rfl 0 rfl (ix2 (0 : Fin 1) k)
        (fun b hb => match b, hb with | ⟨0, _⟩, hb => absurd rfl hb | ⟨1, _⟩, _ => rfl) (by show 0 + 0 = r.val; omega)
    · exact concatenate_apply_piece 0 _ _ (ix2 (⟨r.val, hr⟩ : Fin 33) k) 1 (by simp) S32x2048 c1 rfl rfl 1 rfl (ix2 (⟨r.val - 1, h'⟩ : Fin 32) k)
        (fun b hb => match b, hb with | ⟨0, _⟩, hb => absurd rfl hb | ⟨1, _⟩, _ => rfl) (by show 1 + (r.val - 1) = r.val; omega)
    · omega
  · rw [if_neg (by omega), dif_neg (by omega)]
    refine (pad_apply_of_not_inside (s := S33x2048) ![0, 0] ![7, 0] ![0, 0] _ z pads_S33x2048_S40x2048_070_000 h_S_ (ix2 r k) 0 (fun h => ?_)).trans (hz _)
    have : (r.val - 0) / (0 + 1) < 33 := h.2.2
    omega

/-! ## The array -/

variable (m : (ℓ : Loc nD τ ModulationIdeal.sig) → Buf (Elt Ideal) ℓ) (c : Dev nD)

/-- The arguments. -/
abbrev c0s : S1x2048.Idx → EReal := m ((c : Thread nD τ).loc main_arg0)
abbrev c1s : S32x2048.Idx → EReal := m ((c : Thread nD τ).loc main_arg1)
abbrev ws : S2048x12288.Idx → EReal := m ((c : Thread nD τ).loc main_arg2)
abbrev bs : S12288.Idx → EReal := m ((c : Thread nD τ).loc main_arg3)

theorem places (t : Fin cfg0.N) : win0_0.index t = ![0, 0] ∧ win0_1.index t = ![0, t.val] ∧ win0_2.index t = ![0, t.val] ∧ win0_3.index t = ![0, t.val] := by
  revert t; decide +kernel

theorem cond_host (r : Fin 40) (k : Fin 2048) : (V m c main_v1 : S40x2048.Idx → EReal) (ix2 r k) = cond (c0s m c) (c1s m c) r k := by
  have e : (V m c main_v1 : S40x2048.Idx → EReal) = pad S40x2048 ![0, 0] ![7, 0] ![0, 0]
      (concatenate S33x2048 0 [⟨S1x2048, c0s m c⟩, ⟨S32x2048, c1s m c⟩] concatenates_S1x2048_S32x2048_S33x2048_d0)
      (sitofp (F := Ideal) .f32 (constantI S_ 32 0#32)) pads_S33x2048_S40x2048_070_000 h_S_ := by
    unfold V
    after_reads_simp
    all_goals try simp only [TRef.toBuf, TRef.ofBuf, cast_eq]
    all_goals try rfl
  rw [e]
  refine rows_pad _ _ _ (fun i => ?_) r k
  show (((0#32 : BitVec 32).toInt : ℝ) : EReal) = 0
  simp

theorem bias_host (y : Fin 12288) : (V m c main_v2 : S1x12288.Idx → EReal) (ix2 (0 : Fin 1) y) = bs m c (ix1 y) := by
  have e : (V m c main_v2 : S1x12288.Idx → EReal) = shapeCast S1x12288 (bs m c) shapeCasts_S12288_S1x12288 := by
    unfold V
    after_reads_simp
    all_goals try simp only [TRef.toBuf, TRef.ofBuf, cast_eq]
    all_goals try rfl
  rw [e]
  exact shapeCast_apply _ _ (ix2 (0 : Fin 1) y) (ix1 y) (by
    rw [Shape.rowMajor_val_one, Shape.rowMajor_val_two]; show y.val = 0 * 12288 + y.val; omega)

section
variable (t : Fin cfg0.N)

theorem rows (r : Fin 40) (k : Fin 2048) : (iblk m c 0 t (ix2 r k) : EReal) = cond (c0s m c) (c1s m c) r k := by
  refine Eq.trans (congrArg (V m c main_v1 : S40x2048.Idx → EReal) (funext fun a => Fin.ext ?_)) (cond_host m c r k)
  match a with
  | ⟨0, _⟩ => blk_simp [places t]
  | ⟨1, _⟩ => blk_simp [places t]

theorem cols_at (y : S2048x512.Idx) (i : S2048x12288.Idx) (h0 : (i 0).val = (y 0).val) (h1 : (i 1).val = 512 * t.val + (y 1).val) :
    (iblk m c 1 t y : EReal) = ws m c i := by
  have e0 : (((cfg0.win 1).blk t).view.emb y 0).val = (i 0).val := by rw [h0]; blk_simp [places t]
  have e1 : (((cfg0.win 1).blk t).view.emb y 1).val = (i 1).val := by rw [h1]; blk_simp [places t]; omega
  refine (congrFun (V_main_arg2 m c) _).trans (congrArg (ws m c) (funext fun a => Fin.ext ?_))
  match a with
  | ⟨0, _⟩ => exact e0
  | ⟨1, _⟩ => exact e1

theorem cols (k : Fin 2048) (y : Fin 512) (Y : Fin 12288) (hY : Y.val = 512 * t.val + y.val) : (iblk m c 1 t (ix2 k y) : EReal) = ws m c (ix2 k Y) :=
  cols_at m c t (ix2 k y) (ix2 k Y) rfl hY

theorem bias_at (y : S1x512.Idx) (Y : Fin 12288) (h0 : (y 0).val = 0) (hY : Y.val = 512 * t.val + (y 1).val) : (iblk m c 2 t y : EReal) = bs m c (ix1 Y) := by
  have e0 : (((cfg0.win 2).blk t).view.emb y 0).val = 0 := by blk_simp [places t, h0]
  have e1 : (((cfg0.win 2).blk t).view.emb y 1).val = Y.val := by rw [hY]; blk_simp [places t]; omega
  refine Eq.trans (congrArg (V m c main_v2 : S1x12288.Idx → EReal) (funext fun a => Fin.ext ?_)) (bias_host m c Y)
  match a with
  | ⟨0, _⟩ => exact e0
  | ⟨1, _⟩ => exact e1

theorem bias (y : Fin 512) (Y : Fin 12288) (hY : Y.val = 512 * t.val + y.val) : (iblk m c 2 t (ix2 (0 : Fin 1) y) : EReal) = bs m c (ix1 Y) :=
  bias_at m c t (ix2 (0 : Fin 1) y) Y rfl hY

end

/-- The reference at an element. -/
theorem ref_apply (c0 : S1x2048.Idx → EReal) (c1 : S32x2048.Idx → EReal) (w : S2048x12288.Idx → EReal) (b : S12288.Idx → EReal)
    (i : (⟨2, ![40, 12288]⟩ : Shape).Idx) (r : Fin 40) (Y : Fin 12288) (h0 : (i 0).val = r.val) (h1 : (i 1).val = Y.val) :
    val_main_v6 (F := Ideal) c0 c1 w b i = (∑ k : Fin 2048, act (cond c0 c1 r k) * w (ix2 k Y)) + b (ix1 Y) := by
  rw [val_main_v6_apply, val_main_v3_apply, val_main_v5_apply, val_main_v4_apply]
  have hb : idx_main_v4 (idx_main_v5 i) = ix1 Y := funext fun a => match a with | ⟨0, _⟩ => Fin.ext h1
  have hs : (∑ k : Fin 2048, (val_main_v2 (F := Ideal) c0 c1) (lidx_main_v3 i k) * w (ridx_main_v3 i k)) = ∑ k : Fin 2048, act (cond c0 c1 r k) * w (ix2 k Y) := by
    refine Finset.sum_congr rfl fun k _ => ?_
    have e0 : lidx_main_v3 i k = ix2 r k := funext fun a => match a with | ⟨0, _⟩ => Fin.ext h0 | ⟨1, _⟩ => rfl
    have e1 : ridx_main_v3 i k = ix2 k Y := funext fun a => match a with | ⟨0, _⟩ => rfl | ⟨1, _⟩ => Fin.ext h1
    rw [e0, e1, val_main_v2_apply, val_main_call0_v5_apply, val_main_call0_v4_apply, val_main_call0_cst_0_apply, val_main_call0_v3_apply,
      val_main_call0_v2_apply, val_main_call0_cst_apply, val_main_call0_v1_apply, val_main_call0_v0_apply, rows_ref]
    rfl
  rw [hb]
  exact congrArg (· + b (ix1 Y)) hs

theorem after3 (t : Fin cfg0.N) : (dats m 0 c).after 3 t = k0_pay1 (iblk m c 0 t) (iblk m c 1 t) (iblk m c 2 t) := by
  have z2 : (![0, 0] : Fin 2 → ℕ) = fun _ => 0 := by funext d; fin_cases d <;> rfl
  rw [after0_3]
  unfold out0_3
  refine (View.canon_cons_unit_zero z2 _ _ []).trans ?_
  simp (disch := decide) only [View.ld_unit_lit']

theorem arr3 (h0 : ∀ i, IsReal (c0s m c i)) (h1 : ∀ i, IsReal (c1s m c i)) (h2 : ∀ i, IsReal (ws m c i)) :
    (dats m 0 c).arrAt 3 cfg0.N = val_main_v6 (F := Ideal) (c0s m c) (c1s m c) (ws m c) (bs m c) := by
  refine (dats m 0 c).arrAt_eq_of_covers 3 _ (by decide +kernel) fun t _ y => ?_
  have e : y = ix2 (y 0) (y 1) := by funext a; fin_cases a <;> rfl
  have e0 : (((cfg0.win 3).blk t).view.emb y 0).val = (y 0).val := by blk_simp [places t]
  have e1 : (((cfg0.win 3).blk t).view.emb y 1).val = 512 * t.val + (y 1).val := by blk_simp [places t]; omega
  have ht : t.val < 24 := lt_of_lt_of_eq t.isLt N_0
  have hy : (y 1).val < 512 := (y 1).isLt
  refine Eq.trans (congrFun (after3 m c t) y) ((congrArg (k0_pay1 (iblk m c 0 t) (iblk m c 1 t) (iblk m c 2 t)) e).trans ?_)
  refine Eq.trans ?_ (ref_apply _ _ _ _ _ (y 0) ⟨512 * t.val + (y 1).val, by omega⟩ e0 e1).symm
  have hr : ∀ k, (iblk m c 0 t (ix2 (y 0) k) : EReal) = cond (c0s m c) (c1s m c) (y 0) k := rows m c t (y 0)
  have hc : ∀ k, (iblk m c 1 t (ix2 k (y 1)) : EReal) = ws m c (ix2 k ⟨512 * t.val + (y 1).val, by omega⟩) := fun k => cols m c t k (y 1) _ rfl
  refine (pay1_apply _ _ _ (y 0) (y 1) (fun k => ?_) (fun k => ?_)).trans ?_
  · rw [hr]; exact cond_fin h0 h1 _ _
  · rw [hc]; exact h2 _
  · rw [bias m c t (y 1) ⟨512 * t.val + (y 1).val, by omega⟩ rfl]
    exact congrArg (· + bs m c (ix1 _)) (Finset.sum_congr rfl fun k _ => by rw [hr, hc])

end Cert.ModHost

end
-- ==== Proof.Tile.lean ====
/-
What the kernel does with one block of 256 keys and one head, as functions of the arrays it reads, and the order in
which it does it: block after block, the eight heads in turn, each head's rows of the accumulator updated in place.
-/
module

public import proofs.«01_k».proof.Proof.Gen.KernelIdeal.Loops

@[expose] public section
set_option maxRecDepth 16384

noncomputable section

namespace Cert.Tile

open Idealize.ShloMosaic Idealize.ShloMosaic.TcCoe Idealize.ShloMosaic.Tactic
open Cert.KernelIdeal Cert.KernelIdeal.Gen

variable {F : FTy → Type} [FloatOps F] [Named F]

/-- The scores of a block: keys against queries, plus the head's bias, in base 2. -/
def zT (q : FVec F S256x128 .bf16) (b : F .f32) (k : Vec F S256x128 .bf16) : FVec F S256x256 .f32 :=
  addf (matmul dot_S256x128_S256x128_S256x256_1_1_0_0_n_n none (shapeCast S256x128 k shapeCasts_S256x128_S256x128) q
    (constant S256x256 .f32 0x00000000#32)) (broadcast S256x256 b)

/-- The base 2 softplus of a score. -/
def spT (z : FVec F S256x256 .f32) : FVec F S256x256 .f32 :=
  maximumf z (mulf (log (addf (broadcast S256x256 (Scalar.ofBits .f32 0x3F800000#32))
    (exp2 (minimumf z (broadcast S256x256 (Scalar.ofBits .f32 0x422C0000#32))))))
    (broadcast S256x256 (Named.named κ "log2e" 0x3FB8AA3B#32)))

/-- A matrix with the entries that a mask leaves out put to zero. -/
def cutT (vis : IVec S256x256 1) (s : FVec F S256x256 .f32) : FVec F S256x256 .f32 :=
  select vis s (broadcast S256x256 (Scalar.ofBits .f32 0x00000000#32))

/-- The sums of the softplus over the later keys of the block. -/
def sufT (tri : FVec F S256x256 .bf16) (s : FVec F S256x256 .f32) : FVec F S256x256 .f32 :=
  matmul dot_S256x256_S256x256_S256x256_1_0_0_1_n_n none tri (truncf .bf16 s bitsLt_bf16_f32)
    (constant S256x256 .f32 0x00000000#32)

/-- The weights of a block before the blocks after it are taken into account. -/
def aT (z s : FVec F S256x256 .f32) : FVec F S256x256 .f32 := exp2 (subf (subf z (spT z)) s)

/-- The weighted sum of a block's values. -/
def oT (a : FVec F S256x256 .f32) (v : Vec F S1x64x256 .bf16) : FVec F S64x256 .f32 :=
  matmul dot_S64x256_S256x256_S64x256_1_0_0_1_n_n none (shapeCast S64x256 v shapeCasts_S1x64x256_S64x256)
    (truncf .bf16 a bitsLt_bf16_f32) (constant S64x256 .f32 0x00000000#32)

/-- The sum of the softplus over a whole block. -/
def totT (suf s : FVec F S256x256 .f32) : FVec F S1x256 .f32 :=
  addf (extractStridedSlice S1x256 ![0, 0] suf slices_S256x256_o0_0_S1x256)
    (extractStridedSlice S1x256 ![0, 0] s slices_S256x256_o0_0_S1x256)

/-- The accumulator after a block: what it held plus the block's sum, scaled by the blocks already seen. -/
def accT (o : FVec F S64x256 .f32) (run : FVec F S1x256 .f32) (a : Vec F S64x256 .f32) : FVec F S64x256 .f32 :=
  shapeCast S64x256 (addf a (mulf o (broadcastTo S64x256 (exp2 (subf (broadcast S1x256 (Scalar.ofBits .f32 0x00000000#32)) run))
    broadcasts_S1x256_S64x256))) shapeCasts_S64x256_S64x256

/-- The choice of one of eight things. -/
def pick {α : Type} (a0 a1 a2 a3 a4 a5 a6 a7 : α) : ℕ → α
  | 0 => a0 | 1 => a1 | 2 => a2 | 3 => a3 | 4 => a4 | 5 => a5 | 6 => a6 | _ => a7

section Steps
variable (tri : FVec F S256x256 .bf16) (q : ℕ → FVec F S256x128 .bf16) (b : ℕ → F .f32)
  (K : ℕ → ℕ → Vec F S256x128 .bf16) (V : ℕ → ℕ → Vec F S1x64x256 .bf16)

/-- Block `n`'s scores for head `h`. -/
def zF (n h : ℕ) : FVec F S256x256 .f32 := zT (q h) (b h) (K n h)
/-- Block `n`'s total for head `h`, no key masked. -/
def totF (n h : ℕ) : FVec F S1x256 .f32 := totT (sufT tri (spT (zF q b K n h))) (spT (zF q b K n h))
/-- Block `n`'s weighted values for head `h`, no key masked. -/
def oF (n h : ℕ) : FVec F S64x256 .f32 := oT (aT (zF q b K n h) (sufT tri (spT (zF q b K n h)))) (V n h)
/-- Block `n`'s total for head `h`, the keys masked. -/
def totM (vis : IVec S256x256 1) (n h : ℕ) : FVec F S1x256 .f32 :=
  totT (sufT tri (cutT vis (spT (zF q b K n h)))) (cutT vis (spT (zF q b K n h)))
/-- Block `n`'s weighted values for head `h`, the keys masked. -/
def oM (vis : IVec S256x256 1) (n h : ℕ) : FVec F S64x256 .f32 :=
  oT (cutT vis (aT (zF q b K n h) (sufT tri (cutT vis (spT (zF q b K n h)))))) (V n h)
/-- The totals when the first block is masked and the others are not. -/
def totC (vis : IVec S256x256 1) : ℕ → ℕ → FVec F S1x256 .f32
  | 0 => totM tri q b K vis 0
  | n + 1 => totF tri q b K (n + 1)
/-- The weighted values when the first block is masked and the others are not. -/
def oC (vis : IVec S256x256 1) : ℕ → ℕ → FVec F S64x256 .f32
  | 0 => oM tri q b K V vis 0
  | n + 1 => oF tri q b K V (n + 1)
end Steps

section Pieces
variable (T : ℕ → ℕ → FVec F S1x256 .f32) (O : ℕ → ℕ → FVec F S64x256 .f32) (r0 : ℕ → FVec F S1x256 .f32)

/-- The running sum of head `h` after `n` blocks. -/
def runT (h : ℕ) : ℕ → FVec F S1x256 .f32
  | 0 => r0 h
  | n + 1 => addf (runT h n) (T n h)

/-- Step `j` works on head `j % 8` of block `j / 8`; what it leaves in that head's rows. -/
def payT (j : ℕ) (a : Vec F S64x256 .f32) : FVec F S64x256 .f32 :=
  accT (O (j / 8) (j % 8)) (runT T r0 (j % 8) (j / 8)) a

theorem inb_head (h : ℕ) : ∀ a, (![64 * (h % 8), 0] : Fin 2 → ℕ) a + S64x256.size a ≤ S512x256.size a := by
  intro a
  have : h % 8 < 8 := Nat.mod_lt _ (by decide)
  fin_cases a
  · show 64 * (h % 8) + 64 ≤ 512; omega
  · show 0 + 256 ≤ 256; omega

/-- The rows of head `j % 8`. -/
abbrev rowsT (j : ℕ) : Rect S512x256 := Rect.unit (s := S512x256) ![64 * (j % 8), 0] S64x256.size (inb_head j)

/-- The stores of the first `j` steps, last first, given what each step's load reads. -/
def piecesT (base : List (View.Piece (Elt F) S512x256 .f32))
    (ld : (j : ℕ) → List (View.Piece (Elt F) S512x256 .f32) → Vec F S64x256 .f32) : ℕ → List (View.Piece (Elt F) S512x256 .f32)
  | 0 => base
  | j + 1 => ⟨rowsT j, payT T O r0 j (ld j (piecesT base ld j))⟩ :: piecesT base ld j
end Pieces

end Cert.Tile

end
-- ==== Proof.Trip.lean ====
/-
One trip of the loop over the full groups of four key blocks, as thirty-two steps.
-/
module

public import proofs.«01_k».proof.Proof.Tile

@[expose] public section
set_option maxRecDepth 16384
set_option maxHeartbeats 2000000

noncomputable section

namespace Cert.Trip

open Idealize.ShloMosaic Idealize.ShloMosaic.TcCoe Idealize.ShloMosaic.Tactic
open Cert.KernelIdeal Cert.KernelIdeal.Gen Cert.Tile

variable {F : FTy → Type} [FloatOps F] [Named F]

/-- Block `3 - n` of the group, as the coordinate its offsets take. -/
def blkIx (n : ℕ) : Fin 4 := ⟨3 - n % 4, by omega⟩

/-- A block of keys, read at an offset. -/
def keyAt (arg4 : Memref sig .tc .vmem S16384x512 .bf16) (X_arg4 : BufTy.Contents (Elt F) arg4.view.ty)
    (off : Fin 2 → ℕ) (inb : ∀ a, off a + S256x128.size a ≤ S16384x512.size a) : Vec F S256x128 .bf16 :=
  View.readAt (Elt F) arg4.view (Rect.unit (s := S16384x512) off S256x128.size inb).toLoadRect X_arg4

/-- A block of values, read at an offset. -/
def valAt (arg5 : Memref sig .tc .vmem S64x512x256 .bf16) (X_arg5 : BufTy.Contents (Elt F) arg5.view.ty)
    (off : Fin 3 → ℕ) (inb : ∀ a, off a + S1x64x256.size a ≤ S64x512x256.size a) : Vec F S1x64x256 .bf16 :=
  View.readAt (Elt F) arg5.view (Rect.unit (s := S64x512x256) off S1x64x256.size inb).toLoadRect X_arg5

section
variable (arg4 : Memref sig .tc .vmem S16384x512 .bf16) (arg5 : Memref sig .tc .vmem S64x512x256 .bf16)
  (X_arg4 : BufTy.Contents (Elt F) arg4.view.ty) (X_arg5 : BufTy.Contents (Elt F) arg5.view.ty)
  (i : grid0.Coords) (k : Fin (k0_t1_loop i).trips)

/-- The keys that the trip loads for head `h` of its block `n`. -/
def keys (n h : ℕ) : Vec F S256x128 .bf16 :=
  pick
    (keyAt arg4 X_arg4 (k0_off50 i k (BitVec.ofNat 32 (blkIx n).val)) (k0_off50_inb i k (blkIx n)))
    (keyAt arg4 X_arg4 (k0_off50 i k (BitVec.ofNat 32 (blkIx n).val)) (k0_off50_inb i k (blkIx n)))
    (keyAt arg4 X_arg4 (k0_off51 i k (BitVec.ofNat 32 (blkIx n).val)) (k0_off51_inb i k (blkIx n)))
    (keyAt arg4 X_arg4 (k0_off51 i k (BitVec.ofNat 32 (blkIx n).val)) (k0_off51_inb i k (blkIx n)))
    (keyAt arg4 X_arg4 (k0_off52 i k (BitVec.ofNat 32 (blkIx n).val)) (k0_off52_inb i k (blkIx n)))
    (keyAt arg4 X_arg4 (k0_off52 i k (BitVec.ofNat 32 (blkIx n).val)) (k0_off52_inb i k (blkIx n)))
    (keyAt arg4 X_arg4 (k0_off55 i k (BitVec.ofNat 32 (blkIx n).val)) (k0_off55_inb i k (blkIx n)))
    (keyAt arg4 X_arg4 (k0_off55 i k (BitVec.ofNat 32 (blkIx n).val)) (k0_off55_inb i k (blkIx n))) h

/-- The values that the trip loads for head `h` of its block `n`. -/
def vals (n h : ℕ) : Vec F S1x64x256 .bf16 :=
  pick
    (valAt arg5 X_arg5 (k0_off53 i k (BitVec.ofNat 32 (blkIx n).val)) (k0_off53_inb i k (blkIx n)))
    (valAt arg5 X_arg5 (k0_off54 i k (BitVec.ofNat 32 (blkIx n).val)) (k0_off54_inb i k (blkIx n)))
    (valAt arg5 X_arg5 (k0_off56 i k (BitVec.ofNat 32 (blkIx n).val)) (k0_off56_inb i k (blkIx n)))
    (valAt arg5 X_arg5 (k0_off57 i k (BitVec.ofNat 32 (blkIx n).val)) (k0_off57_inb i k (blkIx n)))
    (valAt arg5 X_arg5 (k0_off58 i k (BitVec.ofNat 32 (blkIx n).val)) (k0_off58_inb i k (blkIx n)))
    (valAt arg5 X_arg5 (k0_off59 i k (BitVec.ofNat 32 (blkIx n).val)) (k0_off59_inb i k (blkIx n)))
    (valAt arg5 X_arg5 (k0_off60 i k (BitVec.ofNat 32 (blkIx n).val)) (k0_off60_inb i k (blkIx n)))
    (valAt arg5 X_arg5 (k0_off61 i k (BitVec.ofNat 32 (blkIx n).val)) (k0_off61_inb i k (blkIx n))) h
end

/-- What step `j` of a trip loads of the accumulator: the first eight steps what was there, the later ones what an earlier step left. -/
def loads (arg7 : Memref sig .tc .vmem S512x256 .f32) (f : BufTy.Contents (Elt F) arg7.view.ty) (j : ℕ) (L : List (View.Piece (Elt F) S512x256 .f32)) :
    Vec F S64x256 .f32 :=
  bif j.blt 8 then View.readAt (Elt F) arg7.view (rowsT j).toLoadRect f else arg7.view.readCov L (rowsT j).toLoadRect

section
variable (𝒱 : Variants) (c : Dev nD) (bd : Option 𝒱.V) (i : grid0.Coords) (arg2 : Memref sig .tc .smem S16 .f32) (harg2 : arg2.IsWhole) (arg3 : Memref sig .tc .vmem S256x512 .f32) (harg3 : arg3.IsWhole) (arg4 : Memref sig .tc .vmem S16384x512 .bf16) (harg4 : arg4.IsWhole) (arg5 : Memref sig .tc .vmem S64x512x256 .bf16) (harg5 : arg5.IsWhole) (arg6 : Memref sig .tc .vmem S256x512 .f32) (harg6 : arg6.IsWhole) (arg7 : Memref sig .tc .vmem S512x256 .f32) (harg7 : arg7.IsWhole) (arg8 : Memref sig .tc .vmem S8x256 .f32) (harg8 : arg8.IsWhole) (v8 v16 v24 v32 v40 v48 v56 v64 : FVec F S256x128 .bf16) (v69 v74 v79 v84 v89 v94 v99 v104 : F .f32) (v111 : FVec F S256x256 .bf16) (v134 : BitVec 32) (X_arg4 : BufTy.Contents (Elt F) arg4.view.ty) (X_arg5 : BufTy.Contents (Elt F) arg5.view.ty) (k : Fin (k0_t1_loop i).trips) (acc : Vec F S1x256 .f32 × Vec F S1x256 .f32 × Vec F S1x256 .f32 × Vec F S1x256 .f32 × Vec F S1x256 .f32 × Vec F S1x256 .f32 × Vec F S1x256 .f32 × Vec F S1x256 .f32) (f_arg7 : BufTy.Contents (Elt F) arg7.view.ty)

/-- The carried running sums after a trip. -/
theorem result_eq : tripR_k0_t1 (F := F) 𝒱 c bd i arg2 harg2 arg3 harg3 arg4 harg4 arg5 harg5 arg6 harg6 arg7 harg7 arg8 harg8 v8 v16 v24 v32 v40 v48 v56 v64 v69 v74 v79 v84 v89 v94 v99 v104 v111 v134 X_arg4 X_arg5 k acc f_arg7 =
    (let q := pick v8 v16 v24 v32 v40 v48 v56 v64
     let b := pick v69 v74 v79 v84 v89 v94 v99 v104
     let r := runT (totF v111 q b (keys arg4 X_arg4 i k)) (pick acc.1 acc.2.1 acc.2.2.1 acc.2.2.2.1 acc.2.2.2.2.1 acc.2.2.2.2.2.1 acc.2.2.2.2.2.2.1 acc.2.2.2.2.2.2.2)
     (r 0 4, r 1 4, r 2 4, r 3 4, r 4 4, r 5 4, r 6 4, r 7 4)) := by
  sl_kernel_rfl

/-- The accumulator's stores of a trip. -/
theorem pieces_eq : tripL_k0_t1 (F := F) 𝒱 c bd i arg2 harg2 arg3 harg3 arg4 harg4 arg5 harg5 arg6 harg6 arg7 harg7 arg8 harg8 v8 v16 v24 v32 v40 v48 v56 v64 v69 v74 v79 v84 v89 v94 v99 v104 v111 v134 X_arg4 X_arg5 k acc f_arg7 =
    (let q := pick v8 v16 v24 v32 v40 v48 v56 v64
     let b := pick v69 v74 v79 v84 v89 v94 v99 v104
     piecesT (totF v111 q b (keys arg4 X_arg4 i k)) (oF v111 q b (keys arg4 X_arg4 i k) (vals arg5 X_arg5 i k))
       (pick acc.1 acc.2.1 acc.2.2.1 acc.2.2.2.1 acc.2.2.2.2.1 acc.2.2.2.2.2.1 acc.2.2.2.2.2.2.1 acc.2.2.2.2.2.2.2)
       [] (loads arg7 f_arg7) 32) := by
  sl_kernel_rfl
end

end Cert.Trip

end
-- ==== Proof.Point.lean ====
/-
One grid point of the kernel as a function of the blocks it reads: the queries and the bias made ready, the diagonal
block and the rest of its group, the running sums put away and fetched again, the loop over the earlier groups, and
the accumulator turned round.
-/
module

public import proofs.«01_k».proof.Proof.Trip
public import proofs.«01_k».proof.Proof.Gen.KernelIdeal.Frame

@[expose] public section
set_option maxRecDepth 16384

noncomputable section

namespace Cert.Point

open Idealize.ShloMosaic Idealize.ShloMosaic.TcCoe Idealize.ShloMosaic.Tactic
open Cert.KernelIdeal Cert.KernelIdeal.Gen Cert.Tile Cert.Trip

variable {F : FTy → Type} [FloatOps F] [Named F]

/-- The group of four blocks that the diagonal block lies in, as a word. -/
def wordT (i : grid0.Coords) : BitVec 32 :=
  let x : BitVec 32 := BitVec.ofNat 32 (i 1).val
  let d : BitVec 32 := Scalar.divsi x 4#32
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 4#32 0#32)) (Scalar.extui (Scalar.cmpi .slt 4#32 0#32))))
      (Scalar.cmpi .ne (Scalar.remsi x 4#32) 0#32))
    (Scalar.subi d 1#32) d

/-- The mask of the diagonal block, the block being number `r` of its group. -/
def visT (i : grid0.Coords) (r : BitVec 32) : IVec S256x256 1 :=
  cmpi .slt (subi (iota .tc S256x256 32 [0] iota_S256x256_d0_w32) (iota .tc S256x256 32 [1] iota_S256x256_d1_w32))
    (broadcast S256x256 (Scalar.muli (Scalar.subi (BitVec.ofNat 32 (i 1).val) (Scalar.addi (Scalar.muli (wordT i) 4#32) r)) 256#32))

/-- Two heads' queries, scaled. -/
def qsT (v : Vec F S256x128 .f32) : FVec F S256x128 .bf16 :=
  truncf .bf16 (mulf v (broadcast S256x128 (Named.named κ "qscale" 0x3E38AA3B#32))) bitsLt_bf16_f32

/-- The first of two heads' queries, the other head's lanes put to zero; -/
def qE (v : Vec F S256x128 .f32) : FVec F S256x128 .bf16 :=
  select (cmpi .slt (iota .tc S256x128 32 [1] iota_S256x128_d1_w32) (broadcast S256x128 64#32)) (qsT v)
    (broadcast S256x128 (Scalar.ofBits .bf16 0x0000#16))

/-- and the second. -/
def qO (v : Vec F S256x128 .f32) : FVec F S256x128 .bf16 :=
  select (cmpi .sge (iota .tc S256x128 32 [1] iota_S256x128_d1_w32) (broadcast S256x128 64#32)) (qsT v)
    (broadcast S256x128 (Scalar.ofBits .bf16 0x0000#16))

/-- Two heads' queries, read at an offset. -/
def qAt (arg3 : Memref sig .tc .vmem S256x512 .f32) (X : BufTy.Contents (Elt F) arg3.view.ty) (off : Fin 2 → ℕ)
    (inb : ∀ a, off a + S256x128.size a ≤ S256x512.size a) : Vec F S256x128 .f32 :=
  View.readAt (Elt F) arg3.view (Rect.unit (s := S256x512) off S256x128.size inb).toLoadRect X

/-- The queries of each head. -/
def qT (arg3 : Memref sig .tc .vmem S256x512 .f32) (X : BufTy.Contents (Elt F) arg3.view.ty) : ℕ → FVec F S256x128 .bf16 :=
  pick
    (qE (qAt arg3 X ![0, 0] inb_S256x512_S256x128_0_0)) (qO (qAt arg3 X ![0, 0] inb_S256x512_S256x128_0_0))
    (qE (qAt arg3 X ![0, 128] inb_S256x512_S256x128_0_128)) (qO (qAt arg3 X ![0, 128] inb_S256x512_S256x128_0_128))
    (qE (qAt arg3 X ![0, 256] inb_S256x512_S256x128_0_256)) (qO (qAt arg3 X ![0, 256] inb_S256x512_S256x128_0_256))
    (qE (qAt arg3 X ![0, 384] inb_S256x512_S256x128_0_384)) (qO (qAt arg3 X ![0, 384] inb_S256x512_S256x128_0_384))

/-- The bias of each head. -/
def bT (arg2 : Memref sig .tc .smem S16 .f32) (X : BufTy.Contents (Elt F) arg2.view.ty) (i : grid0.Coords) (h : ℕ) : F .f32 :=
  Scalar.mulf (View.readAt (Elt F) arg2.view (Rect.unit (s := S16) (k0_off1 i (BitVec.ofNat 32 (h % 8))) S1.size
    (k0_off1_inb i ⟨h % 8, Nat.mod_lt _ (by decide)⟩)).toLoadRect X (Shape.Idx.first (s := S1) (by decide)))
    (Named.named κ "log2e" 0x3FB8AA3B#32)

/-- The rows that a head's running sum is put away in. -/
theorem inb_run (h : ℕ) : ∀ a, (![h % 8, 0] : Fin 2 → ℕ) a + S1x256.size a ≤ S8x256.size a := by
  intro a
  have : h % 8 < 8 := Nat.mod_lt _ (by decide)
  fin_cases a
  · show h % 8 + 1 ≤ 8; omega
  · show 0 + 256 ≤ 256; omega

abbrev runRow (h : ℕ) : Rect S8x256 := Rect.unit (s := S8x256) ![h % 8, 0] S1x256.size (inb_run h)

/-- The stores that put the running sums away, last first. -/
def runPieces (R : ℕ → FVec F S1x256 .f32) : ℕ → List (View.Piece (Elt F) S8x256 .f32)
  | 0 => []
  | h + 1 => ⟨runRow h, shapeCast S1x256 (R h) shapeCasts_S1x256_S1x256⟩ :: runPieces R h

section
variable (c : Dev nD) (i : grid0.Coords) (arg2 : Memref sig .tc .smem S16 .f32) (harg2 : arg2.IsWhole) (arg3 : Memref sig .tc .vmem S256x512 .f32) (harg3 : arg3.IsWhole) (arg4 : Memref sig .tc .vmem S16384x512 .bf16) (harg4 : arg4.IsWhole) (arg5 : Memref sig .tc .vmem S64x512x256 .bf16) (harg5 : arg5.IsWhole) (arg6 : Memref sig .tc .vmem S256x512 .f32) (harg6 : arg6.IsWhole) (arg7 : Memref sig .tc .vmem S512x256 .f32) (harg7 : arg7.IsWhole) (arg8 : Memref sig .tc .vmem S8x256 .f32) (harg8 : arg8.IsWhole)
  (q : ℕ → FVec F S256x128 .bf16) (b : ℕ → F .f32)
  (X_arg4 : BufTy.Contents (Elt F) arg4.view.ty) (X_arg5 : BufTy.Contents (Elt F) arg5.view.ty)
  (P : List (View.Piece (Elt F) S512x256 .f32)) (R : ℕ → FVec F S1x256 .f32)

/-- The running sums fetched again. -/
def initT (h : ℕ) : Vec F S1x256 .f32 := arg8.view.readCov (runPieces R 8) (runRow h).toLoadRect

/-- The state after the loop over the earlier groups. -/
def st1 := st_k0_t1 (F := F) Variants.none c none i arg2 harg2 arg3 harg3 arg4 harg4 arg5 harg5 arg6 harg6 arg7 harg7 arg8 harg8 (q 0) (q 1) (q 2) (q 3) (q 4) (q 5) (q 6) (q 7)
  (b 0) (b 1) (b 2) (b 3) (b 4) (b 5) (b 6) (b 7) k0_pay1503 (wordT i) X_arg4 X_arg5 (arg7.view.writes (Elt F) arg7.view.junk P)
  (initT arg8 R 0, initT arg8 R 1, initT arg8 R 2, initT arg8 R 3, initT arg8 R 4, initT arg8 R 5, initT arg8 R 6, initT arg8 R 7)
  (Scf.trips (k0_t1_loop i).lb (k0_t1_loop i).ub (k0_t1_loop i).st)

/-- The state after the loop that is left over (it makes no trip). -/
def st2 := st_k0_t2 (F := F) Variants.none c none i arg2 harg2 arg3 harg3 arg4 harg4 arg5 harg5 arg6 harg6 arg7 harg7 arg8 harg8 (q 0) (q 1) (q 2) (q 3) (q 4) (q 5) (q 6) (q 7)
  (b 0) (b 1) (b 2) (b 3) (b 4) (b 5) (b 6) (b 7) k0_pay1503 (wordT i)
  (Scalar.addi 0#32 (Scalar.muli (Scalar.divsi (Scalar.subi (wordT i) 0#32) 1#32) 1#32)) X_arg4 X_arg5
  (arg7.view.writes (Elt F) arg7.view.junk ((st1 c i arg2 harg2 arg3 harg3 arg4 harg4 arg5 harg5 arg6 harg6 arg7 harg7 arg8 harg8 q b X_arg4 X_arg5 P R).2 ++ P))
  (st1 c i arg2 harg2 arg3 harg3 arg4 harg4 arg5 harg5 arg6 harg6 arg7 harg7 arg8 harg8 q b X_arg4 X_arg5 P R).1
  (Scf.trips (k0_t2_loop i).lb (k0_t2_loop i).ub (k0_t2_loop i).st)

/-- What the point stores. -/
def endT : FVec F S256x512 .f32 :=
  k0_pay13 (arg7.view.readCov ((st2 c i arg2 harg2 arg3 harg3 arg4 harg4 arg5 harg5 arg6 harg6 arg7 harg7 arg8 harg8 q b X_arg4 X_arg5 P R).2 ++ ((st1 c i arg2 harg2 arg3 harg3 arg4 harg4 arg5 harg5 arg6 harg6 arg7 harg7 arg8 harg8 q b X_arg4 X_arg5 P R).2 ++ P))
    (Rect.unit (s := S512x256) ![0, 0] S512x256.size inb_S512x256_S512x256_0_0).toLoadRect)

variable (vis : IVec S256x256 1) (K : ℕ → ℕ → Vec F S256x128 .bf16) (V : ℕ → ℕ → Vec F S1x64x256 .bf16) (r : ℕ)

/-- The stores of the diagonal block and the rest of its group, and the fill before them. -/
def diagT : List (View.Piece (Elt F) S512x256 .f32) :=
  piecesT (totC k0_pay1503 q b K vis) (oC k0_pay1503 q b K V vis) (fun _ => k0_pay1506)
    [⟨Rect.unit (s := S512x256) ![0, 0] S512x256.size inb_S512x256_S512x256_0_0, k0_pay1505⟩]
    (fun j L => arg7.view.readCov L (rowsT j).toLoadRect) (8 * (r + 1))

/-- What a point stores, its diagonal block being number `r` of its group, from the keys and values it loads. -/
def pointT : FVec F S256x512 .f32 :=
  endT c i arg2 harg2 arg3 harg3 arg4 harg4 arg5 harg5 arg6 harg6 arg7 harg7 arg8 harg8 q b X_arg4 X_arg5 (diagT arg7 q b vis K V r)
    (fun h => runT (totC k0_pay1503 q b K vis) (fun _ => k0_pay1506) h (r + 1))
end

/-- Block `r - n` of a group. -/
def blkAt (r n : ℕ) : Fin (r + 1) := ⟨r - n % (r + 1), by omega⟩

section
variable (arg4 : Memref sig .tc .vmem S16384x512 .bf16) (arg5 : Memref sig .tc .vmem S64x512x256 .bf16)
  (X : BufTy.Contents (Elt F) arg4.view.ty) (Y : BufTy.Contents (Elt F) arg5.view.ty) (i : grid0.Coords)

/-- The keys of each head in each block of the diagonal group, that block being number 0 of its group; -/
def keysA (hc : k0_cond1 i = 1#1) (n h : ℕ) : Vec F S256x128 .bf16 :=
  pick (keyAt arg4 X (k0_off2 i) (k0_off2_inb i hc)) (keyAt arg4 X (k0_off2 i) (k0_off2_inb i hc))
    (keyAt arg4 X (k0_off3 i) (k0_off3_inb i hc)) (keyAt arg4 X (k0_off3 i) (k0_off3_inb i hc))
    (keyAt arg4 X (k0_off4 i) (k0_off4_inb i hc)) (keyAt arg4 X (k0_off4 i) (k0_off4_inb i hc))
    (keyAt arg4 X (k0_off7 i) (k0_off7_inb i hc)) (keyAt arg4 X (k0_off7 i) (k0_off7_inb i hc)) h

/-- and the values. -/
def valsA (hc : k0_cond1 i = 1#1) (n h : ℕ) : Vec F S1x64x256 .bf16 :=
  pick (valAt arg5 Y (k0_off5 i) (k0_off5_inb i hc))
    (valAt arg5 Y (k0_off6 i) (k0_off6_inb i hc))
    (valAt arg5 Y (k0_off8 i) (k0_off8_inb i hc))
    (valAt arg5 Y (k0_off9 i) (k0_off9_inb i hc))
    (valAt arg5 Y (k0_off10 i) (k0_off10_inb i hc))
    (valAt arg5 Y (k0_off11 i) (k0_off11_inb i hc))
    (valAt arg5 Y (k0_off12 i) (k0_off12_inb i hc))
    (valAt arg5 Y (k0_off13 i) (k0_off13_inb i hc)) h

/-- The keys of each head in each block of the diagonal group, that block being number 1 of its group; -/
def keysB (hc : k0_cond2 i = 1#1) (n h : ℕ) : Vec F S256x128 .bf16 :=
  pick (keyAt arg4 X (k0_off14 i (BitVec.ofNat 32 (blkAt 1 n).val)) (k0_off14_inb i hc (blkAt 1 n))) (keyAt arg4 X (k0_off14 i (BitVec.ofNat 32 (blkAt 1 n).val)) (k0_off14_inb i hc (blkAt 1 n)))
    (keyAt arg4 X (k0_off15 i (BitVec.ofNat 32 (blkAt 1 n).val)) (k0_off15_inb i hc (blkAt 1 n))) (keyAt arg4 X (k0_off15 i (BitVec.ofNat 32 (blkAt 1 n).val)) (k0_off15_inb i hc (blkAt 1 n)))
    (keyAt arg4 X (k0_off16 i (BitVec.ofNat 32 (blkAt 1 n).val)) (k0_off16_inb i hc (blkAt 1 n))) (keyAt arg4 X (k0_off16 i (BitVec.ofNat 32 (blkAt 1 n).val)) (k0_off16_inb i hc (blkAt 1 n)))
    (keyAt arg4 X (k0_off19 i (BitVec.ofNat 32 (blkAt 1 n).val)) (k0_off19_inb i hc (blkAt 1 n))) (keyAt arg4 X (k0_off19 i (BitVec.ofNat 32 (blkAt 1 n).val)) (k0_off19_inb i hc (blkAt 1 n))) h

/-- and the values. -/
def valsB (hc : k0_cond2 i = 1#1) (n h : ℕ) : Vec F S1x64x256 .bf16 :=
  pick (valAt arg5 Y (k0_off17 i (BitVec.ofNat 32 (blkAt 1 n).val)) (k0_off17_inb i hc (blkAt 1 n)))
    (valAt arg5 Y (k0_off18 i (BitVec.ofNat 32 (blkAt 1 n).val)) (k0_off18_inb i hc (blkAt 1 n)))
    (valAt arg5 Y (k0_off20 i (BitVec.ofNat 32 (blkAt 1 n).val)) (k0_off20_inb i hc (blkAt 1 n)))
    (valAt arg5 Y (k0_off21 i (BitVec.ofNat 32 (blkAt 1 n).val)) (k0_off21_inb i hc (blkAt 1 n)))
    (valAt arg5 Y (k0_off22 i (BitVec.ofNat 32 (blkAt 1 n).val)) (k0_off22_inb i hc (blkAt 1 n)))
    (valAt arg5 Y (k0_off23 i (BitVec.ofNat 32 (blkAt 1 n).val)) (k0_off23_inb i hc (blkAt 1 n)))
    (valAt arg5 Y (k0_off24 i (BitVec.ofNat 32 (blkAt 1 n).val)) (k0_off24_inb i hc (blkAt 1 n)))
    (valAt arg5 Y (k0_off25 i (BitVec.ofNat 32 (blkAt 1 n).val)) (k0_off25_inb i hc (blkAt 1 n))) h

/-- The keys of each head in each block of the diagonal group, that block being number 2 of its group; -/
def keysC (hc : k0_cond3 i = 1#1) (n h : ℕ) : Vec F S256x128 .bf16 :=
  pick (keyAt arg4 X (k0_off26 i (BitVec.ofNat 32 (blkAt 2 n).val)) (k0_off26_inb i hc (blkAt 2 n))) (keyAt arg4 X (k0_off26 i (BitVec.ofNat 32 (blkAt 2 n).val)) (k0_off26_inb i hc (blkAt 2 n)))
    (keyAt arg4 X (k0_off27 i (BitVec.ofNat 32 (blkAt 2 n).val)) (k0_off27_inb i hc (blkAt 2 n))) (keyAt arg4 X (k0_off27 i (BitVec.ofNat 32 (blkAt 2 n).val)) (k0_off27_inb i hc (blkAt 2 n)))
    (keyAt arg4 X (k0_off28 i (BitVec.ofNat 32 (blkAt 2 n).val)) (k0_off28_inb i hc (blkAt 2 n))) (keyAt arg4 X (k0_off28 i (BitVec.ofNat 32 (blkAt 2 n).val)) (k0_off28_inb i hc (blkAt 2 n)))
    (keyAt arg4 X (k0_off31 i (BitVec.ofNat 32 (blkAt 2 n).val)) (k0_off31_inb i hc (blkAt 2 n))) (keyAt arg4 X (k0_off31 i (BitVec.ofNat 32 (blkAt 2 n).val)) (k0_off31_inb i hc (blkAt 2 n))) h

/-- and the values. -/
def valsC (hc : k0_cond3 i = 1#1) (n h : ℕ) : Vec F S1x64x256 .bf16 :=
  pick (valAt arg5 Y (k0_off29 i (BitVec.ofNat 32 (blkAt 2 n).val)) (k0_off29_inb i hc (blkAt 2 n)))
    (valAt arg5 Y (k0_off30 i (BitVec.ofNat 32 (blkAt 2 n).val)) (k0_off30_inb i hc (blkAt 2 n)))
    (valAt arg5 Y (k0_off32 i (BitVec.ofNat 32 (blkAt 2 n).val)) (k0_off32_inb i hc (blkAt 2 n)))
    (valAt arg5 Y (k0_off33 i (BitVec.ofNat 32 (blkAt 2 n).val)) (k0_off33_inb i hc (blkAt 2 n)))
    (valAt arg5 Y (k0_off34 i (BitVec.ofNat 32 (blkAt 2 n).val)) (k0_off34_inb i hc (blkAt 2 n)))
    (valAt arg5 Y (k0_off35 i (BitVec.ofNat 32 (blkAt 2 n).val)) (k0_off35_inb i hc (blkAt 2 n)))
    (valAt arg5 Y (k0_off36 i (BitVec.ofNat 32 (blkAt 2 n).val)) (k0_off36_inb i hc (blkAt 2 n)))
    (valAt arg5 Y (k0_off37 i (BitVec.ofNat 32 (blkAt 2 n).val)) (k0_off37_inb i hc (blkAt 2 n))) h

/-- The keys of each head in each block of the diagonal group, that block being number 3 of its group; -/
def keysD (hc : k0_cond4 i = 1#1) (n h : ℕ) : Vec F S256x128 .bf16 :=
  pick (keyAt arg4 X (k0_off38 i (BitVec.ofNat 32 (blkAt 3 n).val)) (k0_off38_inb i hc (blkAt 3 n))) (keyAt arg4 X (k0_off38 i (BitVec.ofNat 32 (blkAt 3 n).val)) (k0_off38_inb i hc (blkAt 3 n)))
    (keyAt arg4 X (k0_off39 i (BitVec.ofNat 32 (blkAt 3 n).val)) (k0_off39_inb i hc (blkAt 3 n))) (keyAt arg4 X (k0_off39 i (BitVec.ofNat 32 (blkAt 3 n).val)) (k0_off39_inb i hc (blkAt 3 n)))
    (keyAt arg4 X (k0_off40 i (BitVec.ofNat 32 (blkAt 3 n).val)) (k0_off40_inb i hc (blkAt 3 n))) (keyAt arg4 X (k0_off40 i (BitVec.ofNat 32 (blkAt 3 n).val)) (k0_off40_inb i hc (blkAt 3 n)))
    (keyAt arg4 X (k0_off43 i (BitVec.ofNat 32 (blkAt 3 n).val)) (k0_off43_inb i hc (blkAt 3 n))) (keyAt arg4 X (k0_off43 i (BitVec.ofNat 32 (blkAt 3 n).val)) (k0_off43_inb i hc (blkAt 3 n))) h

/-- and the values. -/
def valsD (hc : k0_cond4 i = 1#1) (n h : ℕ) : Vec F S1x64x256 .bf16 :=
  pick (valAt arg5 Y (k0_off41 i (BitVec.ofNat 32 (blkAt 3 n).val)) (k0_off41_inb i hc (blkAt 3 n)))
    (valAt arg5 Y (k0_off42 i (BitVec.ofNat 32 (blkAt 3 n).val)) (k0_off42_inb i hc (blkAt 3 n)))
    (valAt arg5 Y (k0_off44 i (BitVec.ofNat 32 (blkAt 3 n).val)) (k0_off44_inb i hc (blkAt 3 n)))
    (valAt arg5 Y (k0_off45 i (BitVec.ofNat 32 (blkAt 3 n).val)) (k0_off45_inb i hc (blkAt 3 n)))
    (valAt arg5 Y (k0_off46 i (BitVec.ofNat 32 (blkAt 3 n).val)) (k0_off46_inb i hc (blkAt 3 n)))
    (valAt arg5 Y (k0_off47 i (BitVec.ofNat 32 (blkAt 3 n).val)) (k0_off47_inb i hc (blkAt 3 n)))
    (valAt arg5 Y (k0_off48 i (BitVec.ofNat 32 (blkAt 3 n).val)) (k0_off48_inb i hc (blkAt 3 n)))
    (valAt arg5 Y (k0_off49 i (BitVec.ofNat 32 (blkAt 3 n).val)) (k0_off49_inb i hc (blkAt 3 n))) h
end

section
variable (c : Dev nD) (i : grid0.Coords) (arg2 : Memref sig .tc .smem S16 .f32) (harg2 : arg2.IsWhole) (arg3 : Memref sig .tc .vmem S256x512 .f32) (harg3 : arg3.IsWhole) (arg4 : Memref sig .tc .vmem S16384x512 .bf16) (harg4 : arg4.IsWhole) (arg5 : Memref sig .tc .vmem S64x512x256 .bf16) (harg5 : arg5.IsWhole) (arg6 : Memref sig .tc .vmem S256x512 .f32) (harg6 : arg6.IsWhole) (arg7 : Memref sig .tc .vmem S512x256 .f32) (harg7 : arg7.IsWhole) (arg8 : Memref sig .tc .vmem S8x256 .f32) (harg8 : arg8.IsWhole)
  (x0 : Vec F S16 .f32) (x1 : Vec F S256x512 .f32) (x2 : Vec F S16384x512 .bf16) (x3 : Vec F S64x512x256 .bf16)

/-- The point's store, the diagonal block being number 0 of its group. -/
theorem runA (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 hc0 hc1 hc2 hc3 x0 x1 x2 x3).1 =
      [⟨Rect.unit (s := S256x512) ![0, 0] S256x512.size inb_S256x512_S256x512_0_0,
        pointT c i arg2 harg2 arg3 harg3 arg4 harg4 arg5 harg5 arg6 harg6 arg7 harg7 arg8 harg8 (qT arg3 (harg3.unread x1)) (bT arg2 (harg2.unread x0) i) (harg4.unread x2) (harg5.unread x3)
          (visT i 0#32) (keysA arg4 (harg4.unread x2) i hc0) (valsA arg5 (harg5.unread x3) i hc0) 0⟩] := by
  sl_kernel_rfl

/-- The point's store, the diagonal block being number 1 of its group. -/
theorem runB (hc0 : ¬cond0_0 i) (hc1 : cond0_1 i) (hc2 : ¬cond0_2 i) (hc3 : ¬cond0_3 i) :
    (kernelRun0_B c i arg2 harg2 arg3 harg3 arg4 harg4 arg5 harg5 arg6 harg6 arg7 harg7 arg8 harg8 hc0 hc1 hc2 hc3 x0 x1 x2 x3).1 =
      [⟨Rect.unit (s := S256x512) ![0, 0] S256x512.size inb_S256x512_S256x512_0_0,
        pointT c i arg2 harg2 arg3 harg3 arg4 harg4 arg5 harg5 arg6 harg6 arg7 harg7 arg8 harg8 (qT arg3 (harg3.unread x1)) (bT arg2 (harg2.unread x0) i) (harg4.unread x2) (harg5.unread x3)
          (visT i 1#32) (keysB arg4 (harg4.unread x2) i hc1) (valsB arg5 (harg5.unread x3) i hc1) 1⟩] := by
  sl_kernel_rfl

/-- The point's store, the diagonal block being number 2 of its group. -/
theorem runC (hc0 : ¬cond0_0 i) (hc1 : ¬cond0_1 i) (hc2 : cond0_2 i) (hc3 : ¬cond0_3 i) :
    (kernelRun0_C c i arg2 harg2 arg3 harg3 arg4 harg4 arg5 harg5 arg6 harg6 arg7 harg7 arg8 harg8 hc0 hc1 hc2 hc3 x0 x1 x2 x3).1 =
      [⟨Rect.unit (s := S256x512) ![0, 0] S256x512.size inb_S256x512_S256x512_0_0,
        pointT c i arg2 harg2 arg3 harg3 arg4 harg4 arg5 harg5 arg6 harg6 arg7 harg7 arg8 harg8 (qT arg3 (harg3.unread x1)) (bT arg2 (harg2.unread x0) i) (harg4.unread x2) (harg5.unread x3)
          (visT i 2#32) (keysC arg4 (harg4.unread x2) i hc2) (valsC arg5 (harg5.unread x3) i hc2) 2⟩] := by
  sl_kernel_rfl

/-- The point's store, the diagonal block being number 3 of its group. -/
theorem runD (hc0 : ¬cond0_0 i) (hc1 : ¬cond0_1 i) (hc2 : ¬cond0_2 i) (hc3 : cond0_3 i) :
    (kernelRun0_D c i arg2 harg2 arg3 harg3 arg4 harg4 arg5 harg5 arg6 harg6 arg7 harg7 arg8 harg8 hc0 hc1 hc2 hc3 x0 x1 x2 x3).1 =
      [⟨Rect.unit (s := S256x512) ![0, 0] S256x512.size inb_S256x512_S256x512_0_0,
        pointT c i arg2 harg2 arg3 harg3 arg4 harg4 arg5 harg5 arg6 harg6 arg7 harg7 arg8 harg8 (qT arg3 (harg3.unread x1)) (bT arg2 (harg2.unread x0) i) (harg4.unread x2) (harg5.unread x3)
          (visT i 3#32) (keysD arg4 (harg4.unread x2) i hc3) (valsD arg5 (harg5.unread x3) i hc3) 3⟩] := by
  sl_kernel_rfl
end

end Cert.Point

end
-- ==== Proof.Block.lean ====
/-
One block of keys over the real numbers: what the kernel's functions of a block give when the scores are real, and so
how the running sum and the accumulator move from the keys after a block to the keys from it on.
-/
module

public import proofs.«01_k».proof.Proof.Point
public import proofs.«01_k».proof.Proof.Ref
public import Idealize.ShloMosaic.Lib.MatmulPlain
public import Idealize.ShloMosaic.Lib.Pointwise.Select

@[expose] public section
set_option maxRecDepth 16384

noncomputable section

namespace Cert.Block

open Idealize.ShloMosaic hiding ix2 ix3 eq_ix2 eq_ix3
open Idealize.ShloMosaic.ValueIdx
open Cert.KernelIdeal Cert.KernelIdeal.Gen Cert.Tile Cert.Point Cert.Stick

theorem ofBits_43 : Ideal.ofBits .f32 0x422C0000#32 = ((43 : ℝ) : EReal) := by
  simp [Ideal.ofBits, Ideal.ieee, -EReal.coe_mul]; norm_num

theorem coe_min (x y : ℝ) : ((min x y : ℝ) : EReal) = min (x : EReal) (y : EReal) := EReal.coe_strictMono.monotone.map_min

theorem log2e_eq : (Named.named (F := Ideal) κ "log2e" (φ := .f32) 0x3FB8AA3B#32 : EReal) = (lg : EReal) := rfl

/-- The softplus, in base two, of a score that is not too big. -/
theorem spT_apply (z : FVec Ideal S256x256 .f32) (j : S256x256.Idx) (x : ℝ) (hx : x ≤ 29) (hz : z j = ((x * lg : ℝ) : EReal)) :
    spT z j = ((sig x * lg : ℝ) : EReal) := by
  show max (z j) (Ideal.log (Ideal.ofBits .f32 0x3F800000#32 + Ideal.exp2 (min (z j) (Ideal.ofBits .f32 0x422C0000#32))) * (lg : EReal)) = _
  rw [hz, ofBits_43, ← coe_min, min_eq_left (score_le x hx), Ideal.exp2_coe, rpow_two_lg, Ideal.ofBits_one_f32, ← EReal.coe_one,
    ← EReal.coe_add, Ideal.log_coe, if_neg (one_add_exp_pos x).not_ge, ← EReal.coe_mul, ← Cert.Ref.coe_max]
  congr 1
  exact max_eq_right (mul_le_mul_of_nonneg_right (le_sig x) lg_pos.le)

/-- The strictly upper triangular matrix of ones. -/
theorem tri_apply (r k : Fin 256) : (k0_pay1503 (F := Ideal) (ix2 r k) : EReal) = if r.val < k.val then 1 else 0 := by
  show Scalar.select (IntOp.cmpi .slt (BitVec.ofNat 32 (0 * 256 + r.val)) (BitVec.ofNat 32 (0 * 256 + k.val))) (Ideal.ofBits .f32 0x3F800000#32) (Ideal.ofBits .f32 0x00000000#32) = _
  rw [Nat.zero_mul, Nat.zero_add, Nat.zero_add, WordCmp.cmpi_slt_ofNat (by norm_num; omega) (by norm_num; omega), Cert.Ref.select_ofBool, Ideal.ofBits_one_f32, Ideal.ofBits_zero_f32]

/-- A sum over the later indices of a block. -/
theorem sum_later (r : ℕ) (f : ℕ → ℝ) :
    ∑ k : Fin 256, (if r < k.val then (1 : EReal) else 0) * ((f k.val : ℝ) : EReal) = ((∑ k ∈ Finset.Ico (r + 1) 256, f k : ℝ) : EReal) := by
  have e : ∀ k : Fin 256, (if r < k.val then (1 : EReal) else 0) * ((f k.val : ℝ) : EReal) = (((if r < k.val then f k.val else 0) : ℝ) : EReal) := by
    intro k; split_ifs <;> simp
  rw [Finset.sum_congr rfl fun k _ => e k, Cert.Score.coe_sum, Fin.sum_univ_eq_sum_range (fun k => if r < k then f k else 0) 256, ← Finset.sum_filter]
  congr 1
  refine Finset.sum_congr (Finset.ext fun k => ?_) fun _ _ => rfl
  rw [Finset.mem_filter, Finset.mem_range, Finset.mem_Ico]; omega

/-- The sums over the later keys of a block. -/
theorem sufT_apply (s : FVec Ideal S256x256 .f32) (S : ℕ → ℕ → ℝ) (hs : ∀ k c : Fin 256, s (ix2 k c) = (S k.val c.val : EReal)) (r c : Fin 256) :
    sufT k0_pay1503 s (ix2 r c) = ((∑ k ∈ Finset.Ico (r.val + 1) 256, S k c.val : ℝ) : EReal) := by
  have h := Ideal.matmul_plain_apply (M := 256) (K := 256) (N := 256) (φ₁ := .bf16) (φ₂ := .bf16) none k0_pay1503 (truncf .bf16 s bitsLt_bf16_f32)
    (constant S256x256 .f32 0x00000000#32) r c
  refine Eq.trans h ?_
  have h0 : (constant (F := Ideal) S256x256 .f32 0x00000000#32 (ix2 r c) : EReal) = 0 := Ideal.ofBits_zero_f32
  rw [h0, zero_add, ← sum_later]
  refine Finset.sum_congr rfl fun k _ => ?_
  rw [tri_apply]
  exact congrArg _ (hs k c)

/-- The sums over a whole block. -/
theorem totT_apply (s : FVec Ideal S256x256 .f32) (S : ℕ → ℕ → ℝ) (hs : ∀ k c : Fin 256, s (ix2 k c) = (S k.val c.val : EReal)) (a : Fin 1) (c : Fin 256) :
    totT (sufT k0_pay1503 s) s (ix2 a c) = ((∑ k ∈ Finset.range 256, S k c.val : ℝ) : EReal) := by
  have e : ∀ v : FVec Ideal S256x256 .f32, extractStridedSlice S1x256 ![0, 0] v slices_S256x256_o0_0_S1x256 (ix2 a c) = v (ix2 (0 : Fin 256) c) := fun v =>
    extractStridedSlice_apply ![0, 0] v slices_S256x256_o0_0_S1x256 (ix2 a c) (ix2 (0 : Fin 256) c) fun b => match b with
      | ⟨0, _⟩ => by show (0 : ℕ) = 0 + a.val; omega
      | ⟨1, _⟩ => by show c.val = 0 + c.val; omega
  show extractStridedSlice S1x256 ![0, 0] (sufT k0_pay1503 s) slices_S256x256_o0_0_S1x256 (ix2 a c) + extractStridedSlice S1x256 ![0, 0] s slices_S256x256_o0_0_S1x256 (ix2 a c) = _
  rw [e, e, sufT_apply s S hs, hs, ← EReal.coe_add, Finset.range_eq_Ico, ← Finset.sum_Ico_consecutive _ (Nat.zero_le 1) (by omega : 1 ≤ 256), add_comm]
  simp

/-- The weights of a block before the blocks after it. -/
theorem aT_apply (z s : FVec Ideal S256x256 .f32) (j : S256x256.Idx) (x y : ℝ) (hx : x ≤ 29) (hz : z j = ((x * lg : ℝ) : EReal))
    (hs : s j = ((y * lg : ℝ) : EReal)) : aT z s j = ((Real.exp (x - sig x - y) : ℝ) : EReal) := by
  show Ideal.exp2 (z j - spT z j - s j) = _
  rw [spT_apply z j x hx hz, hz, hs, ← EReal.coe_sub, ← EReal.coe_sub, Ideal.exp2_coe, ← rpow_two_lg]
  congr 2; ring

/-- A masked matrix at an element. -/
theorem cutT_apply (vis : IVec S256x256 1) (s : FVec Ideal S256x256 .f32) (j : S256x256.Idx) (p : Bool) (hv : vis j = BitVec.ofBool p) :
    cutT vis s j = if p = true then s j else 0 := by
  show Scalar.select (vis j) (s j) (Ideal.ofBits .f32 0x00000000#32) = _
  rw [hv, Ideal.ofBits_zero_f32]; cases p <;> rfl

/-- The weighted values of a block. -/
theorem oT_apply (a : FVec Ideal S256x256 .f32) (v : Vec Ideal S1x64x256 .bf16) (d : Fin 64) (c : Fin 256) :
    oT a v (ix2 d c) = ∑ k : Fin 256, (v (ix3 (0 : Fin 1) d k) : EReal) * a (ix2 k c) := by
  have h := Ideal.matmul_plain_apply (M := 64) (K := 256) (N := 256) (φ₁ := .bf16) (φ₂ := .bf16) none (shapeCast S64x256 v shapeCasts_S1x64x256_S64x256)
    (truncf .bf16 a bitsLt_bf16_f32) (constant S64x256 .f32 0x00000000#32) d c
  refine Eq.trans h ?_
  have h0 : (constant (F := Ideal) S64x256 .f32 0x00000000#32 (ix2 d c) : EReal) = 0 := Ideal.ofBits_zero_f32
  rw [h0, zero_add]
  refine Finset.sum_congr rfl fun k _ => ?_
  rw [shapeCast_apply v shapeCasts_S1x64x256_S64x256 (ix2 d k) (ix3 (0 : Fin 1) d k) (by
    rw [Shape.rowMajor_val_three, Shape.rowMajor_val_two]; show (0 * 64 + d.val) * 256 + k.val = d.val * 256 + k.val; omega)]
  rfl

/-- The accumulator after a block. -/
theorem accT_apply (o : FVec Ideal S64x256 .f32) (run : FVec Ideal S1x256 .f32) (a : Vec Ideal S64x256 .f32) (d : Fin 64) (c : Fin 256) (y : ℝ)
    (hr : run (ix2 (0 : Fin 1) c) = ((lg * y : ℝ) : EReal)) : accT o run a (ix2 d c) = a (ix2 d c) + o (ix2 d c) * ((Real.exp (-y) : ℝ) : EReal) := by
  unfold accT
  rw [shapeCast_self]
  show a (ix2 d c) + o (ix2 d c) * broadcastTo S64x256 _ broadcasts_S1x256_S64x256 (ix2 d c) = _
  rw [broadcastTo_apply _ broadcasts_S1x256_S64x256 (ix2 d c) (ix2 (0 : Fin 1) c) fun b => match b with
    | ⟨0, _⟩ => by show (0 : ℕ) = if (1 : ℕ) = 1 then 0 else _; rfl
    | ⟨1, _⟩ => by show c.val = if (256 : ℕ) = 1 then 0 else c.val; rfl]
  show _ + _ * Ideal.exp2 (Ideal.ofBits .f32 0x00000000#32 - run (ix2 (0 : Fin 1) c)) = _
  rw [hr, Ideal.ofBits_zero_f32, ← EReal.coe_zero, ← EReal.coe_sub, Ideal.exp2_coe, ← rpow_two_lg]
  congr 4; ring

theorem qscale_eq : (Named.named (F := Ideal) κ "qscale" 0x3E38AA3B#32 : Ideal .f32) = ((1 / 8 * lg : ℝ) : EReal) := rfl

/-- A sum over 64 of 128 lanes. -/
theorem sum_lanes (e : ℕ) (he : e + 64 ≤ 128) (f : ℕ → ℝ) :
    ∑ l : Fin 128, (if e ≤ l.val ∧ l.val < e + 64 then f l.val else 0) = ∑ d : Fin 64, f (e + d.val) := by
  rw [Fin.sum_univ_eq_sum_range (fun l => if e ≤ l ∧ l < e + 64 then f l else 0) 128, Fin.sum_univ_eq_sum_range (fun d => f (e + d)) 64,
    ← Finset.sum_filter, show Finset.filter (fun l => e ≤ l ∧ l < e + 64) (Finset.range 128) = Finset.Ico e (e + 64) from ?_,
    Finset.sum_Ico_eq_sum_range, Nat.add_sub_cancel_left]
  refine Finset.ext fun k => ?_
  rw [Finset.mem_filter, Finset.mem_range, Finset.mem_Ico]; omega

/-- The scores of a block, in base 2. -/
theorem zT_apply (q : FVec Ideal S256x128 .bf16) (b : Ideal .f32) (k : Vec Ideal S256x128 .bf16) (e : ℕ) (he : e + 64 ≤ 128) (Q K : ℕ → ℕ → ℝ) (β : ℝ)
    (hq : ∀ (c : Fin 256) (l : Fin 128), q (ix2 c l) = (((if e ≤ l.val ∧ l.val < e + 64 then Q c.val l.val * (1 / 8 * lg) else 0) : ℝ) : EReal))
    (hk : ∀ (r : Fin 256) (l : Fin 128), k (ix2 r l) = (K r.val l.val : EReal)) (hb : b = ((β * lg : ℝ) : EReal)) (r c : Fin 256) :
    zT q b k (ix2 r c) = ((((∑ d : Fin 64, Q c.val (e + d.val) * (1 / 8) * K r.val (e + d.val)) + β) * lg : ℝ) : EReal) := by
  have h := Ideal.matmul_transposedRhs_apply (M := 256) (K := 128) (N := 256) (φ₁ := .bf16) (φ₂ := .bf16) none (shapeCast S256x128 k shapeCasts_S256x128_S256x128) q
    (constant S256x256 .f32 0x00000000#32) r c
  have h0 : (constant (F := Ideal) S256x256 .f32 0x00000000#32 (ix2 r c) : EReal) = 0 := Ideal.ofBits_zero_f32
  have e1 : zT q b k (ix2 r c) = (∑ l : Fin 128, shapeCast S256x128 k shapeCasts_S256x128_S256x128 (ix2 r l) * q (ix2 c l) : EReal) + b := by
    rw [h0, zero_add] at h
    exact congrArg (· + b) h
  have e2 : ∀ l : Fin 128, (shapeCast S256x128 k shapeCasts_S256x128_S256x128 (ix2 r l) * q (ix2 c l) : EReal) =
      (((if e ≤ l.val ∧ l.val < e + 64 then (Q c.val l.val * (1 / 8) * K r.val l.val) * lg else 0) : ℝ) : EReal) := by
    intro l
    rw [shapeCast_self, hk, hq, ← EReal.coe_mul]
    congr 1; split_ifs <;> ring
  rw [e1, Finset.sum_congr rfl fun l _ => e2 l, Cert.Score.coe_sum, sum_lanes e he (fun l => (Q c.val l * (1 / 8) * K r.val l) * lg), ← Finset.sum_mul, hb,
    ← EReal.coe_add, ← add_mul]

theorem qE_apply (v : Vec Ideal S256x128 .f32) (Q : ℕ → ℕ → ℝ) (hv : ∀ (c : Fin 256) (l : Fin 128), v (ix2 c l) = (Q c.val l.val : EReal))
    (c : Fin 256) (l : Fin 128) : qE v (ix2 c l) = (((if 0 ≤ l.val ∧ l.val < 0 + 64 then Q c.val l.val * (1 / 8 * lg) else 0) : ℝ) : EReal) := by
  show Scalar.select (IntOp.cmpi .slt (BitVec.ofNat 32 (0 * 128 + l.val)) (BitVec.ofNat 32 64)) ((v (ix2 c l) : EReal) * ((1 / 8 * lg : ℝ) : EReal)) (Ideal.ofBits .bf16 0x0000#16) = _
  rw [Nat.zero_mul, Nat.zero_add, WordCmp.cmpi_slt_ofNat (by norm_num; omega) (by norm_num), Cert.Ref.select_ofBool, hv, ← EReal.coe_mul]
  by_cases h : l.val < 64 <;> simp [h, Ideal.ofBits_zero_bf16]

theorem qO_apply (v : Vec Ideal S256x128 .f32) (Q : ℕ → ℕ → ℝ) (hv : ∀ (c : Fin 256) (l : Fin 128), v (ix2 c l) = (Q c.val l.val : EReal))
    (c : Fin 256) (l : Fin 128) : qO v (ix2 c l) = (((if 64 ≤ l.val ∧ l.val < 64 + 64 then Q c.val l.val * (1 / 8 * lg) else 0) : ℝ) : EReal) := by
  show Scalar.select (IntOp.cmpi .sge (BitVec.ofNat 32 (0 * 128 + l.val)) (BitVec.ofNat 32 64)) ((v (ix2 c l) : EReal) * ((1 / 8 * lg : ℝ) : EReal)) (Ideal.ofBits .bf16 0x0000#16) = _
  rw [Nat.zero_mul, Nat.zero_add, WordCmp.cmpi_sge_ofNat (by norm_num; omega) (by norm_num), Cert.Ref.select_ofBool, hv, ← EReal.coe_mul]
  have := l.isLt
  by_cases h : 64 ≤ l.val <;> simp [h, Ideal.ofBits_zero_bf16, this]

end Cert.Block

end
-- ==== Proof.Step.lean ====
/-
One block of keys over the reals: what a head's running sum and accumulator become, an unmasked block and the
diagonal one.
-/
module

public import proofs.«01_k».proof.Proof.Block

@[expose] public section
set_option maxRecDepth 16384

noncomputable section

namespace Cert.Step

open Idealize.ShloMosaic hiding ix2 ix3 eq_ix2 eq_ix3
open Idealize.ShloMosaic.ValueIdx
open Cert.KernelIdeal hiding sig
open Cert.KernelIdeal.Gen Cert.Tile Cert.Point Cert.Stick Cert.Block

theorem sum_cut (c m : ℕ) (hc : c ≤ 256) (f : ℕ → ℝ) :
    ∑ k ∈ Finset.Ico m 256, (if k < c then f k else 0) = ∑ k ∈ Finset.Ico m c, f k := by
  rw [← Finset.sum_filter]
  refine Finset.sum_congr (Finset.ext fun k => ?_) fun _ _ => rfl
  rw [Finset.mem_filter, Finset.mem_Ico, Finset.mem_Ico]; omega

theorem sum_shift (a k n : ℕ) (f : ℕ → ℝ) : ∑ j ∈ Finset.Ico (k + 1) n, f (a + j) = ∑ j ∈ Finset.Ico (a + k + 1) (a + n), f j := by
  rw [Finset.sum_Ico_add f (k + 1) n a]; congr 2 <;> omega

section
variable (z : FVec Ideal S256x256 .f32) (Z : ℕ → ℕ → ℝ) (hz : ∀ k c : Fin 256, z (ix2 k c) = ((Z k.val c.val * lg : ℝ) : EReal))
  (hle : ∀ k c : Fin 256, Z k.val c.val ≤ 29) (v : Vec Ideal S1x64x256 .bf16) (W : ℕ → ℕ → EReal)
  (hv : ∀ (d : Fin 64) (k : Fin 256), v (ix3 (0 : Fin 1) d k) = W d.val k.val)
include hz hle

theorem sp_at (k c : Fin 256) : spT z (ix2 k c) = ((sig (Z k.val c.val) * lg : ℝ) : EReal) :=
  spT_apply z _ _ (hle k c) (hz k c)

/-- A block's total. -/
theorem full_tot (a : Fin 1) (c : Fin 256) :
    totT (sufT k0_pay1503 (spT z)) (spT z) (ix2 a c) = (((∑ k ∈ Finset.range 256, sig (Z k c.val)) * lg : ℝ) : EReal) := by
  rw [totT_apply (spT z) (fun k c => sig (Z k c) * lg) (sp_at z Z hz hle), Finset.sum_mul]

include hv

/-- A block's weighted values. -/
theorem full_o (d : Fin 64) (c : Fin 256) :
    oT (aT z (sufT k0_pay1503 (spT z))) v (ix2 d c) =
      ∑ k ∈ Finset.range 256, W d.val k * ((Real.exp (Z k c.val - sig (Z k c.val) - ∑ j ∈ Finset.Ico (k + 1) 256, sig (Z j c.val)) : ℝ) : EReal) := by
  rw [oT_apply, ← Fin.sum_univ_eq_sum_range
    (fun k => W d.val k * ((Real.exp (Z k c.val - sig (Z k c.val) - ∑ j ∈ Finset.Ico (k + 1) 256, sig (Z j c.val)) : ℝ) : EReal)) 256]
  refine Finset.sum_congr rfl fun k _ => ?_
  rw [hv, aT_apply z _ (ix2 k c) (Z k.val c.val) (∑ j ∈ Finset.Ico (k.val + 1) 256, sig (Z j c.val)) (hle k c) (hz k c)
    (by rw [sufT_apply (spT z) (fun k c => sig (Z k c) * lg) (sp_at z Z hz hle), Finset.sum_mul])]
omit hv

variable (vis : IVec S256x256 1) (hvis : ∀ k c : Fin 256, vis (ix2 k c) = BitVec.ofBool (decide (k.val < c.val)))
include hvis

theorem cut_at (k c : Fin 256) : cutT vis (spT z) (ix2 k c) = (((if k.val < c.val then sig (Z k.val c.val) else 0) * lg : ℝ) : EReal) := by
  rw [cutT_apply vis _ _ _ (hvis k c), sp_at z Z hz hle]
  by_cases h : k.val < c.val <;> simp [h]

/-- The diagonal block's total. -/
theorem mask_tot (a : Fin 1) (c : Fin 256) :
    totT (sufT k0_pay1503 (cutT vis (spT z))) (cutT vis (spT z)) (ix2 a c) = (((∑ k ∈ Finset.range c.val, sig (Z k c.val)) * lg : ℝ) : EReal) := by
  rw [totT_apply (cutT vis (spT z)) (fun k c => (if k < c then sig (Z k c) else 0) * lg) (cut_at z Z hz hle vis hvis), ← Finset.sum_mul,
    Finset.range_eq_Ico, sum_cut c.val 0 c.isLt.le (fun k => sig (Z k c.val)), Finset.range_eq_Ico]

include hv
/-- The diagonal block's weighted values. -/
theorem mask_o (d : Fin 64) (c : Fin 256) :
    oT (cutT vis (aT z (sufT k0_pay1503 (cutT vis (spT z))))) v (ix2 d c) =
      ∑ k ∈ Finset.range c.val, W d.val k * ((Real.exp (Z k c.val - sig (Z k c.val) - ∑ j ∈ Finset.Ico (k + 1) c.val, sig (Z j c.val)) : ℝ) : EReal) := by
  have hg : ∀ k : Fin 256, (v (ix3 (0 : Fin 1) d k) : EReal) * cutT vis (aT z (sufT k0_pay1503 (cutT vis (spT z)))) (ix2 k c) =
      if k.val < c.val then W d.val k.val * ((Real.exp (Z k.val c.val - sig (Z k.val c.val) - ∑ j ∈ Finset.Ico (k.val + 1) c.val, sig (Z j c.val)) : ℝ) : EReal) else 0 := by
    intro k
    rw [hv, cutT_apply vis _ _ _ (hvis k c),
      aT_apply z _ (ix2 k c) (Z k.val c.val) (∑ j ∈ Finset.Ico (k.val + 1) c.val, sig (Z j c.val)) (hle k c) (hz k c)
      (by rw [sufT_apply (cutT vis (spT z)) (fun k c => (if k < c then sig (Z k c) else 0) * lg) (cut_at z Z hz hle vis hvis), ← Finset.sum_mul,
        sum_cut c.val _ c.isLt.le (fun k => sig (Z k c.val))])]
    by_cases h : k.val < c.val <;> simp [h]
  rw [oT_apply, Finset.sum_congr rfl fun k _ => hg k, Finset.range_eq_Ico]
  exact Cert.Ref.sum_before 256 c.val c.isLt.le (fun k => W d.val k * ((Real.exp (Z k c.val - sig (Z k c.val) - ∑ j ∈ Finset.Ico (k + 1) c.val, sig (Z j c.val)) : ℝ) : EReal))
end

/-- A head's running sum, the keys of block `B` and later seen. -/
def RunAt (I : ℕ) (ζ : ℕ → ℕ → ℝ) (B : ℕ) (run : FVec Ideal S1x256 .f32) : Prop :=
  ∀ (a : Fin 1) (c : Fin 256), run (ix2 a c) = ((lg * tail (ζ (256 * I + c.val)) (256 * I + c.val) (256 * B) : ℝ) : EReal)

/-- A head's rows of the accumulator, the keys of block `B` and later seen. -/
def AccAt (I : ℕ) (ζ : ℕ → ℕ → ℝ) (U : ℕ → ℕ → EReal) (B : ℕ) (A : Vec Ideal S64x256 .f32) : Prop :=
  ∀ (d : Fin 64) (c : Fin 256), A (ix2 d c) = part (ζ (256 * I + c.val)) (256 * I + c.val) (U d.val) (256 * B)

section
variable (I B : ℕ) (ζ : ℕ → ℕ → ℝ) (U : ℕ → ℕ → EReal) (z : FVec Ideal S256x256 .f32) (v : Vec Ideal S1x64x256 .bf16)
  (hz : ∀ k c : Fin 256, z (ix2 k c) = ((ζ (256 * I + c.val) (256 * B + k.val) * lg : ℝ) : EReal))
  (hle : ∀ k c : Fin 256, ζ (256 * I + c.val) (256 * B + k.val) ≤ 29)
  (hv : ∀ (d : Fin 64) (k : Fin 256), v (ix3 (0 : Fin 1) d k) = U d.val (256 * B + k.val))
  (run : FVec Ideal S1x256 .f32) (A : Vec Ideal S64x256 .f32)
include hz hle

theorem run_step (hB : B < I) (hr : RunAt I ζ (B + 1) run) : RunAt I ζ B (addf run (totT (sufT k0_pay1503 (spT z)) (spT z))) := by
  intro a c
  show run (ix2 a c) + totT (sufT k0_pay1503 (spT z)) (spT z) (ix2 a c) = _
  rw [hr, full_tot z (fun k c => ζ (256 * I + c) (256 * B + k)) hz hle, ← EReal.coe_add,
    ← tail_block (ζ (256 * I + c.val)) (256 * I + c.val) (256 * B) 256 (by omega), show 256 * (B + 1) = 256 * B + 256 by ring]
  congr 1; ring

include hv in
theorem acc_step (hB : B < I) (hr : RunAt I ζ (B + 1) run) (hA : AccAt I ζ U (B + 1) A) :
    AccAt I ζ U B (accT (oT (aT z (sufT k0_pay1503 (spT z))) v) run A) := by
  intro d c
  rw [accT_apply _ run A d c _ (hr 0 c), hA, full_o z (fun k c => ζ (256 * I + c) (256 * B + k)) hz hle v (fun d k => U d (256 * B + k)) hv,
    ← part_block (ζ (256 * I + c.val)) (256 * I + c.val) (U d.val) (256 * B) 256 (by omega), show 256 * (B + 1) = 256 * B + 256 by ring]
  simp only [sum_shift (256 * B) _ 256 (fun j => sig (ζ (256 * I + c.val) j))]

variable (vis : IVec S256x256 1) (hvis : ∀ k c : Fin 256, vis (ix2 k c) = BitVec.ofBool (decide (k.val < c.val)))
include hvis

theorem run_mask (hB : B = I) (hr : ∀ (a : Fin 1) (c : Fin 256), run (ix2 a c) = (0 : EReal)) :
    RunAt I ζ B (addf run (totT (sufT k0_pay1503 (cutT vis (spT z))) (cutT vis (spT z)))) := by
  intro a c
  show run (ix2 a c) + totT (sufT k0_pay1503 (cutT vis (spT z))) (cutT vis (spT z)) (ix2 a c) = _
  rw [hr, zero_add, mask_tot z (fun k c => ζ (256 * I + c) (256 * B + k)) hz hle vis hvis,
    ← tail_block (ζ (256 * I + c.val)) (256 * I + c.val) (256 * B) c.val (by omega), tail_self _ _ (show 256 * I + c.val ≤ 256 * B + c.val by omega), zero_add]
  congr 1; ring

include hv in
theorem acc_mask (hB : B = I) (hr : ∀ (a : Fin 1) (c : Fin 256), run (ix2 a c) = (0 : EReal)) (hA : ∀ (d : Fin 64) (c : Fin 256), A (ix2 d c) = (0 : EReal)) :
    AccAt I ζ U B (accT (oT (cutT vis (aT z (sufT k0_pay1503 (cutT vis (spT z))))) v) run A) := by
  intro d c
  rw [accT_apply _ run A d c 0 (by rw [hr, mul_zero]; rfl), hA, mask_o z (fun k c => ζ (256 * I + c) (256 * B + k)) hz hle v (fun d k => U d (256 * B + k)) hv vis hvis,
    ← part_block (ζ (256 * I + c.val)) (256 * I + c.val) (U d.val) (256 * B) c.val (by omega), part_self _ _ _ (show 256 * I + c.val ≤ 256 * B + c.val by omega), tail_self _ _ (show 256 * I + c.val ≤ 256 * B + c.val by omega)]
  simp only [sum_shift (256 * B) _ c.val (fun j => sig (ζ (256 * I + c.val) j))]
end

end Cert.Step

end
-- ==== Proof.Off.lean ====
/-
Where a grid point's loads start: the block of keys a load takes, and the head's columns or rows, decided over the grid.
-/
module

public import proofs.«01_k».proof.Proof.Point

@[expose] public section
set_option maxRecDepth 16384

noncomputable section

namespace Cert.Off

open Idealize.ShloMosaic Idealize.ShloMosaic.TcCoe
open Cert.KernelIdeal Cert.KernelIdeal.Gen Cert.Tile Cert.Trip Cert.Point

/-- The loads of the eight heads start where block `B` does. -/
def Starts (B : ℕ) (k0 k1 k2 k3 : Fin 2 → ℕ) (v0 v1 v2 v3 v4 v5 v6 v7 : Fin 3 → ℕ) : Prop :=
  (k0 = ![256 * B, 0] ∧ k1 = ![256 * B, 128] ∧ k2 = ![256 * B, 256] ∧ k3 = ![256 * B, 384]) ∧
  (v0 = ![B, 0, 0] ∧ v1 = ![B, 64, 0] ∧ v2 = ![B, 128, 0] ∧ v3 = ![B, 192, 0] ∧ v4 = ![B, 256, 0] ∧ v5 = ![B, 320, 0] ∧
    v6 = ![B, 384, 0] ∧ v7 = ![B, 448, 0])

instance (B : ℕ) (k0 k1 k2 k3 : Fin 2 → ℕ) (v0 v1 v2 v3 v4 v5 v6 v7 : Fin 3 → ℕ) : Decidable (Starts B k0 k1 k2 k3 v0 v1 v2 v3 v4 v5 v6 v7) := by
  unfold Starts; infer_instance

theorem startsA : ∀ i : grid0.Coords, k0_cond1 i = 1#1 →
    Starts (4 * ((i 1).val / 4)) (k0_off2 i) (k0_off3 i) (k0_off4 i) (k0_off7 i)
      (k0_off5 i) (k0_off6 i) (k0_off8 i) (k0_off9 i) (k0_off10 i) (k0_off11 i) (k0_off12 i) (k0_off13 i) := by
  decide +kernel

theorem startsB : ∀ i : grid0.Coords, k0_cond2 i = 1#1 → ∀ n : Fin 2,
    (fun w => Starts (4 * ((i 1).val / 4) + n.val) (k0_off14 i w) (k0_off15 i w) (k0_off16 i w) (k0_off19 i w)
      (k0_off17 i w) (k0_off18 i w) (k0_off20 i w) (k0_off21 i w) (k0_off22 i w) (k0_off23 i w) (k0_off24 i w) (k0_off25 i w)) (BitVec.ofNat 32 n.val) := by
  decide +kernel

theorem startsC : ∀ i : grid0.Coords, k0_cond3 i = 1#1 → ∀ n : Fin 3,
    (fun w => Starts (4 * ((i 1).val / 4) + n.val) (k0_off26 i w) (k0_off27 i w) (k0_off28 i w) (k0_off31 i w)
      (k0_off29 i w) (k0_off30 i w) (k0_off32 i w) (k0_off33 i w) (k0_off34 i w) (k0_off35 i w) (k0_off36 i w) (k0_off37 i w)) (BitVec.ofNat 32 n.val) := by
  decide +kernel

theorem startsD : ∀ i : grid0.Coords, k0_cond4 i = 1#1 → ∀ n : Fin 4,
    (fun w => Starts (4 * ((i 1).val / 4) + n.val) (k0_off38 i w) (k0_off39 i w) (k0_off40 i w) (k0_off43 i w)
      (k0_off41 i w) (k0_off42 i w) (k0_off44 i w) (k0_off45 i w) (k0_off46 i w) (k0_off47 i w) (k0_off48 i w) (k0_off49 i w)) (BitVec.ofNat 32 n.val) := by
  decide +kernel

theorem trips_eq : ∀ i : grid0.Coords, (k0_t1_loop i).trips = (i 1).val / 4 := by decide +kernel

theorem rest_eq : ∀ i : grid0.Coords, Scf.trips (k0_t2_loop i).lb (k0_t2_loop i).ub (k0_t2_loop i).st = 0 := by decide +kernel

theorem startsT : ∀ (i : grid0.Coords) (k : Fin (k0_t1_loop i).trips) (n : Fin 4),
    (fun w => Starts (4 * ((i 1).val / 4 - 1 - k.val) + n.val) (k0_off50 i k w) (k0_off51 i k w) (k0_off52 i k w) (k0_off55 i k w)
      (k0_off53 i k w) (k0_off54 i k w) (k0_off56 i k w) (k0_off57 i k w) (k0_off58 i k w) (k0_off59 i k w) (k0_off60 i k w) (k0_off61 i k w)) (BitVec.ofNat 32 n.val) := by
  decide +kernel

theorem bias_eq : ∀ (i : grid0.Coords) (h : Fin 8), k0_off1 i (BitVec.ofNat 32 h.val) = ![8 * (i 0).val + h.val] := by decide +kernel

/-- The diagonal block's number in its group. -/
theorem conds : ∀ i : grid0.Coords, (k0_cond1 i = 1#1 ↔ (i 1).val % 4 = 0) ∧ (k0_cond2 i = 1#1 ↔ (i 1).val % 4 = 1) ∧
    (k0_cond3 i = 1#1 ↔ (i 1).val % 4 = 2) ∧ (k0_cond4 i = 1#1 ↔ (i 1).val % 4 = 3) := by decide +kernel

/-- The shift of the mask is zero at the diagonal block. -/
theorem shift_zero : ∀ i : grid0.Coords, Scalar.muli (Scalar.subi (BitVec.ofNat 32 (i 1).val) (Scalar.addi (Scalar.muli (wordT i) 4#32)
    (BitVec.ofNat 32 ((i 1).val % 4)))) 256#32 = 0#32 := by decide +kernel

end Cert.Off

end
-- ==== Proof.Acc.lean ====
/-
The accumulator's rows of each head, read from the list of stores made so far: a step's store replaces its own head's
rows and leaves the others', so that after `8 * n` steps each head's rows have been through `n` blocks.
-/
module

public import proofs.«01_k».proof.Proof.Trip
public import Idealize.ShloMosaic.Lib.Pipeline.FrameBody
public import Idealize.ShloMosaic.Lib.Pipeline.ReadBack

@[expose] public section
set_option maxRecDepth 16384

noncomputable section

namespace Cert.Acc

open Idealize.ShloMosaic Idealize.ShloMosaic.TcCoe
open Cert.KernelIdeal Cert.KernelIdeal.Gen Cert.Tile Cert.Trip

variable {F : FTy → Type} [FloatOps F] [Named F]

abbrev Stores (F : FTy → Type) [FloatOps F] [Named F] := List (View.Piece (Elt F) S512x256 .f32)

/-- Head `h`'s rows after the stores `L`. -/
def row (L : Stores F) (h : ℕ) : Vec F S64x256 .f32 := fun x => View.canon L ((rowsT h).emb x)

theorem readCov_row (arg7 : Memref sig .tc .vmem S512x256 .f32) (L : Stores F) (h : ℕ) : arg7.view.readCov L (rowsT h).toLoadRect = row L h :=
  View.readCov_eq_canon' _ _ _

theorem row_same (j h : ℕ) (e : j % 8 = h % 8) (w : Vec F S64x256 .f32) (L : Stores F) : row (⟨rowsT j, w⟩ :: L) h = w := by
  have : ∀ x, (rowsT h).emb x = (rowsT j).emb x := by
    intro x; funext a; refine Fin.ext ?_
    show (![64 * (h % 8), 0] : Fin 2 → ℕ) a + 1 * (x a).val = (![64 * (j % 8), 0] : Fin 2 → ℕ) a + 1 * (x a).val
    rw [e]
  funext x
  show View.canon _ ((rowsT h).emb x) = _
  rw [this]; exact View.canon_cons_emb (rowsT j) w L x

theorem row_other (j h : ℕ) (e : j % 8 ≠ h % 8) (w : Vec F S64x256 .f32) (L : Stores F) : row (⟨rowsT j, w⟩ :: L) h = row L h := by
  funext x
  refine View.canon_cons_of_not_mem _ L (Rect.not_mem_set_of_axis (rowsT j) _ 0 (64 * (j % 8)) 64 rfl rfl rfl ?_)
  have h0 : (x 0).val < 64 := (x 0).isLt
  show 64 * (h % 8) + 1 * (x 0).val < 64 * (j % 8) ∨ 64 * (j % 8) + 64 ≤ 64 * (h % 8) + 1 * (x 0).val
  omega

theorem row_mod (j : ℕ) (L : Stores F) : row L j = row L (j % 8) := by
  funext x
  refine congrArg (View.canon L) (funext fun a => Fin.ext ?_)
  show (![64 * (j % 8), 0] : Fin 2 → ℕ) a + 1 * (x a).val = (![64 * (j % 8 % 8), 0] : Fin 2 → ℕ) a + 1 * (x a).val
  rw [Nat.mod_mod]

theorem loads_lt (arg7 : Memref sig .tc .vmem S512x256 .f32) (f : BufTy.Contents (Elt F) arg7.view.ty) (j : ℕ) (L : Stores F) (h : j < 8) :
    loads arg7 f j L = View.readAt (Elt F) arg7.view (rowsT j).toLoadRect f := by
  unfold loads
  rw [show j.blt 8 = true by rw [Nat.blt_eq]; exact h, cond_true]

theorem loads_ge (arg7 : Memref sig .tc .vmem S512x256 .f32) (f : BufTy.Contents (Elt F) arg7.view.ty) (j : ℕ) (L : Stores F) (h : ¬j < 8) :
    loads arg7 f j L = arg7.view.readCov L (rowsT j).toLoadRect := by
  unfold loads
  rw [show j.blt 8 = false by rw [← Bool.not_eq_true, Nat.blt_eq]; exact h, cond_false]

section
variable (T : ℕ → ℕ → FVec F S1x256 .f32) (O : ℕ → ℕ → FVec F S64x256 .f32) (r0 : ℕ → FVec F S1x256 .f32)

/-- Head `h`'s rows after `n` blocks. -/
def accN (a0 : ℕ → Vec F S64x256 .f32) (h : ℕ) : ℕ → Vec F S64x256 .f32
  | 0 => a0 h
  | n + 1 => accT (O n h) (runT T r0 h n) (accN a0 h n)

variable (base prev : Stores F) (ld : (j : ℕ) → Stores F → Vec F S64x256 .f32)

/-- The rows after `j` steps, if every step loads its head's rows as they are. -/
theorem row_pieces (a0 : ℕ → Vec F S64x256 .f32) (h0 : ∀ h, h < 8 → row (base ++ prev) h = a0 h)
    (hl : ∀ j, (∀ h, h < 8 → row (piecesT T O r0 base ld j ++ prev) h = accN T O r0 a0 h ((j + 7 - h) / 8)) →
      ld j (piecesT T O r0 base ld j) = accN T O r0 a0 (j % 8) (j / 8)) (j : ℕ) :
    ∀ h, h < 8 → row (piecesT T O r0 base ld j ++ prev) h = accN T O r0 a0 h ((j + 7 - h) / 8) := by
  induction j with
  | zero => intro h hh; rw [show (0 + 7 - h) / 8 = 0 by omega]; exact h0 h hh
  | succ j ih =>
    intro h hh
    show row (⟨rowsT j, payT T O r0 j (ld j (piecesT T O r0 base ld j))⟩ :: (piecesT T O r0 base ld j ++ prev)) h = _
    by_cases e : j % 8 = h
    · rw [row_same j h (by omega), hl j ih, show (j + 1 + 7 - h) / 8 = j / 8 + 1 by omega]
      unfold payT
      rw [e]; rfl
    · rw [row_other j h (by omega), ih h hh, show (j + 1 + 7 - h) / 8 = (j + 7 - h) / 8 by omega]

/-- Rows that a step has stored do not depend on the stores before. -/
theorem row_pieces_self (j h : ℕ) (hh : h < 8) (hj : h < j) :
    row (piecesT T O r0 [] ld j ++ prev) h = row (piecesT T O r0 [] ld j) h := by
  induction j with
  | zero => omega
  | succ j ih =>
    show row (⟨rowsT j, payT T O r0 j (ld j (piecesT T O r0 [] ld j))⟩ :: (piecesT T O r0 [] ld j ++ prev)) h =
      row (⟨rowsT j, payT T O r0 j (ld j (piecesT T O r0 [] ld j))⟩ :: piecesT T O r0 [] ld j) h
    by_cases e : j % 8 = h
    · rw [row_same j h (by omega), row_same j h (by omega)]
    · rw [row_other j h (by omega), row_other j h (by omega), ih (by omega)]

/-- The rows after the steps of the diagonal group. -/
theorem row_diag (arg7 : Memref sig .tc .vmem S512x256 .f32) (n : ℕ) (h : ℕ) (hh : h < 8) :
    row (piecesT T O r0 base (fun j L => arg7.view.readCov L (rowsT j).toLoadRect) (8 * n)) h = accN T O r0 (row base) h n := by
  have := row_pieces T O r0 base [] (fun j L => arg7.view.readCov L (rowsT j).toLoadRect) (row base) (fun h _ => by rw [List.append_nil])
    (fun j ih => by
      have := ih (j % 8) (by omega)
      rw [List.append_nil, show (j + 7 - j % 8) / 8 = j / 8 by omega] at this
      rw [← this, readCov_row]
      exact row_mod j _) (8 * n) h hh
  rw [List.append_nil, show (8 * n + 7 - h) / 8 = n by omega] at this
  exact this

/-- The rows after the steps of a trip. -/
theorem row_trip (arg7 : Memref sig .tc .vmem S512x256 .f32) (f : BufTy.Contents (Elt F) arg7.view.ty)
    (hf : ∀ h, View.readAt (Elt F) arg7.view (rowsT h).toLoadRect f = row prev h) (n : ℕ) (h : ℕ) (hh : h < 8) :
    row (piecesT T O r0 [] (loads arg7 f) (8 * n) ++ prev) h = accN T O r0 (row prev) h n := by
  have := row_pieces T O r0 [] prev (loads arg7 f) (row prev) (fun h _ => rfl)
    (fun j ih => by
      have := ih (j % 8) (by omega)
      rw [show (j + 7 - j % 8) / 8 = j / 8 by omega] at this
      by_cases hj : j < 8
      · rw [loads_lt arg7 f j _ hj, hf, show j / 8 = 0 by omega]; exact row_mod j _
      · rw [loads_ge arg7 f j _ hj, ← this, readCov_row, row_pieces_self _ _ _ _ _ j (j % 8) (by omega) (by omega), row_mod j]) (8 * n) h hh
  rw [show (8 * n + 7 - h) / 8 = n by omega] at this
  exact this
end

end Cert.Acc

end
-- ==== Proof.Load.lean ====
/-
A block's scores and values at a grid point, from the arrays the point reads: the tiles are the queries, keys and
values of the reference at the head's columns.
-/
module

public import proofs.«01_k».proof.Proof.Step
public import proofs.«01_k».proof.Proof.Off
public import proofs.«01_k».proof.Proof.Acc
public import Idealize.ShloMosaic.Lib.WholeRead

@[expose] public section
set_option maxRecDepth 16384

noncomputable section

namespace Cert.Load

open Idealize.ShloMosaic hiding ix2 ix3 eq_ix2 eq_ix3
open Idealize.ShloMosaic.ValueIdx Idealize.ShloMosaic.TcCoe
open Cert.KernelIdeal hiding sig
open Cert.KernelIdeal.Gen Cert.Tile Cert.Trip Cert.Point Cert.Stick Cert.Block Cert.Step Cert.Off Cert.Score Cert.Acc

/-- The blocks a grid point reads hold the reference's arrays at head group `G` and query block `I`. -/
structure Reads (q k v : Rows.Idx → EReal) (b : Heads.Idx → EReal) (G I : ℕ) (x0 : Vec Ideal S16 .f32) (x1 : Vec Ideal S256x512 .f32)
    (x2 : Vec Ideal S16384x512 .bf16) (x3 : Vec Ideal S64x512x256 .bf16) : Prop where
  bias : ∀ y : S16.Idx, x0 y = ((hd b (y 0).val).toReal : EReal)
  query : ∀ y : S256x512.Idx, x1 y = (rl q (256 * I + (y 0).val) (512 * G + (y 1).val) : EReal)
  key : ∀ y : S16384x512.Idx, x2 y = (rl k (y 0).val (512 * G + (y 1).val) : EReal)
  value : ∀ y : S64x512x256.Idx, x3 y = el v (256 * (y 0).val + (y 2).val) (512 * G + (y 1).val)

theorem pick_same {α : Type} (f : ℕ → α) (h : ℕ) (hh : h < 8) : pick (f 0) (f 1) (f 2) (f 3) (f 4) (f 5) (f 6) (f 7) h = f h := by
  interval_cases h <;> rfl

section
variable (q k v : Rows.Idx → EReal) (b : Heads.Idx → EReal) (G I : ℕ) (x0 : Vec Ideal S16 .f32) (x1 : Vec Ideal S256x512 .f32)
  (x2 : Vec Ideal S16384x512 .bf16) (x3 : Vec Ideal S64x512x256 .bf16) (hx : Reads q k v b G I x0 x1 x2 x3)
  (arg2 : Memref KernelIdeal.sig .tc .smem S16 .f32) (harg2 : arg2.IsWhole) (arg3 : Memref KernelIdeal.sig .tc .vmem S256x512 .f32) (harg3 : arg3.IsWhole)
  (arg4 : Memref KernelIdeal.sig .tc .vmem S16384x512 .bf16) (harg4 : arg4.IsWhole) (arg5 : Memref KernelIdeal.sig .tc .vmem S64x512x256 .bf16) (harg5 : arg5.IsWhole)
include hx

theorem qAt_at (C : ℕ) (inb : ∀ a, (![0, C] : Fin 2 → ℕ) a + S256x128.size a ≤ S256x512.size a) (c : Fin 256) (l : Fin 128) :
    qAt (F := Ideal) arg3 (harg3.unread x1) ![0, C] inb (ix2 c l) = (rl q (256 * I + c.val) (512 * G + (C + l.val)) : EReal) := by
  unfold qAt
  rw [harg3.readAt_unread, hx.query]
  show (rl q (256 * I + (0 + 1 * c.val)) (512 * G + (C + 1 * l.val)) : EReal) = _
  rw [Nat.zero_add, Nat.one_mul, Nat.one_mul]

/-- A head's query tile. -/
theorem qT_at (h : ℕ) (hh : h < 8) (c : Fin 256) (l : Fin 128) : qT (F := Ideal) arg3 (harg3.unread x1) h (ix2 c l) =
    (((if 64 * (h % 2) ≤ l.val ∧ l.val < 64 * (h % 2) + 64 then rl q (256 * I + c.val) (512 * G + (128 * (h / 2) + l.val)) * (1 / 8 * lg) else 0) : ℝ) : EReal) := by
  have e := fun C inb => qE_apply (qAt (F := Ideal) arg3 (harg3.unread x1) ![0, C] inb) (fun c l => rl q (256 * I + c) (512 * G + (C + l)))
    (qAt_at q k v b G I x0 x1 x2 x3 hx arg3 harg3 C inb) c l
  have o := fun C inb => qO_apply (qAt (F := Ideal) arg3 (harg3.unread x1) ![0, C] inb) (fun c l => rl q (256 * I + c) (512 * G + (C + l)))
    (qAt_at q k v b G I x0 x1 x2 x3 hx arg3 harg3 C inb) c l
  interval_cases h
  · exact e 0 _
  · exact o 0 _
  · exact e 128 _
  · exact o 128 _
  · exact e 256 _
  · exact o 256 _
  · exact e 384 _
  · exact o 384 _

/-- A head's bias, in base two. -/
theorem bT_at (i : grid0.Coords) (hG : (i 0).val = G) (h : ℕ) (hh : h < 8) :
    bT (F := Ideal) arg2 (harg2.unread x0) i h = (((hd b (8 * G + h)).toReal * lg : ℝ) : EReal) := by
  unfold bT
  show (View.readAt (Elt Ideal) arg2.view _ (harg2.unread x0) _ : EReal) * (lg : EReal) = _
  rw [harg2.readAt_unread, hx.bias, EReal.coe_mul]
  congr 4
  show k0_off1 i (BitVec.ofNat 32 (h % 8)) 0 + 1 * 0 = _
  rw [bias_eq i ⟨h % 8, Nat.mod_lt _ (by decide)⟩]
  show 8 * (i 0).val + h % 8 + 1 * 0 = _
  omega

theorem keyAt_at (B C : ℕ) (off : Fin 2 → ℕ) (inb) (ho : off = ![256 * B, C]) (r : Fin 256) (l : Fin 128) :
    keyAt (F := Ideal) arg4 (harg4.unread x2) off inb (ix2 r l) = (rl k (256 * B + r.val) (512 * G + (C + l.val)) : EReal) := by
  subst ho
  unfold keyAt
  rw [harg4.readAt_unread, hx.key]
  show (rl k (256 * B + 1 * r.val) (512 * G + (C + 1 * l.val)) : EReal) = _
  rw [Nat.one_mul, Nat.one_mul]

theorem valAt_at (B C : ℕ) (off : Fin 3 → ℕ) (inb) (ho : off = ![B, C, 0]) (d : Fin 64) (p : Fin 256) :
    valAt (F := Ideal) arg5 (harg5.unread x3) off inb (ix3 (0 : Fin 1) d p) = el v (256 * B + p.val) (512 * G + (C + d.val)) := by
  subst ho
  unfold valAt
  rw [harg5.readAt_unread, hx.value]
  show el v (256 * (B + 1 * 0) + (0 + 1 * p.val)) (512 * G + (C + 1 * d.val)) = _
  congr 1 <;> omega

/-- The keys of the eight heads in a block. -/
theorem keys_at (B : ℕ) (k0 k1 k2 k3 : Fin 2 → ℕ) (i0) (i1) (i2) (i3)
    (s : k0 = ![256 * B, 0] ∧ k1 = ![256 * B, 128] ∧ k2 = ![256 * B, 256] ∧ k3 = ![256 * B, 384]) (h : ℕ) (hh : h < 8) (r : Fin 256) (l : Fin 128) :
    pick (keyAt (F := Ideal) arg4 (harg4.unread x2) k0 i0) (keyAt arg4 (harg4.unread x2) k0 i0) (keyAt arg4 (harg4.unread x2) k1 i1) (keyAt arg4 (harg4.unread x2) k1 i1)
      (keyAt arg4 (harg4.unread x2) k2 i2) (keyAt arg4 (harg4.unread x2) k2 i2) (keyAt arg4 (harg4.unread x2) k3 i3) (keyAt arg4 (harg4.unread x2) k3 i3) h (ix2 r l) =
      (rl k (256 * B + r.val) (512 * G + (128 * (h / 2) + l.val)) : EReal) := by
  have e := fun C off inb ho => keyAt_at q k v b G I x0 x1 x2 x3 hx arg4 harg4 B C off inb ho r l
  obtain ⟨s0, s1, s2, s3⟩ := s
  interval_cases h
  · exact e 0 _ _ s0
  · exact e 0 _ _ s0
  · exact e 128 _ _ s1
  · exact e 128 _ _ s1
  · exact e 256 _ _ s2
  · exact e 256 _ _ s2
  · exact e 384 _ _ s3
  · exact e 384 _ _ s3

/-- The values of the eight heads in a block. -/
theorem vals_at (B : ℕ) (v0 v1 v2 v3 v4 v5 v6 v7 : Fin 3 → ℕ) (i0) (i1) (i2) (i3) (i4) (i5) (i6) (i7)
    (s : v0 = ![B, 0, 0] ∧ v1 = ![B, 64, 0] ∧ v2 = ![B, 128, 0] ∧ v3 = ![B, 192, 0] ∧ v4 = ![B, 256, 0] ∧ v5 = ![B, 320, 0] ∧
      v6 = ![B, 384, 0] ∧ v7 = ![B, 448, 0]) (h : ℕ) (hh : h < 8) (d : Fin 64) (p : Fin 256) :
    pick (valAt (F := Ideal) arg5 (harg5.unread x3) v0 i0) (valAt arg5 (harg5.unread x3) v1 i1) (valAt arg5 (harg5.unread x3) v2 i2) (valAt arg5 (harg5.unread x3) v3 i3)
      (valAt arg5 (harg5.unread x3) v4 i4) (valAt arg5 (harg5.unread x3) v5 i5) (valAt arg5 (harg5.unread x3) v6 i6) (valAt arg5 (harg5.unread x3) v7 i7) h (ix3 (0 : Fin 1) d p) =
      el v (256 * B + p.val) (512 * G + (64 * h + d.val)) := by
  have e := fun C off inb ho => valAt_at q k v b G I x0 x1 x2 x3 hx arg5 harg5 B C off inb ho d p
  obtain ⟨s0, s1, s2, s3, s4, s5, s6, s7⟩ := s
  interval_cases h
  · exact e 0 _ _ s0
  · exact e 64 _ _ s1
  · exact e 128 _ _ s2
  · exact e 192 _ _ s3
  · exact e 256 _ _ s4
  · exact e 320 _ _ s5
  · exact e 384 _ _ s6
  · exact e 448 _ _ s7

/-- A head's scores in a block, in base two. -/
theorem score_at (i : grid0.Coords) (hG : (i 0).val = G) (B h : ℕ) (hh : h < 8) (K : Vec Ideal S256x128 .bf16)
    (hK : ∀ (r : Fin 256) (l : Fin 128), K (ix2 r l) = (rl k (256 * B + r.val) (512 * G + (128 * (h / 2) + l.val)) : EReal)) (r c : Fin 256) :
    zT (qT (F := Ideal) arg3 (harg3.unread x1) h) (bT arg2 (harg2.unread x0) i h) K (ix2 r c) =
      ((score q k b (8 * G + h) (256 * I + c.val) (256 * B + r.val) * lg : ℝ) : EReal) := by
  rw [zT_apply _ _ K (64 * (h % 2)) (by omega) (fun c l => rl q (256 * I + c) (512 * G + (128 * (h / 2) + l)))
    (fun r l => rl k (256 * B + r) (512 * G + (128 * (h / 2) + l))) _ (qT_at q k v b G I x0 x1 x2 x3 hx arg3 harg3 h hh) hK
    (bT_at q k v b G I x0 x1 x2 x3 hx arg2 harg2 i hG h hh)]
  unfold score
  congr 3
  refine Finset.sum_congr rfl fun d _ => ?_
  rw [show 512 * G + (128 * (h / 2) + (64 * (h % 2) + d.val)) = 64 * (8 * G + h) + d.val by omega]
end

end Cert.Load

end
-- ==== Proof.Chain.lean ====
/-
One grid point over the reals: the diagonal block, the rest of its group and the loop over the earlier groups take a
head's running sum and rows of the accumulator from the empty set of keys to all the keys before the query.
-/
module

public import proofs.«01_k».proof.Proof.Load

@[expose] public section
set_option maxRecDepth 16384

noncomputable section

namespace Cert.Chain

open Idealize.ShloMosaic hiding ix2 ix3 eq_ix2 eq_ix3
open Idealize.ShloMosaic.ValueIdx Idealize.ShloMosaic.TcCoe
open Cert.KernelIdeal hiding sig
open Cert.KernelIdeal.Gen Cert.Tile Cert.Trip Cert.Point Cert.Stick Cert.Block Cert.Step Cert.Off Cert.Score Cert.Acc Cert.Load

/-- The scores and values of block `B` are those of `ζ` and `U`. -/
structure Good (I : ℕ) (ζ : ℕ → ℕ → ℝ) (U : ℕ → ℕ → EReal) (B : ℕ) (z : FVec Ideal S256x256 .f32) (v : Vec Ideal S1x64x256 .bf16) : Prop where
  scores : ∀ k c : Fin 256, z (ix2 k c) = ((ζ (256 * I + c.val) (256 * B + k.val) * lg : ℝ) : EReal)
  small : ∀ k c : Fin 256, ζ (256 * I + c.val) (256 * B + k.val) ≤ 29
  values : ∀ (d : Fin 64) (k : Fin 256), v (ix3 (0 : Fin 1) d k) = U d.val (256 * B + k.val)

section
variable (I : ℕ) (ζ : ℕ → ℕ → ℝ) (U : ℕ → ℕ → EReal) (q : ℕ → FVec Ideal S256x128 .bf16) (b : ℕ → Ideal .f32)
  (K : ℕ → ℕ → Vec Ideal S256x128 .bf16) (V : ℕ → ℕ → Vec Ideal S1x64x256 .bf16) (r0 : ℕ → FVec Ideal S1x256 .f32) (a0 : ℕ → Vec Ideal S64x256 .f32) (h : ℕ)

/-- Blocks before the diagonal one, one after the other. -/
theorem chain (B0 N : ℕ) (hB : B0 ≤ I) (hN : N ≤ B0) (hg : ∀ n, n < N → Good I ζ U (B0 - (n + 1)) (zF q b K n h) (V n h))
    (hr : RunAt I ζ B0 (r0 h)) (ha : AccAt I ζ U B0 (a0 h)) (n : ℕ) (hn : n ≤ N) :
    RunAt I ζ (B0 - n) (runT (totF k0_pay1503 q b K) r0 h n) ∧
      AccAt I ζ U (B0 - n) (accN (totF k0_pay1503 q b K) (oF k0_pay1503 q b K V) r0 a0 h n) := by
  induction n with
  | zero => exact ⟨hr, ha⟩
  | succ n ih =>
    obtain ⟨h1, h2⟩ := ih (by omega)
    have g := hg n (by omega)
    rw [show B0 - n = B0 - (n + 1) + 1 by omega] at h1 h2
    exact ⟨run_step I _ ζ _ g.scores g.small _ (by omega) h1, acc_step I _ ζ U _ _ g.scores g.small g.values _ _ (by omega) h1 h2⟩

/-- The diagonal block and the blocks before it in its group. -/
theorem chainC (vis : IVec S256x256 1) (hvis : ∀ k c : Fin 256, vis (ix2 k c) = BitVec.ofBool (decide (k.val < c.val))) (N : ℕ) (hN : N ≤ I)
    (hg : ∀ n, n ≤ N → Good I ζ U (I - n) (zF q b K n h) (V n h)) (hr : ∀ (a : Fin 1) (c : Fin 256), r0 h (ix2 a c) = (0 : EReal))
    (ha : ∀ (d : Fin 64) (c : Fin 256), a0 h (ix2 d c) = (0 : EReal)) (n : ℕ) (hn : n ≤ N) :
    RunAt I ζ (I - n) (runT (totC k0_pay1503 q b K vis) r0 h (n + 1)) ∧
      AccAt I ζ U (I - n) (accN (totC k0_pay1503 q b K vis) (oC k0_pay1503 q b K V vis) r0 a0 h (n + 1)) := by
  induction n with
  | zero =>
    have g := hg 0 (by omega)
    exact ⟨run_mask I _ ζ _ g.scores g.small _ vis hvis rfl hr, acc_mask I _ ζ U _ _ g.scores g.small g.values _ _ vis hvis rfl hr ha⟩
  | succ n ih =>
    obtain ⟨h1, h2⟩ := ih (by omega)
    have g := hg (n + 1) (by omega)
    rw [show I - n = I - (n + 1) + 1 by omega] at h1 h2
    exact ⟨run_step I _ ζ _ g.scores g.small _ (by omega) h1, acc_step I _ ζ U _ _ g.scores g.small g.values _ _ (by omega) h1 h2⟩
end

/-- The running sums fetched again are those put away. -/
theorem init_of (arg8 : Memref KernelIdeal.sig .tc .vmem S8x256 .f32) (R : ℕ → FVec Ideal S1x256 .f32) (n h : ℕ) (hn : n ≤ 8) (hh : h < n) :
    arg8.view.readCov (Val := Elt Ideal) (runPieces R n) (runRow h).toLoadRect = R h := by
  induction n with
  | zero => omega
  | succ n ih =>
    show arg8.view.readCov (Val := Elt Ideal) (⟨runRow n, shapeCast S1x256 (R n) shapeCasts_S1x256_S1x256⟩ :: runPieces R n) (runRow h).toLoadRect = _
    by_cases e : h = n
    · subst e
      rw [View.readCov_cons_toLoadRect, shapeCast_self]
    · rw [← ih (by omega) (by omega), View.readCov_eq_canon', View.readCov_eq_canon']
      funext x
      refine View.canon_cons_of_not_mem _ _ (Rect.not_mem_set_of_axis (runRow n) _ 0 (n % 8) 1 rfl rfl rfl ?_)
      have h0 : (x 0).val < 1 := (x 0).isLt
      show h % 8 + 1 * (x 0).val < n % 8 ∨ n % 8 + 1 ≤ h % 8 + 1 * (x 0).val
      omega

section
variable (c : Dev nD) (i : grid0.Coords) (arg2 : Memref KernelIdeal.sig .tc .smem S16 .f32) (harg2 : arg2.IsWhole) (arg3 : Memref KernelIdeal.sig .tc .vmem S256x512 .f32) (harg3 : arg3.IsWhole) (arg4 : Memref KernelIdeal.sig .tc .vmem S16384x512 .bf16) (harg4 : arg4.IsWhole) (arg5 : Memref KernelIdeal.sig .tc .vmem S64x512x256 .bf16) (harg5 : arg5.IsWhole) (arg6 : Memref KernelIdeal.sig .tc .vmem S256x512 .f32) (harg6 : arg6.IsWhole) (arg7 : Memref KernelIdeal.sig .tc .vmem S512x256 .f32) (harg7 : arg7.IsWhole) (arg8 : Memref KernelIdeal.sig .tc .vmem S8x256 .f32) (harg8 : arg8.IsWhole)
  (q : ℕ → FVec Ideal S256x128 .bf16) (b : ℕ → Ideal .f32)
  (X_arg4 : BufTy.Contents (Elt Ideal) arg4.view.ty) (X_arg5 : BufTy.Contents (Elt Ideal) arg5.view.ty)
  (P : Stores Ideal) (R : ℕ → FVec Ideal S1x256 .f32) (I : ℕ) (ζ : ℕ → ℕ → ℕ → ℝ) (U : ℕ → ℕ → ℕ → EReal)

/-- The state of the loop over the earlier groups before trip `n`. -/
abbrev stAt (n : ℕ) := st_k0_t1 (F := Ideal) Variants.none c none i arg2 harg2 arg3 harg3 arg4 harg4 arg5 harg5 arg6 harg6 arg7 harg7 arg8 harg8 (q 0) (q 1) (q 2) (q 3) (q 4) (q 5) (q 6) (q 7)
  (b 0) (b 1) (b 2) (b 3) (b 4) (b 5) (b 6) (b 7) k0_pay1503 (wordT i) X_arg4 X_arg5 (arg7.view.writes (Elt Ideal) arg7.view.junk P)
  (initT arg8 R 0, initT arg8 R 1, initT arg8 R 2, initT arg8 R 3, initT arg8 R 4, initT arg8 R 5, initT arg8 R 6, initT arg8 R 7) n

/-- The running sums that the loop carries. -/
def runs (s : FVec Ideal S1x256 .f32 × FVec Ideal S1x256 .f32 × FVec Ideal S1x256 .f32 × FVec Ideal S1x256 .f32 × FVec Ideal S1x256 .f32 × FVec Ideal S1x256 .f32 ×
    FVec Ideal S1x256 .f32 × FVec Ideal S1x256 .f32) : ℕ → FVec Ideal S1x256 .f32 :=
  pick s.1 s.2.1 s.2.2.1 s.2.2.2.1 s.2.2.2.2.1 s.2.2.2.2.2.1 s.2.2.2.2.2.2.1 s.2.2.2.2.2.2.2

/-- A group of four blocks: the running sums and the rows go from its end to its start. -/
theorem trip_step (g : ℕ) (hgI : 4 * g ≤ I) (k : Fin (k0_t1_loop i).trips) (hk : k.val < g)
    (hgood : ∀ n h, h < 8 → n < 4 → Good I (ζ h) (U h) (4 * (g - 1 - k.val) + (3 - n)) (zF q b (keys arg4 X_arg4 i k) n h) (vals arg5 X_arg5 i k n h))
    (hr : ∀ h, h < 8 → RunAt I (ζ h) (4 * (g - k.val)) (runs (stAt c i arg2 harg2 arg3 harg3 arg4 harg4 arg5 harg5 arg6 harg6 arg7 harg7 arg8 harg8 q b X_arg4 X_arg5 P R k.val).1 h))
    (ha : ∀ h, h < 8 → AccAt I (ζ h) (U h) (4 * (g - k.val)) (row ((stAt c i arg2 harg2 arg3 harg3 arg4 harg4 arg5 harg5 arg6 harg6 arg7 harg7 arg8 harg8 q b X_arg4 X_arg5 P R k.val).2 ++ P) h)) :
    (∀ h, h < 8 → RunAt I (ζ h) (4 * (g - (k.val + 1))) (runs (stAt c i arg2 harg2 arg3 harg3 arg4 harg4 arg5 harg5 arg6 harg6 arg7 harg7 arg8 harg8 q b X_arg4 X_arg5 P R (k.val + 1)).1 h)) ∧
    (∀ h, h < 8 → AccAt I (ζ h) (U h) (4 * (g - (k.val + 1))) (row ((stAt c i arg2 harg2 arg3 harg3 arg4 harg4 arg5 harg5 arg6 harg6 arg7 harg7 arg8 harg8 q b X_arg4 X_arg5 P R (k.val + 1)).2 ++ P) h)) := by
  unfold stAt at *
  rw [st_k0_t1_succ, result_eq, pieces_eq]
  generalize hs : st_k0_t1 (F := Ideal) Variants.none c none i arg2 harg2 arg3 harg3 arg4 harg4 arg5 harg5 arg6 harg6 arg7 harg7 arg8 harg8 (q 0) (q 1) (q 2) (q 3) (q 4) (q 5) (q 6) (q 7)
    (b 0) (b 1) (b 2) (b 3) (b 4) (b 5) (b 6) (b 7) k0_pay1503 (wordT i) X_arg4 X_arg5 (arg7.view.writes (Elt Ideal) arg7.view.junk P)
    (initT arg8 R 0, initT arg8 R 1, initT arg8 R 2, initT arg8 R 3, initT arg8 R 4, initT arg8 R 5, initT arg8 R 6, initT arg8 R 7) k.val = S at *
  have hg' : ∀ h, h < 8 → ∀ n, n < 4 → Good I (ζ h) (U h) (4 * (g - k.val) - (n + 1))
      (zF (pick (q 0) (q 1) (q 2) (q 3) (q 4) (q 5) (q 6) (q 7)) (pick (b 0) (b 1) (b 2) (b 3) (b 4) (b 5) (b 6) (b 7)) (keys arg4 X_arg4 i k) n h)
      (vals arg5 X_arg5 i k n h) := by
    intro h hh n hn
    have := hgood n h hh hn
    rw [show 4 * (g - k.val) - (n + 1) = 4 * (g - 1 - k.val) + (3 - n) by omega]
    unfold zF at *
    rw [pick_same q h hh, pick_same b h hh]
    exact this
  have key := fun h hh => chain I (ζ h) (U h) (pick (q 0) (q 1) (q 2) (q 3) (q 4) (q 5) (q 6) (q 7)) (pick (b 0) (b 1) (b 2) (b 3) (b 4) (b 5) (b 6) (b 7))
    (keys arg4 X_arg4 i k) (vals arg5 X_arg5 i k) (runs S.1) (row (S.2 ++ P)) h (4 * (g - k.val)) 4 (by omega) (by omega) (hg' h hh) (hr h hh) (ha h hh) 4 le_rfl
  rw [show 4 * (g - (k.val + 1)) = 4 * (g - k.val) - 4 by omega]
  refine ⟨fun h hh => ?_, fun h hh => ?_⟩
  · have := (key h hh).1
    interval_cases h <;> exact this
  · have := (key h hh).2
    rw [List.append_assoc]
    have e := row_trip (totF k0_pay1503 (pick (q 0) (q 1) (q 2) (q 3) (q 4) (q 5) (q 6) (q 7)) (pick (b 0) (b 1) (b 2) (b 3) (b 4) (b 5) (b 6) (b 7)) (keys arg4 X_arg4 i k))
      (oF k0_pay1503 (pick (q 0) (q 1) (q 2) (q 3) (q 4) (q 5) (q 6) (q 7)) (pick (b 0) (b 1) (b 2) (b 3) (b 4) (b 5) (b 6) (b 7)) (keys arg4 X_arg4 i k) (vals arg5 X_arg5 i k))
      (runs S.1) (S.2 ++ P) arg7 (arg7.view.writes (Elt Ideal) (arg7.view.writes (Elt Ideal) arg7.view.junk P) S.2)
      (fun h => by rw [← View.writes_append, View.readAt_writes_junk_eq_canon]; rfl) 4 h hh
    rw [← e] at this
    exact this
end

end Cert.Chain

end
-- ==== Proof.End.lean ====
/-
What a grid point stores, over the reals: the reference's weighted sum of the values of the keys before each query.
-/
module

public import proofs.«01_k».proof.Proof.Chain

@[expose] public section
set_option maxRecDepth 16384

noncomputable section

namespace Cert.End

open Idealize.ShloMosaic hiding ix2 ix3 eq_ix2 eq_ix3
open Idealize.ShloMosaic.ValueIdx Idealize.ShloMosaic.TcCoe
open Cert.KernelIdeal hiding sig
open Cert.KernelIdeal.Gen Cert.Tile Cert.Trip Cert.Point Cert.Stick Cert.Block Cert.Step Cert.Off Cert.Score Cert.Acc Cert.Load Cert.Chain

/-- The mask of the diagonal block: the key strictly before the query. -/
theorem vis_at (i : grid0.Coords) (r : ℕ) (hr : (i 1).val % 4 = r) (k c : Fin 256) : visT i (BitVec.ofNat 32 r) (ix2 k c) = BitVec.ofBool (decide (k.val < c.val)) := by
  subst hr
  show IntOp.cmpi .slt (IntOp.subi (BitVec.ofNat 32 (0 * 256 + k.val)) (BitVec.ofNat 32 (0 * 256 + c.val)))
    (Scalar.muli (Scalar.subi (BitVec.ofNat 32 (i 1).val) (Scalar.addi (Scalar.muli (wordT i) 4#32) (BitVec.ofNat 32 ((i 1).val % 4)))) 256#32) = _
  rw [shift_zero i, Nat.zero_mul, Nat.zero_add, Nat.zero_add, WordCmp.cmpi_slt_zero]
  congr 1
  refine decide_eq_decide.mpr ?_
  show 2 ^ 31 ≤ (BitVec.ofNat 32 k.val - BitVec.ofNat 32 c.val).toNat ↔ _
  have hk := k.isLt
  have hc := c.isLt
  rw [BitVec.toNat_sub, BitVec.toNat_ofNat, BitVec.toNat_ofNat]
  omega

/-- The fill of the accumulator. -/
abbrev fill : Stores Ideal := [⟨Rect.unit (s := S512x256) ![0, 0] S512x256.size inb_S512x256_S512x256_0_0, k0_pay1505 (F := Ideal)⟩]

theorem fill_zero (h : ℕ) (d : Fin 64) (c : Fin 256) : row fill h (ix2 d c) = (0 : EReal) := by
  have e : (rowsT h).emb (ix2 d c) = (Rect.unit (s := S512x256) ![0, 0] S512x256.size inb_S512x256_S512x256_0_0).emb ((rowsT h).emb (ix2 d c)) := by
    funext a; refine Fin.ext ?_
    have : ∀ n : ℕ, n = (![0, 0] : Fin 2 → ℕ) a + 1 * n := by intro n; fin_cases a <;> (show n = 0 + 1 * n; omega)
    exact this _
  show View.canon fill ((rowsT h).emb (ix2 d c)) = _
  rw [e, View.canon_cons_emb]
  unfold k0_pay1505
  rw [shapeCast_self]
  exact Ideal.ofBits_zero_f32

section
variable (c : Dev nD) (i : grid0.Coords) (arg2 : Memref KernelIdeal.sig .tc .smem S16 .f32) (harg2 : arg2.IsWhole) (arg3 : Memref KernelIdeal.sig .tc .vmem S256x512 .f32) (harg3 : arg3.IsWhole) (arg4 : Memref KernelIdeal.sig .tc .vmem S16384x512 .bf16) (harg4 : arg4.IsWhole) (arg5 : Memref KernelIdeal.sig .tc .vmem S64x512x256 .bf16) (harg5 : arg5.IsWhole) (arg6 : Memref KernelIdeal.sig .tc .vmem S256x512 .f32) (harg6 : arg6.IsWhole) (arg7 : Memref KernelIdeal.sig .tc .vmem S512x256 .f32) (harg7 : arg7.IsWhole) (arg8 : Memref KernelIdeal.sig .tc .vmem S8x256 .f32) (harg8 : arg8.IsWhole)
  (q : ℕ → FVec Ideal S256x128 .bf16) (b : ℕ → Ideal .f32)
  (X_arg4 : BufTy.Contents (Elt Ideal) arg4.view.ty) (X_arg5 : BufTy.Contents (Elt Ideal) arg5.view.ty)
  (I : ℕ) (ζ : ℕ → ℕ → ℕ → ℝ) (U : ℕ → ℕ → ℕ → EReal) (hI : (i 1).val = I)
  (hgood : ∀ (k : Fin (k0_t1_loop i).trips) n h, h < 8 → n < 4 →
    Good I (ζ h) (U h) (4 * (I / 4 - 1 - k.val) + (3 - n)) (zF q b (keys arg4 X_arg4 i k) n h) (vals arg5 X_arg5 i k n h))
include hI hgood

/-- The loop over the earlier groups. -/
theorem loop_all (P : Stores Ideal) (R : ℕ → FVec Ideal S1x256 .f32) (hr : ∀ h, h < 8 → RunAt I (ζ h) (4 * (I / 4)) (R h))
    (ha : ∀ h, h < 8 → AccAt I (ζ h) (U h) (4 * (I / 4)) (row P h)) (n : ℕ) (hn : n ≤ I / 4) :
    (∀ h, h < 8 → RunAt I (ζ h) (4 * (I / 4 - n)) (runs (stAt c i arg2 harg2 arg3 harg3 arg4 harg4 arg5 harg5 arg6 harg6 arg7 harg7 arg8 harg8 q b X_arg4 X_arg5 P R n).1 h)) ∧
    (∀ h, h < 8 → AccAt I (ζ h) (U h) (4 * (I / 4 - n)) (row ((stAt c i arg2 harg2 arg3 harg3 arg4 harg4 arg5 harg5 arg6 harg6 arg7 harg7 arg8 harg8 q b X_arg4 X_arg5 P R n).2 ++ P) h)) := by
  induction n with
  | zero =>
    refine ⟨fun h hh => ?_, fun h hh => ha h hh⟩
    have e : runs (stAt c i arg2 harg2 arg3 harg3 arg4 harg4 arg5 harg5 arg6 harg6 arg7 harg7 arg8 harg8 q b X_arg4 X_arg5 P R 0).1 h = initT arg8 R h := pick_same (initT arg8 R) h hh
    rw [e, initT, init_of arg8 R 8 h le_rfl hh]
    exact hr h hh
  | succ n ih =>
    obtain ⟨h1, h2⟩ := ih (by omega)
    have hn' : n < (k0_t1_loop i).trips := by rw [trips_eq i, hI]; omega
    exact trip_step c i arg2 harg2 arg3 harg3 arg4 harg4 arg5 harg5 arg6 harg6 arg7 harg7 arg8 harg8 q b X_arg4 X_arg5 P R I ζ U (I / 4) (by omega) ⟨n, hn'⟩ (by show n < I / 4; omega) (hgood ⟨n, hn'⟩) h1 h2

/-- What a point stores, at a query and a column. -/
theorem point_at (r : ℕ) (hr : (i 1).val % 4 = r) (K : ℕ → ℕ → Vec Ideal S256x128 .bf16) (V : ℕ → ℕ → Vec Ideal S1x64x256 .bf16)
    (hd : ∀ n h, h < 8 → n ≤ r → Good I (ζ h) (U h) (I - n) (zF q b K n h) (V n h)) (j : Fin 256) (y : Fin 512) :
    pointT c i arg2 harg2 arg3 harg3 arg4 harg4 arg5 harg5 arg6 harg6 arg7 harg7 arg8 harg8 q b X_arg4 X_arg5 (visT i (BitVec.ofNat 32 r)) K V r (ix2 j y) =
      part (ζ (y.val / 64) (256 * I + j.val)) (256 * I + j.val) (U (y.val / 64) (y.val % 64)) 0 := by
  set P := diagT arg7 q b (visT i (BitVec.ofNat 32 r)) K V r with hP
  set R : ℕ → FVec Ideal S1x256 .f32 := fun h => runT (totC k0_pay1503 q b K (visT i (BitVec.ofNat 32 r))) (fun _ => k0_pay1506) h (r + 1) with hR
  have hdiag := fun h (hh : h < 8) => chainC I (ζ h) (U h) q b K V (fun _ => k0_pay1506)
    (row fill) h
    (visT i (BitVec.ofNat 32 r)) (vis_at i r hr) r (by omega) (fun n hn => hd n h hh hn) (fun _ _ => Ideal.ofBits_zero_f32)
    (fill_zero h) r le_rfl
  have hg : I - r = 4 * (I / 4) := by omega
  have h1 : ∀ h, h < 8 → RunAt I (ζ h) (4 * (I / 4)) (R h) := fun h hh => hg ▸ (hdiag h hh).1
  have h2 : ∀ h, h < 8 → AccAt I (ζ h) (U h) (4 * (I / 4)) (row P h) := fun h hh => by
    have := (hdiag h hh).2
    rw [hg] at this
    rw [hP, diagT, row_diag _ _ _ _ _ _ h hh]
    exact this
  have h3 := (loop_all c i arg2 harg2 arg3 harg3 arg4 harg4 arg5 harg5 arg6 harg6 arg7 harg7 arg8 harg8 q b X_arg4 X_arg5 I ζ U hI hgood P R h1 h2 (I / 4) le_rfl).2 (y.val / 64) (by omega) ⟨y.val % 64, by omega⟩ j
  rw [Nat.sub_self, Nat.mul_zero] at h3
  refine Eq.trans ?_ h3
  have e2 : (st2 c i arg2 harg2 arg3 harg3 arg4 harg4 arg5 harg5 arg6 harg6 arg7 harg7 arg8 harg8 q b X_arg4 X_arg5 P R).2 = [] := by unfold st2; rw [rest_eq]; rfl
  have e1 : (st1 c i arg2 harg2 arg3 harg3 arg4 harg4 arg5 harg5 arg6 harg6 arg7 harg7 arg8 harg8 q b X_arg4 X_arg5 P R) = stAt c i arg2 harg2 arg3 harg3 arg4 harg4 arg5 harg5 arg6 harg6 arg7 harg7 arg8 harg8 q b X_arg4 X_arg5 P R (I / 4) := by
    have : Scf.trips (k0_t1_loop i).lb (k0_t1_loop i).ub (k0_t1_loop i).st = I / 4 := by rw [← hI]; exact trips_eq i
    unfold st1 stAt; rw [this]
  show endT c i arg2 harg2 arg3 harg3 arg4 harg4 arg5 harg5 arg6 harg6 arg7 harg7 arg8 harg8 q b X_arg4 X_arg5 P R (ix2 j y) = _
  unfold endT k0_pay13
  rw [e2, e1, List.nil_append, View.readCov_eq_canon']
  show transpose S256x512 [1, 0] _ _ (ix2 j y) = _
  rw [transpose_apply [1, 0] _ _ (ix2 j y) (ix2 y j) (by intro a; fin_cases a <;> rfl)]
  refine congrArg (View.canon _) (funext fun a => Fin.ext ?_)
  fin_cases a
  · show 0 + 1 * y.val = 64 * (y.val / 64 % 8) + 1 * (y.val % 64); omega
  · rfl
end

end Cert.End

end
-- ==== Proof.Out.lean ====
/-
A grid point's block of the result, each of the four cases of the diagonal block's place in its group.
-/
module

public import proofs.«01_k».proof.Proof.End

@[expose] public section
set_option maxRecDepth 16384

noncomputable section

namespace Cert.Out

open Idealize.ShloMosaic hiding ix2 ix3 eq_ix2 eq_ix3
open Idealize.ShloMosaic.ValueIdx Idealize.ShloMosaic.TcCoe
open Cert.KernelIdeal hiding sig
open Cert.KernelIdeal.Gen Cert.Tile Cert.Trip Cert.Point Cert.Stick Cert.Block Cert.Step Cert.Off Cert.Score Cert.Acc Cert.Load Cert.Chain Cert.End

/-- The reference's result at row `j` of query block `I` and column `y` of head group `G`. -/
def value (q k v : Rows.Idx → EReal) (b : Heads.Idx → EReal) (G I j y : ℕ) : EReal :=
  part (score q k b ((512 * G + y) / 64) (256 * I + j)) (256 * I + j) (fun s => el v s (512 * G + y)) 0

theorem value_eq (q k v : Rows.Idx → EReal) (b : Heads.Idx → EReal) (G I : ℕ) (j : Fin 256) (y : Fin 512) :
    part (score q k b (8 * G + y.val / 64) (256 * I + j.val)) (256 * I + j.val) (fun s => el v s (512 * G + (64 * (y.val / 64) + y.val % 64))) 0 =
      value q k v b G I j.val y.val := by
  unfold value
  rw [show 64 * (y.val / 64) + y.val % 64 = y.val by omega, show (512 * G + y.val) / 64 = 8 * G + y.val / 64 by omega]

section
variable {F : FTy → Type} [FloatOps F]

/-- The one store of a whole block. -/
abbrev stored (w : Vec F S256x512 .f32) : List (View.Piece (Elt F) S256x512 .f32) :=
  [⟨Rect.unit (s := S256x512) ![0, 0] S256x512.size inb_S256x512_S256x512_0_0, w⟩]

theorem zeros : (![0, 0] : Fin S256x512.rank → ℕ) = fun _ => 0 := by
  funext a; fin_cases a <;> rfl

theorem canon_stored (w : Vec F S256x512 .f32) : View.canon (stored w) = w :=
  View.canon_cons_unit_zero zeros _ w []

/-- One store of a whole block, read back. -/
theorem read_stored (L : List (View.Piece (Elt F) S256x512 .f32)) (w : Vec F S256x512 .f32) (hL : L = stored w) (y : S256x512.Idx) :
    VO0_4.read (Elt F) (VO0_4.writes (Elt F) VO0_4.junk L) y = w y :=
  (View.read_writes_junk_apply_eq_canon VO0_4 y L).trans (hL ▸ congrFun (canon_stored w) y)

end

theorem read_whole (L : List (View.Piece (Elt Ideal) S256x512 .f32)) (w : FVec Ideal S256x512 .f32) (hL : L = stored (F := Ideal) w) (y : S256x512.Idx) :
    VO0_4.read (Elt Ideal) (VO0_4.writes (Elt Ideal) VO0_4.junk L) y = w y :=
  read_stored L w hL y

section
variable (q k v : Rows.Idx → EReal) (b : Heads.Idx → EReal) (G I : ℕ) (x0 : Vec Ideal S16 .f32) (x1 : Vec Ideal S256x512 .f32)
  (x2 : Vec Ideal S16384x512 .bf16) (x3 : Vec Ideal S64x512x256 .bf16) (hx : Reads q k v b G I x0 x1 x2 x3) (hf : Fine q k b)
  (i : grid0.Coords) (hG : (i 0).val = G) (hI : (i 1).val = I)
  (arg2 : Memref KernelIdeal.sig .tc .smem S16 .f32) (harg2 : arg2.IsWhole) (arg3 : Memref KernelIdeal.sig .tc .vmem S256x512 .f32) (harg3 : arg3.IsWhole)
  (arg4 : Memref KernelIdeal.sig .tc .vmem S16384x512 .bf16) (harg4 : arg4.IsWhole) (arg5 : Memref KernelIdeal.sig .tc .vmem S64x512x256 .bf16) (harg5 : arg5.IsWhole)
include hx hf hG hI

/-- A block's scores and values are the reference's. -/
theorem good_of (B n h : ℕ) (hh : h < 8) (K : ℕ → ℕ → Vec Ideal S256x128 .bf16) (V : ℕ → ℕ → Vec Ideal S1x64x256 .bf16)
    (hK : ∀ (r : Fin 256) (l : Fin 128), K n h (ix2 r l) = (rl k (256 * B + r.val) (512 * G + (128 * (h / 2) + l.val)) : EReal))
    (hV : ∀ (d : Fin 64) (p : Fin 256), V n h (ix3 (0 : Fin 1) d p) = el v (256 * B + p.val) (512 * G + (64 * h + d.val))) (hB : B < 64) :
    Good I (score q k b (8 * G + h)) (fun d s => el v s (512 * G + (64 * h + d))) B
      (zF (qT arg3 (harg3.unread x1)) (bT arg2 (harg2.unread x0) i) K n h) (V n h) where
  scores r c := score_at q k v b G I x0 x1 x2 x3 hx arg2 harg2 arg3 harg3 i hG B h hh (K n h) hK r c
  small r c := by
    have h0 : (i 0).val < 2 := (i 0).isLt
    have h1 : (i 1).val < 64 := (i 1).isLt
    exact hf.le _ _ _ (by omega) (by omega) (by omega)
  values := hV

/-- The blocks of the earlier groups. -/
theorem goodT (t : Fin (k0_t1_loop i).trips) (n h : ℕ) (hh : h < 8) (hn : n < 4) :
    Good I (score q k b (8 * G + h)) (fun d s => el v s (512 * G + (64 * h + d))) (4 * (I / 4 - 1 - t.val) + (3 - n))
      (zF (qT arg3 (harg3.unread x1)) (bT arg2 (harg2.unread x0) i) (keys arg4 (harg4.unread x2) i t) n h) (vals arg5 (harg5.unread x3) i t n h) := by
  have h1 : (i 1).val < 64 := (i 1).isLt
  have s := startsT i t (blkIx n)
  rw [hI, show (blkIx n).val = 3 - n from (by show 3 - n % 4 = 3 - n; omega)] at s
  have e : BitVec.ofNat 32 (3 - n) = BitVec.ofNat 32 (blkIx n).val := by rw [show (blkIx n).val = 3 - n from (by show 3 - n % 4 = 3 - n; omega)]
  rw [e] at s
  exact good_of q k v b G I x0 x1 x2 x3 hx hf i hG hI arg2 harg2 arg3 harg3 _ n h hh _ _
    (keys_at q k v b G I x0 x1 x2 x3 hx arg4 harg4 _ _ _ _ _ _ _ _ _ s.1 h hh)
    (vals_at q k v b G I x0 x1 x2 x3 hx arg5 harg5 _ _ _ _ _ _ _ _ _ _ _ _ _ _ _ _ _ s.2 h hh) (by omega)
end

section
variable (c : Dev nD) (i : grid0.Coords) (arg2 : Memref KernelIdeal.sig .tc .smem S16 .f32) (harg2 : arg2.IsWhole) (arg3 : Memref KernelIdeal.sig .tc .vmem S256x512 .f32) (harg3 : arg3.IsWhole) (arg4 : Memref KernelIdeal.sig .tc .vmem S16384x512 .bf16) (harg4 : arg4.IsWhole) (arg5 : Memref KernelIdeal.sig .tc .vmem S64x512x256 .bf16) (harg5 : arg5.IsWhole) (arg6 : Memref KernelIdeal.sig .tc .vmem S256x512 .f32) (harg6 : arg6.IsWhole) (arg7 : Memref KernelIdeal.sig .tc .vmem S512x256 .f32) (harg7 : arg7.IsWhole) (arg8 : Memref KernelIdeal.sig .tc .vmem S8x256 .f32) (harg8 : arg8.IsWhole)
  (q k v : Rows.Idx → EReal) (b : Heads.Idx → EReal) (G I : ℕ) (x0 : Vec Ideal S16 .f32) (x1 : Vec Ideal S256x512 .f32)
  (x2 : Vec Ideal S16384x512 .bf16) (x3 : Vec Ideal S64x512x256 .bf16) (hx : Reads q k v b G I x0 x1 x2 x3) (hf : Fine q k b)
  (hG : (i 0).val = G) (hI : (i 1).val = I)
include hx hf hG hI

/-- The point's block, the diagonal block being number 0 of its group. -/
theorem outA (hc0 : cond0_0 i) (hc1 : ¬cond0_1 i) (hc2 : ¬cond0_2 i) (hc3 : ¬cond0_3 i) (j : Fin 256) (y : Fin 512) :
    out0_A_4 c i arg2 harg2 arg3 harg3 arg4 harg4 arg5 harg5 arg6 harg6 arg7 harg7 arg8 harg8 hc0 hc1 hc2 hc3 x0 x1 x2 x3 (ix2 j y) = value q k v b G I j.val y.val := by
  have hr : (i 1).val % 4 = 0 := (conds i).1.mp hc0
  refine Eq.trans (read_whole _ _ (runA c i arg2 harg2 arg3 harg3 arg4 harg4 arg5 harg5 arg6 harg6 arg7 harg7 arg8 harg8 x0 x1 x2 x3 hc0 hc1 hc2 hc3) (ix2 j y)) (Eq.trans
    (point_at c i arg2 harg2 arg3 harg3 arg4 harg4 arg5 harg5 arg6 harg6 arg7 harg7 arg8 harg8 (qT arg3 (harg3.unread x1)) (bT arg2 (harg2.unread x0) i) (harg4.unread x2) (harg5.unread x3) I
      (fun h => score q k b (8 * G + h)) (fun h d s => el v s (512 * G + (64 * h + d))) hI
      (goodT q k v b G I x0 x1 x2 x3 hx hf i hG hI arg2 harg2 arg3 harg3 arg4 harg4 arg5 harg5) 0 hr
      (keysA arg4 (harg4.unread x2) i hc0) (valsA arg5 (harg5.unread x3) i hc0) (fun n h hh hn => ?_) j y)
    (value_eq q k v b G I j y))
  have s := startsA i hc0
  rw [hI, show 4 * (I / 4) = I - n by omega] at s
  exact good_of q k v b G I x0 x1 x2 x3 hx hf i hG hI arg2 harg2 arg3 harg3 _ n h hh _ _
    (keys_at q k v b G I x0 x1 x2 x3 hx arg4 harg4 _ _ _ _ _ _ _ _ _ s.1 h hh)
    (vals_at q k v b G I x0 x1 x2 x3 hx arg5 harg5 _ _ _ _ _ _ _ _ _ _ _ _ _ _ _ _ _ s.2 h hh) (by have := (i 1).isLt; have h64 : (i 1).val < 64 := this; omega)

/-- The point's block, the diagonal block being number 1 of its group. -/
theorem outB (hc0 : ¬cond0_0 i) (hc1 : cond0_1 i) (hc2 : ¬cond0_2 i) (hc3 : ¬cond0_3 i) (j : Fin 256) (y : Fin 512) :
    out0_B_4 c i arg2 harg2 arg3 harg3 arg4 harg4 arg5 harg5 arg6 harg6 arg7 harg7 arg8 harg8 hc0 hc1 hc2 hc3 x0 x1 x2 x3 (ix2 j y) = value q k v b G I j.val y.val := by
  have hr : (i 1).val % 4 = 1 := (conds i).2.1.mp hc1
  refine Eq.trans (read_whole _ _ (runB c i arg2 harg2 arg3 harg3 arg4 harg4 arg5 harg5 arg6 harg6 arg7 harg7 arg8 harg8 x0 x1 x2 x3 hc0 hc1 hc2 hc3) (ix2 j y)) (Eq.trans
    (point_at c i arg2 harg2 arg3 harg3 arg4 harg4 arg5 harg5 arg6 harg6 arg7 harg7 arg8 harg8 (qT arg3 (harg3.unread x1)) (bT arg2 (harg2.unread x0) i) (harg4.unread x2) (harg5.unread x3) I
      (fun h => score q k b (8 * G + h)) (fun h d s => el v s (512 * G + (64 * h + d))) hI
      (goodT q k v b G I x0 x1 x2 x3 hx hf i hG hI arg2 harg2 arg3 harg3 arg4 harg4 arg5 harg5) 1 hr
      (keysB arg4 (harg4.unread x2) i hc1) (valsB arg5 (harg5.unread x3) i hc1) (fun n h hh hn => ?_) j y)
    (value_eq q k v b G I j y))
  have s := startsB i hc1 (blkAt 1 n)
  rw [hI, show 4 * (I / 4) + (blkAt 1 n).val = I - n by (show 4 * (I / 4) + (1 - n % 2) = I - n; omega)] at s
  exact good_of q k v b G I x0 x1 x2 x3 hx hf i hG hI arg2 harg2 arg3 harg3 _ n h hh _ _
    (keys_at q k v b G I x0 x1 x2 x3 hx arg4 harg4 _ _ _ _ _ _ _ _ _ s.1 h hh)
    (vals_at q k v b G I x0 x1 x2 x3 hx arg5 harg5 _ _ _ _ _ _ _ _ _ _ _ _ _ _ _ _ _ s.2 h hh) (by have := (i 1).isLt; have h64 : (i 1).val < 64 := this; omega)

/-- The point's block, the diagonal block being number 2 of its group. -/
theorem outC (hc0 : ¬cond0_0 i) (hc1 : ¬cond0_1 i) (hc2 : cond0_2 i) (hc3 : ¬cond0_3 i) (j : Fin 256) (y : Fin 512) :
    out0_C_4 c i arg2 harg2 arg3 harg3 arg4 harg4 arg5 harg5 arg6 harg6 arg7 harg7 arg8 harg8 hc0 hc1 hc2 hc3 x0 x1 x2 x3 (ix2 j y) = value q k v b G I j.val y.val := by
  have hr : (i 1).val % 4 = 2 := (conds i).2.2.1.mp hc2
  refine Eq.trans (read_whole _ _ (runC c i arg2 harg2 arg3 harg3 arg4 harg4 arg5 harg5 arg6 harg6 arg7 harg7 arg8 harg8 x0 x1 x2 x3 hc0 hc1 hc2 hc3) (ix2 j y)) (Eq.trans
    (point_at c i arg2 harg2 arg3 harg3 arg4 harg4 arg5 harg5 arg6 harg6 arg7 harg7 arg8 harg8 (qT arg3 (harg3.unread x1)) (bT arg2 (harg2.unread x0) i) (harg4.unread x2) (harg5.unread x3) I
      (fun h => score q k b (8 * G + h)) (fun h d s => el v s (512 * G + (64 * h + d))) hI
      (goodT q k v b G I x0 x1 x2 x3 hx hf i hG hI arg2 harg2 arg3 harg3 arg4 harg4 arg5 harg5) 2 hr
      (keysC arg4 (harg4.unread x2) i hc2) (valsC arg5 (harg5.unread x3) i hc2) (fun n h hh hn => ?_) j y)
    (value_eq q k v b G I j y))
  have s := startsC i hc2 (blkAt 2 n)
  rw [hI, show 4 * (I / 4) + (blkAt 2 n).val = I - n by (show 4 * (I / 4) + (2 - n % 3) = I - n; omega)] at s
  exact good_of q k v b G I x0 x1 x2 x3 hx hf i hG hI arg2 harg2 arg3 harg3 _ n h hh _ _
    (keys_at q k v b G I x0 x1 x2 x3 hx arg4 harg4 _ _ _ _ _ _ _ _ _ s.1 h hh)
    (vals_at q k v b G I x0 x1 x2 x3 hx arg5 harg5 _ _ _ _ _ _ _ _ _ _ _ _ _ _ _ _ _ s.2 h hh) (by have := (i 1).isLt; have h64 : (i 1).val < 64 := this; omega)

/-- The point's block, the diagonal block being number 3 of its group. -/
theorem outD (hc0 : ¬cond0_0 i) (hc1 : ¬cond0_1 i) (hc2 : ¬cond0_2 i) (hc3 : cond0_3 i) (j : Fin 256) (y : Fin 512) :
    out0_D_4 c i arg2 harg2 arg3 harg3 arg4 harg4 arg5 harg5 arg6 harg6 arg7 harg7 arg8 harg8 hc0 hc1 hc2 hc3 x0 x1 x2 x3 (ix2 j y) = value q k v b G I j.val y.val := by
  have hr : (i 1).val % 4 = 3 := (conds i).2.2.2.mp hc3
  refine Eq.trans (read_whole _ _ (runD c i arg2 harg2 arg3 harg3 arg4 harg4 arg5 harg5 arg6 harg6 arg7 harg7 arg8 harg8 x0 x1 x2 x3 hc0 hc1 hc2 hc3) (ix2 j y)) (Eq.trans
    (point_at c i arg2 harg2 arg3 harg3 arg4 harg4 arg5 harg5 arg6 harg6 arg7 harg7 arg8 harg8 (qT arg3 (harg3.unread x1)) (bT arg2 (harg2.unread x0) i) (harg4.unread x2) (harg5.unread x3) I
      (fun h => score q k b (8 * G + h)) (fun h d s => el v s (512 * G + (64 * h + d))) hI
      (goodT q k v b G I x0 x1 x2 x3 hx hf i hG hI arg2 harg2 arg3 harg3 arg4 harg4 arg5 harg5) 3 hr
      (keysD arg4 (harg4.unread x2) i hc3) (valsD arg5 (harg5.unread x3) i hc3) (fun n h hh hn => ?_) j y)
    (value_eq q k v b G I j y))
  have s := startsD i hc3 (blkAt 3 n)
  rw [hI, show 4 * (I / 4) + (blkAt 3 n).val = I - n by (show 4 * (I / 4) + (3 - n % 4) = I - n; omega)] at s
  exact good_of q k v b G I x0 x1 x2 x3 hx hf i hG hI arg2 harg2 arg3 harg3 _ n h hh _ _
    (keys_at q k v b G I x0 x1 x2 x3 hx arg4 harg4 _ _ _ _ _ _ _ _ _ s.1 h hh)
    (vals_at q k v b G I x0 x1 x2 x3 hx arg5 harg5 _ _ _ _ _ _ _ _ _ _ _ _ _ _ _ _ _ s.2 h hh) (by have := (i 1).isLt; have h64 : (i 1).val < 64 := this; omega)

end

end Cert.Out

end
-- ==== Proof.Host.lean ====
/-
The blocks the kernel's windows stage are the arguments' own rows: the queries and the biases as they are, the keys and the values
as the host lays them out.
-/
module

public import proofs.«01_k».proof.Proof.Out
public import proofs.«01_k».proof.Proof.Gen.KernelIdeal.Value
public import Idealize.ShloMosaic.Lib.Pipeline.ValueKit
public import Idealize.ShloMosaic.Lib.Tactic
public import Idealize.ShloMosaic.Lib.StableHlo.ReadAt

@[expose] public section
set_option maxRecDepth 16384

noncomputable section

namespace Cert.Host

open Idealize.ShloMosaic hiding ix2 ix3 eq_ix2 eq_ix3
open Idealize.ShloMosaic.ValueIdx Idealize.ShloMosaic.TcCoe Idealize.ShloMosaic.StableHlo
open Cert.KernelIdeal hiding sig
open Cert.KernelIdeal.Gen Cert.Score Cert.Load Cert.Out Cert.Stick

variable (m : (ℓ : Loc nD τ KernelIdeal.sig) → Buf (Elt Ideal) ℓ) (c : Dev nD)

/-- The arguments. -/
abbrev qs : Rows.Idx → EReal := m ((c : Thread nD τ).loc main_arg0)
abbrev ks : Rows.Idx → EReal := m ((c : Thread nD τ).loc main_arg1)
abbrev vs : Rows.Idx → EReal := m ((c : Thread nD τ).loc main_arg2)
abbrev bs : Heads.Idx → EReal := m ((c : Thread nD τ).loc main_arg3)

theorem places (t : Fin cfg0.N) : win0_0.index t = ![0] ∧ win0_1.index t = ![(grid0.coords t 1).val, (grid0.coords t 0).val]
    ∧ win0_2.index t = ![0, (grid0.coords t 0).val] ∧ win0_3.index t = ![0, (grid0.coords t 0).val, 0]
    ∧ win0_4.index t = ![(grid0.coords t 1).val, (grid0.coords t 0).val] := by
  revert t; decide +kernel

theorem keys_host (x : S16384x1024.Idx) : (V m c main_v0 : S16384x1024.Idx → EReal) x = ks m c x := by
  unfold V
  after_reads_at

theorem values_host (x : S64x1024x256.Idx) :
    (V m c main_v3 : S64x1024x256.Idx → EReal) x = el (vs m c) (256 * (x 0).val + (x 2).val) (x 1).val := by
  unfold V
  after_reads_at
  refine el_of (vs m c) _ _ _ ?_ rfl
  show (x 0).val * 256 + (x 2).val = 256 * (x 0).val + (x 2).val
  omega

theorem reads (hf : Fine (qs m c) (ks m c) (bs m c)) (t : Fin cfg0.N) :
    Reads (qs m c) (ks m c) (vs m c) (bs m c) (grid0.coords t 0).val (grid0.coords t 1).val (iblk m c 0 t) (iblk m c 1 t) (iblk m c 2 t) (iblk m c 3 t) where
  bias y := by
    rw [← hf.hb]
    refine (congrFun (V_main_arg3 m c) _).trans (hd_of (bs m c) _ _ ?_)
    blk_simp [places t]
  query y := by
    refine (congrFun (V_main_arg0 m c) _).trans ((el_of (qs m c) _ _ _ ?_ ?_).trans (hf.hq _ _))
    · blk_simp [places t]; omega
    · blk_simp [places t]; omega
  key y := by
    refine (keys_host m c _).trans ((el_of (ks m c) _ _ _ ?_ ?_).trans (hf.hk _ _))
    · blk_simp [places t]
    · blk_simp [places t]; omega
  value y := by
    refine (values_host m c _).trans ?_
    blk_simp [places t]
    rw [Nat.mul_comm _ 512]

/-- The result the reference computes, over the arguments. -/
def out : S16384x1024.Idx → EReal := fun i =>
  part (score (qs m c) (ks m c) (bs m c) ((i 1).val / 64) (i 0).val) (i 0).val (fun s => el (vs m c) s (i 1).val) 0

theorem flushed (hf : Fine (qs m c) (ks m c) (bs m c)) (t : Fin cfg0.N) (j : Fin 256) (y : Fin 512) :
    (dats m 0 c).flushed 4 t (ix2 j y) = value (qs m c) (ks m c) (vs m c) (bs m c) (grid0.coords t 0).val (grid0.coords t 1).val j.val y.val := by
  have hx := reads m c hf t
  have h4 : t.val % 4 = 0 ∨ t.val % 4 = 1 ∨ t.val % 4 = 2 ∨ t.val % 4 = 3 := by omega
  rcases h4 with h | h | h | h
  · rw [Value.flushed4_A m c t (by omega) (by omega) (by omega) (by omega)]
    exact outA _ _ _ _ _ _ _ _ _ _ _ _ _ _ _ _ _ _ _ _ _ _ _ _ _ _ hx hf rfl rfl _ _ _ _ j y
  · rw [Value.flushed4_B m c t (by omega) (by omega) (by omega) (by omega)]
    exact outB _ _ _ _ _ _ _ _ _ _ _ _ _ _ _ _ _ _ _ _ _ _ _ _ _ _ hx hf rfl rfl _ _ _ _ j y
  · rw [Value.flushed4_C m c t (by omega) (by omega) (by omega) (by omega)]
    exact outC _ _ _ _ _ _ _ _ _ _ _ _ _ _ _ _ _ _ _ _ _ _ _ _ _ _ hx hf rfl rfl _ _ _ _ j y
  · rw [Value.flushed4_D m c t (by omega) (by omega) (by omega) (by omega)]
    exact outD _ _ _ _ _ _ _ _ _ _ _ _ _ _ _ _ _ _ _ _ _ _ _ _ _ _ hx hf rfl rfl _ _ _ _ j y

theorem arr (hf : Fine (qs m c) (ks m c) (bs m c)) : (dats m 0 c).arrAt 4 cfg0.N = out m c := by
  refine (dats m 0 c).arrAt_eq_of_covers 4 _ (by decide +kernel) fun t _ y => ?_
  have e : y = ix2 (y 0) (y 1) := by funext a; fin_cases a <;> rfl
  refine Eq.trans (congrArg ((dats m 0 c).flushed 4 t) e) ((flushed m c hf t (y 0) (y 1)).trans ?_)
  have h0 : (((cfg0.win 4).blk t).view.emb y 0).val = 256 * (grid0.coords t 1).val + (y 0).val := by
    blk_simp [places t]; omega
  have h1 : (((cfg0.win 4).blk t).view.emb y 1).val = 512 * (grid0.coords t 0).val + (y 1).val := by
    blk_simp [places t]; omega
  unfold value out
  rw [h0, h1]

end Cert.Host

end
-- ==== Proof.lean ====
module

public import proofs.«01_k».proof.Proof.Gen.Mixing
public import proofs.«01_k».proof.Proof.Gen.Mixing.Frame
public import proofs.«01_k».proof.Proof.Gen.MixingIdeal
public import proofs.«01_k».proof.Proof.Gen.MixingReferenceIdeal
public import proofs.«01_k».proof.Proof.Gen.MixingReferenceIdeal.Run
public import proofs.«01_k».proof.Proof.Gen.MixingIdeal.Value
public import proofs.«01_k».proof.Proof.Gen.MixingReferenceIdeal.Read
public import proofs.«01_k».proof.Proof.Gen.SampleReferenceIdeal.Read
public import proofs.«01_k».proof.Proof.Gen.ModulationIdeal.Value
public import proofs.«01_k».proof.Proof.Gen.ModulationReferenceIdeal.Read
public import proofs.«01_k».proof.Proof.Gen.SampleReferenceIdeal.Run
public import proofs.«01_k».proof.Proof.Gen.ModulationReferenceIdeal.Run
public import proofs.«01_k».proof.Proof.Gen.Modulation.Frame
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.Modulation
public import proofs.«01_k».proof.Proof.Gen.ModulationIdeal
public import proofs.«01_k».proof.Proof.Gen.ModulationReferenceIdeal
public import proofs.«01_k».proof.Proof.Gen.SampleReferenceIdeal
public import proofs.«01_k».proof.Proof.Gen.Sample.Skeleton
public import proofs.«01_k».proof.Proof.Gen.SampleIdeal.Skeleton
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.ProjRun
public import proofs.«01_k».proof.Proof.ProjHost
public import proofs.«01_k».proof.Proof.ProjBitsRun
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Ref
public import proofs.«01_k».proof.Proof.MixRef
public import proofs.«01_k».proof.Proof.MixHost
public import proofs.«01_k».proof.Proof.SampleRun
public import proofs.«01_k».proof.Proof.SampleBitsRun
public import proofs.«01_k».proof.Proof.SampleHost
public import proofs.«01_k».proof.Proof.ModHost
public import proofs.«01_k».proof.Proof.Host
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The preconditions' shape facts. -/
theorem bounded : Cert.Pre_bounded_rows.Facts where
  shapeCasts_S16384x1024_S16384x16x64 := by decide
  bcast_S_S16 := by decide
  reducesTo_S16384x16x64_S16384x16_d2 := by decide
  h_S_ := by decide
  bcast_S16_S1x16_1 := by decide
  bcast_S1x16_S16384x16_0_1 := by decide

theorem finite : Cert.Pre_finite.Facts where
  bcast_S_S1x2048 := by decide
  reducesTo_S1x2048_S_d0_1 := by decide
  h_S_ := by decide
  bcast_S_S32x2048 := by decide
  reducesTo_S32x2048_S_d0_1 := by decide
  bcast_S_S2048x12288 := by decide
  reducesTo_S2048x12288_S_d0_1 := by decide

theorem frame_p : Cert.quiescent_Kernel := fun m ρ _ => Cert.Kernel.Gen.frame m ρ
theorem frame_pi : Cert.quiescent_KernelIdeal := fun m ρ _ => Cert.KernelIdeal.Gen.frame m ρ
theorem frame_pi_bounded : Cert.quiescent_KernelIdeal_pre_bounded_rows (hPre_bounded_rows := bounded) :=
  fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_bounded : Cert.quiescent_ReferenceIdeal_pre_bounded_rows (hPre_bounded_rows := bounded) :=
  fun m ρ _ => frame_ri m ρ trivial

theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_bounded_rows (hPre_bounded_rows := bounded) := by
  intro m ρ m' ρ' hpre hagree
  have hf := fun c => @Cert.Score.fine_of_pre bounded _ _ _ _ (hpre c)
  refine ⟨fun c => Cert.Host.out m c, (θ_run Cert.KernelIdeal.defs _ _).mono (fun _ h c => ⟨(h c).1.trans (Cert.Host.arr m c (hf c)), (h c).2⟩)
    (Cert.KernelIdeal.Value.run_blocks m ρ), ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v26_eq, (hagree c).1, (hagree c).2.1, (hagree c).2.2.1, (hagree c).2.2.2]
  funext i
  exact Cert.Ref.result_apply (hf c) _ i

theorem frame_p2 : Cert.quiescent_Projection := fun m ρ _ => Cert.Projection.Hand.frame m ρ
theorem frame_pi2 : Cert.quiescent_ProjectionIdeal := fun m ρ _ => Cert.ProjectionIdeal.Hand.frame m ρ
theorem frame_ri2 : Cert.quiescent_ProjectionReferenceIdeal := fun m ρ _ =>
  (θ_run Cert.ProjectionReferenceIdeal.defs _ _).mono (fun r h => ⟨fun c => (h c).2.2.2.2.2.2.2,
      Idealize.ShloMosaic.sem_eq_zero_of_no_sems (by decide) r.2⟩)
    (Cert.ProjectionReferenceIdeal.Value.run (F := Ideal) m ρ)

theorem preserves2 : Cert.preserves_Projection_ProjectionIdeal :=
  IdealRules.named_const.statement Cert.ProjectionIdeal.κ "qscale" .f32 0x3E38AA3B#32 (((1 / 8) * (Real.log 2)⁻¹ : ℝ) : EReal) rfl

theorem algebraic2 : Cert.algebraic_ProjectionIdeal_ProjectionReferenceIdeal := by
  intro m ρ m' ρ' _ hagree
  refine ⟨fun c => _, fun c => _, fun c => _, fun c => _, fun c => _, fun c => _, fun c => _,
    (θ_run Cert.ProjectionIdeal.defs _ _).mono (fun _ h c => ⟨((h.1 c).1 5).trans (Cert.ProjHost.arr5 m c),
      ((h.1 c).1 6).trans (Cert.ProjHost.arr6 m c), ((h.1 c).1 7).trans (Cert.ProjHost.arr7 m c), ((h.1 c).1 8).trans (Cert.ProjHost.arr8 m c),
      ((h.1 c).1 9).trans (Cert.ProjHost.arr9 m c), ((h.1 c).1 10).trans (Cert.ProjHost.arr10 m c), ((h.1 c).1 11).trans (Cert.ProjHost.arr11 m c), h.2 c⟩)
    (θ_run_and (Cert.ProjectionIdeal.Hand.run_main m ρ)
      (Cert.ProjectionIdeal.Gen.frame_of m ρ (Cert.ProjectionIdeal.Hand.dats m) (Cert.ProjectionIdeal.Hand.A_eq m) (Cert.ProjectionIdeal.Hand.run_main m ρ))), ?_⟩
  refine (θ_run Cert.ProjectionReferenceIdeal.defs _ _).mono (fun _ h c => ?_) (Cert.ProjectionReferenceIdeal.Value.run (F := Ideal) m' ρ')
  have ha := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · rw [Cert.ProjectionReferenceIdeal.Read.val_main_v33_eq, ha.1, ha.2.1, ha.2.2.1, ha.2.2.2.1, ha.2.2.2.2]
  · rw [Cert.ProjectionReferenceIdeal.Read.val_main_v21_eq, ha.1, ha.2.1, ha.2.2.1, ha.2.2.2.1, ha.2.2.2.2]
  · rw [Cert.ProjectionReferenceIdeal.Read.val_main_v34_eq, ha.1, ha.2.1, ha.2.2.1, ha.2.2.2.1, ha.2.2.2.2]
  · rw [Cert.ProjectionReferenceIdeal.Read.val_main_v22_eq, ha.1, ha.2.1, ha.2.2.1, ha.2.2.2.1, ha.2.2.2.2]
  · rw [Cert.ProjectionReferenceIdeal.Read.val_main_v35_eq, ha.1, ha.2.1, ha.2.2.1, ha.2.2.2.1, ha.2.2.2.2]
  · rw [Cert.ProjectionReferenceIdeal.Read.val_main_v23_eq, ha.1, ha.2.1, ha.2.2.1, ha.2.2.2.1, ha.2.2.2.2]
  · rw [Cert.ProjectionReferenceIdeal.Read.val_main_v36_eq, ha.1, ha.2.1, ha.2.2.1, ha.2.2.2.1, ha.2.2.2.2]

theorem frame_p3 : Cert.quiescent_Mixing := fun m ρ _ => Cert.Mixing.Gen.frame m ρ
theorem frame_pi3 : Cert.quiescent_MixingIdeal := fun m ρ _ => Cert.MixingIdeal.Gen.frame m ρ
theorem frame_ri3 : Cert.quiescent_MixingReferenceIdeal := fun m ρ _ =>
  (θ_run Cert.MixingReferenceIdeal.defs _ _).mono (fun r h => ⟨fun c => (h c).2.2.2,
      Idealize.ShloMosaic.sem_eq_zero_of_no_sems (by decide) r.2⟩)
    (Cert.MixingReferenceIdeal.Value.run (F := Ideal) m ρ)

theorem preserves3 : Cert.preserves_Mixing_MixingIdeal := trivial

theorem algebraic3 : Cert.algebraic_MixingIdeal_MixingReferenceIdeal := by
  intro m ρ m' ρ' _ hagree
  refine ⟨fun c => _, fun c => _, fun c => _,
    (θ_run Cert.MixingIdeal.defs _ _).mono (fun _ h c => ⟨(h c).1.trans (Cert.MixHost.arr15 m c),
      (h c).2.1.trans (Cert.MixHost.arr16 m c), (h c).2.2.1.trans (Cert.MixHost.arr17 m c), (h c).2.2.2⟩)
    (Cert.MixingIdeal.Value.run_blocks m ρ), ?_⟩
  refine (θ_run Cert.MixingReferenceIdeal.defs _ _).mono (fun _ h c => ?_) (Cert.MixingReferenceIdeal.Value.run (F := Ideal) m' ρ')
  obtain ⟨h0, h1, h2, hargs⟩ := h c
  obtain ⟨a0, a1, a2, a3, a4, a5, a6, a7, a8, a9, a10, a11⟩ := hagree c
  refine ⟨h0.trans ?_, h1.trans ?_, h2.trans ?_, hargs⟩
  · rw [Cert.MixingReferenceIdeal.Read.val_main_v59_eq, a0, a1, a2, a3, a4, a7, a8, a9, a11]
  · rw [Cert.MixingReferenceIdeal.Read.val_main_v79_eq, a0, a1, a2, a3, a4, a5, a6, a7, a8, a9, a10, a11]
  · rw [Cert.MixingReferenceIdeal.Read.val_main_v83_eq, a0, a1, a2, a3, a4, a5, a6, a7, a8, a9, a10, a11]

theorem frame_p4 : Cert.quiescent_Sample := fun m ρ _ => Cert.Sample.Hand.frame m ρ
theorem frame_pi4 : Cert.quiescent_SampleIdeal := fun m ρ _ => Cert.SampleIdeal.Hand.frame m ρ
theorem frame_ri4 : Cert.quiescent_SampleReferenceIdeal := fun m ρ _ =>
  (θ_run Cert.SampleReferenceIdeal.defs _ _).mono (fun r h => ⟨fun c => (h c).2.2.2.2.2.2.2,
      Idealize.ShloMosaic.sem_eq_zero_of_no_sems (by decide) r.2⟩)
    (Cert.SampleReferenceIdeal.Value.run (F := Ideal) m ρ)

theorem preserves4 : Cert.preserves_Sample_SampleIdeal :=
  IdealRules.named_const.statement Cert.SampleIdeal.κ "qscale" .f32 0x3E38AA3B#32 (((1 / 8) * (Real.log 2)⁻¹ : ℝ) : EReal) rfl

theorem algebraic4 : Cert.algebraic_SampleIdeal_SampleReferenceIdeal := by
  intro m ρ m' ρ' _ hagree
  refine ⟨fun c => _, fun c => _, fun c => _, fun c => _, fun c => _, fun c => _, fun c => _,
    (θ_run Cert.SampleIdeal.defs _ _).mono (fun _ h c => ⟨((h.1 c).1 5).trans (Cert.SampleHost.arr5 m c),
      ((h.1 c).1 6).trans (Cert.SampleHost.arr6 m c), ((h.1 c).1 7).trans (Cert.SampleHost.arr7 m c), ((h.1 c).1 8).trans (Cert.SampleHost.arr8 m c),
      ((h.1 c).1 9).trans (Cert.SampleHost.arr9 m c), ((h.1 c).1 10).trans (Cert.SampleHost.arr10 m c), ((h.1 c).1 11).trans (Cert.SampleHost.arr11 m c), h.2 c⟩)
    (θ_run_and (Cert.SampleIdeal.Hand.run_main m ρ)
      (Cert.SampleIdeal.Gen.frame_of m ρ (Cert.SampleIdeal.Hand.dats m) (Cert.SampleIdeal.Hand.A_eq m) (Cert.SampleIdeal.Hand.run_main m ρ))), ?_⟩
  refine (θ_run Cert.SampleReferenceIdeal.defs _ _).mono (fun _ h c => ?_) (Cert.SampleReferenceIdeal.Value.run (F := Ideal) m' ρ')
  have ha := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · rw [Cert.SampleReferenceIdeal.Read.val_main_v39_eq, ha.1, ha.2.1, ha.2.2.1, ha.2.2.2.1, ha.2.2.2.2]
  · rw [Cert.SampleReferenceIdeal.Read.val_main_v29_eq, ha.1, ha.2.1, ha.2.2.1, ha.2.2.2.1, ha.2.2.2.2]
  · rw [Cert.SampleReferenceIdeal.Read.val_main_v40_eq, ha.1, ha.2.1, ha.2.2.1, ha.2.2.2.1, ha.2.2.2.2]
  · rw [Cert.SampleReferenceIdeal.Read.val_main_v30_eq, ha.1, ha.2.1, ha.2.2.1, ha.2.2.2.1, ha.2.2.2.2]
  · rw [Cert.SampleReferenceIdeal.Read.val_main_v43_eq, ha.1, ha.2.1, ha.2.2.1, ha.2.2.2.1, ha.2.2.2.2]
  · rw [Cert.SampleReferenceIdeal.Read.val_main_v31_eq, ha.1, ha.2.1, ha.2.2.1, ha.2.2.2.1, ha.2.2.2.2]
  · rw [Cert.SampleReferenceIdeal.Read.val_main_v44_eq, ha.1, ha.2.1, ha.2.2.1, ha.2.2.2.1, ha.2.2.2.2]

theorem frame_p5 : Cert.quiescent_Modulation := fun m ρ _ => Cert.Modulation.Gen.frame m ρ
theorem frame_pi5 : Cert.quiescent_ModulationIdeal := fun m ρ _ => Cert.ModulationIdeal.Gen.frame m ρ
theorem frame_pi5_finite : Cert.quiescent_ModulationIdeal_pre_finite (hPre_finite := finite) :=
  fun m ρ _ => Cert.ModulationIdeal.Gen.frame m ρ
theorem frame_ri5 : Cert.quiescent_ModulationReferenceIdeal := fun m ρ _ =>
  (θ_run Cert.ModulationReferenceIdeal.defs _ _).mono (fun r h => ⟨fun c => (h c).2,
      Idealize.ShloMosaic.sem_eq_zero_of_no_sems (by decide) r.2⟩)
    (Cert.ModulationReferenceIdeal.Value.run (F := Ideal) m ρ)
theorem frame_ri5_finite : Cert.quiescent_ModulationReferenceIdeal_pre_finite (hPre_finite := finite) :=
  fun m ρ _ => frame_ri5 m ρ trivial

theorem preserves5 : Cert.preserves_Modulation_ModulationIdeal := trivial

theorem algebraic5 : Cert.algebraic_ModulationIdeal_ModulationReferenceIdeal_pre_finite (hPre_finite := finite) := by
  intro m ρ m' ρ' hpre hagree
  have hf := fun c => @Cert.ModHost.finite_of_pre finite _ _ _ _ (hpre c)
  refine ⟨fun c => _, (θ_run Cert.ModulationIdeal.defs _ _).mono (fun _ h c => ⟨(h c).1.trans (Cert.ModHost.arr3 m c (hf c).1 (hf c).2.1 (hf c).2.2), (h c).2⟩)
    (Cert.ModulationIdeal.Value.run_blocks m ρ), ?_⟩
  refine (θ_run Cert.ModulationReferenceIdeal.defs _ _).mono (fun _ h c => ⟨(h c).1.trans ?_, (h c).2⟩) (Cert.ModulationReferenceIdeal.Value.run (F := Ideal) m' ρ')
  rw [Cert.ModulationReferenceIdeal.Read.val_main_v6_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Projection.Gen.facts, Cert.ProjectionIdeal.Gen.facts,
    Cert.ProjectionReferenceIdeal.Gen.facts, Cert.Mixing.Gen.facts, Cert.MixingIdeal.Gen.facts, Cert.MixingReferenceIdeal.Gen.facts, Cert.Sample.Gen.facts, Cert.SampleIdeal.Gen.facts, Cert.SampleReferenceIdeal.Gen.facts, Cert.Modulation.Gen.facts, Cert.ModulationIdeal.Gen.facts, Cert.ModulationReferenceIdeal.Gen.facts,
    bounded, finite, frame_p, frame_pi, frame_pi_bounded, frame_ri, frame_ri_bounded, frame_p2, frame_pi2,
    frame_ri2, frame_p3, frame_pi3, frame_ri3, frame_p4, frame_pi4, frame_ri4, frame_p5, frame_pi5, frame_pi5_finite, frame_ri5, frame_ri5_finite,
    preserves, algebraic, preserves2, algebraic2, preserves3, algebraic3, preserves4, algebraic4, preserves5, algebraic5⟩

end Cert.Proof

end
